-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_above_eps [hPre_gates_above_eps : Cert.Pre_gates_above_eps.Facts] (m : (ℓ : Loc Cert.KernelIdeal.nD Cert.KernelIdeal.τ Cert.KernelIdeal.sig) → Buf (Elt Ideal) ℓ) : Prop :=
  ∀ c : Dev Cert.KernelIdeal.nD,
    (Cert.Pre_gates_above_eps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_above_eps [hPre_gates_above_eps : Cert.Pre_gates_above_eps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_above_eps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_gates_above_eps [hKernelIdeal : Cert.KernelIdeal.Facts] [hPre_gates_above_eps : Cert.Pre_gates_above_eps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_above_eps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_gates_above_eps [hReferenceIdeal : Cert.ReferenceIdeal.Facts] [hPre_gates_above_eps : Cert.Pre_gates_above_eps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_above_eps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_gates_above_eps [hKernelIdeal : Cert.KernelIdeal.Facts] [hReferenceIdeal : Cert.ReferenceIdeal.Facts] [hPre_gates_above_eps : Cert.Pre_gates_above_eps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_above_eps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_gates_above_eps : Cert.Pre_gates_above_eps.Facts),
    quiescent_Kernel (hKernel := hKernel)
    ∧ quiescent_KernelIdeal (hKernelIdeal := hKernelIdeal)
    ∧ quiescent_KernelIdeal_pre_gates_above_eps (hKernelIdeal := hKernelIdeal) (hPre_gates_above_eps := hPre_gates_above_eps)
    ∧ quiescent_ReferenceIdeal (hReferenceIdeal := hReferenceIdeal)
    ∧ quiescent_ReferenceIdeal_pre_gates_above_eps (hReferenceIdeal := hReferenceIdeal) (hPre_gates_above_eps := hPre_gates_above_eps)
    ∧ preserves_Kernel_KernelIdeal
    ∧ algebraic_KernelIdeal_ReferenceIdeal_pre_gates_above_eps (hKernelIdeal := hKernelIdeal) (hReferenceIdeal := hReferenceIdeal) (hPre_gates_above_eps := hPre_gates_above_eps)
-- ==== Pre_gates_above_eps.lean ====
abbrev S4096x4096 : Shape := ⟨2, ![4096, 4096]⟩
abbrev S4096x64 : Shape := ⟨2, ![4096, 64]⟩
abbrev S_ : Shape := ⟨0, ![]⟩
abbrev S4096 : Shape := ⟨1, ![4096]⟩
abbrev S4096x1 : Shape := ⟨2, ![4096, 1]⟩

class Facts : Prop where
  reducesTo_S4096x64_S4096_d1 : S4096x64.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S_S4096x64 : S_.BroadcastsInDim S4096x64 (![] : Fin 0 → Fin S4096x64.rank)
  reducesTo_S4096x64_S_d0_1 : S4096x64.ReducesTo [0, 1] S_
  dot_S4096x4096_S4096x64_S4096x64_1_0_0_1_n_n_wf : DotDims.WF S4096x4096 S4096x64 S4096x64 [1] [0] [0] [1] [] []

variable [Facts]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def fn {F : FTy → Type} [FloatOps F] (main_arg0 : FVec F S4096x4096 .f32) (main_arg1 : FVec F S4096x64 .f32) : IVec S_ 1 :=
  let main_v0 : FVec F S4096x64 .f32 := (fun l r => Host.dotGeneral dot_S4096x4096_S4096x64_S4096x64_1_0_0_1_n_n none l r) main_arg0 main_arg1
  let main_cst : FVec F S_ .f32 := constant S_ .f32 0xFF800000#32
  let main_v1 : FVec F S4096 .f32 := (fun x v => Host.reduce FloatOps.maximumf x v reducesTo_S4096x64_S4096_d1 h_S_) main_v0 main_cst
  let main_cst_0 : FVec F S_ .f32 := constant S_ .f32 0xFF800000#32
  let main_v2 : FVec F S4096 .f32 := broadcastInDim S4096 ![] bcast_S_S4096 main_cst_0
  let main_v3 : FVec F S4096 .f32 := maximumf main_v2 main_v1
  let main_v4 : FVec F S4096x1 .f32 := broadcastInDim S4096x1 ![0] bcast_S4096_S4096x1_0 main_v3
  let main_v5 : FVec F S4096x64 .f32 := broadcastInDim S4096x64 ![0, 1] bcast_S4096x1_S4096x64_0_1 main_v4
  let main_v6 : FVec F S4096x64 .f32 := subf main_v0 main_v5
  let main_v7 : FVec F S4096x64 .f32 := Host.exp main_v6
  let main_cst_1 : FVec F S_ .f32 := constant S_ .f32 0x00000000#32
  let main_v8 : FVec F S4096 .f32 := (fun x v => Host.reduceAdd x v reducesTo_S4096x64_S4096_d1 h_S_) main_v7 main_cst_1
  let main_v9 : FVec F S4096x1 .f32 := broadcastInDim S4096x1 ![0] bcast_S4096_S4096x1_0 main_v8
  let main_v10 : FVec F S4096x64 .f32 := broadcastInDim S4096x64 ![0, 1] bcast_S4096x1_S4096x64_0_1 main_v9
  let main_v11 : FVec F S4096x64 .f32 := Host.divf main_v7 main_v10
  let main_cst_2 : FVec F S_ .f32 := constant S_ .f32 0x34000000#32
  let main_v12 : FVec F S4096x64 .f32 := broadcastInDim S4096x64 ![] bcast_S_S4096x64 main_cst_2
  let main_v13 : IVec S4096x64 1 := cmpf .oge main_v11 main_v12
  let main_c : IVec S_ 1 := constantI S_ 1 1#1
  let main_v14 : IVec S_ 1 := (fun x v => Host.reduce IntOp.andi x v reducesTo_S4096x64_S_d0_1 h_S_) main_v13 main_c
  main_v14
-- ==== Kernel.lean ====
abbrev S4096x4096 : Shape := ⟨2, ![4096, 4096]⟩
abbrev S4096x64 : Shape := ⟨2, ![4096, 64]⟩
abbrev S_ : Shape := ⟨0, ![]⟩
abbrev S1 : Shape := ⟨1, ![1]⟩
abbrev S2 : Shape := ⟨1, ![2]⟩
abbrev S1x1 : Shape := ⟨2, ![1, 1]⟩
abbrev S4096x1 : Shape := ⟨2, ![4096, 1]⟩
abbrev S1x64 : Shape := ⟨2, ![1, 64]⟩
abbrev S512x4096 : Shape := ⟨2, ![512, 4096]⟩
abbrev S512x64 : Shape := ⟨2, ![512, 64]⟩
abbrev S512x1 : Shape := ⟨2, ![512, 1]⟩
abbrev S512 : Shape := ⟨1, ![512]⟩
abbrev S64 : Shape := ⟨1, ![64]⟩
abbrev S512x512 : Shape := ⟨2, ![512, 512]⟩
abbrev S1x1x64 : Shape := ⟨3, ![1, 1, 64]⟩
abbrev S1x1x1 : Shape := ⟨3, ![1, 1, 1]⟩
abbrev S4096x64x128 : Shape := ⟨3, ![4096, 64, 128]⟩
abbrev S256x1 : Shape := ⟨2, ![256, 1]⟩
abbrev S256x64x128 : Shape := ⟨3, ![256, 64, 128]⟩
abbrev S256x64 : Shape := ⟨2, ![256, 64]⟩
abbrev S256 : Shape := ⟨1, ![256]⟩
abbrev S256x128 : Shape := ⟨2, ![256, 128]⟩
abbrev S256x64x1 : Shape := ⟨3, ![256, 64, 1]⟩
abbrev S256x1x128 : Shape := ⟨3, ![256, 1, 128]⟩

abbrev nBuf : Space → Nat
  | .hbm => 295
  | .vmem => 39
  | .smem => 0
  | _ => 0

abbrev hbmTy0_0 (i : Nat) : BufTy := match i % 128 with
  | 0 => ⟨S4096x4096, .f32⟩
  | 1 => ⟨S4096x64, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S4096x64, .i64⟩
  | 22 => ⟨S4096x64, .i64⟩
  | 23 => ⟨S_, .i64⟩
  | 24 => ⟨S4096x64, .i64⟩
  | 25 => ⟨S4096x64, .i64⟩
  | 26 => ⟨S_, .i64⟩
  | 27 => ⟨S4096x64, .i64⟩
  | 28 => ⟨S4096x64, .i64⟩
  | 29 => ⟨S4096x64, .i64⟩
  | 30 => ⟨S_, .i64⟩
  | 31 => ⟨S4096x64, .i64⟩
  | 32 => ⟨S4096x64, .i64⟩
  | 33 => ⟨S4096x64, .i32⟩
  | 34 => ⟨S4096x64, .i32⟩
  | 35 => ⟨S_, .i32⟩
  | 36 => ⟨S_, .i32⟩
  | 37 => ⟨S_, .i32⟩
  | 38 => ⟨S4096x64, .i32⟩
  | 39 => ⟨S4096x64, .i32⟩
  | 40 => ⟨S4096x64, .i32⟩
  | 41 => ⟨S4096x64, .i32⟩
  | 42 => ⟨S4096x64, .i32⟩
  | 43 => ⟨S_, .i32⟩
  | 44 => ⟨S4096x64, .i32⟩
  | 45 => ⟨S4096x64, .i32⟩
  | 46 => ⟨S_, .i32⟩
  | 47 => ⟨S4096x64, .i32⟩
  | 48 => ⟨S4096x64, .i32⟩
  | 49 => ⟨S4096x64, .i32⟩
  | 50 => ⟨S4096x64, .i32⟩
  | 51 => ⟨S4096x64, .i32⟩
  | 52 => ⟨S_, .i32⟩
  | 53 => ⟨S4096x64, .i32⟩
  | 54 => ⟨S4096x64, .i32⟩
  | 55 => ⟨S_, .i32⟩
  | 56 => ⟨S4096x64, .i32⟩
  | 57 => ⟨S4096x64, .i32⟩
  | 58 => ⟨S4096x64, .i32⟩
  | 59 => ⟨S4096x64, .i32⟩
  | 60 => ⟨S4096x64, .i32⟩
  | 61 => ⟨S_, .i32⟩
  | 62 => ⟨S4096x64, .i32⟩
  | 63 => ⟨S4096x64, .i32⟩
  | 64 => ⟨S_, .i32⟩
  | 65 => ⟨S4096x64, .i32⟩
  | 66 => ⟨S4096x64, .i32⟩
  | 67 => ⟨S4096x64, .i32⟩
  | 68 => ⟨S4096x64, .i32⟩
  | 69 => ⟨S4096x64, .i32⟩
  | 70 => ⟨S_, .i32⟩
  | 71 => ⟨S4096x64, .i32⟩
  | 72 => ⟨S4096x64, .i32⟩
  | 73 => ⟨S_, .i32⟩
  | 74 => ⟨S4096x64, .i32⟩
  | 75 => ⟨S4096x64, .i32⟩
  | 76 => ⟨S4096x64, .i32⟩
  | 77 => ⟨S4096x64, .i32⟩
  | 78 => ⟨S4096x64, .i32⟩
  | 79 => ⟨S4096x64, .i32⟩
  | 80 => ⟨S4096x64, .i32⟩
  | 81 => ⟨S4096x64, .i32⟩
  | 82 => ⟨S_, .i32⟩
  | 83 => ⟨S4096x64, .i32⟩
  | 84 => ⟨S4096x64, .i32⟩
  | 85 => ⟨S4096x64, .i32⟩
  | 86 => ⟨S_, .i32⟩
  | 87 => ⟨S4096x64, .i32⟩
  | 88 => ⟨S4096x64, .i32⟩
  | 89 => ⟨S_, .i32⟩
  | 90 => ⟨S4096x64, .i32⟩
  | 91 => ⟨S4096x64, .i32⟩
  | 92 => ⟨S4096x64, .i32⟩
  | 93 => ⟨S4096x64, .i32⟩
  | 94 => ⟨S4096x64, .i32⟩
  | 95 => ⟨S_, .i32⟩
  | 96 => ⟨S4096x64, .i32⟩
  | 97 => ⟨S4096x64, .i32⟩
  | 98 => ⟨S_, .i32⟩
  | 99 => ⟨S4096x64, .i32⟩
  | 100 => ⟨S4096x64, .i32⟩
  | 101 => ⟨S4096x64, .i32⟩
  | 102 => ⟨S4096x64, .i32⟩
  | 103 => ⟨S4096x64, .i32⟩
  | 104 => ⟨S_, .i32⟩
  | 105 => ⟨S4096x64, .i32⟩
  | 106 => ⟨S4096x64, .i32⟩
  | 107 => ⟨S_, .i32⟩
  | 108 => ⟨S4096x64, .i32⟩
  | 109 => ⟨S4096x64, .i32⟩
  | 110 => ⟨S4096x64, .i32⟩
  | 111 => ⟨S4096x64, .i32⟩
  | 112 => ⟨S4096x64, .i32⟩
  | 113 => ⟨S_, .i32⟩
  | 114 => ⟨S4096x64, .i32⟩
  | 115 => ⟨S4096x64, .i32⟩
  | 116 => ⟨S_, .i32⟩
  | 117 => ⟨S4096x64, .i32⟩
  | 118 => ⟨S4096x64, .i32⟩
  | 119 => ⟨S4096x64, .i32⟩
  | 120 => ⟨S4096x64, .i32⟩
  | 121 => ⟨S4096x64, .i32⟩
  | 122 => ⟨S4096x64, .i32⟩
  | 123 => ⟨S4096x64, .i32⟩
  | 124 => ⟨S4096x64, .i32⟩
  | 125 => ⟨S_, .i32⟩
  | 126 => ⟨S4096x64, .i32⟩
  | 127 => ⟨S4096x64, .i32⟩
  | _ => ⟨S4096x4096, .f32⟩

abbrev hbmTy0_1 (i : Nat) : BufTy := match i % 128 with
  | 0 => ⟨S4096x64, .i32⟩
  | 1 => ⟨S_, .i32⟩
  | 2 => ⟨S4096x64, .i32⟩
  | 3 => ⟨S4096x64, .i32⟩
  | 4 => ⟨S_, .i32⟩
  | 5 => ⟨S4096x64, .i32⟩
  | 6 => ⟨S4096x64, .i32⟩
  | 7 => ⟨S4096x64, .i32⟩
  | 8 => ⟨S4096x64, .i32⟩
  | 9 => ⟨S4096x64, .i32⟩
  | 10 => ⟨S_, .i32⟩
  | 11 => ⟨S4096x64, .i32⟩
  | 12 => ⟨S4096x64, .i32⟩
  | 13 => ⟨S_, .i32⟩
  | 14 => ⟨S4096x64, .i32⟩
  | 15 => ⟨S4096x64, .i32⟩
  | 16 => ⟨S4096x64, .i32⟩
  | 17 => ⟨S4096x64, .i32⟩
  | 18 => ⟨S4096x64, .i32⟩
  | 19 => ⟨S_, .i32⟩
  | 20 => ⟨S4096x64, .i32⟩
  | 21 => ⟨S4096x64, .i32⟩
  | 22 => ⟨S_, .i32⟩
  | 23 => ⟨S4096x64, .i32⟩
  | 24 => ⟨S4096x64, .i32⟩
  | 25 => ⟨S4096x64, .i32⟩
  | 26 => ⟨S4096x64, .i32⟩
  | 27 => ⟨S4096x64, .i32⟩
  | 28 => ⟨S_, .i32⟩
  | 29 => ⟨S4096x64, .i32⟩
  | 30 => ⟨S4096x64, .i32⟩
  | 31 => ⟨S_, .i32⟩
  | 32 => ⟨S4096x64, .i32⟩
  | 33 => ⟨S4096x64, .i32⟩
  | 34 => ⟨S4096x64, .i32⟩
  | 35 => ⟨S4096x64, .i32⟩
  | 36 => ⟨S4096x64, .i32⟩
  | 37 => ⟨S4096x64, .i32⟩
  | 38 => ⟨S4096x64, .i32⟩
  | 39 => ⟨S4096x64, .i32⟩
  | 40 => ⟨S_, .i32⟩
  | 41 => ⟨S4096x64, .i32⟩
  | 42 => ⟨S4096x64, .i32⟩
  | 43 => ⟨S4096x64, .i32⟩
  | 44 => ⟨S_, .i32⟩
  | 45 => ⟨S4096x64, .i32⟩
  | 46 => ⟨S4096x64, .i32⟩
  | 47 => ⟨S_, .i32⟩
  | 48 => ⟨S4096x64, .i32⟩
  | 49 => ⟨S4096x64, .i32⟩
  | 50 => ⟨S4096x64, .i32⟩
  | 51 => ⟨S4096x64, .i32⟩
  | 52 => ⟨S4096x64, .i32⟩
  | 53 => ⟨S_, .i32⟩
  | 54 => ⟨S4096x64, .i32⟩
  | 55 => ⟨S4096x64, .i32⟩
  | 56 => ⟨S_, .i32⟩
  | 57 => ⟨S4096x64, .i32⟩
  | 58 => ⟨S4096x64, .i32⟩
  | 59 => ⟨S4096x64, .i32⟩
  | 60 => ⟨S4096x64, .i32⟩
  | 61 => ⟨S4096x64, .i32⟩
  | 62 => ⟨S_, .i32⟩
  | 63 => ⟨S4096x64, .i32⟩
  | 64 => ⟨S4096x64, .i32⟩
  | 65 => ⟨S_, .i32⟩
  | 66 => ⟨S4096x64, .i32⟩
  | 67 => ⟨S4096x64, .i32⟩
  | 68 => ⟨S4096x64, .i32⟩
  | 69 => ⟨S4096x64, .i32⟩
  | 70 => ⟨S4096x64, .i32⟩
  | 71 => ⟨S_, .i32⟩
  | 72 => ⟨S4096x64, .i32⟩
  | 73 => ⟨S4096x64, .i32⟩
  | 74 => ⟨S_, .i32⟩
  | 75 => ⟨S4096x64, .i32⟩
  | 76 => ⟨S4096x64, .i32⟩
  | 77 => ⟨S4096x64, .i32⟩
  | 78 => ⟨S4096x64, .i32⟩
  | 79 => ⟨S4096x64, .i32⟩
  | 80 => ⟨S4096x64, .i32⟩
  | 81 => ⟨S4096x64, .i32⟩
  | 82 => ⟨S4096x64, .i32⟩
  | 83 => ⟨S_, .i32⟩
  | 84 => ⟨S4096x64, .i32⟩
  | 85 => ⟨S4096x64, .i32⟩
  | 86 => ⟨S4096x64, .i32⟩
  | 87 => ⟨S_, .i32⟩
  | 88 => ⟨S4096x64, .i32⟩
  | 89 => ⟨S4096x64, .i32⟩
  | 90 => ⟨S_, .i32⟩
  | 91 => ⟨S4096x64, .i32⟩
  | 92 => ⟨S4096x64, .i32⟩
  | 93 => ⟨S4096x64, .i32⟩
  | 94 => ⟨S4096x64, .i32⟩
  | 95 => ⟨S4096x64, .i32⟩
  | 96 => ⟨S_, .i32⟩
  | 97 => ⟨S4096x64, .i32⟩
  | 98 => ⟨S4096x64, .i32⟩
  | 99 => ⟨S_, .i32⟩
  | 100 => ⟨S4096x64, .i32⟩
  | 101 => ⟨S4096x64, .i32⟩
  | 102 => ⟨S4096x64, .i32⟩
  | 103 => ⟨S4096x64, .i32⟩
  | 104 => ⟨S4096x64, .i32⟩
  | 105 => ⟨S_, .i32⟩
  | 106 => ⟨S4096x64, .i32⟩
  | 107 => ⟨S4096x64, .i32⟩
  | 108 => ⟨S_, .i32⟩
  | 109 => ⟨S4096x64, .i32⟩
  | 110 => ⟨S4096x64, .i32⟩
  | 111 => ⟨S4096x64, .i32⟩
  | 112 => ⟨S4096x64, .i32⟩
  | 113 => ⟨S4096x64, .i32⟩
  | 114 => ⟨S_, .i32⟩
  | 115 => ⟨S4096x64, .i32⟩
  | 116 => ⟨S4096x64, .i32⟩
  | 117 => ⟨S_, .i32⟩
  | 118 => ⟨S4096x64, .i32⟩
  | 119 => ⟨S4096x64, .i32⟩
  | 120 => ⟨S4096x64, .i32⟩
  | 121 => ⟨S4096x64, .i32⟩
  | 122 => ⟨S4096x64, .i32⟩
  | 123 => ⟨S4096x64, .i32⟩
  | 124 => ⟨S4096x64, .i32⟩
  | 125 => ⟨S4096x64, .i32⟩
  | 126 => ⟨S_, .i32⟩
  | 127 => ⟨S4096x64, .i32⟩
  | _ => ⟨S4096x4096, .f32⟩

abbrev hbmTy0_2 (i : Nat) : BufTy := match i % 128 with
  | 0 => ⟨S4096x64, .i32⟩
  | 1 => ⟨S4096x64, .i32⟩
  | 2 => ⟨S_, .i32⟩
  | 3 => ⟨S4096x64, .i32⟩
  | 4 => ⟨S4096x64, .i32⟩
  | 5 => ⟨S_, .i32⟩
  | 6 => ⟨S4096x64, .i32⟩
  | 7 => ⟨S4096x64, .i32⟩
  | 8 => ⟨S4096x64, .f32⟩
  | 9 => ⟨S_, .f32⟩
  | 10 => ⟨S4096x64, .f32⟩
  | 11 => ⟨S4096x64, .f32⟩
  | 12 => ⟨S1x1, .f32⟩
  | 13 => ⟨S4096x64, .f32⟩
  | 14 => ⟨S4096x64, .f32⟩
  | 15 => ⟨S4096x64, .f32⟩
  | 16 => ⟨S4096x64, .f32⟩
  | 17 => ⟨S4096x64, .f32⟩
  | 18 => ⟨S4096x64, .f32⟩
  | 19 => ⟨S4096x64, .f32⟩
  | 20 => ⟨S4096x64, .f32⟩
  | 21 => ⟨S4096x64, .f32⟩
  | 22 => ⟨S4096x64, .f32⟩
  | 23 => ⟨S4096x1, .f32⟩
  | 24 => ⟨S4096x1, .f32⟩
  | 25 => ⟨S4096x1, .i32⟩
  | 26 => ⟨S4096x1, .i32⟩
  | 27 => ⟨S4096x1, .i32⟩
  | 28 => ⟨S4096x1, .i32⟩
  | 29 => ⟨S1x64, .i32⟩
  | 30 => ⟨S1x1, .f32⟩
  | 31 => ⟨S4096x64x128, .f32⟩
  | 32 => ⟨S4096x64x128, .i32⟩
  | 33 => ⟨S_, .i32⟩
  | 34 => ⟨S4096x64x128, .i32⟩
  | 35 => ⟨S4096x64x128, .i1⟩
  | 36 => ⟨S4096x64x128, .i1⟩
  | 37 => ⟨S_, .f32⟩
  | 38 => ⟨S64, .i32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S512x64, .f32⟩
  | .local _ .vmem, ⟨4, _⟩ => ⟨S512x64, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .i32⟩
  | .local _ .vmem, ⟨10, _⟩ => ⟨S512x1, .i32⟩
  | .local _ .vmem, ⟨11, _⟩ => ⟨S512x1, .i32⟩
  | .local _ .vmem, ⟨12, _⟩ => ⟨S512x1, .i32⟩
  | .local _ .vmem, ⟨13, _⟩ => ⟨S512x1, .i32⟩
  | .local _ .vmem, ⟨14, _⟩ => ⟨S512x1, .i32⟩
  | .local _ .vmem, ⟨15, _⟩ => ⟨S512x1, .i32⟩
  | .local _ .vmem, ⟨16, _⟩ => ⟨S512x1, .i32⟩
  | .local _ .vmem, ⟨17, _⟩ => ⟨S1x64, .i32⟩
  | .local _ .vmem, ⟨18, _⟩ => ⟨S1x1, .f32⟩
  | .local _ .vmem, ⟨19, _⟩ => ⟨S1x64, .f32⟩
  | .local _ .vmem, ⟨20, _⟩ => ⟨S1x64, .i32⟩
  | .local _ .vmem, ⟨21, _⟩ => ⟨S1x64, .i32⟩
  | .local _ .vmem, ⟨22, _⟩ => ⟨S256x1, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | .local _ .vmem, ⟨26, _⟩ => ⟨S256x1, .i32⟩
  | .local _ .vmem, ⟨27, _⟩ => ⟨S256x1, .i32⟩
  | .local _ .vmem, ⟨28, _⟩ => ⟨S256x1, .i32⟩
  | .local _ .vmem, ⟨29, _⟩ => ⟨S256x1, .i32⟩
  | .local _ .vmem, ⟨30, _⟩ => ⟨S256x1, .i32⟩
  | .local _ .vmem, ⟨31, _⟩ => ⟨S256x1, .i32⟩
  | .local _ .vmem, ⟨32, _⟩ => ⟨S256x1, .i32⟩
  | .local _ .vmem, ⟨33, _⟩ => ⟨S256x1, .i32⟩
  | .local _ .vmem, ⟨34, _⟩ => ⟨S1x64, .i32⟩
  | .local _ .vmem, ⟨35, _⟩ => ⟨S256x64x128, .f32⟩
  | .local _ .vmem, ⟨36, _⟩ => ⟨S256x64x128, .f32⟩
  | .local _ .vmem, ⟨37, _⟩ => ⟨S256x64x128, .i32⟩
  | .local _ .vmem, ⟨38, _⟩ => ⟨S256x64x128, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_c_0 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_c_1 : Ref sig .tc := ⟨.hbm, 30, rfl⟩
abbrev main_call0_call0_v14 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_v17 : Ref sig .tc := ⟨.hbm, 34, rfl⟩
abbrev main_call0_call0_call0_v0 : Ref sig .tc := ⟨.hbm, 35, rfl⟩
abbrev main_call0_call0_call0_c : Ref sig .tc := ⟨.hbm, 36, rfl⟩
abbrev main_call0_call0_call0_v1 : Ref sig .tc := ⟨.hbm, 37, rfl⟩
abbrev main_call0_call0_call0_v2 : Ref sig .tc := ⟨.hbm, 38, rfl⟩
abbrev main_call0_call0_call0_v3 : Ref sig .tc := ⟨.hbm, 39, rfl⟩
abbrev main_call0_call0_call0_v4 : Ref sig .tc := ⟨.hbm, 40, rfl⟩
abbrev main_call0_call0_call0_v5 : Ref sig .tc := ⟨.hbm, 41, rfl⟩
abbrev main_call0_call0_call0_v6 : Ref sig .tc := ⟨.hbm, 42, rfl⟩
abbrev main_call0_call0_call0_c_0 : Ref sig .tc := ⟨.hbm, 43, rfl⟩
abbrev main_call0_call0_call0_v7 : Ref sig .tc := ⟨.hbm, 44, rfl⟩
abbrev main_call0_call0_call0_v8 : Ref sig .tc := ⟨.hbm, 45, rfl⟩
abbrev main_call0_call0_call0_c_1 : Ref sig .tc := ⟨.hbm, 46, rfl⟩
abbrev main_call0_call0_call0_v9 : Ref sig .tc := ⟨.hbm, 47, rfl⟩
abbrev main_call0_call0_call0_v10 : Ref sig .tc := ⟨.hbm, 48, rfl⟩
abbrev main_call0_call0_call0_v11 : Ref sig .tc := ⟨.hbm, 49, rfl⟩
abbrev main_call0_call0_call0_v12 : Ref sig .tc := ⟨.hbm, 50, rfl⟩
abbrev main_call0_call0_call0_v13 : Ref sig .tc := ⟨.hbm, 51, rfl⟩
abbrev main_call0_call0_call0_c_2 : Ref sig .tc := ⟨.hbm, 52, rfl⟩
abbrev main_call0_call0_call0_v14 : Ref sig .tc := ⟨.hbm, 53, rfl⟩
abbrev main_call0_call0_call0_v15 : Ref sig .tc := ⟨.hbm, 54, rfl⟩
abbrev main_call0_call0_call0_c_3 : Ref sig .tc := ⟨.hbm, 55, rfl⟩
abbrev main_call0_call0_call0_v16 : Ref sig .tc := ⟨.hbm, 56, rfl⟩
abbrev main_call0_call0_call0_v17 : Ref sig .tc := ⟨.hbm, 57, rfl⟩
abbrev main_call0_call0_call0_v18 : Ref sig .tc := ⟨.hbm, 58, rfl⟩
abbrev main_call0_call0_call0_v19 : Ref sig .tc := ⟨.hbm, 59, rfl⟩
abbrev main_call0_call0_call0_v20 : Ref sig .tc := ⟨.hbm, 60, rfl⟩
abbrev main_call0_call0_call0_c_4 : Ref sig .tc := ⟨.hbm, 61, rfl⟩
abbrev main_call0_call0_call0_v21 : Ref sig .tc := ⟨.hbm, 62, rfl⟩
abbrev main_call0_call0_call0_v22 : Ref sig .tc := ⟨.hbm, 63, rfl⟩
abbrev main_call0_call0_call0_c_5 : Ref sig .tc := ⟨.hbm, 64, rfl⟩
abbrev main_call0_call0_call0_v23 : Ref sig .tc := ⟨.hbm, 65, rfl⟩
abbrev main_call0_call0_call0_v24 : Ref sig .tc := ⟨.hbm, 66, rfl⟩
abbrev main_call0_call0_call0_v25 : Ref sig .tc := ⟨.hbm, 67, rfl⟩
abbrev main_call0_call0_call0_v26 : Ref sig .tc := ⟨.hbm, 68, rfl⟩
abbrev main_call0_call0_call0_v27 : Ref sig .tc := ⟨.hbm, 69, rfl⟩
abbrev main_call0_call0_call0_c_6 : Ref sig .tc := ⟨.hbm, 70, rfl⟩
abbrev main_call0_call0_call0_v28 : Ref sig .tc := ⟨.hbm, 71, rfl⟩
abbrev main_call0_call0_call0_v29 : Ref sig .tc := ⟨.hbm, 72, rfl⟩
abbrev main_call0_call0_call0_c_7 : Ref sig .tc := ⟨.hbm, 73, rfl⟩
abbrev main_call0_call0_call0_v30 : Ref sig .tc := ⟨.hbm, 74, rfl⟩
abbrev main_call0_call0_call0_v31 : Ref sig .tc := ⟨.hbm, 75, rfl⟩
abbrev main_call0_call0_call0_v32 : Ref sig .tc := ⟨.hbm, 76, rfl⟩
abbrev main_call0_call0_call0_v33 : Ref sig .tc := ⟨.hbm, 77, rfl⟩
abbrev main_call0_call0_call0_v34 : Ref sig .tc := ⟨.hbm, 78, rfl⟩
abbrev main_call0_call0_call0_v35 : Ref sig .tc := ⟨.hbm, 79, rfl⟩
abbrev main_call0_call0_call0_v36 : Ref sig .tc := ⟨.hbm, 80, rfl⟩
abbrev main_call0_call0_call0_v37 : Ref sig .tc := ⟨.hbm, 81, rfl⟩
abbrev main_call0_call0_call0_c_8 : Ref sig .tc := ⟨.hbm, 82, rfl⟩
abbrev main_call0_call0_call0_v38 : Ref sig .tc := ⟨.hbm, 83, rfl⟩
abbrev main_call0_call0_call0_v39 : Ref sig .tc := ⟨.hbm, 84, rfl⟩
abbrev main_call0_call0_call0_v40 : Ref sig .tc := ⟨.hbm, 85, rfl⟩
abbrev main_call0_call0_call0_c_9 : Ref sig .tc := ⟨.hbm, 86, rfl⟩
abbrev main_call0_call0_call0_v41 : Ref sig .tc := ⟨.hbm, 87, rfl⟩
abbrev main_call0_call0_call0_v42 : Ref sig .tc := ⟨.hbm, 88, rfl⟩
abbrev main_call0_call0_call0_c_10 : Ref sig .tc := ⟨.hbm, 89, rfl⟩
abbrev main_call0_call0_call0_v43 : Ref sig .tc := ⟨.hbm, 90, rfl⟩
abbrev main_call0_call0_call0_v44 : Ref sig .tc := ⟨.hbm, 91, rfl⟩
abbrev main_call0_call0_call0_v45 : Ref sig .tc := ⟨.hbm, 92, rfl⟩
abbrev main_call0_call0_call0_v46 : Ref sig .tc := ⟨.hbm, 93, rfl⟩
abbrev main_call0_call0_call0_v47 : Ref sig .tc := ⟨.hbm, 94, rfl⟩
abbrev main_call0_call0_call0_c_11 : Ref sig .tc := ⟨.hbm, 95, rfl⟩
abbrev main_call0_call0_call0_v48 : Ref sig .tc := ⟨.hbm, 96, rfl⟩
abbrev main_call0_call0_call0_v49 : Ref sig .tc := ⟨.hbm, 97, rfl⟩
abbrev main_call0_call0_call0_c_12 : Ref sig .tc := ⟨.hbm, 98, rfl⟩
abbrev main_call0_call0_call0_v50 : Ref sig .tc := ⟨.hbm, 99, rfl⟩
abbrev main_call0_call0_call0_v51 : Ref sig .tc := ⟨.hbm, 100, rfl⟩
abbrev main_call0_call0_call0_v52 : Ref sig .tc := ⟨.hbm, 101, rfl⟩
abbrev main_call0_call0_call0_v53 : Ref sig .tc := ⟨.hbm, 102, rfl⟩
abbrev main_call0_call0_call0_v54 : Ref sig .tc := ⟨.hbm, 103, rfl⟩
abbrev main_call0_call0_call0_c_13 : Ref sig .tc := ⟨.hbm, 104, rfl⟩
abbrev main_call0_call0_call0_v55 : Ref sig .tc := ⟨.hbm, 105, rfl⟩
abbrev main_call0_call0_call0_v56 : Ref sig .tc := ⟨.hbm, 106, rfl⟩
abbrev main_call0_call0_call0_c_14 : Ref sig .tc := ⟨.hbm, 107, rfl⟩
abbrev main_call0_call0_call0_v57 : Ref sig .tc := ⟨.hbm, 108, rfl⟩
abbrev main_call0_call0_call0_v58 : Ref sig .tc := ⟨.hbm, 109, rfl⟩
abbrev main_call0_call0_call0_v59 : Ref sig .tc := ⟨.hbm, 110, rfl⟩
abbrev main_call0_call0_call0_v60 : Ref sig .tc := ⟨.hbm, 111, rfl⟩
abbrev main_call0_call0_call0_v61 : Ref sig .tc := ⟨.hbm, 112, rfl⟩
abbrev main_call0_call0_call0_c_15 : Ref sig .tc := ⟨.hbm, 113, rfl⟩
abbrev main_call0_call0_call0_v62 : Ref sig .tc := ⟨.hbm, 114, rfl⟩
abbrev main_call0_call0_call0_v63 : Ref sig .tc := ⟨.hbm, 115, rfl⟩
abbrev main_call0_call0_call0_c_16 : Ref sig .tc := ⟨.hbm, 116, rfl⟩
abbrev main_call0_call0_call0_v64 : Ref sig .tc := ⟨.hbm, 117, rfl⟩
abbrev main_call0_call0_call0_v65 : Ref sig .tc := ⟨.hbm, 118, rfl⟩
abbrev main_call0_call0_call0_v66 : Ref sig .tc := ⟨.hbm, 119, rfl⟩
abbrev main_call0_call0_call0_v67 : Ref sig .tc := ⟨.hbm, 120, rfl⟩
abbrev main_call0_call0_call0_v68 : Ref sig .tc := ⟨.hbm, 121, rfl⟩
abbrev main_call0_call0_call0_v69 : Ref sig .tc := ⟨.hbm, 122, rfl⟩
abbrev main_call0_call0_call0_v70 : Ref sig .tc := ⟨.hbm, 123, rfl⟩
abbrev main_call0_call0_call0_v71 : Ref sig .tc := ⟨.hbm, 124, rfl⟩
abbrev main_call0_call0_call0_c_17 : Ref sig .tc := ⟨.hbm, 125, rfl⟩
abbrev main_call0_call0_call0_v72 : Ref sig .tc := ⟨.hbm, 126, rfl⟩
abbrev main_call0_call0_call0_v73 : Ref sig .tc := ⟨.hbm, 127, rfl⟩
abbrev main_call0_call0_call0_v74 : Ref sig .tc := ⟨.hbm, 128, rfl⟩
abbrev main_call0_call0_call0_c_18 : Ref sig .tc := ⟨.hbm, 129, rfl⟩
abbrev main_call0_call0_call0_v75 : Ref sig .tc := ⟨.hbm, 130, rfl⟩
abbrev main_call0_call0_call0_v76 : Ref sig .tc := ⟨.hbm, 131, rfl⟩
abbrev main_call0_call0_call0_c_19 : Ref sig .tc := ⟨.hbm, 132, rfl⟩
abbrev main_call0_call0_call0_v77 : Ref sig .tc := ⟨.hbm, 133, rfl⟩
abbrev main_call0_call0_call0_v78 : Ref sig .tc := ⟨.hbm, 134, rfl⟩
abbrev main_call0_call0_call0_v79 : Ref sig .tc := ⟨.hbm, 135, rfl⟩
abbrev main_call0_call0_call0_v80 : Ref sig .tc := ⟨.hbm, 136, rfl⟩
abbrev main_call0_call0_call0_v81 : Ref sig .tc := ⟨.hbm, 137, rfl⟩
abbrev main_call0_call0_call0_c_20 : Ref sig .tc := ⟨.hbm, 138, rfl⟩
abbrev main_call0_call0_call0_v82 : Ref sig .tc := ⟨.hbm, 139, rfl⟩
abbrev main_call0_call0_call0_v83 : Ref sig .tc := ⟨.hbm, 140, rfl⟩
abbrev main_call0_call0_call0_c_21 : Ref sig .tc := ⟨.hbm, 141, rfl⟩
abbrev main_call0_call0_call0_v84 : Ref sig .tc := ⟨.hbm, 142, rfl⟩
abbrev main_call0_call0_call0_v85 : Ref sig .tc := ⟨.hbm, 143, rfl⟩
abbrev main_call0_call0_call0_v86 : Ref sig .tc := ⟨.hbm, 144, rfl⟩
abbrev main_call0_call0_call0_v87 : Ref sig .tc := ⟨.hbm, 145, rfl⟩
abbrev main_call0_call0_call0_v88 : Ref sig .tc := ⟨.hbm, 146, rfl⟩
abbrev main_call0_call0_call0_c_22 : Ref sig .tc := ⟨.hbm, 147, rfl⟩
abbrev main_call0_call0_call0_v89 : Ref sig .tc := ⟨.hbm, 148, rfl⟩
abbrev main_call0_call0_call0_v90 : Ref sig .tc := ⟨.hbm, 149, rfl⟩
abbrev main_call0_call0_call0_c_23 : Ref sig .tc := ⟨.hbm, 150, rfl⟩
abbrev main_call0_call0_call0_v91 : Ref sig .tc := ⟨.hbm, 151, rfl⟩
abbrev main_call0_call0_call0_v92 : Ref sig .tc := ⟨.hbm, 152, rfl⟩
abbrev main_call0_call0_call0_v93 : Ref sig .tc := ⟨.hbm, 153, rfl⟩
abbrev main_call0_call0_call0_v94 : Ref sig .tc := ⟨.hbm, 154, rfl⟩
abbrev main_call0_call0_call0_v95 : Ref sig .tc := ⟨.hbm, 155, rfl⟩
abbrev main_call0_call0_call0_c_24 : Ref sig .tc := ⟨.hbm, 156, rfl⟩
abbrev main_call0_call0_call0_v96 : Ref sig .tc := ⟨.hbm, 157, rfl⟩
abbrev main_call0_call0_call0_v97 : Ref sig .tc := ⟨.hbm, 158, rfl⟩
abbrev main_call0_call0_call0_c_25 : Ref sig .tc := ⟨.hbm, 159, rfl⟩
abbrev main_call0_call0_call0_v98 : Ref sig .tc := ⟨.hbm, 160, rfl⟩
abbrev main_call0_call0_call0_v99 : Ref sig .tc := ⟨.hbm, 161, rfl⟩
abbrev main_call0_call0_call0_v100 : Ref sig .tc := ⟨.hbm, 162, rfl⟩
abbrev main_call0_call0_call0_v101 : Ref sig .tc := ⟨.hbm, 163, rfl⟩
abbrev main_call0_call0_call0_v102 : Ref sig .tc := ⟨.hbm, 164, rfl⟩
abbrev main_call0_call0_call0_v103 : Ref sig .tc := ⟨.hbm, 165, rfl⟩
abbrev main_call0_call0_call0_v104 : Ref sig .tc := ⟨.hbm, 166, rfl⟩
abbrev main_call0_call0_call0_v105 : Ref sig .tc := ⟨.hbm, 167, rfl⟩
abbrev main_call0_call0_call0_c_26 : Ref sig .tc := ⟨.hbm, 168, rfl⟩
abbrev main_call0_call0_call0_v106 : Ref sig .tc := ⟨.hbm, 169, rfl⟩
abbrev main_call0_call0_call0_v107 : Ref sig .tc := ⟨.hbm, 170, rfl⟩
abbrev main_call0_call0_call0_v108 : Ref sig .tc := ⟨.hbm, 171, rfl⟩
abbrev main_call0_call0_call0_c_27 : Ref sig .tc := ⟨.hbm, 172, rfl⟩
abbrev main_call0_call0_call0_v109 : Ref sig .tc := ⟨.hbm, 173, rfl⟩
abbrev main_call0_call0_call0_v110 : Ref sig .tc := ⟨.hbm, 174, rfl⟩
abbrev main_call0_call0_call0_c_28 : Ref sig .tc := ⟨.hbm, 175, rfl⟩
abbrev main_call0_call0_call0_v111 : Ref sig .tc := ⟨.hbm, 176, rfl⟩
abbrev main_call0_call0_call0_v112 : Ref sig .tc := ⟨.hbm, 177, rfl⟩
abbrev main_call0_call0_call0_v113 : Ref sig .tc := ⟨.hbm, 178, rfl⟩
abbrev main_call0_call0_call0_v114 : Ref sig .tc := ⟨.hbm, 179, rfl⟩
abbrev main_call0_call0_call0_v115 : Ref sig .tc := ⟨.hbm, 180, rfl⟩
abbrev main_call0_call0_call0_c_29 : Ref sig .tc := ⟨.hbm, 181, rfl⟩
abbrev main_call0_call0_call0_v116 : Ref sig .tc := ⟨.hbm, 182, rfl⟩
abbrev main_call0_call0_call0_v117 : Ref sig .tc := ⟨.hbm, 183, rfl⟩
abbrev main_call0_call0_call0_c_30 : Ref sig .tc := ⟨.hbm, 184, rfl⟩
abbrev main_call0_call0_call0_v118 : Ref sig .tc := ⟨.hbm, 185, rfl⟩
abbrev main_call0_call0_call0_v119 : Ref sig .tc := ⟨.hbm, 186, rfl⟩
abbrev main_call0_call0_call0_v120 : Ref sig .tc := ⟨.hbm, 187, rfl⟩
abbrev main_call0_call0_call0_v121 : Ref sig .tc := ⟨.hbm, 188, rfl⟩
abbrev main_call0_call0_call0_v122 : Ref sig .tc := ⟨.hbm, 189, rfl⟩
abbrev main_call0_call0_call0_c_31 : Ref sig .tc := ⟨.hbm, 190, rfl⟩
abbrev main_call0_call0_call0_v123 : Ref sig .tc := ⟨.hbm, 191, rfl⟩
abbrev main_call0_call0_call0_v124 : Ref sig .tc := ⟨.hbm, 192, rfl⟩
abbrev main_call0_call0_call0_c_32 : Ref sig .tc := ⟨.hbm, 193, rfl⟩
abbrev main_call0_call0_call0_v125 : Ref sig .tc := ⟨.hbm, 194, rfl⟩
abbrev main_call0_call0_call0_v126 : Ref sig .tc := ⟨.hbm, 195, rfl⟩
abbrev main_call0_call0_call0_v127 : Ref sig .tc := ⟨.hbm, 196, rfl⟩
abbrev main_call0_call0_call0_v128 : Ref sig .tc := ⟨.hbm, 197, rfl⟩
abbrev main_call0_call0_call0_v129 : Ref sig .tc := ⟨.hbm, 198, rfl⟩
abbrev main_call0_call0_call0_c_33 : Ref sig .tc := ⟨.hbm, 199, rfl⟩
abbrev main_call0_call0_call0_v130 : Ref sig .tc := ⟨.hbm, 200, rfl⟩
abbrev main_call0_call0_call0_v131 : Ref sig .tc := ⟨.hbm, 201, rfl⟩
abbrev main_call0_call0_call0_c_34 : Ref sig .tc := ⟨.hbm, 202, rfl⟩
abbrev main_call0_call0_call0_v132 : Ref sig .tc := ⟨.hbm, 203, rfl⟩
abbrev main_call0_call0_call0_v133 : Ref sig .tc := ⟨.hbm, 204, rfl⟩
abbrev main_call0_call0_call0_v134 : Ref sig .tc := ⟨.hbm, 205, rfl⟩
abbrev main_call0_call0_call0_v135 : Ref sig .tc := ⟨.hbm, 206, rfl⟩
abbrev main_call0_call0_call0_v136 : Ref sig .tc := ⟨.hbm, 207, rfl⟩
abbrev main_call0_call0_call0_v137 : Ref sig .tc := ⟨.hbm, 208, rfl⟩
abbrev main_call0_call0_call0_v138 : Ref sig .tc := ⟨.hbm, 209, rfl⟩
abbrev main_call0_call0_call0_v139 : Ref sig .tc := ⟨.hbm, 210, rfl⟩
abbrev main_call0_call0_call0_c_35 : Ref sig .tc := ⟨.hbm, 211, rfl⟩
abbrev main_call0_call0_call0_v140 : Ref sig .tc := ⟨.hbm, 212, rfl⟩
abbrev main_call0_call0_call0_v141 : Ref sig .tc := ⟨.hbm, 213, rfl⟩
abbrev main_call0_call0_call0_v142 : Ref sig .tc := ⟨.hbm, 214, rfl⟩
abbrev main_call0_call0_call0_c_36 : Ref sig .tc := ⟨.hbm, 215, rfl⟩
abbrev main_call0_call0_call0_v143 : Ref sig .tc := ⟨.hbm, 216, rfl⟩
abbrev main_call0_call0_call0_v144 : Ref sig .tc := ⟨.hbm, 217, rfl⟩
abbrev main_call0_call0_call0_c_37 : Ref sig .tc := ⟨.hbm, 218, rfl⟩
abbrev main_call0_call0_call0_v145 : Ref sig .tc := ⟨.hbm, 219, rfl⟩
abbrev main_call0_call0_call0_v146 : Ref sig .tc := ⟨.hbm, 220, rfl⟩
abbrev main_call0_call0_call0_v147 : Ref sig .tc := ⟨.hbm, 221, rfl⟩
abbrev main_call0_call0_call0_v148 : Ref sig .tc := ⟨.hbm, 222, rfl⟩
abbrev main_call0_call0_call0_v149 : Ref sig .tc := ⟨.hbm, 223, rfl⟩
abbrev main_call0_call0_call0_c_38 : Ref sig .tc := ⟨.hbm, 224, rfl⟩
abbrev main_call0_call0_call0_v150 : Ref sig .tc := ⟨.hbm, 225, rfl⟩
abbrev main_call0_call0_call0_v151 : Ref sig .tc := ⟨.hbm, 226, rfl⟩
abbrev main_call0_call0_call0_c_39 : Ref sig .tc := ⟨.hbm, 227, rfl⟩
abbrev main_call0_call0_call0_v152 : Ref sig .tc := ⟨.hbm, 228, rfl⟩
abbrev main_call0_call0_call0_v153 : Ref sig .tc := ⟨.hbm, 229, rfl⟩
abbrev main_call0_call0_call0_v154 : Ref sig .tc := ⟨.hbm, 230, rfl⟩
abbrev main_call0_call0_call0_v155 : Ref sig .tc := ⟨.hbm, 231, rfl⟩
abbrev main_call0_call0_call0_v156 : Ref sig .tc := ⟨.hbm, 232, rfl⟩
abbrev main_call0_call0_call0_c_40 : Ref sig .tc := ⟨.hbm, 233, rfl⟩
abbrev main_call0_call0_call0_v157 : Ref sig .tc := ⟨.hbm, 234, rfl⟩
abbrev main_call0_call0_call0_v158 : Ref sig .tc := ⟨.hbm, 235, rfl⟩
abbrev main_call0_call0_call0_c_41 : Ref sig .tc := ⟨.hbm, 236, rfl⟩
abbrev main_call0_call0_call0_v159 : Ref sig .tc := ⟨.hbm, 237, rfl⟩
abbrev main_call0_call0_call0_v160 : Ref sig .tc := ⟨.hbm, 238, rfl⟩
abbrev main_call0_call0_call0_v161 : Ref sig .tc := ⟨.hbm, 239, rfl⟩
abbrev main_call0_call0_call0_v162 : Ref sig .tc := ⟨.hbm, 240, rfl⟩
abbrev main_call0_call0_call0_v163 : Ref sig .tc := ⟨.hbm, 241, rfl⟩
abbrev main_call0_call0_call0_c_42 : Ref sig .tc := ⟨.hbm, 242, rfl⟩
abbrev main_call0_call0_call0_v164 : Ref sig .tc := ⟨.hbm, 243, rfl⟩
abbrev main_call0_call0_call0_v165 : Ref sig .tc := ⟨.hbm, 244, rfl⟩
abbrev main_call0_call0_call0_c_43 : Ref sig .tc := ⟨.hbm, 245, rfl⟩
abbrev main_call0_call0_call0_v166 : Ref sig .tc := ⟨.hbm, 246, rfl⟩
abbrev main_call0_call0_call0_v167 : Ref sig .tc := ⟨.hbm, 247, rfl⟩
abbrev main_call0_call0_call0_v168 : Ref sig .tc := ⟨.hbm, 248, rfl⟩
abbrev main_call0_call0_call0_v169 : Ref sig .tc := ⟨.hbm, 249, rfl⟩
abbrev main_call0_call0_call0_v170 : Ref sig .tc := ⟨.hbm, 250, rfl⟩
abbrev main_call0_call0_v18_0 : Ref sig .tc := ⟨.hbm, 251, rfl⟩
abbrev main_call0_call0_call0_v172 : Ref sig .tc := ⟨.hbm, 252, rfl⟩
abbrev main_call0_call0_call0_v173 : Ref sig .tc := ⟨.hbm, 253, rfl⟩
abbrev main_call0_call0_call0_c_44 : Ref sig .tc := ⟨.hbm, 254, rfl⟩
abbrev main_call0_call0_call0_v174 : Ref sig .tc := ⟨.hbm, 255, rfl⟩
abbrev main_call0_call0_v18_1 : Ref sig .tc := ⟨.hbm, 256, rfl⟩
abbrev main_call0_call0_v19 : Ref sig .tc := ⟨.hbm, 257, rfl⟩
abbrev main_call0_call0_c_2 : Ref sig .tc := ⟨.hbm, 258, rfl⟩
abbrev main_call0_call0_v20 : Ref sig .tc := ⟨.hbm, 259, rfl⟩
abbrev main_call0_call0_v21 : Ref sig .tc := ⟨.hbm, 260, rfl⟩
abbrev main_call0_call0_c_3 : Ref sig .tc := ⟨.hbm, 261, rfl⟩
abbrev main_call0_call0_v22 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_cst : Ref sig .tc := ⟨.hbm, 265, rfl⟩
abbrev main_call0_call0_v25 : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_v0 : Ref sig .tc := ⟨.hbm, 274, rfl⟩
abbrev main_call0_v1 : Ref sig .tc := ⟨.hbm, 275, rfl⟩
abbrev main_call0_v2 : Ref sig .tc := ⟨.hbm, 276, rfl⟩
abbrev main_call0_v3 : Ref sig .tc := ⟨.hbm, 277, rfl⟩
abbrev main_v7 : Ref sig .tc := ⟨.hbm, 278, rfl⟩
abbrev main_v8_0 : Ref sig .tc := ⟨.hbm, 279, rfl⟩
abbrev main_v8_1 : Ref sig .tc := ⟨.hbm, 280, rfl⟩
abbrev main_v8_2 : Ref sig .tc := ⟨.hbm, 281, rfl⟩
abbrev main_v8_3 : Ref sig .tc := ⟨.hbm, 282, rfl⟩
abbrev main_v8_4 : Ref sig .tc := ⟨.hbm, 283, rfl⟩
abbrev main_v8_5 : Ref sig .tc := ⟨.hbm, 284, rfl⟩
abbrev main_v8_6 : Ref sig .tc := ⟨.hbm, 285, rfl⟩
abbrev main_v8_7 : Ref sig .tc := ⟨.hbm, 286, rfl⟩
abbrev main_v9_0 : Ref sig .tc := ⟨.hbm, 287, rfl⟩
abbrev main_v9_1 : Ref sig .tc := ⟨.hbm, 288, rfl⟩
abbrev main_c_2 : Ref sig .tc := ⟨.hbm, 289, rfl⟩
abbrev main_v10 : Ref sig .tc := ⟨.hbm, 290, rfl⟩
abbrev main_v11 : Ref sig .tc := ⟨.hbm, 291, rfl⟩
abbrev main_v12 : Ref sig .tc := ⟨.hbm, 292, rfl⟩
abbrev main_v13 : Ref sig .tc := ⟨.hbm, 293, rfl⟩
abbrev main_v14 : Ref sig .tc := ⟨.hbm, 294, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg7_1 : Ref sig .tc := ⟨.vmem, 36, rfl⟩
abbrev cc1_stg8_0 : Ref sig .tc := ⟨.vmem, 37, rfl⟩
abbrev cc1_stg8_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v103 : BitVec 1 := Scalar.cmpi .eq arg0 c7_i32
  let v104 : BitVec 32 := Scalar.extui v103
  let c0_i32_52 : BitVec 32 := 0#32
  let v105 : BitVec 1 := Scalar.cmpi .ne v104 c0_i32_52
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x64 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x64 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x64x128 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S4096x4096 : Shape := ⟨2, ![4096, 4096]⟩
abbrev S4096x64 : Shape := ⟨2, ![4096, 64]⟩
abbrev S_ : Shape := ⟨0, ![]⟩
abbrev S1 : Shape := ⟨1, ![1]⟩
abbrev S2 : Shape := ⟨1, ![2]⟩
abbrev S1x1 : Shape := ⟨2, ![1, 1]⟩
abbrev S4096 : Shape := ⟨1, ![4096]⟩
abbrev S4096x1 : Shape := ⟨2, ![4096, 1]⟩
abbrev S1x64 : Shape := ⟨2, ![1, 64]⟩
abbrev S64 : Shape := ⟨1, ![64]⟩
abbrev S1x128 : Shape := ⟨2, ![1, 128]⟩
abbrev S4096x128 : Shape := ⟨2, ![4096, 128]⟩
abbrev S4096x64x1 : Shape := ⟨3, ![4096, 64, 1]⟩
abbrev S4096x1x128 : Shape := ⟨3, ![4096, 1, 128]⟩
abbrev S4096x64x128 : Shape := ⟨3, ![4096, 64, 128]⟩

abbrev nBuf : Space → Nat
  | .hbm => 427
  | .vmem => 0
  | .smem => 0
  | _ => 0

abbrev hbmTy0_0 (i : Nat) : BufTy := match i % 128 with
  | 0 => ⟨S4096x4096, .f32⟩
  | 1 => ⟨S4096x64, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S4096x64, .i64⟩
  | 22 => ⟨S4096x64, .i64⟩
  | 23 => ⟨S_, .i64⟩
  | 24 => ⟨S4096x64, .i64⟩
  | 25 => ⟨S4096x64, .i64⟩
  | 26 => ⟨S_, .i64⟩
  | 27 => ⟨S4096x64, .i64⟩
  | 28 => ⟨S4096x64, .i64⟩
  | 29 => ⟨S4096x64, .i64⟩
  | 30 => ⟨S_, .i64⟩
  | 31 => ⟨S4096x64, .i64⟩
  | 32 => ⟨S4096x64, .i64⟩
  | 33 => ⟨S4096x64, .i32⟩
  | 34 => ⟨S4096x64, .i32⟩
  | 35 => ⟨S_, .i32⟩
  | 36 => ⟨S_, .i32⟩
  | 37 => ⟨S_, .i32⟩
  | 38 => ⟨S4096x64, .i32⟩
  | 39 => ⟨S4096x64, .i32⟩
  | 40 => ⟨S4096x64, .i32⟩
  | 41 => ⟨S4096x64, .i32⟩
  | 42 => ⟨S4096x64, .i32⟩
  | 43 => ⟨S_, .i32⟩
  | 44 => ⟨S4096x64, .i32⟩
  | 45 => ⟨S4096x64, .i32⟩
  | 46 => ⟨S_, .i32⟩
  | 47 => ⟨S4096x64, .i32⟩
  | 48 => ⟨S4096x64, .i32⟩
  | 49 => ⟨S4096x64, .i32⟩
  | 50 => ⟨S4096x64, .i32⟩
  | 51 => ⟨S4096x64, .i32⟩
  | 52 => ⟨S_, .i32⟩
  | 53 => ⟨S4096x64, .i32⟩
  | 54 => ⟨S4096x64, .i32⟩
  | 55 => ⟨S_, .i32⟩
  | 56 => ⟨S4096x64, .i32⟩
  | 57 => ⟨S4096x64, .i32⟩
  | 58 => ⟨S4096x64, .i32⟩
  | 59 => ⟨S4096x64, .i32⟩
  | 60 => ⟨S4096x64, .i32⟩
  | 61 => ⟨S_, .i32⟩
  | 62 => ⟨S4096x64, .i32⟩
  | 63 => ⟨S4096x64, .i32⟩
  | 64 => ⟨S_, .i32⟩
  | 65 => ⟨S4096x64, .i32⟩
  | 66 => ⟨S4096x64, .i32⟩
  | 67 => ⟨S4096x64, .i32⟩
  | 68 => ⟨S4096x64, .i32⟩
  | 69 => ⟨S4096x64, .i32⟩
  | 70 => ⟨S_, .i32⟩
  | 71 => ⟨S4096x64, .i32⟩
  | 72 => ⟨S4096x64, .i32⟩
  | 73 => ⟨S_, .i32⟩
  | 74 => ⟨S4096x64, .i32⟩
  | 75 => ⟨S4096x64, .i32⟩
  | 76 => ⟨S4096x64, .i32⟩
  | 77 => ⟨S4096x64, .i32⟩
  | 78 => ⟨S4096x64, .i32⟩
  | 79 => ⟨S4096x64, .i32⟩
  | 80 => ⟨S4096x64, .i32⟩
  | 81 => ⟨S4096x64, .i32⟩
  | 82 => ⟨S_, .i32⟩
  | 83 => ⟨S4096x64, .i32⟩
  | 84 => ⟨S4096x64, .i32⟩
  | 85 => ⟨S4096x64, .i32⟩
  | 86 => ⟨S_, .i32⟩
  | 87 => ⟨S4096x64, .i32⟩
  | 88 => ⟨S4096x64, .i32⟩
  | 89 => ⟨S_, .i32⟩
  | 90 => ⟨S4096x64, .i32⟩
  | 91 => ⟨S4096x64, .i32⟩
  | 92 => ⟨S4096x64, .i32⟩
  | 93 => ⟨S4096x64, .i32⟩
  | 94 => ⟨S4096x64, .i32⟩
  | 95 => ⟨S_, .i32⟩
  | 96 => ⟨S4096x64, .i32⟩
  | 97 => ⟨S4096x64, .i32⟩
  | 98 => ⟨S_, .i32⟩
  | 99 => ⟨S4096x64, .i32⟩
  | 100 => ⟨S4096x64, .i32⟩
  | 101 => ⟨S4096x64, .i32⟩
  | 102 => ⟨S4096x64, .i32⟩
  | 103 => ⟨S4096x64, .i32⟩
  | 104 => ⟨S_, .i32⟩
  | 105 => ⟨S4096x64, .i32⟩
  | 106 => ⟨S4096x64, .i32⟩
  | 107 => ⟨S_, .i32⟩
  | 108 => ⟨S4096x64, .i32⟩
  | 109 => ⟨S4096x64, .i32⟩
  | 110 => ⟨S4096x64, .i32⟩
  | 111 => ⟨S4096x64, .i32⟩
  | 112 => ⟨S4096x64, .i32⟩
  | 113 => ⟨S_, .i32⟩
  | 114 => ⟨S4096x64, .i32⟩
  | 115 => ⟨S4096x64, .i32⟩
  | 116 => ⟨S_, .i32⟩
  | 117 => ⟨S4096x64, .i32⟩
  | 118 => ⟨S4096x64, .i32⟩
  | 119 => ⟨S4096x64, .i32⟩
  | 120 => ⟨S4096x64, .i32⟩
  | 121 => ⟨S4096x64, .i32⟩
  | 122 => ⟨S4096x64, .i32⟩
  | 123 => ⟨S4096x64, .i32⟩
  | 124 => ⟨S4096x64, .i32⟩
  | 125 => ⟨S_, .i32⟩
  | 126 => ⟨S4096x64, .i32⟩
  | 127 => ⟨S4096x64, .i32⟩
  | _ => ⟨S4096x4096, .f32⟩

abbrev hbmTy0_1 (i : Nat) : BufTy := match i % 128 with
  | 0 => ⟨S4096x64, .i32⟩
  | 1 => ⟨S_, .i32⟩
  | 2 => ⟨S4096x64, .i32⟩
  | 3 => ⟨S4096x64, .i32⟩
  | 4 => ⟨S_, .i32⟩
  | 5 => ⟨S4096x64, .i32⟩
  | 6 => ⟨S4096x64, .i32⟩
  | 7 => ⟨S4096x64, .i32⟩
  | 8 => ⟨S4096x64, .i32⟩
  | 9 => ⟨S4096x64, .i32⟩
  | 10 => ⟨S_, .i32⟩
  | 11 => ⟨S4096x64, .i32⟩
  | 12 => ⟨S4096x64, .i32⟩
  | 13 => ⟨S_, .i32⟩
  | 14 => ⟨S4096x64, .i32⟩
  | 15 => ⟨S4096x64, .i32⟩
  | 16 => ⟨S4096x64, .i32⟩
  | 17 => ⟨S4096x64, .i32⟩
  | 18 => ⟨S4096x64, .i32⟩
  | 19 => ⟨S_, .i32⟩
  | 20 => ⟨S4096x64, .i32⟩
  | 21 => ⟨S4096x64, .i32⟩
  | 22 => ⟨S_, .i32⟩
  | 23 => ⟨S4096x64, .i32⟩
  | 24 => ⟨S4096x64, .i32⟩
  | 25 => ⟨S4096x64, .i32⟩
  | 26 => ⟨S4096x64, .i32⟩
  | 27 => ⟨S4096x64, .i32⟩
  | 28 => ⟨S_, .i32⟩
  | 29 => ⟨S4096x64, .i32⟩
  | 30 => ⟨S4096x64, .i32⟩
  | 31 => ⟨S_, .i32⟩
  | 32 => ⟨S4096x64, .i32⟩
  | 33 => ⟨S4096x64, .i32⟩
  | 34 => ⟨S4096x64, .i32⟩
  | 35 => ⟨S4096x64, .i32⟩
  | 36 => ⟨S4096x64, .i32⟩
  | 37 => ⟨S4096x64, .i32⟩
  | 38 => ⟨S4096x64, .i32⟩
  | 39 => ⟨S4096x64, .i32⟩
  | 40 => ⟨S_, .i32⟩
  | 41 => ⟨S4096x64, .i32⟩
  | 42 => ⟨S4096x64, .i32⟩
  | 43 => ⟨S4096x64, .i32⟩
  | 44 => ⟨S_, .i32⟩
  | 45 => ⟨S4096x64, .i32⟩
  | 46 => ⟨S4096x64, .i32⟩
  | 47 => ⟨S_, .i32⟩
  | 48 => ⟨S4096x64, .i32⟩
  | 49 => ⟨S4096x64, .i32⟩
  | 50 => ⟨S4096x64, .i32⟩
  | 51 => ⟨S4096x64, .i32⟩
  | 52 => ⟨S4096x64, .i32⟩
  | 53 => ⟨S_, .i32⟩
  | 54 => ⟨S4096x64, .i32⟩
  | 55 => ⟨S4096x64, .i32⟩
  | 56 => ⟨S_, .i32⟩
  | 57 => ⟨S4096x64, .i32⟩
  | 58 => ⟨S4096x64, .i32⟩
  | 59 => ⟨S4096x64, .i32⟩
  | 60 => ⟨S4096x64, .i32⟩
  | 61 => ⟨S4096x64, .i32⟩
  | 62 => ⟨S_, .i32⟩
  | 63 => ⟨S4096x64, .i32⟩
  | 64 => ⟨S4096x64, .i32⟩
  | 65 => ⟨S_, .i32⟩
  | 66 => ⟨S4096x64, .i32⟩
  | 67 => ⟨S4096x64, .i32⟩
  | 68 => ⟨S4096x64, .i32⟩
  | 69 => ⟨S4096x64, .i32⟩
  | 70 => ⟨S4096x64, .i32⟩
  | 71 => ⟨S_, .i32⟩
  | 72 => ⟨S4096x64, .i32⟩
  | 73 => ⟨S4096x64, .i32⟩
  | 74 => ⟨S_, .i32⟩
  | 75 => ⟨S4096x64, .i32⟩
  | 76 => ⟨S4096x64, .i32⟩
  | 77 => ⟨S4096x64, .i32⟩
  | 78 => ⟨S4096x64, .i32⟩
  | 79 => ⟨S4096x64, .i32⟩
  | 80 => ⟨S4096x64, .i32⟩
  | 81 => ⟨S4096x64, .i32⟩
  | 82 => ⟨S4096x64, .i32⟩
  | 83 => ⟨S_, .i32⟩
  | 84 => ⟨S4096x64, .i32⟩
  | 85 => ⟨S4096x64, .i32⟩
  | 86 => ⟨S4096x64, .i32⟩
  | 87 => ⟨S_, .i32⟩
  | 88 => ⟨S4096x64, .i32⟩
  | 89 => ⟨S4096x64, .i32⟩
  | 90 => ⟨S_, .i32⟩
  | 91 => ⟨S4096x64, .i32⟩
  | 92 => ⟨S4096x64, .i32⟩
  | 93 => ⟨S4096x64, .i32⟩
  | 94 => ⟨S4096x64, .i32⟩
  | 95 => ⟨S4096x64, .i32⟩
  | 96 => ⟨S_, .i32⟩
  | 97 => ⟨S4096x64, .i32⟩
  | 98 => ⟨S4096x64, .i32⟩
  | 99 => ⟨S_, .i32⟩
  | 100 => ⟨S4096x64, .i32⟩
  | 101 => ⟨S4096x64, .i32⟩
  | 102 => ⟨S4096x64, .i32⟩
  | 103 => ⟨S4096x64, .i32⟩
  | 104 => ⟨S4096x64, .i32⟩
  | 105 => ⟨S_, .i32⟩
  | 106 => ⟨S4096x64, .i32⟩
  | 107 => ⟨S4096x64, .i32⟩
  | 108 => ⟨S_, .i32⟩
  | 109 => ⟨S4096x64, .i32⟩
  | 110 => ⟨S4096x64, .i32⟩
  | 111 => ⟨S4096x64, .i32⟩
  | 112 => ⟨S4096x64, .i32⟩
  | 113 => ⟨S4096x64, .i32⟩
  | 114 => ⟨S_, .i32⟩
  | 115 => ⟨S4096x64, .i32⟩
  | 116 => ⟨S4096x64, .i32⟩
  | 117 => ⟨S_, .i32⟩
  | 118 => ⟨S4096x64, .i32⟩
  | 119 => ⟨S4096x64, .i32⟩
  | 120 => ⟨S4096x64, .i32⟩
  | 121 => ⟨S4096x64, .i32⟩
  | 122 => ⟨S4096x64, .i32⟩
  | 123 => ⟨S4096x64, .i32⟩
  | 124 => ⟨S4096x64, .i32⟩
  | 125 => ⟨S4096x64, .i32⟩
  | 126 => ⟨S_, .i32⟩
  | 127 => ⟨S4096x64, .i32⟩
  | _ => ⟨S4096x4096, .f32⟩

abbrev hbmTy0_2 (i : Nat) : BufTy := match i % 128 with
  | 0 => ⟨S4096x64, .i32⟩
  | 1 => ⟨S4096x64, .i32⟩
  | 2 => ⟨S_, .i32⟩
  | 3 => ⟨S4096x64, .i32⟩
  | 4 => ⟨S4096x64, .i32⟩
  | 5 => ⟨S_, .i32⟩
  | 6 => ⟨S4096x64, .i32⟩
  | 7 => ⟨S4096x64, .i32⟩
  | 8 => ⟨S4096x64, .f32⟩
  | 9 => ⟨S_, .f32⟩
  | 10 => ⟨S4096x64, .f32⟩
  | 11 => ⟨S4096x64, .f32⟩
  | 12 => ⟨S1x1, .f32⟩
  | 13 => ⟨S4096x64, .f32⟩
  | 14 => ⟨S4096x64, .f32⟩
  | 15 => ⟨S4096x64, .f32⟩
  | 16 => ⟨S4096x64, .f32⟩
  | 17 => ⟨S4096x64, .f32⟩
  | 18 => ⟨S4096x64, .f32⟩
  | 19 => ⟨S4096x64, .f32⟩
  | 20 => ⟨S4096x64, .f32⟩
  | 21 => ⟨S4096x64, .f32⟩
  | 22 => ⟨S4096x64, .f32⟩
  | 23 => ⟨S4096x64, .f32⟩
  | 24 => ⟨S_, .f32⟩
  | 25 => ⟨S4096, .f32⟩
  | 26 => ⟨S_, .f32⟩
  | 27 => ⟨S4096, .f32⟩
  | 28 => ⟨S4096, .f32⟩
  | 29 => ⟨S4096x1, .f32⟩
  | 30 => ⟨S4096x64, .f32⟩
  | 31 => ⟨S4096x64, .f32⟩
  | 32 => ⟨S4096x64, .f32⟩
  | 33 => ⟨S_, .f32⟩
  | 34 => ⟨S4096, .f32⟩
  | 35 => ⟨S4096x1, .f32⟩
  | 36 => ⟨S4096x64, .f32⟩
  | 37 => ⟨S4096x64, .f32⟩
  | 38 => ⟨S4096x64, .i32⟩
  | 39 => ⟨S_, .f32⟩
  | 40 => ⟨S_, .i32⟩
  | 41 => ⟨S4096, .f32⟩
  | 42 => ⟨S4096, .i32⟩
  | 43 => ⟨S4096x1, .i32⟩
  | 44 => ⟨S1x64, .i32⟩
  | 45 => ⟨S4096x64, .i32⟩
  | 46 => ⟨S4096x64, .i32⟩
  | 47 => ⟨S4096x64, .i1⟩
  | 48 => ⟨S4096x64, .i32⟩
  | 49 => ⟨S4096x64, .f32⟩
  | 50 => ⟨S_, .i32⟩
  | 51 => ⟨S4096x64, .i32⟩
  | 52 => ⟨S4096x64, .i1⟩
  | 53 => ⟨S4096x64, .i1⟩
  | 54 => ⟨S_, .f32⟩
  | 55 => ⟨S_, .f32⟩
  | 56 => ⟨S4096x64, .f32⟩
  | 57 => ⟨S4096x64, .f32⟩
  | 58 => ⟨S4096x64, .i32⟩
  | 59 => ⟨S_, .f32⟩
  | 60 => ⟨S_, .i32⟩
  | 61 => ⟨S4096, .f32⟩
  | 62 => ⟨S4096, .i32⟩
  | 63 => ⟨S4096x1, .i32⟩
  | 64 => ⟨S1x64, .i32⟩
  | 65 => ⟨S4096x64, .i32⟩
  | 66 => ⟨S4096x64, .i32⟩
  | 67 => ⟨S4096x64, .i1⟩
  | 68 => ⟨S4096x64, .i32⟩
  | 69 => ⟨S_, .i32⟩
  | 70 => ⟨S_, .i32⟩
  | 71 => ⟨S4096x64, .i32⟩
  | 72 => ⟨S_, .i32⟩
  | 73 => ⟨S4096x64, .i32⟩
  | 74 => ⟨S4096x64, .i32⟩
  | 75 => ⟨S_, .i32⟩
  | 76 => ⟨S_, .i32⟩
  | 77 => ⟨S4096x64, .i32⟩
  | 78 => ⟨S_, .i32⟩
  | 79 => ⟨S4096x64, .i32⟩
  | 80 => ⟨S4096x64, .i32⟩
  | 81 => ⟨S_, .i32⟩
  | 82 => ⟨S64, .i32⟩
  | 83 => ⟨S1x64, .i32⟩
  | 84 => ⟨S4096x64, .i32⟩
  | 85 => ⟨S4096x64, .i32⟩
  | 86 => ⟨S_, .i32⟩
  | 87 => ⟨S64, .i32⟩
  | 88 => ⟨S_, .f32⟩
  | 89 => ⟨S64, .f32⟩
  | 90 => ⟨S_, .f32⟩
  | 91 => ⟨S64, .f32⟩
  | 92 => ⟨S64, .f32⟩
  | 93 => ⟨S4096x64, .f32⟩
  | 94 => ⟨S_, .f32⟩
  | 95 => ⟨S64, .f32⟩
  | 96 => ⟨S_, .f32⟩
  | 97 => ⟨S64, .f32⟩
  | 98 => ⟨S64, .f32⟩
  | 99 => ⟨S64, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .i32⟩
  | 109 => ⟨S4096x64, .i32⟩
  | 110 => ⟨S4096x64, .i1⟩
  | 111 => ⟨S4096x64, .i32⟩
  | 112 => ⟨S4096x64, .i32⟩
  | 113 => ⟨S_, .i32⟩
  | 114 => ⟨S4096x64, .i32⟩
  | 115 => ⟨S4096x64, .i1⟩
  | 116 => ⟨S4096x64, .i32⟩
  | 117 => ⟨S4096x64, .i32⟩
  | 118 => ⟨S4096x64, .i32⟩
  | 119 => ⟨S_, .i32⟩
  | 120 => ⟨S4096, .i32⟩
  | 121 => ⟨S4096x64, .i32⟩
  | 122 => ⟨S_, .i32⟩
  | 123 => ⟨S4096, .i32⟩
  | 124 => ⟨S4096x64, .f32⟩
  | 125 => ⟨S4096x64, .f32⟩
  | 126 => ⟨S4096x64, .f32⟩
  | 127 => ⟨S_, .f32⟩
  | _ => ⟨S4096x4096, .f32⟩

abbrev hbmTy0_3 (i : Nat) : BufTy := match i % 128 with
  | 0 => ⟨S4096, .f32⟩
  | 1 => ⟨S4096x64, .f32⟩
  | 2 => ⟨S_, .f32⟩
  | 3 => ⟨S4096, .f32⟩
  | 4 => ⟨S4096, .f32⟩
  | 5 => ⟨S_, .f32⟩
  | 6 => ⟨S4096, .f32⟩
  | 7 => ⟨S4096, .f32⟩
  | 8 => ⟨S4096, .f32⟩
  | 9 => ⟨S4096, .f32⟩
  | 10 => ⟨S4096x1, .f32⟩
  | 11 => ⟨S4096x64, .f32⟩
  | 12 => ⟨S4096x64, .f32⟩
  | 13 => ⟨S4096x1, .f32⟩
  | 14 => ⟨S4096x64, .f32⟩
  | 15 => ⟨S4096x64, .f32⟩
  | 16 => ⟨S4096x1, .i32⟩
  | 17 => ⟨S1x128, .i32⟩
  | 18 => ⟨S4096x128, .i32⟩
  | 19 => ⟨S4096x128, .i32⟩
  | 20 => ⟨S4096x128, .i1⟩
  | 21 => ⟨S4096x128, .f32⟩
  | 22 => ⟨S4096x1, .i32⟩
  | 23 => ⟨S1x128, .i32⟩
  | 24 => ⟨S4096x128, .i32⟩
  | 25 => ⟨S4096x128, .i32⟩
  | 26 => ⟨S4096x128, .i1⟩
  | 27 => ⟨S4096x128, .f32⟩
  | 28 => ⟨S4096x64x1, .f32⟩
  | 29 => ⟨S4096x1x128, .f32⟩
  | 30 => ⟨S4096x64x128, .f32⟩
  | 31 => ⟨S4096x64x128, .f32⟩
  | 32 => ⟨S4096x64x128, .f32⟩
  | 33 => ⟨S4096x64x1, .f32⟩
  | 34 => ⟨S4096x1x128, .f32⟩
  | 35 => ⟨S4096x64x128, .f32⟩
  | 36 => ⟨S4096x64x128, .f32⟩
  | 37 => ⟨S4096x64x128, .f32⟩
  | 38 => ⟨S4096x64x128, .f32⟩
  | 39 => ⟨S_, .f32⟩
  | 40 => ⟨S4096x64x128, .f32⟩
  | 41 => ⟨S4096x64x128, .i1⟩
  | 42 => ⟨S4096x64x128, .i1⟩
  | _ => ⟨S4096x4096, .f32⟩

abbrev hbmTy (i : Nat) : BufTy := match i / 128 with
  | 0 => hbmTy0_0 i
  | 1 => hbmTy0_1 i
  | 2 => hbmTy0_2 i
  | 3 => hbmTy0_3 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_c_0 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_c_1 : Ref sig .tc := ⟨.hbm, 30, rfl⟩
abbrev main_call0_call0_v14 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_v17 : Ref sig .tc := ⟨.hbm, 34, rfl⟩
abbrev main_call0_call0_call0_v0 : Ref sig .tc := ⟨.hbm, 35, rfl⟩
abbrev main_call0_call0_call0_c : Ref sig .tc := ⟨.hbm, 36, rfl⟩
abbrev main_call0_call0_call0_v1 : Ref sig .tc := ⟨.hbm, 37, rfl⟩
abbrev main_call0_call0_call0_v2 : Ref sig .tc := ⟨.hbm, 38, rfl⟩
abbrev main_call0_call0_call0_v3 : Ref sig .tc := ⟨.hbm, 39, rfl⟩
abbrev main_call0_call0_call0_v4 : Ref sig .tc := ⟨.hbm, 40, rfl⟩
abbrev main_call0_call0_call0_v5 : Ref sig .tc := ⟨.hbm, 41, rfl⟩
abbrev main_call0_call0_call0_v6 : Ref sig .tc := ⟨.hbm, 42, rfl⟩
abbrev main_call0_call0_call0_c_0 : Ref sig .tc := ⟨.hbm, 43, rfl⟩
abbrev main_call0_call0_call0_v7 : Ref sig .tc := ⟨.hbm, 44, rfl⟩
abbrev main_call0_call0_call0_v8 : Ref sig .tc := ⟨.hbm, 45, rfl⟩
abbrev main_call0_call0_call0_c_1 : Ref sig .tc := ⟨.hbm, 46, rfl⟩
abbrev main_call0_call0_call0_v9 : Ref sig .tc := ⟨.hbm, 47, rfl⟩
abbrev main_call0_call0_call0_v10 : Ref sig .tc := ⟨.hbm, 48, rfl⟩
abbrev main_call0_call0_call0_v11 : Ref sig .tc := ⟨.hbm, 49, rfl⟩
abbrev main_call0_call0_call0_v12 : Ref sig .tc := ⟨.hbm, 50, rfl⟩
abbrev main_call0_call0_call0_v13 : Ref sig .tc := ⟨.hbm, 51, rfl⟩
abbrev main_call0_call0_call0_c_2 : Ref sig .tc := ⟨.hbm, 52, rfl⟩
abbrev main_call0_call0_call0_v14 : Ref sig .tc := ⟨.hbm, 53, rfl⟩
abbrev main_call0_call0_call0_v15 : Ref sig .tc := ⟨.hbm, 54, rfl⟩
abbrev main_call0_call0_call0_c_3 : Ref sig .tc := ⟨.hbm, 55, rfl⟩
abbrev main_call0_call0_call0_v16 : Ref sig .tc := ⟨.hbm, 56, rfl⟩
abbrev main_call0_call0_call0_v17 : Ref sig .tc := ⟨.hbm, 57, rfl⟩
abbrev main_call0_call0_call0_v18 : Ref sig .tc := ⟨.hbm, 58, rfl⟩
abbrev main_call0_call0_call0_v19 : Ref sig .tc := ⟨.hbm, 59, rfl⟩
abbrev main_call0_call0_call0_v20 : Ref sig .tc := ⟨.hbm, 60, rfl⟩
abbrev main_call0_call0_call0_c_4 : Ref sig .tc := ⟨.hbm, 61, rfl⟩
abbrev main_call0_call0_call0_v21 : Ref sig .tc := ⟨.hbm, 62, rfl⟩
abbrev main_call0_call0_call0_v22 : Ref sig .tc := ⟨.hbm, 63, rfl⟩
abbrev main_call0_call0_call0_c_5 : Ref sig .tc := ⟨.hbm, 64, rfl⟩
abbrev main_call0_call0_call0_v23 : Ref sig .tc := ⟨.hbm, 65, rfl⟩
abbrev main_call0_call0_call0_v24 : Ref sig .tc := ⟨.hbm, 66, rfl⟩
abbrev main_call0_call0_call0_v25 : Ref sig .tc := ⟨.hbm, 67, rfl⟩
abbrev main_call0_call0_call0_v26 : Ref sig .tc := ⟨.hbm, 68, rfl⟩
abbrev main_call0_call0_call0_v27 : Ref sig .tc := ⟨.hbm, 69, rfl⟩
abbrev main_call0_call0_call0_c_6 : Ref sig .tc := ⟨.hbm, 70, rfl⟩
abbrev main_call0_call0_call0_v28 : Ref sig .tc := ⟨.hbm, 71, rfl⟩
abbrev main_call0_call0_call0_v29 : Ref sig .tc := ⟨.hbm, 72, rfl⟩
abbrev main_call0_call0_call0_c_7 : Ref sig .tc := ⟨.hbm, 73, rfl⟩
abbrev main_call0_call0_call0_v30 : Ref sig .tc := ⟨.hbm, 74, rfl⟩
abbrev main_call0_call0_call0_v31 : Ref sig .tc := ⟨.hbm, 75, rfl⟩
abbrev main_call0_call0_call0_v32 : Ref sig .tc := ⟨.hbm, 76, rfl⟩
abbrev main_call0_call0_call0_v33 : Ref sig .tc := ⟨.hbm, 77, rfl⟩
abbrev main_call0_call0_call0_v34 : Ref sig .tc := ⟨.hbm, 78, rfl⟩
abbrev main_call0_call0_call0_v35 : Ref sig .tc := ⟨.hbm, 79, rfl⟩
abbrev main_call0_call0_call0_v36 : Ref sig .tc := ⟨.hbm, 80, rfl⟩
abbrev main_call0_call0_call0_v37 : Ref sig .tc := ⟨.hbm, 81, rfl⟩
abbrev main_call0_call0_call0_c_8 : Ref sig .tc := ⟨.hbm, 82, rfl⟩
abbrev main_call0_call0_call0_v38 : Ref sig .tc := ⟨.hbm, 83, rfl⟩
abbrev main_call0_call0_call0_v39 : Ref sig .tc := ⟨.hbm, 84, rfl⟩
abbrev main_call0_call0_call0_v40 : Ref sig .tc := ⟨.hbm, 85, rfl⟩
abbrev main_call0_call0_call0_c_9 : Ref sig .tc := ⟨.hbm, 86, rfl⟩
abbrev main_call0_call0_call0_v41 : Ref sig .tc := ⟨.hbm, 87, rfl⟩
abbrev main_call0_call0_call0_v42 : Ref sig .tc := ⟨.hbm, 88, rfl⟩
abbrev main_call0_call0_call0_c_10 : Ref sig .tc := ⟨.hbm, 89, rfl⟩
abbrev main_call0_call0_call0_v43 : Ref sig .tc := ⟨.hbm, 90, rfl⟩
abbrev main_call0_call0_call0_v44 : Ref sig .tc := ⟨.hbm, 91, rfl⟩
abbrev main_call0_call0_call0_v45 : Ref sig .tc := ⟨.hbm, 92, rfl⟩
abbrev main_call0_call0_call0_v46 : Ref sig .tc := ⟨.hbm, 93, rfl⟩
abbrev main_call0_call0_call0_v47 : Ref sig .tc := ⟨.hbm, 94, rfl⟩
abbrev main_call0_call0_call0_c_11 : Ref sig .tc := ⟨.hbm, 95, rfl⟩
abbrev main_call0_call0_call0_v48 : Ref sig .tc := ⟨.hbm, 96, rfl⟩
abbrev main_call0_call0_call0_v49 : Ref sig .tc := ⟨.hbm, 97, rfl⟩
abbrev main_call0_call0_call0_c_12 : Ref sig .tc := ⟨.hbm, 98, rfl⟩
abbrev main_call0_call0_call0_v50 : Ref sig .tc := ⟨.hbm, 99, rfl⟩
abbrev main_call0_call0_call0_v51 : Ref sig .tc := ⟨.hbm, 100, rfl⟩
abbrev main_call0_call0_call0_v52 : Ref sig .tc := ⟨.hbm, 101, rfl⟩
abbrev main_call0_call0_call0_v53 : Ref sig .tc := ⟨.hbm, 102, rfl⟩
abbrev main_call0_call0_call0_v54 : Ref sig .tc := ⟨.hbm, 103, rfl⟩
abbrev main_call0_call0_call0_c_13 : Ref sig .tc := ⟨.hbm, 104, rfl⟩
abbrev main_call0_call0_call0_v55 : Ref sig .tc := ⟨.hbm, 105, rfl⟩
abbrev main_call0_call0_call0_v56 : Ref sig .tc := ⟨.hbm, 106, rfl⟩
abbrev main_call0_call0_call0_c_14 : Ref sig .tc := ⟨.hbm, 107, rfl⟩
abbrev main_call0_call0_call0_v57 : Ref sig .tc := ⟨.hbm, 108, rfl⟩
abbrev main_call0_call0_call0_v58 : Ref sig .tc := ⟨.hbm, 109, rfl⟩
abbrev main_call0_call0_call0_v59 : Ref sig .tc := ⟨.hbm, 110, rfl⟩
abbrev main_call0_call0_call0_v60 : Ref sig .tc := ⟨.hbm, 111, rfl⟩
abbrev main_call0_call0_call0_v61 : Ref sig .tc := ⟨.hbm, 112, rfl⟩
abbrev main_call0_call0_call0_c_15 : Ref sig .tc := ⟨.hbm, 113, rfl⟩
abbrev main_call0_call0_call0_v62 : Ref sig .tc := ⟨.hbm, 114, rfl⟩
abbrev main_call0_call0_call0_v63 : Ref sig .tc := ⟨.hbm, 115, rfl⟩
abbrev main_call0_call0_call0_c_16 : Ref sig .tc := ⟨.hbm, 116, rfl⟩
abbrev main_call0_call0_call0_v64 : Ref sig .tc := ⟨.hbm, 117, rfl⟩
abbrev main_call0_call0_call0_v65 : Ref sig .tc := ⟨.hbm, 118, rfl⟩
abbrev main_call0_call0_call0_v66 : Ref sig .tc := ⟨.hbm, 119, rfl⟩
abbrev main_call0_call0_call0_v67 : Ref sig .tc := ⟨.hbm, 120, rfl⟩
abbrev main_call0_call0_call0_v68 : Ref sig .tc := ⟨.hbm, 121, rfl⟩
abbrev main_call0_call0_call0_v69 : Ref sig .tc := ⟨.hbm, 122, rfl⟩
abbrev main_call0_call0_call0_v70 : Ref sig .tc := ⟨.hbm, 123, rfl⟩
abbrev main_call0_call0_call0_v71 : Ref sig .tc := ⟨.hbm, 124, rfl⟩
abbrev main_call0_call0_call0_c_17 : Ref sig .tc := ⟨.hbm, 125, rfl⟩
abbrev main_call0_call0_call0_v72 : Ref sig .tc := ⟨.hbm, 126, rfl⟩
abbrev main_call0_call0_call0_v73 : Ref sig .tc := ⟨.hbm, 127, rfl⟩
abbrev main_call0_call0_call0_v74 : Ref sig .tc := ⟨.hbm, 128, rfl⟩
abbrev main_call0_call0_call0_c_18 : Ref sig .tc := ⟨.hbm, 129, rfl⟩
abbrev main_call0_call0_call0_v75 : Ref sig .tc := ⟨.hbm, 130, rfl⟩
abbrev main_call0_call0_call0_v76 : Ref sig .tc := ⟨.hbm, 131, rfl⟩
abbrev main_call0_call0_call0_c_19 : Ref sig .tc := ⟨.hbm, 132, rfl⟩
abbrev main_call0_call0_call0_v77 : Ref sig .tc := ⟨.hbm, 133, rfl⟩
abbrev main_call0_call0_call0_v78 : Ref sig .tc := ⟨.hbm, 134, rfl⟩
abbrev main_call0_call0_call0_v79 : Ref sig .tc := ⟨.hbm, 135, rfl⟩
abbrev main_call0_call0_call0_v80 : Ref sig .tc := ⟨.hbm, 136, rfl⟩
abbrev main_call0_call0_call0_v81 : Ref sig .tc := ⟨.hbm, 137, rfl⟩
abbrev main_call0_call0_call0_c_20 : Ref sig .tc := ⟨.hbm, 138, rfl⟩
abbrev main_call0_call0_call0_v82 : Ref sig .tc := ⟨.hbm, 139, rfl⟩
abbrev main_call0_call0_call0_v83 : Ref sig .tc := ⟨.hbm, 140, rfl⟩
abbrev main_call0_call0_call0_c_21 : Ref sig .tc := ⟨.hbm, 141, rfl⟩
abbrev main_call0_call0_call0_v84 : Ref sig .tc := ⟨.hbm, 142, rfl⟩
abbrev main_call0_call0_call0_v85 : Ref sig .tc := ⟨.hbm, 143, rfl⟩
abbrev main_call0_call0_call0_v86 : Ref sig .tc := ⟨.hbm, 144, rfl⟩
abbrev main_call0_call0_call0_v87 : Ref sig .tc := ⟨.hbm, 145, rfl⟩
abbrev main_call0_call0_call0_v88 : Ref sig .tc := ⟨.hbm, 146, rfl⟩
abbrev main_call0_call0_call0_c_22 : Ref sig .tc := ⟨.hbm, 147, rfl⟩
abbrev main_call0_call0_call0_v89 : Ref sig .tc := ⟨.hbm, 148, rfl⟩
abbrev main_call0_call0_call0_v90 : Ref sig .tc := ⟨.hbm, 149, rfl⟩
abbrev main_call0_call0_call0_c_23 : Ref sig .tc := ⟨.hbm, 150, rfl⟩
abbrev main_call0_call0_call0_v91 : Ref sig .tc := ⟨.hbm, 151, rfl⟩
abbrev main_call0_call0_call0_v92 : Ref sig .tc := ⟨.hbm, 152, rfl⟩
abbrev main_call0_call0_call0_v93 : Ref sig .tc := ⟨.hbm, 153, rfl⟩
abbrev main_call0_call0_call0_v94 : Ref sig .tc := ⟨.hbm, 154, rfl⟩
abbrev main_call0_call0_call0_v95 : Ref sig .tc := ⟨.hbm, 155, rfl⟩
abbrev main_call0_call0_call0_c_24 : Ref sig .tc := ⟨.hbm, 156, rfl⟩
abbrev main_call0_call0_call0_v96 : Ref sig .tc := ⟨.hbm, 157, rfl⟩
abbrev main_call0_call0_call0_v97 : Ref sig .tc := ⟨.hbm, 158, rfl⟩
abbrev main_call0_call0_call0_c_25 : Ref sig .tc := ⟨.hbm, 159, rfl⟩
abbrev main_call0_call0_call0_v98 : Ref sig .tc := ⟨.hbm, 160, rfl⟩
abbrev main_call0_call0_call0_v99 : Ref sig .tc := ⟨.hbm, 161, rfl⟩
abbrev main_call0_call0_call0_v100 : Ref sig .tc := ⟨.hbm, 162, rfl⟩
abbrev main_call0_call0_call0_v101 : Ref sig .tc := ⟨.hbm, 163, rfl⟩
abbrev main_call0_call0_call0_v102 : Ref sig .tc := ⟨.hbm, 164, rfl⟩
abbrev main_call0_call0_call0_v103 : Ref sig .tc := ⟨.hbm, 165, rfl⟩
abbrev main_call0_call0_call0_v104 : Ref sig .tc := ⟨.hbm, 166, rfl⟩
abbrev main_call0_call0_call0_v105 : Ref sig .tc := ⟨.hbm, 167, rfl⟩
abbrev main_call0_call0_call0_c_26 : Ref sig .tc := ⟨.hbm, 168, rfl⟩
abbrev main_call0_call0_call0_v106 : Ref sig .tc := ⟨.hbm, 169, rfl⟩
abbrev main_call0_call0_call0_v107 : Ref sig .tc := ⟨.hbm, 170, rfl⟩
abbrev main_call0_call0_call0_v108 : Ref sig .tc := ⟨.hbm, 171, rfl⟩
abbrev main_call0_call0_call0_c_27 : Ref sig .tc := ⟨.hbm, 172, rfl⟩
abbrev main_call0_call0_call0_v109 : Ref sig .tc := ⟨.hbm, 173, rfl⟩
abbrev main_call0_call0_call0_v110 : Ref sig .tc := ⟨.hbm, 174, rfl⟩
abbrev main_call0_call0_call0_c_28 : Ref sig .tc := ⟨.hbm, 175, rfl⟩
abbrev main_call0_call0_call0_v111 : Ref sig .tc := ⟨.hbm, 176, rfl⟩
abbrev main_call0_call0_call0_v112 : Ref sig .tc := ⟨.hbm, 177, rfl⟩
abbrev main_call0_call0_call0_v113 : Ref sig .tc := ⟨.hbm, 178, rfl⟩
abbrev main_call0_call0_call0_v114 : Ref sig .tc := ⟨.hbm, 179, rfl⟩
abbrev main_call0_call0_call0_v115 : Ref sig .tc := ⟨.hbm, 180, rfl⟩
abbrev main_call0_call0_call0_c_29 : Ref sig .tc := ⟨.hbm, 181, rfl⟩
abbrev main_call0_call0_call0_v116 : Ref sig .tc := ⟨.hbm, 182, rfl⟩
abbrev main_call0_call0_call0_v117 : Ref sig .tc := ⟨.hbm, 183, rfl⟩
abbrev main_call0_call0_call0_c_30 : Ref sig .tc := ⟨.hbm, 184, rfl⟩
abbrev main_call0_call0_call0_v118 : Ref sig .tc := ⟨.hbm, 185, rfl⟩
abbrev main_call0_call0_call0_v119 : Ref sig .tc := ⟨.hbm, 186, rfl⟩
abbrev main_call0_call0_call0_v120 : Ref sig .tc := ⟨.hbm, 187, rfl⟩
abbrev main_call0_call0_call0_v121 : Ref sig .tc := ⟨.hbm, 188, rfl⟩
abbrev main_call0_call0_call0_v122 : Ref sig .tc := ⟨.hbm, 189, rfl⟩
abbrev main_call0_call0_call0_c_31 : Ref sig .tc := ⟨.hbm, 190, rfl⟩
abbrev main_call0_call0_call0_v123 : Ref sig .tc := ⟨.hbm, 191, rfl⟩
abbrev main_call0_call0_call0_v124 : Ref sig .tc := ⟨.hbm, 192, rfl⟩
abbrev main_call0_call0_call0_c_32 : Ref sig .tc := ⟨.hbm, 193, rfl⟩
abbrev main_call0_call0_call0_v125 : Ref sig .tc := ⟨.hbm, 194, rfl⟩
abbrev main_call0_call0_call0_v126 : Ref sig .tc := ⟨.hbm, 195, rfl⟩
abbrev main_call0_call0_call0_v127 : Ref sig .tc := ⟨.hbm, 196, rfl⟩
abbrev main_call0_call0_call0_v128 : Ref sig .tc := ⟨.hbm, 197, rfl⟩
abbrev main_call0_call0_call0_v129 : Ref sig .tc := ⟨.hbm, 198, rfl⟩
abbrev main_call0_call0_call0_c_33 : Ref sig .tc := ⟨.hbm, 199, rfl⟩
abbrev main_call0_call0_call0_v130 : Ref sig .tc := ⟨.hbm, 200, rfl⟩
abbrev main_call0_call0_call0_v131 : Ref sig .tc := ⟨.hbm, 201, rfl⟩
abbrev main_call0_call0_call0_c_34 : Ref sig .tc := ⟨.hbm, 202, rfl⟩
abbrev main_call0_call0_call0_v132 : Ref sig .tc := ⟨.hbm, 203, rfl⟩
abbrev main_call0_call0_call0_v133 : Ref sig .tc := ⟨.hbm, 204, rfl⟩
abbrev main_call0_call0_call0_v134 : Ref sig .tc := ⟨.hbm, 205, rfl⟩
abbrev main_call0_call0_call0_v135 : Ref sig .tc := ⟨.hbm, 206, rfl⟩
abbrev main_call0_call0_call0_v136 : Ref sig .tc := ⟨.hbm, 207, rfl⟩
abbrev main_call0_call0_call0_v137 : Ref sig .tc := ⟨.hbm, 208, rfl⟩
abbrev main_call0_call0_call0_v138 : Ref sig .tc := ⟨.hbm, 209, rfl⟩
abbrev main_call0_call0_call0_v139 : Ref sig .tc := ⟨.hbm, 210, rfl⟩
abbrev main_call0_call0_call0_c_35 : Ref sig .tc := ⟨.hbm, 211, rfl⟩
abbrev main_call0_call0_call0_v140 : Ref sig .tc := ⟨.hbm, 212, rfl⟩
abbrev main_call0_call0_call0_v141 : Ref sig .tc := ⟨.hbm, 213, rfl⟩
abbrev main_call0_call0_call0_v142 : Ref sig .tc := ⟨.hbm, 214, rfl⟩
abbrev main_call0_call0_call0_c_36 : Ref sig .tc := ⟨.hbm, 215, rfl⟩
abbrev main_call0_call0_call0_v143 : Ref sig .tc := ⟨.hbm, 216, rfl⟩
abbrev main_call0_call0_call0_v144 : Ref sig .tc := ⟨.hbm, 217, rfl⟩
abbrev main_call0_call0_call0_c_37 : Ref sig .tc := ⟨.hbm, 218, rfl⟩
abbrev main_call0_call0_call0_v145 : Ref sig .tc := ⟨.hbm, 219, rfl⟩
abbrev main_call0_call0_call0_v146 : Ref sig .tc := ⟨.hbm, 220, rfl⟩
abbrev main_call0_call0_call0_v147 : Ref sig .tc := ⟨.hbm, 221, rfl⟩
abbrev main_call0_call0_call0_v148 : Ref sig .tc := ⟨.hbm, 222, rfl⟩
abbrev main_call0_call0_call0_v149 : Ref sig .tc := ⟨.hbm, 223, rfl⟩
abbrev main_call0_call0_call0_c_38 : Ref sig .tc := ⟨.hbm, 224, rfl⟩
abbrev main_call0_call0_call0_v150 : Ref sig .tc := ⟨.hbm, 225, rfl⟩
abbrev main_call0_call0_call0_v151 : Ref sig .tc := ⟨.hbm, 226, rfl⟩
abbrev main_call0_call0_call0_c_39 : Ref sig .tc := ⟨.hbm, 227, rfl⟩
abbrev main_call0_call0_call0_v152 : Ref sig .tc := ⟨.hbm, 228, rfl⟩
abbrev main_call0_call0_call0_v153 : Ref sig .tc := ⟨.hbm, 229, rfl⟩
abbrev main_call0_call0_call0_v154 : Ref sig .tc := ⟨.hbm, 230, rfl⟩
abbrev main_call0_call0_call0_v155 : Ref sig .tc := ⟨.hbm, 231, rfl⟩
abbrev main_call0_call0_call0_v156 : Ref sig .tc := ⟨.hbm, 232, rfl⟩
abbrev main_call0_call0_call0_c_40 : Ref sig .tc := ⟨.hbm, 233, rfl⟩
abbrev main_call0_call0_call0_v157 : Ref sig .tc := ⟨.hbm, 234, rfl⟩
abbrev main_call0_call0_call0_v158 : Ref sig .tc := ⟨.hbm, 235, rfl⟩
abbrev main_call0_call0_call0_c_41 : Ref sig .tc := ⟨.hbm, 236, rfl⟩
abbrev main_call0_call0_call0_v159 : Ref sig .tc := ⟨.hbm, 237, rfl⟩
abbrev main_call0_call0_call0_v160 : Ref sig .tc := ⟨.hbm, 238, rfl⟩
abbrev main_call0_call0_call0_v161 : Ref sig .tc := ⟨.hbm, 239, rfl⟩
abbrev main_call0_call0_call0_v162 : Ref sig .tc := ⟨.hbm, 240, rfl⟩
abbrev main_call0_call0_call0_v163 : Ref sig .tc := ⟨.hbm, 241, rfl⟩
abbrev main_call0_call0_call0_c_42 : Ref sig .tc := ⟨.hbm, 242, rfl⟩
abbrev main_call0_call0_call0_v164 : Ref sig .tc := ⟨.hbm, 243, rfl⟩
abbrev main_call0_call0_call0_v165 : Ref sig .tc := ⟨.hbm, 244, rfl⟩
abbrev main_call0_call0_call0_c_43 : Ref sig .tc := ⟨.hbm, 245, rfl⟩
abbrev main_call0_call0_call0_v166 : Ref sig .tc := ⟨.hbm, 246, rfl⟩
abbrev main_call0_call0_call0_v167 : Ref sig .tc := ⟨.hbm, 247, rfl⟩
abbrev main_call0_call0_call0_v168 : Ref sig .tc := ⟨.hbm, 248, rfl⟩
abbrev main_call0_call0_call0_v169 : Ref sig .tc := ⟨.hbm, 249, rfl⟩
abbrev main_call0_call0_call0_v170 : Ref sig .tc := ⟨.hbm, 250, rfl⟩
abbrev main_call0_call0_v18_0 : Ref sig .tc := ⟨.hbm, 251, rfl⟩
abbrev main_call0_call0_call0_v172 : Ref sig .tc := ⟨.hbm, 252, rfl⟩
abbrev main_call0_call0_call0_v173 : Ref sig .tc := ⟨.hbm, 253, rfl⟩
abbrev main_call0_call0_call0_c_44 : Ref sig .tc := ⟨.hbm, 254, rfl⟩
abbrev main_call0_call0_call0_v174 : Ref sig .tc := ⟨.hbm, 255, rfl⟩
abbrev main_call0_call0_v18_1 : Ref sig .tc := ⟨.hbm, 256, rfl⟩
abbrev main_call0_call0_v19 : Ref sig .tc := ⟨.hbm, 257, rfl⟩
abbrev main_call0_call0_c_2 : Ref sig .tc := ⟨.hbm, 258, rfl⟩
abbrev main_call0_call0_v20 : Ref sig .tc := ⟨.hbm, 259, rfl⟩
abbrev main_call0_call0_v21 : Ref sig .tc := ⟨.hbm, 260, rfl⟩
abbrev main_call0_call0_c_3 : Ref sig .tc := ⟨.hbm, 261, rfl⟩
abbrev main_call0_call0_v22 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_cst : Ref sig .tc := ⟨.hbm, 265, rfl⟩
abbrev main_call0_call0_v25 : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_v0 : Ref sig .tc := ⟨.hbm, 274, rfl⟩
abbrev main_call0_v1 : Ref sig .tc := ⟨.hbm, 275, rfl⟩
abbrev main_call0_v2 : Ref sig .tc := ⟨.hbm, 276, rfl⟩
abbrev main_call0_v3 : Ref sig .tc := ⟨.hbm, 277, rfl⟩
abbrev main_v7 : Ref sig .tc := ⟨.hbm, 278, rfl⟩
abbrev main_v8 : Ref sig .tc := ⟨.hbm, 279, rfl⟩
abbrev main_cst : Ref sig .tc := ⟨.hbm, 280, rfl⟩
abbrev main_v9 : Ref sig .tc := ⟨.hbm, 281, rfl⟩
abbrev main_cst_2 : Ref sig .tc := ⟨.hbm, 282, rfl⟩
abbrev main_v10 : Ref sig .tc := ⟨.hbm, 283, rfl⟩
abbrev main_v11 : Ref sig .tc := ⟨.hbm, 284, rfl⟩
abbrev main_v12 : Ref sig .tc := ⟨.hbm, 285, rfl⟩
abbrev main_v13 : Ref sig .tc := ⟨.hbm, 286, rfl⟩
abbrev main_v14 : Ref sig .tc := ⟨.hbm, 287, rfl⟩
abbrev main_v15 : Ref sig .tc := ⟨.hbm, 288, rfl⟩
abbrev main_cst_3 : Ref sig .tc := ⟨.hbm, 289, rfl⟩
abbrev main_v16 : Ref sig .tc := ⟨.hbm, 290, rfl⟩
abbrev main_v17 : Ref sig .tc := ⟨.hbm, 291, rfl⟩
abbrev main_v18 : Ref sig .tc := ⟨.hbm, 292, rfl⟩
abbrev main_v19 : Ref sig .tc := ⟨.hbm, 293, rfl⟩
abbrev main_call1_v0 : Ref sig .tc := ⟨.hbm, 294, rfl⟩
abbrev main_call1_cst : Ref sig .tc := ⟨.hbm, 295, rfl⟩
abbrev main_call1_c : Ref sig .tc := ⟨.hbm, 296, rfl⟩
abbrev main_call1_v1_0 : Ref sig .tc := ⟨.hbm, 297, rfl⟩
abbrev main_v20 : Ref sig .tc := ⟨.hbm, 298, rfl⟩
abbrev main_call2_v0 : Ref sig .tc := ⟨.hbm, 299, rfl⟩
abbrev main_call2_v1 : Ref sig .tc := ⟨.hbm, 300, rfl⟩
abbrev main_call2_v2 : Ref sig .tc := ⟨.hbm, 301, rfl⟩
abbrev main_call2_v3 : Ref sig .tc := ⟨.hbm, 302, rfl⟩
abbrev main_call2_v4 : Ref sig .tc := ⟨.hbm, 303, rfl⟩
abbrev main_v21 : Ref sig .tc := ⟨.hbm, 304, rfl⟩
abbrev main_v22 : Ref sig .tc := ⟨.hbm, 305, rfl⟩
abbrev main_c_4 : Ref sig .tc := ⟨.hbm, 306, rfl⟩
abbrev main_v23 : Ref sig .tc := ⟨.hbm, 307, rfl⟩
abbrev main_v24 : Ref sig .tc := ⟨.hbm, 308, rfl⟩
abbrev main_v25 : Ref sig .tc := ⟨.hbm, 309, rfl⟩
abbrev main_cst_5 : Ref sig .tc := ⟨.hbm, 310, rfl⟩
abbrev main_call3_v0 : Ref sig .tc := ⟨.hbm, 311, rfl⟩
abbrev main_call3_v1 : Ref sig .tc := ⟨.hbm, 312, rfl⟩
abbrev main_v26 : Ref sig .tc := ⟨.hbm, 313, rfl⟩
abbrev main_call4_v0 : Ref sig .tc := ⟨.hbm, 314, rfl⟩
abbrev main_call4_cst : Ref sig .tc := ⟨.hbm, 315, rfl⟩
abbrev main_call4_c : Ref sig .tc := ⟨.hbm, 316, rfl⟩
abbrev main_call4_v1_0 : Ref sig .tc := ⟨.hbm, 317, rfl⟩
abbrev main_v27 : Ref sig .tc := ⟨.hbm, 318, rfl⟩
abbrev main_call5_v0 : Ref sig .tc := ⟨.hbm, 319, rfl⟩
abbrev main_call5_v1 : Ref sig .tc := ⟨.hbm, 320, rfl⟩
abbrev main_call5_v2 : Ref sig .tc := ⟨.hbm, 321, rfl⟩
abbrev main_call5_v3 : Ref sig .tc := ⟨.hbm, 322, rfl⟩
abbrev main_call5_v4 : Ref sig .tc := ⟨.hbm, 323, rfl⟩
abbrev main_v28 : Ref sig .tc := ⟨.hbm, 324, rfl⟩
abbrev main_call6_call0_c : Ref sig .tc := ⟨.hbm, 325, rfl⟩
abbrev main_call6_call0_v0 : Ref sig .tc := ⟨.hbm, 326, rfl⟩
abbrev main_v29 : Ref sig .tc := ⟨.hbm, 327, rfl⟩
abbrev main_c_6 : Ref sig .tc := ⟨.hbm, 328, rfl⟩
abbrev main_v30 : Ref sig .tc := ⟨.hbm, 329, rfl⟩
abbrev main_v31 : Ref sig .tc := ⟨.hbm, 330, rfl⟩
abbrev main_call7_call0_c : Ref sig .tc := ⟨.hbm, 331, rfl⟩
abbrev main_call7_call0_v0 : Ref sig .tc := ⟨.hbm, 332, rfl⟩
abbrev main_v32 : Ref sig .tc := ⟨.hbm, 333, rfl⟩
abbrev main_c_7 : Ref sig .tc := ⟨.hbm, 334, rfl⟩
abbrev main_v33 : Ref sig .tc := ⟨.hbm, 335, rfl⟩
abbrev main_v34 : Ref sig .tc := ⟨.hbm, 336, rfl⟩
abbrev main_c_8 : Ref sig .tc := ⟨.hbm, 337, rfl⟩
abbrev main_v35 : Ref sig .tc := ⟨.hbm, 338, rfl⟩
abbrev main_v36 : Ref sig .tc := ⟨.hbm, 339, rfl⟩
abbrev main_v37 : Ref sig .tc := ⟨.hbm, 340, rfl⟩
abbrev main_v38 : Ref sig .tc := ⟨.hbm, 341, rfl⟩
abbrev main_c_9 : Ref sig .tc := ⟨.hbm, 342, rfl⟩
abbrev main_v39 : Ref sig .tc := ⟨.hbm, 343, rfl⟩
abbrev main_cst_10 : Ref sig .tc := ⟨.hbm, 344, rfl⟩
abbrev main_v40 : Ref sig .tc := ⟨.hbm, 345, rfl⟩
abbrev main_cst_11 : Ref sig .tc := ⟨.hbm, 346, rfl⟩
abbrev main_v41 : Ref sig .tc := ⟨.hbm, 347, rfl⟩
abbrev main_v42 : Ref sig .tc := ⟨.hbm, 348, rfl⟩
abbrev main_v43 : Ref sig .tc := ⟨.hbm, 349, rfl⟩
abbrev main_cst_12 : Ref sig .tc := ⟨.hbm, 350, rfl⟩
abbrev main_v44 : Ref sig .tc := ⟨.hbm, 351, rfl⟩
abbrev main_cst_13 : Ref sig .tc := ⟨.hbm, 352, rfl⟩
abbrev main_v45 : Ref sig .tc := ⟨.hbm, 353, rfl⟩
abbrev main_v46 : Ref sig .tc := ⟨.hbm, 354, rfl⟩
abbrev main_v47 : Ref sig .tc := ⟨.hbm, 355, rfl⟩
abbrev main_cst_14 : Ref sig .tc := ⟨.hbm, 356, rfl⟩
abbrev main_v48 : Ref sig .tc := ⟨.hbm, 357, rfl⟩
abbrev main_cst_15 : Ref sig .tc := ⟨.hbm, 358, rfl⟩
abbrev main_v49 : Ref sig .tc := ⟨.hbm, 359, rfl⟩
abbrev main_cst_16 : Ref sig .tc := ⟨.hbm, 360, rfl⟩
abbrev main_v50 : Ref sig .tc := ⟨.hbm, 361, rfl⟩
abbrev main_cst_17 : Ref sig .tc := ⟨.hbm, 362, rfl⟩
abbrev main_v51 : Ref sig .tc := ⟨.hbm, 363, rfl⟩
abbrev main_c_18 : Ref sig .tc := ⟨.hbm, 364, rfl⟩
abbrev main_v52 : Ref sig .tc := ⟨.hbm, 365, rfl⟩
abbrev main_v53 : Ref sig .tc := ⟨.hbm, 366, rfl⟩
abbrev main_v54 : Ref sig .tc := ⟨.hbm, 367, rfl⟩
abbrev main_v55 : Ref sig .tc := ⟨.hbm, 368, rfl⟩
abbrev main_c_19 : Ref sig .tc := ⟨.hbm, 369, rfl⟩
abbrev main_v56 : Ref sig .tc := ⟨.hbm, 370, rfl⟩
abbrev main_v57 : Ref sig .tc := ⟨.hbm, 371, rfl⟩
abbrev main_v58 : Ref sig .tc := ⟨.hbm, 372, rfl⟩
abbrev main_v59 : Ref sig .tc := ⟨.hbm, 373, rfl⟩
abbrev main_v60 : Ref sig .tc := ⟨.hbm, 374, rfl⟩
abbrev main_c_20 : Ref sig .tc := ⟨.hbm, 375, rfl⟩
abbrev main_v61 : Ref sig .tc := ⟨.hbm, 376, rfl⟩
abbrev main_v62 : Ref sig .tc := ⟨.hbm, 377, rfl⟩
abbrev main_c_21 : Ref sig .tc := ⟨.hbm, 378, rfl⟩
abbrev main_v63 : Ref sig .tc := ⟨.hbm, 379, rfl⟩
abbrev main_v64 : Ref sig .tc := ⟨.hbm, 380, rfl⟩
abbrev main_v65 : Ref sig .tc := ⟨.hbm, 381, rfl⟩
abbrev main_v66 : Ref sig .tc := ⟨.hbm, 382, rfl⟩
abbrev main_cst_22 : Ref sig .tc := ⟨.hbm, 383, rfl⟩
abbrev main_v67 : Ref sig .tc := ⟨.hbm, 384, rfl⟩
abbrev main_v68 : Ref sig .tc := ⟨.hbm, 385, rfl⟩
abbrev main_cst_23 : Ref sig .tc := ⟨.hbm, 386, rfl⟩
abbrev main_v69 : Ref sig .tc := ⟨.hbm, 387, rfl⟩
abbrev main_v70 : Ref sig .tc := ⟨.hbm, 388, rfl⟩
abbrev main_cst_24 : Ref sig .tc := ⟨.hbm, 389, rfl⟩
abbrev main_v71 : Ref sig .tc := ⟨.hbm, 390, rfl⟩
abbrev main_v72 : Ref sig .tc := ⟨.hbm, 391, rfl⟩
abbrev main_v73 : Ref sig .tc := ⟨.hbm, 392, rfl⟩
abbrev main_v74 : Ref sig .tc := ⟨.hbm, 393, rfl⟩
abbrev main_v75 : Ref sig .tc := ⟨.hbm, 394, rfl⟩
abbrev main_v76 : Ref sig .tc := ⟨.hbm, 395, rfl⟩
abbrev main_v77 : Ref sig .tc := ⟨.hbm, 396, rfl⟩
abbrev main_v78 : Ref sig .tc := ⟨.hbm, 397, rfl⟩
abbrev main_v79 : Ref sig .tc := ⟨.hbm, 398, rfl⟩
abbrev main_v80 : Ref sig .tc := ⟨.hbm, 399, rfl⟩
abbrev main_call8_v0 : Ref sig .tc := ⟨.hbm, 400, rfl⟩
abbrev main_call8_v1 : Ref sig .tc := ⟨.hbm, 401, rfl⟩
abbrev main_call8_v2 : Ref sig .tc := ⟨.hbm, 402, rfl⟩
abbrev main_call8_v3 : Ref sig .tc := ⟨.hbm, 403, rfl⟩
abbrev main_call8_v4 : Ref sig .tc := ⟨.hbm, 404, rfl⟩
abbrev main_v81 : Ref sig .tc := ⟨.hbm, 405, rfl⟩
abbrev main_call9_v0 : Ref sig .tc := ⟨.hbm, 406, rfl⟩
abbrev main_call9_v1 : Ref sig .tc := ⟨.hbm, 407, rfl⟩
abbrev main_call9_v2 : Ref sig .tc := ⟨.hbm, 408, rfl⟩
abbrev main_call9_v3 : Ref sig .tc := ⟨.hbm, 409, rfl⟩
abbrev main_call9_v4 : Ref sig .tc := ⟨.hbm, 410, rfl⟩
abbrev main_v82 : Ref sig .tc := ⟨.hbm, 411, rfl⟩
abbrev main_v83 : Ref sig .tc := ⟨.hbm, 412, rfl⟩
abbrev main_v84 : Ref sig .tc := ⟨.hbm, 413, rfl⟩
abbrev main_v85 : Ref sig .tc := ⟨.hbm, 414, rfl⟩
abbrev main_v86 : Ref sig .tc := ⟨.hbm, 415, rfl⟩
abbrev main_v87 : Ref sig .tc := ⟨.hbm, 416, rfl⟩
abbrev main_v88 : Ref sig .tc := ⟨.hbm, 417, rfl⟩
abbrev main_v89 : Ref sig .tc := ⟨.hbm, 418, rfl⟩
abbrev main_v90 : Ref sig .tc := ⟨.hbm, 419, rfl⟩
abbrev main_v91 : Ref sig .tc := ⟨.hbm, 420, rfl⟩
abbrev main_v92 : Ref sig .tc := ⟨.hbm, 421, rfl⟩
abbrev main_v93 : Ref sig .tc := ⟨.hbm, 422, rfl⟩
abbrev main_cst_25 : Ref sig .tc := ⟨.hbm, 423, rfl⟩
abbrev main_v94 : Ref sig .tc := ⟨.hbm, 424, rfl⟩
abbrev main_v95 : Ref sig .tc := ⟨.hbm, 425, rfl⟩
abbrev main_v96 : Ref sig .tc := ⟨.hbm, 426, rfl⟩

abbrev nD : Nat := 1
abbrev τ : Topo := Topo.v7x

variable {F : FTy → Type} [FloatOps F]
-- ==== Proof.KernelIdeal.GateBody.lean ====
/- The first kernel region (the gating pass over eight blocks of 512 tokens): what its body computes at one grid
   point, and the proof data of its pipeline. -/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Frame
public import Idealize.ShloMosaic.Lib.Pipeline.Value
public import Idealize.ShloMosaic.Lib.VecWindow
public import Idealize.ShloMosaic.Lib.Exec
public import Idealize.ShloMosaic.Lib.Tactic

@[expose] public section

set_option maxRecDepth 16384

noncomputable section

namespace Cert.KernelIdeal.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one block computes -/

/-- What the body carries from one block of tokens to the next: the gates summed per expert, and the number of tokens
    whose first and whose second choice each expert is. -/
abbrev Carried (F : FTy → Type) : Type := Vec F S1x64 .f32 × Vec F S1x64 .i32 × Vec F S1x64 .i32

/-- Before the first block: three rows of zeros. -/
def start : Carried F := (k0_pay4, k0_pay5, k0_pay6)

/-- The experts' numbers along the second axis. -/
abbrev lanes : IVec S512x64 32 := iota .tc S512x64 32 [1] iota_S512x64_d1_w32

/-- The second choice's scores: logits plus noise, the first choice struck out. -/
abbrev noisy (x : Vec F S512x4096 .f32) (w : Vec F S4096x64 .f32) (u : Vec F S512x64 .f32) : FVec F S512x64 .f32 := k0_pay12 x w u
/-- The largest of those scores in each row. -/
abbrev noisyMax (x : Vec F S512x4096 .f32) (w : Vec F S4096x64 .f32) (u : Vec F S512x64 .f32) : FVec F S512 .f32 := k0_pay13 x w u

/-- What is carried past a block with tokens `x`, weights `w` and noise `u`. -/
def step (x : Vec F S512x4096 .f32) (w : Vec F S4096x64 .f32) (u : Vec F S512x64 .f32) (s : Carried F) : Carried F :=
  (k0_pay11 x w s.1, k0_pay1 (k0_pay10 x w) s.2.1, k0_pay2 (k0_pay15 lanes (noisy x w u) (noisyMax x w u)) s.2.2)

/-- The first choice's logit. -/
def blockL1 (x : Vec F S512x4096 .f32) (w : Vec F S4096x64 .f32) : Vec F S512x1 .f32 := k0_pay8 x w
/-- The second choice's logit. -/
def blockL2 (x : Vec F S512x4096 .f32) (w : Vec F S4096x64 .f32) (u : Vec F S512x64 .f32) : Vec F S512x1 .f32 :=
  k0_pay16 (k0_pay7 x w) lanes (noisy x w u) (noisyMax x w u)
/-- The first choice. -/
def blockI1 (x : Vec F S512x4096 .f32) (w : Vec F S4096x64 .f32) : Vec F S512x1 .i32 := k0_pay9 x w
/-- The second choice. -/
def blockI2 (x : Vec F S512x4096 .f32) (w : Vec F S4096x64 .f32) (u : Vec F S512x64 .f32) : Vec F S512x1 .i32 :=
  k0_pay14 lanes (noisy x w u) (noisyMax x w u)
/-- A token's place in its first choice's queue. -/
def blockP1 (x : Vec F S512x4096 .f32) (w : Vec F S4096x64 .f32) (s : Carried F) : Vec F S512x1 .i32 := k0_pay18 (k0_pay10 x w) s.2.1
/-- A token's place in its second choice's queue, behind all first choices not counted here. -/
def blockP2 (x : Vec F S512x4096 .f32) (w : Vec F S4096x64 .f32) (u : Vec F S512x64 .f32) (s : Carried F) : Vec F S512x1 .i32 :=
  k0_pay19 lanes (noisy x w u) (noisyMax x w u) s.2.2
/-- The load-balancing loss from what is carried past the last block. -/
def lossOf (s : Carried F) : Vec F S1x1 .f32 := k0_pay3 s.2.1 s.1

/-! ## The conditions -/

/-- The condition under which the body clears what it carries. -/
abbrev isFirst (i : grid0.Coords) : Prop := (Scalar.cmpi .ne (Scalar.extui (Scalar.cmpi .eq (BitVec.ofNat 32 (i 0).val) 0#32)) 0#32) = 1#1
/-- The condition under which the body stores the counts and the loss. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 7 :=
  (by decide +kernel : ∀ t : Fin grid0.N, isLast (grid0.coords t) ↔ t.val = 7)

/-! ## The body on any staging memrefs -/

/-- Every float format and integer width has a word. -/
instance (e : EltTy) : Nonempty (Elt F e) := inferInstance

set_option maxHeartbeats 4000000 in
/-- THE BODY AT ONE GRID POINT. With the point's inputs in place and `d` in the scratch — anything at the first point,
    which starts from `start`, what the point before left at the others — the body leaves each output's block at its
    value, the counts and the loss only at the last point, and the scratch carried one block further. -/
theorem body (c : Dev nD) (i : grid0.Coords) (arg1 : Memref sig .tc .vmem S512x4096 .f32) (harg1 : arg1.IsWhole) (arg2 : Memref sig .tc .vmem S4096x64 .f32) (harg2 : arg2.IsWhole) (arg3 : Memref sig .tc .vmem S512x64 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .i32) (harg7 : arg7.IsWhole) (arg8 : Memref sig .tc .vmem S512x1 .i32) (harg8 : arg8.IsWhole) (arg9 : Memref sig .tc .vmem S512x1 .i32) (harg9 : arg9.IsWhole) (arg10 : Memref sig .tc .vmem S1x64 .i32) (harg10 : arg10.IsWhole) (arg11 : Memref sig .tc .vmem S1x1 .f32) (harg11 : arg11.IsWhole) (arg12 : Memref sig .tc .vmem S1x64 .f32) (harg12 : arg12.IsWhole) (arg13 : Memref sig .tc .vmem S1x64 .i32) (harg13 : arg13.IsWhole) (arg14 : Memref sig .tc .vmem S1x64 .i32) (harg14 : arg14.IsWhole)
    (x0 : Vec F S512x4096 .f32) (x1 : Vec F S4096x64 .f32) (x2 : Vec F S512x64 .f32) (d s : Carried F)
    (hfirst : isFirst i → s = start) (hnext : ¬isFirst i → s = d) (a9 : Vec F S1x64 .i32) (a10 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare a9 ∗ owns (c : Thread nD τ) arg11 fullShare a10 ∗ owns (c : Thread nD τ) arg12 fullShare d.1 ∗ owns (c : Thread nD τ) arg13 fullShare d.2.1 ∗ owns (c : Thread nD τ) arg14 fullShare d.2.2
        ∗ (iprop(owns (c : Thread nD τ) arg1 fullShare x0 ∗ owns (c : Thread nD τ) arg2 fullShare x1 ∗ owns (c : Thread nD τ) arg3 fullShare x2 ∗ owns (c : Thread nD τ) arg4 fullShare (blockL1 x0 x1) ∗ owns (c : Thread nD τ) arg5 fullShare (blockL2 x0 x1 x2) ∗ owns (c : Thread nD τ) arg6 fullShare (blockI1 x0 x1) ∗ owns (c : Thread nD τ) arg7 fullShare (blockI2 x0 x1 x2) ∗ owns (c : Thread nD τ) arg8 fullShare (blockP1 x0 x1 s) ∗ owns (c : Thread nD τ) arg9 fullShare (blockP2 x0 x1 x2 s) ∗ owns (c : Thread nD τ) arg10 fullShare (if isLast i then (step x0 x1 x2 s).2.1 else a9) ∗ owns (c : Thread nD τ) arg11 fullShare (if isLast i then lossOf (step x0 x1 x2 s) else a10) ∗ owns (c : Thread nD τ) arg12 fullShare (step x0 x1 x2 s).1 ∗ owns (c : Thread nD τ) arg13 fullShare (step x0 x1 x2 s).2.1 ∗ owns (c : Thread nD τ) arg14 fullShare (step x0 x1 x2 s).2.2) -∗ K ⟨⟩))
      ⊢ wp frame (wpE (defs₀ (F := F)) Variants.none c none) E (cc0__phase1_body i arg1 harg1 arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := funext fun a => by fin_cases a <;> rfl
  obtain ⟨d0, d1, d2⟩ := d
  dsimp only [step, blockL1, blockL2, blockI1, blockI2, blockP1, blockP2, lossOf, noisy, noisyMax]
  simp only [cc0__phase1_body_eq_skeleton]; unfold cc0__phase1_body_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg10.eq_unread hf9; obtain rfl := harg11.eq_unread hf10; obtain rfl := harg12.eq_unread hfs0; obtain rfl := harg13.eq_unread hfs1; obtain rfl := harg14.eq_unread hfs2
  have hs : isFirst i ∧ s = start ∨ ¬isFirst i ∧ s = (d0, d1, d2) := by
    by_cases h : isFirst i
    · exact .inl ⟨h, hfirst h⟩
    · exact .inr ⟨h, hnext h⟩
  rcases hs with ⟨hc0, rfl⟩ | ⟨hc0, rfl⟩ <;> by_cases hc1 : isLast i
  all_goals
    dsimp only [start]
    first | simp only [if_pos hc1] | simp only [if_neg hc1]
    sl_exec (disch := first | sl_exact hc0 | sl_exact hc1)
    sl_step
    sl_unfold_words
    simp only [View.readAt_writes_full, View.readCov_full (s := S1x64), View.readAt_eq_ld, harg1.read_unread, harg2.read_unread, harg3.read_unread, harg12.read_unread, harg13.read_unread, harg14.read_unread, View.ld_unit_zero (S := S512x4096) hz, View.ld_unit_zero (S := S4096x64) hz, View.ld_unit_zero (S := S512x64) hz, View.ld_unit_zero (S := S1x64) hz]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro; exact View.read_writes_full (s := S512x1) _ _ _ _ _
    isplitl [H4]
    · iexists _; isplitr; swap; · iexact H4
      ipureintro; exact View.read_writes_full (s := S512x1) _ _ _ _ _
    isplitl [H5]
    · iexists _; isplitr; swap; · iexact H5
      ipureintro; exact View.read_writes_full (s := S512x1) _ _ _ _ _
    isplitl [H6]
    · iexists _; isplitr; swap; · iexact H6
      ipureintro; exact View.read_writes_full (s := S512x1) _ _ _ _ _
    isplitl [H7]
    · iexists _; isplitr; swap; · iexact H7
      ipureintro; exact View.read_writes_full (s := S512x1) _ _ _ _ _
    isplitl [H8]
    · iexists _; isplitr; swap; · iexact H8
      ipureintro; exact View.read_writes_full (s := S512x1) _ _ _ _ _
    isplitl [H9]
    · iexists _; isplitr; swap; · iexact H9
      ipureintro; first | exact harg10.read_unread _ | exact View.read_writes_full (s := S1x64) _ _ _ _ _
    isplitl [H10]
    · iexists _; isplitr; swap; · iexact H10
      ipureintro; first | exact harg11.read_unread _ | exact View.read_writes_full (s := S1x1) _ _ _ _ _
    isplitl [HS0]
    · iexists _; isplitr; swap; · iexact HS0
      ipureintro; exact View.read_writes_full (s := S1x64) _ _ _ _ _
    isplitl [HS1]
    · iexists _; isplitr; swap; · iexact HS1
      ipureintro; exact View.read_writes_full (s := S1x64) _ _ _ _ _
    iexists _; isplitr; swap; · iexact HS2
    ipureintro; exact View.read_writes_full (s := S1x64) _ _ _ _ _

end Cert.KernelIdeal.Gate

end
-- ==== Proof.KernelIdeal.Gate.lean ====
/- The proof data of the first kernel region's pipeline, from any contents of the buffers at its entry, and its body obligation. -/
module

public import proofs.«01_k».proof.Proof.KernelIdeal.GateBody
public import Idealize.ShloMosaic.Lib.Pipeline.FrameBody
public import Idealize.ShloMosaic.Lib.Pipeline.Frame
public import Idealize.ShloMosaic.Lib.Pipeline.Value
public import Idealize.ShloMosaic.Lib.VecWindow
public import Idealize.ShloMosaic.Lib.Exec
public import Idealize.ShloMosaic.Lib.Tactic

@[expose] public section

set_option maxRecDepth 16384

noncomputable section

namespace Cert.KernelIdeal.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks and what is carried -/

variable (V : (c : Dev nD) → (b : Ref sig .tc) → Buf (Elt F) ((c : Thread nD τ).loc b))

/-- Window `w`'s block of its array at point `t`, as the region finds the array. -/
def block (c : Dev nD) (w : Fin cfg0.W) (t : Fin cfg0.N) : Vec F ((cfg0.win w).xblock (cfg0.grid.coords t)) (cfg0.win w).elt :=
  ((cfg0.win w).blk t).view.read (Elt F) (V c (Pipeline.arrRef spec0 w))

/-- What the body carries into point `n`. -/
def carried (c : Dev nD) : ℕ → Carried F
  | 0 => start
  | n + 1 => if h : n < cfg0.N then step (block V c 0 ⟨n, h⟩) (block V c 1 ⟨n, h⟩) (block V c 2 ⟨n, h⟩) (carried c n) else carried c n

theorem carried_succ (c : Dev nD) (t : Fin cfg0.N) :
    carried V c (t.val + 1) = step (block V c 0 t) (block V c 1 t) (block V c 2 t) (carried V c t.val) := by
  rw [carried, dif_pos t.isLt]

/-! ## The invariant -/

/-- The three scratch buffers. -/
abbrev sc0 := Memref.whole cc0_scratch0
abbrev sc1 := Memref.whole cc0_scratch1
abbrev sc2 := Memref.whole cc0_scratch2

/-- The three scratch buffers owned at `s`. -/
def scratch (c : Dev nD) (s : Carried F) : sProp 𝕄 :=
  iprop(owns (c : Thread nD τ) sc0 fullShare s.1 ∗ owns (c : Thread nD τ) sc1 fullShare s.2.1 ∗ owns (c : Thread nD τ) sc2 fullShare s.2.2)

/-- Before the first point what the launch hands over; before any other point the scratch at what the point before left,
    and what gives the launch's share back from it. -/
def inv (c : Dev nD) : ℕ → sProp 𝕄
  | 0 => Pipeline.ΦA spec0 c
  | n + 1 => iprop(scratch c (carried V c (n + 1)) ∗ ((∃ s, scratch c s) -∗ Pipeline.ΦA spec0 c))

/-- What the launch hands over holds the scratch at some contents. -/
theorem open_start (c : Dev nD) : (Pipeline.ΦA spec0 c : sProp 𝕄) ⊢ iprop(∃ s, scratch c s ∗ ((∃ s, scratch c s) -∗ Pipeline.ΦA spec0 c)) := by
  unfold Pipeline.ΦA scratch
  rw [scopedRest0_eq]
  simp only [sc0, sc1, sc2, owns_whole]
  iintro ⟨⟨⟨%a, Ha⟩, ⟨%b, Hb⟩, ⟨%d, Hd⟩, Hr⟩, Hg⟩
  iexists ((a, b, d) : Carried F)
  isplitl [Ha Hb Hd]
  · isplitl [Ha]; · iexact Ha
    isplitl [Hb]; · iexact Hb
    iexact Hd
  iintro ⟨%s, Ha, Hb, Hd⟩
  isplitr [Hg]
  · isplitl [Ha]; · iexists _; iexact Ha
    isplitl [Hb]; · iexists _; iexact Hb
    isplitl [Hd]; · iexists _; iexact Hd
    iexact Hr
  iexact Hg

/-- Before any point the scratch is at something, which past the first point is what is carried. -/
theorem inv_open (c : Dev nD) (n : ℕ) :
    inv V c n ⊢ iprop(∃ s, ⌜n ≠ 0 → carried V c n = s⌝ ∗ scratch c s ∗ ((∃ s, scratch c s) -∗ Pipeline.ΦA spec0 c)) := by
  cases n with
  | zero =>
    refine (open_start c).trans ?_
    iintro ⟨%s, H⟩
    iexists s
    isplitr; · ipureintro; exact fun h => absurd rfl h
    iexact H
  | succ n =>
    unfold inv
    iintro H
    iexists _
    isplitr; · ipureintro; exact fun _ => rfl
    iexact H

/-- After any point the launch's share comes back. -/
theorem inv_close (c : Dev nD) (n : ℕ) : inv V c n ⊢ Pipeline.ΦA spec0 c := by
  refine (inv_open V c n).trans ?_
  iintro ⟨%s, -, H, Hw⟩
  iapply Hw
  iexists _; iexact H

/-! ## The pipeline's proof data -/

/-- The arrays as the region finds them; after point `t` each input's buffer at its block and each output's at its value. -/
def dat (c : Dev nD) : Dat τ (Elt F) Unit ℕ (UR sig nD τ) ℕ cfg0 c where
  A w := V c (Pipeline.arrRef spec0 w)
  after w t := match w with
    | ⟨0, _⟩ => block V c 0 t
    | ⟨1, _⟩ => block V c 1 t
    | ⟨2, _⟩ => block V c 2 t
    | ⟨3, _⟩ => blockL1 (block V c 0 t) (block V c 1 t)
    | ⟨4, _⟩ => blockL2 (block V c 0 t) (block V c 1 t) (block V c 2 t)
    | ⟨5, _⟩ => blockI1 (block V c 0 t) (block V c 1 t)
    | ⟨6, _⟩ => blockI2 (block V c 0 t) (block V c 1 t) (block V c 2 t)
    | ⟨7, _⟩ => blockP1 (block V c 0 t) (block V c 1 t) (carried V c t.val)
    | ⟨8, _⟩ => blockP2 (block V c 0 t) (block V c 1 t) (block V c 2 t) (carried V c t.val)
    | ⟨9, _⟩ => (carried V c (t.val + 1)).2.1
    | ⟨10, _⟩ => lossOf (carried V c (t.val + 1))
  Φ t := inv V c t.val
  q _ := fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = block V c 0 t := by dsimp only [dat]
theorem after_1 (c : Dev nD) (t : Fin cfg0.N) : (dat V c).after 1 t = block V c 1 t := by dsimp only [dat]
theorem after_2 (c : Dev nD) (t : Fin cfg0.N) : (dat V c).after 2 t = block V c 2 t := by dsimp only [dat]
theorem after_3 (c : Dev nD) (t : Fin cfg0.N) : (dat V c).after 3 t = blockL1 (block V c 0 t) (block V c 1 t) := by dsimp only [dat]
theorem after_4 (c : Dev nD) (t : Fin cfg0.N) : (dat V c).after 4 t = blockL2 (block V c 0 t) (block V c 1 t) (block V c 2 t) := by dsimp only [dat]
theorem after_5 (c : Dev nD) (t : Fin cfg0.N) : (dat V c).after 5 t = blockI1 (block V c 0 t) (block V c 1 t) := by dsimp only [dat]
theorem after_6 (c : Dev nD) (t : Fin cfg0.N) : (dat V c).after 6 t = blockI2 (block V c 0 t) (block V c 1 t) (block V c 2 t) := by dsimp only [dat]
theorem after_7 (c : Dev nD) (t : Fin cfg0.N) : (dat V c).after 7 t = blockP1 (block V c 0 t) (block V c 1 t) (carried V c t.val) := by dsimp only [dat]
theorem after_8 (c : Dev nD) (t : Fin cfg0.N) : (dat V c).after 8 t = blockP2 (block V c 0 t) (block V c 1 t) (block V c 2 t) (carried V c t.val) := by dsimp only [dat]
theorem after_9 (c : Dev nD) (t : Fin cfg0.N) : (dat V c).after 9 t = (carried V c (t.val + 1)).2.1 := by dsimp only [dat]
theorem after_10 (c : Dev nD) (t : Fin cfg0.N) : (dat V c).after 10 t = lossOf (carried V c (t.val + 1)) := by dsimp only [dat]

/-- Each input's buffer holds its block when the body runs, fetched at that point or not. -/
theorem before_0 (c : Dev nD) (t : Fin cfg0.N) (d) : (dat V c).before 0 t d = block V c 0 t :=
  ((dat V c).before_in_eq_fetched 0 rfl (fun _ => rfl) (fun _ _ _ => rfl) (fun t => by rw [after_0]; unfold Dat.blockOf block; rw [A_eq]) t d).trans
    (by unfold Dat.fetched Dat.blockOf block; rw [A_eq]; try rfl)
theorem before_1 (c : Dev nD) (t : Fin cfg0.N) (d) : (dat V c).before 1 t d = block V c 1 t :=
  ((dat V c).before_in_eq_fetched 1 rfl (fun _ => rfl) (fun _ _ _ => rfl) (fun t => by rw [after_1]; unfold Dat.blockOf block; rw [A_eq]) t d).trans
    (by unfold Dat.fetched Dat.blockOf block; rw [A_eq]; try rfl)
theorem before_2 (c : Dev nD) (t : Fin cfg0.N) (d) : (dat V c).before 2 t d = block V c 2 t :=
  ((dat V c).before_in_eq_fetched 2 rfl (fun _ => rfl) (fun _ _ _ => rfl) (fun t => by rw [after_2]; unfold Dat.blockOf block; rw [A_eq]) t d).trans
    (by unfold Dat.fetched Dat.blockOf block; rw [A_eq]; try rfl)

/-- A window the body always writes is left at its value. -/
theorem leaves_live (c : Dev nD) (w : Fin cfg0.W) (t : Fin cfg0.N) (h : cfg0.idle w (grid0.coords t) = false) :
    (dat V c).leavesExact w t = owns (c : Thread nD τ) ((cfg0.win w).stage (cfg0.slots t w)) fullShare ((dat V c).after w t) := by
  unfold Dat.leavesExact; rw [h]

/-- The counts' and the loss's windows are written at the last point alone. -/
theorem idle_facts : ∀ t : Fin cfg0.N, ¬isLast (grid0.coords t) →
    (cfg0.idle 9 (grid0.coords t) = true ∧ (cfg0.win 9).flush t = false) ∧ cfg0.idle 10 (grid0.coords t) = true ∧ (cfg0.win 10).flush t = false := by
  decide +kernel
theorem live_facts : ∀ t : Fin cfg0.N, isLast (grid0.coords t) → cfg0.idle 9 (grid0.coords t) = false ∧ cfg0.idle 10 (grid0.coords t) = false := by
  decide +kernel

theorem leaves_9 (c : Dev nD) (t : Fin cfg0.N) (d) :
    owns (c : Thread nD τ) (st0_9 t) fullShare (if isLast (grid0.coords t) then (carried V c (t.val + 1)).2.1 else (dat V c).before 9 t d)
      ⊢ (dat V c).leavesExact 9 t := by
  by_cases h : isLast (grid0.coords t)
  · rw [if_pos h, leaves_live V c 9 t (live_facts t h).1, after_9]
  · rw [if_neg h, Dat.leavesExact_idle (dat V c) 9 t (idle_facts t h).1.1 (idle_facts t h).1.2]
    iintro H; iexists d; iexact H

theorem leaves_10 (c : Dev nD) (t : Fin cfg0.N) (d) :
    owns (c : Thread nD τ) (st0_10 t) fullShare (if isLast (grid0.coords t) then lossOf (carried V c (t.val + 1)) else (dat V c).before 10 t d)
      ⊢ (dat V c).leavesExact 10 t := by
  by_cases h : isLast (grid0.coords t)
  · rw [if_pos h, leaves_live V c 10 t (live_facts t h).2, after_10]
  · rw [if_neg h, Dat.leavesExact_idle (dat V c) 10 t (idle_facts t h).2.1 (idle_facts t h).2.2]
    iintro H; iexists d; iexact H

/-! ## The body obligation -/

/-- What the body is called with at point `t`, -/
def bodyPre (c : Dev nD) (t : Fin cfg0.N) : sProp 𝕄 :=
  iprop((dat V c).Φ t.castSucc ∗ (dat V c).owesAt () t.castSucc ∗ (∃ d, owns (c : Thread nD τ) (st0_0 t) fullShare ((dat V c).before 0 t d)) ∗ (∃ d, owns (c : Thread nD τ) (st0_1 t) fullShare ((dat V c).before 1 t d)) ∗ (∃ d, owns (c : Thread nD τ) (st0_2 t) fullShare ((dat V c).before 2 t d)) ∗ (∃ d, owns (c : Thread nD τ) (st0_3 t) fullShare ((dat V c).before 3 t d)) ∗ (∃ d, owns (c : Thread nD τ) (st0_4 t) fullShare ((dat V c).before 4 t d)) ∗ (∃ d, owns (c : Thread nD τ) (st0_5 t) fullShare ((dat V c).before 5 t d)) ∗ (∃ d, owns (c : Thread nD τ) (st0_6 t) fullShare ((dat V c).before 6 t d)) ∗ (∃ d, owns (c : Thread nD τ) (st0_7 t) fullShare ((dat V c).before 7 t d)) ∗ (∃ d, owns (c : Thread nD τ) (st0_8 t) fullShare ((dat V c).before 8 t d)) ∗ (∃ d, owns (c : Thread nD τ) (st0_9 t) fullShare ((dat V c).before 9 t d)) ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t ∗ (dat V c).leavesExact 8 t ∗ (dat V c).leavesExact 9 t ∗ (dat V c).leavesExact 10 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl,
    show (dat V c).Φ t.castSucc = inv V c t.val from rfl, show (dat V c).Φ t.succ = inv V c (t.val + 1) from rfl]
  rw [leaves_live V c 0 t rfl, after_0, leaves_live V c 1 t rfl, after_1, leaves_live V c 2 t rfl, after_2, leaves_live V c 3 t rfl, after_3, leaves_live V c 4 t rfl, after_4, leaves_live V c 5 t rfl, after_5, leaves_live V c 6 t rfl, after_6, leaves_live V c 7 t rfl, after_7, leaves_live V c 8 t rfl, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  icases (inv_open V c t.val) $$ HΦ with ⟨%s, %hs, HS, Hw⟩
  unfold scratch
  icases HS with ⟨HS0, HS1, HS2⟩
  iapply (body c (grid0.coords t) _ _ _ _ _ _ _ _ _ _ _ _ _ _ _ _ _ _ _ _ _ _ _ _ _ _ _ _ (block V c 0 t) (block V c 1 t) (block V c 2 t) s (carried V c t.val)
    (fun h => by rw [(isFirst_iff t).mp h]; rfl) (fun h => hs fun h' => h ((isFirst_iff t).mpr h')) ((dat V c).before 9 t d9) ((dat V c).before 10 t d10) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexact H9
  isplitl [H10]; · iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hw]
  · rw [inv, carried_succ]; unfold scratch
    isplitr [Hw]
    · isplitl [HS0]; · iexact HS0
      isplitl [HS1]; · iexact HS1
      iexact HS2
    iexact Hw
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [← carried_succ]
  isplitl [H9]; · iapply (leaves_9 V c t d9); iexact H9
  iapply (leaves_10 V c t d10); iexact H10

/-- The body table's row at a point's slots is the body at that point. -/
theorem defs₀_row (t : Fin cfg0.N) : defs₀ (F := F) .tc cfg0.body (cfg0.bodyArgs t (cfg0.slots t)) = bodyAt0 t := by
  unfold defs₀; rw [Defs.onTc_tc]

/-- The body obligation of the first region's pipeline. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.KernelIdeal.Gate

end
-- ==== Proof.KernelIdeal.Dispatch.lean ====
/- The second kernel region (the dispatch over sixteen blocks of 256 tokens): what its body computes at one grid point, the proof data of its pipeline, from any contents of the buffers at its entry, and its body obligation. -/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Frame
public import Idealize.ShloMosaic.Lib.Pipeline.Value
public import Idealize.ShloMosaic.Lib.VecWindow
public import Idealize.ShloMosaic.Lib.Exec
public import Idealize.ShloMosaic.Lib.Tactic

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One block's combine weights, from the two choices' logits, the two choices, their places and the counts. -/
def blockWeights (x0 : Vec F S256x1 .f32) (x1 : Vec F S256x1 .f32) (x2 : Vec F S256x1 .i32) (x3 : Vec F S256x1 .i32) (x4 : Vec F S256x1 .i32) (x5 : Vec F S256x1 .i32) (x6 : Vec F S1x64 .i32) : Vec F S256x64x128 .f32 :=
  k1_pay10 (k1_pay1 x4) (k1_pay2 x2) (k1_pay3 x3) (k1_pay4 x3 x6 x5) (k1_pay5 x4) (k1_pay6 x3 x6 x5) (k1_pay7 x0 x1) (k1_pay8 x0 x1 x3 x4 x6 x5) (k1_pay9 x0 x1 x3 x4 x6 x5)
/-- One block's dispatch mask, as words. -/
def blockMask (x0 : Vec F S256x1 .f32) (x1 : Vec F S256x1 .f32) (x2 : Vec F S256x1 .i32) (x3 : Vec F S256x1 .i32) (x4 : Vec F S256x1 .i32) (x5 : Vec F S256x1 .i32) (x6 : Vec F S1x64 .i32) : Vec F S256x64x128 .i32 :=
  k1_pay11 (k1_pay1 x4) (k1_pay2 x2) (k1_pay3 x3) (k1_pay4 x3 x6 x5) (k1_pay5 x4) (k1_pay6 x3 x6 x5) (k1_pay7 x0 x1) (k1_pay8 x0 x1 x3 x4 x6 x5) (k1_pay9 x0 x1 x3 x4 x6 x5)

set_option maxHeartbeats 4000000 in
/-- THE BODY AT ONE GRID POINT: it reads its seven inputs' blocks and leaves the weights' and the mask's block at their values. -/
theorem body (c : Dev nD) (i : grid1.Coords) (arg1 : Memref sig .tc .vmem S256x1 .f32) (harg1 : arg1.IsWhole) (arg2 : Memref sig .tc .vmem S256x1 .f32) (harg2 : arg2.IsWhole) (arg3 : Memref sig .tc .vmem S256x1 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S256x1 .i32) (harg6 : arg6.IsWhole) (arg7 : Memref sig .tc .vmem S1x64 .i32) (harg7 : arg7.IsWhole) (arg8 : Memref sig .tc .vmem S256x64x128 .f32) (harg8 : arg8.IsWhole) (arg9 : Memref sig .tc .vmem S256x64x128 .i32) (harg9 : arg9.IsWhole)
    (x0 : Vec F S256x1 .f32) (x1 : Vec F S256x1 .f32) (x2 : Vec F S256x1 .i32) (x3 : Vec F S256x1 .i32) (x4 : Vec F S256x1 .i32) (x5 : Vec F S256x1 .i32) (x6 : Vec F S1x64 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (blockWeights x0 x1 x2 x3 x4 x5 x6) ∗ owns (c : Thread nD τ) arg9 fullShare (blockMask x0 x1 x2 x3 x4 x5 x6)) -∗ K ⟨⟩))
      ⊢ wp frame (wpE (defs₀ (F := F)) Variants.none c none) E (cc1__phase2_body i arg1 harg1 arg2 harg2 arg3 harg3 arg4 harg4 arg5 harg5 arg6 harg6 arg7 harg7 arg8 harg8 arg9 harg9) K := by
  have hz : (![0, 0] : Fin 2 → ℕ) = fun _ => 0 := funext fun a => by fin_cases a <;> rfl
  dsimp only [blockWeights, blockMask]
  simp only [cc1__phase2_body_eq_skeleton]; unfold cc1__phase2_body_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  sl_unfold_words
  simp only [View.readAt_eq_ld, harg1.read_unread, harg2.read_unread, harg3.read_unread, harg4.read_unread, harg5.read_unread, harg6.read_unread, harg7.read_unread, View.ld_unit_zero (S := S256x1) hz, View.ld_unit_zero (S := S1x64) hz]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro; exact View.read_writes_full (s := S256x64x128) _ _ _ _ _
  iexists _; isplitr; swap; · iexact H8
  ipureintro; exact View.read_writes_full (s := S256x64x128) _ _ _ _ _

variable (V : (c : Dev nD) → (b : Ref sig .tc) → Buf (Elt F) ((c : Thread nD τ).loc b))

/-- Window `w`'s block of its array at point `t`, as the region finds the array. -/
def block (c : Dev nD) (w : Fin cfg1.W) (t : Fin cfg1.N) : Vec F ((cfg1.win w).xblock (cfg1.grid.coords t)) (cfg1.win w).elt :=
  ((cfg1.win w).blk t).view.read (Elt F) (V c (Pipeline.arrRef spec1 w))

/-- The arrays as the region finds them; after point `t` each input's buffer at its block and each output's at its value. -/
def dat (c : Dev nD) : Dat τ (Elt F) Unit ℕ (UR sig nD τ) ℕ cfg1 c where
  A w := V c (Pipeline.arrRef spec1 w)
  after w t := match w with
    | ⟨0, _⟩ => block V c 0 t
    | ⟨1, _⟩ => block V c 1 t
    | ⟨2, _⟩ => block V c 2 t
    | ⟨3, _⟩ => block V c 3 t
    | ⟨4, _⟩ => block V c 4 t
    | ⟨5, _⟩ => block V c 5 t
    | ⟨6, _⟩ => block V c 6 t
    | ⟨7, _⟩ => blockWeights (block V c 0 t) (block V c 1 t) (block V c 2 t) (block V c 3 t) (block V c 4 t) (block V c 5 t) (block V c 6 t)
    | ⟨8, _⟩ => blockMask (block V c 0 t) (block V c 1 t) (block V c 2 t) (block V c 3 t) (block V c 4 t) (block V c 5 t) (block V c 6 t)
  Φ _ := Pipeline.ΦA spec1 c
  q _ := fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = block V c 0 t := by dsimp only [dat]
theorem after_1 (c : Dev nD) (t : Fin cfg1.N) : (dat V c).after 1 t = block V c 1 t := by dsimp only [dat]
theorem after_2 (c : Dev nD) (t : Fin cfg1.N) : (dat V c).after 2 t = block V c 2 t := by dsimp only [dat]
theorem after_3 (c : Dev nD) (t : Fin cfg1.N) : (dat V c).after 3 t = block V c 3 t := by dsimp only [dat]
theorem after_4 (c : Dev nD) (t : Fin cfg1.N) : (dat V c).after 4 t = block V c 4 t := by dsimp only [dat]
theorem after_5 (c : Dev nD) (t : Fin cfg1.N) : (dat V c).after 5 t = block V c 5 t := by dsimp only [dat]
theorem after_6 (c : Dev nD) (t : Fin cfg1.N) : (dat V c).after 6 t = block V c 6 t := by dsimp only [dat]
theorem after_7 (c : Dev nD) (t : Fin cfg1.N) : (dat V c).after 7 t = blockWeights (block V c 0 t) (block V c 1 t) (block V c 2 t) (block V c 3 t) (block V c 4 t) (block V c 5 t) (block V c 6 t) := by dsimp only [dat]
theorem after_8 (c : Dev nD) (t : Fin cfg1.N) : (dat V c).after 8 t = blockMask (block V c 0 t) (block V c 1 t) (block V c 2 t) (block V c 3 t) (block V c 4 t) (block V c 5 t) (block V c 6 t) := by dsimp only [dat]

/-- Each input's buffer holds its block when the body runs, fetched at that point or not. -/
theorem before_0 (c : Dev nD) (t : Fin cfg1.N) (d) : (dat V c).before 0 t d = block V c 0 t :=
  ((dat V c).before_in_eq_fetched 0 rfl (fun _ => rfl) (fun _ _ _ => rfl) (fun t => by rw [after_0]; unfold Dat.blockOf block; rw [A_eq]) t d).trans
    (by unfold Dat.fetched Dat.blockOf block; rw [A_eq]; try rfl)
theorem before_1 (c : Dev nD) (t : Fin cfg1.N) (d) : (dat V c).before 1 t d = block V c 1 t :=
  ((dat V c).before_in_eq_fetched 1 rfl (fun _ => rfl) (fun _ _ _ => rfl) (fun t => by rw [after_1]; unfold Dat.blockOf block; rw [A_eq]) t d).trans
    (by unfold Dat.fetched Dat.blockOf block; rw [A_eq]; try rfl)
theorem before_2 (c : Dev nD) (t : Fin cfg1.N) (d) : (dat V c).before 2 t d = block V c 2 t :=
  ((dat V c).before_in_eq_fetched 2 rfl (fun _ => rfl) (fun _ _ _ => rfl) (fun t => by rw [after_2]; unfold Dat.blockOf block; rw [A_eq]) t d).trans
    (by unfold Dat.fetched Dat.blockOf block; rw [A_eq]; try rfl)
theorem before_3 (c : Dev nD) (t : Fin cfg1.N) (d) : (dat V c).before 3 t d = block V c 3 t :=
  ((dat V c).before_in_eq_fetched 3 rfl (fun _ => rfl) (fun _ _ _ => rfl) (fun t => by rw [after_3]; unfold Dat.blockOf block; rw [A_eq]) t d).trans
    (by unfold Dat.fetched Dat.blockOf block; rw [A_eq]; try rfl)
theorem before_4 (c : Dev nD) (t : Fin cfg1.N) (d) : (dat V c).before 4 t d = block V c 4 t :=
  ((dat V c).before_in_eq_fetched 4 rfl (fun _ => rfl) (fun _ _ _ => rfl) (fun t => by rw [after_4]; unfold Dat.blockOf block; rw [A_eq]) t d).trans
    (by unfold Dat.fetched Dat.blockOf block; rw [A_eq]; try rfl)
theorem before_5 (c : Dev nD) (t : Fin cfg1.N) (d) : (dat V c).before 5 t d = block V c 5 t :=
  ((dat V c).before_in_eq_fetched 5 rfl (fun _ => rfl) (fun _ _ _ => rfl) (fun t => by rw [after_5]; unfold Dat.blockOf block; rw [A_eq]) t d).trans
    (by unfold Dat.fetched Dat.blockOf block; rw [A_eq]; try rfl)
theorem before_6 (c : Dev nD) (t : Fin cfg1.N) (d) : (dat V c).before 6 t d = block V c 6 t :=
  ((dat V c).before_in_eq_fetched 6 rfl (fun _ => rfl) (fun _ _ _ => rfl) (fun t => by rw [after_6]; unfold Dat.blockOf block; rw [A_eq]) t d).trans
    (by unfold Dat.fetched Dat.blockOf block; rw [A_eq]; try rfl)

/-- What the body is called with at point `t`, -/
def bodyPre (c : Dev nD) (t : Fin cfg1.N) : sProp 𝕄 :=
  iprop((dat V c).Φ t.castSucc ∗ (dat V c).owesAt () t.castSucc ∗ (∃ d, owns (c : Thread nD τ) (st1_0 t) fullShare ((dat V c).before 0 t d)) ∗ (∃ d, owns (c : Thread nD τ) (st1_1 t) fullShare ((dat V c).before 1 t d)) ∗ (∃ d, owns (c : Thread nD τ) (st1_2 t) fullShare ((dat V c).before 2 t d)) ∗ (∃ d, owns (c : Thread nD τ) (st1_3 t) fullShare ((dat V c).before 3 t d)) ∗ (∃ d, owns (c : Thread nD τ) (st1_4 t) fullShare ((dat V c).before 4 t d)) ∗ (∃ d, owns (c : Thread nD τ) (st1_5 t) fullShare ((dat V c).before 5 t d)) ∗ (∃ d, owns (c : Thread nD τ) (st1_6 t) fullShare ((dat V c).before 6 t d)) ∗ (∃ d, owns (c : Thread nD τ) (st1_7 t) fullShare ((dat V c).before 7 t d)) ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ ∗ owns (c : Thread nD τ) (st1_0 t) fullShare ((dat V c).after 0 t) ∗ owns (c : Thread nD τ) (st1_1 t) fullShare ((dat V c).after 1 t) ∗ owns (c : Thread nD τ) (st1_2 t) fullShare ((dat V c).after 2 t) ∗ owns (c : Thread nD τ) (st1_3 t) fullShare ((dat V c).after 3 t) ∗ owns (c : Thread nD τ) (st1_4 t) fullShare ((dat V c).after 4 t) ∗ owns (c : Thread nD τ) (st1_5 t) fullShare ((dat V c).after 5 t) ∗ owns (c : Thread nD τ) (st1_6 t) fullShare ((dat V c).after 6 t) ∗ owns (c : Thread nD τ) (st1_7 t) fullShare ((dat V c).after 7 t) ∗ owns (c : Thread nD τ) (st1_8 t) fullShare ((dat V c).after 8 t))

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).owesAt () t.succ = (dat V c).owesAt () t.castSucc from rfl, show (dat V c).Φ t.succ = (dat V c).Φ t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid1.coords t) _ _ _ _ _ _ _ _ _ _ _ _ _ _ _ _ _ _ (block V c 0 t) (block V c 1 t) (block V c 2 t) (block V c 3 t) (block V c 4 t) (block V c 5 t) (block V c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots is the body at that point. -/
theorem defs₀_row (t : Fin cfg1.N) : defs₀ (F := F) .tc cfg1.body (cfg1.bodyArgs t (cfg1.slots t)) = bodyAt1 t := by
  unfold defs₀; rw [Defs.onTc_tc]

/-- The body obligation of the second region's pipeline. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.KernelIdeal.Dispatch

end
-- ==== Proof.KernelIdeal.Whole.lean ====
/- The whole kernel's run: the draw of the noise, the two regions and the host operations after them, in order, from any launch; every buffer at the end. -/
module

public import proofs.«01_k».proof.Proof.KernelIdeal.Gate
public import proofs.«01_k».proof.Proof.KernelIdeal.Dispatch
public import proofs.«01_k».proof.Proof.Gen.KernelIdeal.Regions
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.Pipeline.FrameBody
public import Idealize.ShloMosaic.Lib.Pipeline.Frame
public import Idealize.ShloMosaic.Lib.Pipeline.Value
public import Idealize.ShloMosaic.Lib.VecWindow
public import Idealize.ShloMosaic.Lib.Exec
public import Idealize.ShloMosaic.Lib.Tactic

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the regions -/

/-- At the start: as launched. -/
abbrev launched : Dev nD → Valuation τ sig (Elt F) := fun c b => m (c, b)
/-- After the words of the key. -/
def keyed (c : Dev nD) : Valuation τ sig (Elt F) := StableHlo.after hostOps0 (launched m c)
/-- Before the first region: the noise is drawn. -/
def W0 (c : Dev nD) : Valuation τ sig (Elt F) := StableHlo.after hostOps0_1 (keyed m c)
/-- A buffer the draw does not write is as launched. -/
theorem W0_of (c : Dev nD) (r : Ref sig .tc) (h : r ∉ hostOps0_W) (h' : r ∉ hostOps0_1_W) :
    W0 m c (Proc.devRef .tc r) = m ((c : Thread nD τ).loc r) := by
  unfold W0 keyed
  exact (StableHlo.after_of_writes_sub hostOps0_1 _ hostOps0_1_writes h').trans (StableHlo.after_of_writes_sub hostOps0 _ hostOps0_writes h)
/-- What region 0 finds in each buffer. -/
abbrev entry0 : (c : Dev nD) → (b : Ref sig .tc) → Buf (Elt F) ((c : Thread nD τ).loc b) := fun c b => W0 m c b
/-- After region 0: its arrays at what its pipeline leaves in them, every other buffer as before. -/
def W1 (c : Dev nD) : Valuation τ sig (Elt F) :=
  Pipeline.withArrays spec0 c (W0 m c) fun w => (Gate.dat (entry0 m) c).arrAt w cfg0.N
theorem W1_arr (c : Dev nD) (w : Fin cfg0.W) : W1 m c (Proc.devRef .tc (Pipeline.arrRef spec0 w)) = (Gate.dat (entry0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- A buffer that is no output of region 0 is kept. -/
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((Gate.dat (entry0 m) c).arrAt_in w (h w rfl) _).trans (Gate.A_eq (entry0 m) c w))
  · exact W1_of_ne m c r fun w e => hw ⟨w, e⟩
theorem exit0_arr (c : Dev nD) (w : Fin cfg0.W) : (Gate.dat (entry0 m) c).arrAt w cfg0.N = W1 m c (Proc.devRef .tc (Pipeline.arrRef spec0 w)) :=
  (W1_arr m c w).symm
theorem exit0_rest (c : Dev nD) : ∀ b, b ∉ Finset.univ.image (Pipeline.arrRef spec0) → W1 m c (Proc.devRef .tc b) = entry0 m c b :=
  fun b hb => W1_of_ne m c b fun w e => hb (Finset.mem_image.mpr ⟨w, Finset.mem_univ _, e⟩)

/-- What region 1 finds in each buffer. -/
abbrev entry1 : (c : Dev nD) → (b : Ref sig .tc) → Buf (Elt F) ((c : Thread nD τ).loc b) := fun c b => W1 m c b
/-- After region 1: its arrays at what its pipeline leaves in them, every other buffer as before. -/
def W2 (c : Dev nD) : Valuation τ sig (Elt F) :=
  Pipeline.withArrays spec1 c (W1 m c) fun w => (Dispatch.dat (entry1 m) c).arrAt w cfg1.N
theorem W2_arr (c : Dev nD) (w : Fin cfg1.W) : W2 m c (Proc.devRef .tc (Pipeline.arrRef spec1 w)) = (Dispatch.dat (entry1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- A buffer that is no output of region 1 is kept. -/
theorem W2_of (c : Dev nD) (r : Ref sig .tc) (h : ∀ w : Fin cfg1.W, Pipeline.arrRef spec1 w = r → (cfg1.win w).isOut = false) :
    W2 m c (Proc.devRef .tc r) = W1 m c (Proc.devRef .tc r) := by
  by_cases hw : ∃ w : Fin cfg1.W, Pipeline.arrRef spec1 w = r
  · obtain ⟨w, rfl⟩ := hw
    exact (W2_arr m c w).trans (((Dispatch.dat (entry1 m) c).arrAt_in w (h w rfl) _).trans (Dispatch.A_eq (entry1 m) c w))
  · exact W2_of_ne m c r fun w e => hw ⟨w, e⟩
theorem exit1_arr (c : Dev nD) (w : Fin cfg1.W) : (Dispatch.dat (entry1 m) c).arrAt w cfg1.N = W2 m c (Proc.devRef .tc (Pipeline.arrRef spec1 w)) :=
  (W2_arr m c w).symm
theorem exit1_rest (c : Dev nD) : ∀ b, b ∉ Finset.univ.image (Pipeline.arrRef spec1) → W2 m c (Proc.devRef .tc b) = entry1 m c b :=
  fun b hb => W2_of_ne m c b fun w e => hb (Finset.mem_image.mpr ⟨w, Finset.mem_univ _, e⟩)

/-- After the host operations: the end. -/
abbrev W3 : Dev nD → Valuation τ sig (Elt F) := fun c => StableHlo.after hostOps2 (W2 m c)

/-- No argument is an output of a region or written by the host. -/
theorem args_in : ∀ a ∈ ([main_arg0, main_arg1] : List (Ref sig .tc)), a ∉ hostOps2_W ∧ a ∉ hostOps0_W ∧ a ∉ hostOps0_1_W
    ∧ (∀ w : Fin cfg0.W, Pipeline.arrRef spec0 w = a → (cfg0.win w).isOut = false)
    ∧ (∀ w : Fin cfg1.W, Pipeline.arrRef spec1 w = a → (cfg1.win w).isOut = false) := by decide +kernel
theorem W3_args (c : Dev nD) : ∀ a ∈ ([main_arg0, main_arg1] : List (Ref sig .tc)), W3 m c (Proc.devRef .tc a) = m ((c : Thread nD τ).loc a) :=
  fun a ha => (StableHlo.after_of_writes_sub hostOps2 _ hostOps2_writes (args_in a ha).1).trans
    ((W2_of m c a (args_in a ha).2.2.2.2).trans ((W1_of m c a (args_in a ha).2.2.2.1).trans
      (W0_of m c a (args_in a ha).2.1 (args_in a ha).2.2.1)))

/-! ## The segments -/

/-- Each pipeline's proof data, at what its region finds. -/
def pdats : (p : Fin 2) → (c : Dev nD) → Dat τ (Elt F) Unit ℕ (UR sig nD τ) ℕ (Pipeline.pin (pcfgs (F := F)) adm p) c
  | ⟨0, _⟩ => fun c => Gate.dat (entry0 m) c
  | ⟨1, _⟩ => fun c => Dispatch.dat (entry1 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev beside (c : Dev nD) : sProp 𝕄 := iprop((∃ r, prngReg c r) ∗ ∃ W, owes (c : Thread nD τ) (0 : CellTallies nD τ sig Unit) W)
/-- A stretch of host operations as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the program ends with. -/
abbrev Tₙ (c : Dev nD) : sProp 𝕄 := iprop(StableHlo.held (c : Thread nD τ) (Pipeline.ucRefs τ sig) (W3 m c) ∗ ∃ r, prngReg c r)

set_option backward.isDefEq.respectTransparency.types false in
/-- Region 0 over the buffers' state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gate.body_obligation (entry0 m) c).loose
  hwaits := Pipeline.hwaits_of_owed_zero _ _ _ _ L lv 0 fun _ _ => rfl
  pre c := iprop(StableHlo.held (c : Thread nD τ) (Pipeline.ucRefs τ sig) (W0 m c) ∗ beside c)
  post c := iprop(StableHlo.held (c : Thread nD τ) (Pipeline.ucRefs τ sig) (W1 m c) ∗ beside c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) (Gate.A_eq (entry0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    have h : (pdats m 0 c).Φ (Fin.last _) ⊢ Pipeline.ΦA spec0 c := Gate.inv_close (entry0 m) c cfg0.N
    refine h.trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => W1 m c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the buffers' state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dispatch.body_obligation (entry1 m) c).loose
  hwaits := Pipeline.hwaits_of_owed_zero _ _ _ _ L lv 1 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) (Dispatch.A_eq (entry1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    have h : (pdats m 1 c).Φ (Fin.last _) ⊢ Pipeline.ΦA spec1 c := .rfl
    refine h.trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => W2 m c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program -/

/-- The program's five segments. -/
abbrev segs : List (Pipeline.Seg (pcfgs (F := F)) adm (pdats m) () defs₀ 𝒱₀ L lv) :=
  [.host (stretch hostOps0 hostOps0_sub hostOps0_fresh (launched m)), .host (stretch hostOps0_1 hostOps0_1_sub hostOps0_1_fresh (keyed m)),
    .region (reg0 m), .region (reg1 m), .host (stretch hostOps2 hostOps2_sub hostOps2_fresh (W2 m))]
theorem main_run (c : Dev nD) : main (F := F) c = Pipeline.Seg.run (segs m) := (main_chain c).trans (by chain_rfl)

/-- No semaphore outlives its region. -/
theorem no_unscoped : ∀ sm : SemLoc sig, sm.isScoped .tc = true := by decide

set_option backward.isDefEq.respectTransparency.types false in
/-- THE RUN: from any memory with every counter at zero every execution of the program ends, faults nowhere, and leaves every
    buffer of the program at `W3` and every counter at zero. -/
theorem run : θ_run defs (onTc (τ := τ) (main (F := F))) ⟨m, fun _ => 0, ρ⟩ (fun r =>
    (∀ (c : Dev nD) (b : Ref sig .tc), ¬ (Proc.devRef .tc b : DevRef τ sig).isScoped → r.2.mem ((c.tc : Thread nD τ).loc b) = W3 m c (Proc.devRef .tc b))
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (launched m c) ∗ beside c)) (Tₙ := Tₙ m)
    (hch := ⟨fun _ => .rfl, fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (launched m c)
        from Pipeline.unscopedBufs_held c (launched m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h hz => ⟨fun c b hb => h c _ (mem_uc b hb), funext fun g => hz g (.inr (no_unscoped g.2))⟩)

/-- The frame: every execution ends, the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs (onTc (τ := τ) (main (F := F))) ⟨m, fun _ => 0, ρ⟩).mono (fun r h => ⟨fun c =>
    ⟨(h.1 c main_arg0 (by decide)).trans (W3_args m c _ (by simp)), (h.1 c main_arg1 (by decide)).trans (W3_args m c _ (by simp))⟩, h.2⟩) (run m ρ)

end Cert.KernelIdeal.Whole

end
-- ==== Proof.Noise.lean ====
/- The noise table both programs draw from the fixed key: a value per stretch of the draw, each from the values before it. -/
module

public import proofs.«01_k».proof.Proof.Gen.KernelIdeal

@[expose] public section

set_option maxRecDepth 16384

noncomputable section

namespace Cert.Noise

open Cert.KernelIdeal Cert.KernelIdeal.Gen
open Idealize.ShloMosaic Idealize.ShloMosaic.TcCoe
variable (F : FTy → Type) [FloatOps F]

/-- A table of a shape and an element type. -/
abbrev Tab (s : Shape) (e : EltTy) : Type := (⟨s, e⟩ : BufTy).Contents (Elt F)

/-- The value of `v6` from what the stretch finds. -/
def step0_m_v6 : Tab F S2 .i32 :=
  (((fun a b => concatenate S2 0 [⟨S1, a⟩, ⟨S1, b⟩] concatenates_S1_S1_S2_d0) : Tab F S1 .i32 → Tab F S1 .i32 → Tab F S2 .i32) ((broadcastInDim S1 ![] bcast_S_S1 : Tab F S_ .i32 → Tab F S1 .i32) ((id : Tab F S_ .i32 → Tab F S_ .i32) ((Host.shrui : Tab F S_ .i32 → Tab F S_ .i32 → Tab F S_ .i32) (((constantI S_ 32 42#32) : Tab F S_ .i32)) (((constantI S_ 32 32#32) : Tab F S_ .i32))))) ((broadcastInDim S1 ![] bcast_S_S1 : Tab F S_ .i32 → Tab F S1 .i32) ((id : Tab F S_ .i32 → Tab F S_ .i32) ((andi : Tab F S_ .i32 → Tab F S_ .i32 → Tab F S_ .i32) (((constantI S_ 32 42#32) : Tab F S_ .i32)) (((constantI S_ 32 4294967295#32) : Tab F S_ .i32))))))

/-- The value of `v6`. -/
def val_m_v6 : Tab F S2 .i32 := step0_m_v6 (F := F)

/-- The value of `call0_call0_v1` from what the stretch finds. -/
def step1_v_v1 : Tab F S1x1 .f32 :=
  (((broadcastInDim S1x1 ![] bcast_S_S1x1) : Tab F S_ .f32 → Tab F S1x1 .f32) (((constant S_ .f32 0x00800000#32) : Tab F S_ .f32)))

/-- The value of `call0_call0_v1`. -/
def val_v_v1 : Tab F S1x1 .f32 := step1_v_v1 (F := F)

/-- The value of `call0_call0_v2` from what the stretch finds. -/
def step1_v_v2 : Tab F S1x1 .f32 :=
  (((broadcastInDim S1x1 ![] bcast_S_S1x1) : Tab F S_ .f32 → Tab F S1x1 .f32) ((id : Tab F S_ .f32 → Tab F S_ .f32) (((constant S_ .f32 0x3F800000#32) : Tab F S_ .f32))))

/-- The value of `call0_call0_v2`. -/
def val_v_v2 : Tab F S1x1 .f32 := step1_v_v2 (F := F)

/-- The value of `call0_call0_v4` from what the stretch finds. -/
def step1_v_v4 (m_v6 : Tab F S2 .i32) : Tab F S_ .i32 :=
  (shapeCast S_ (((extractStridedSlice S1 ![0] · slices_S2_S1_0) : Tab F S2 .i32 → Tab F S1 .i32) m_v6) shapeCasts_S1_S_)

/-- The value of `call0_call0_v4`. -/
def val_v_v4 : Tab F S_ .i32 := step1_v_v4 (F := F) (val_m_v6 F)

/-- The value of `call0_call0_v6` from what the stretch finds. -/
def step1_v_v6 (m_v6 : Tab F S2 .i32) : Tab F S_ .i32 :=
  (shapeCast S_ (((extractStridedSlice S1 ![1] · slices_S2_S1_1) : Tab F S2 .i32 → Tab F S1 .i32) m_v6) shapeCasts_S1_S_)

/-- The value of `call0_call0_v6`. -/
def val_v_v6 : Tab F S_ .i32 := step1_v_v6 (F := F) (val_m_v6 F)

/-- The value of `call0_call0_v16` from what the stretch finds. -/
def step1_v_v16 : Tab F S4096x64 .i32 :=
  (((trunci 32 · natLt_32_64) : Tab F S4096x64 .i64 → Tab F S4096x64 .i32) ((addi : Tab F S4096x64 .i64 → Tab F S4096x64 .i64 → Tab F S4096x64 .i64) ((muli : Tab F S4096x64 .i64 → Tab F S4096x64 .i64 → Tab F S4096x64 .i64) (((broadcastInDim S4096x64 ![] bcast_S_S4096x64) : Tab F S_ .i64 → Tab F S4096x64 .i64) (((constantI S_ 64 64#64) : Tab F S_ .i64))) (((iotaInDim S4096x64 64 0) : Tab F S4096x64 .i64))) ((muli : Tab F S4096x64 .i64 → Tab F S4096x64 .i64 → Tab F S4096x64 .i64) (((broadcastInDim S4096x64 ![] bcast_S_S4096x64) : Tab F S_ .i64 → Tab F S4096x64 .i64) (((constantI S_ 64 1#64) : Tab F S_ .i64))) (((iotaInDim S4096x64 64 1) : Tab F S4096x64 .i64)))))

/-- The value of `call0_call0_v16`. -/
def val_v_v16 : Tab F S4096x64 .i32 := step1_v_v16 (F := F)

/-- The value of `call0_call0_v17` from what the stretch finds. -/
def step1_v_v17 : Tab F S4096x64 .i32 :=
  (((trunci 32 · natLt_32_64) : Tab F S4096x64 .i64 → Tab F S4096x64 .i32) ((Host.shrui : Tab F S4096x64 .i64 → Tab F S4096x64 .i64 → Tab F S4096x64 .i64) ((addi : Tab F S4096x64 .i64 → Tab F S4096x64 .i64 → Tab F S4096x64 .i64) ((muli : Tab F S4096x64 .i64 → Tab F S4096x64 .i64 → Tab F S4096x64 .i64) (((broadcastInDim S4096x64 ![] bcast_S_S4096x64) : Tab F S_ .i64 → Tab F S4096x64 .i64) (((constantI S_ 64 64#64) : Tab F S_ .i64))) (((iotaInDim S4096x64 64 0) : Tab F S4096x64 .i64))) ((muli : Tab F S4096x64 .i64 → Tab F S4096x64 .i64 → Tab F S4096x64 .i64) (((broadcastInDim S4096x64 ![] bcast_S_S4096x64) : Tab F S_ .i64 → Tab F S4096x64 .i64) (((constantI S_ 64 1#64) : Tab F S_ .i64))) (((iotaInDim S4096x64 64 1) : Tab F S4096x64 .i64)))) (((broadcastInDim S4096x64 ![] bcast_S_S4096x64) : Tab F S_ .i64 → Tab F S4096x64 .i64) (((constantI S_ 64 32#64) : Tab F S_ .i64)))))

/-- The value of `call0_call0_v17`. -/
def val_v_v17 : Tab F S4096x64 .i32 := step1_v_v17 (F := F)

/-- The value of `call0_call0_call0_v1` from what the stretch finds. -/
def step2_t_v1 (v_v4 : Tab F S_ .i32) (v_v6 : Tab F S_ .i32) : Tab F S_ .i32 :=
  ((xori : Tab F S_ .i32 → Tab F S_ .i32 → Tab F S_ .i32) ((xori : Tab F S_ .i32 → Tab F S_ .i32 → Tab F S_ .i32) v_v4 v_v6) (((constantI S_ 32 466688986#32) : Tab F S_ .i32)))

/-- The value of `call0_call0_call0_v1`. -/
def val_t_v1 : Tab F S_ .i32 := step2_t_v1 (F := F) (val_v_v4 F) (val_v_v6 F)

/-- The value of `call0_call0_call0_v6` from what the stretch finds. -/
def step2_t_v6 (v_v4 : Tab F S_ .i32) (v_v6 : Tab F S_ .i32) (v_v16 : Tab F S4096x64 .i32) (v_v17 : Tab F S4096x64 .i32) : Tab F S4096x64 .i32 :=
  ((addi : Tab F S4096x64 .i32 → Tab F S4096x64 .i32 → Tab F S4096x64 .i32) ((addi : Tab F S4096x64 .i32 → Tab F S4096x64 .i32 → Tab F S4096x64 .i32) v_v17 (((broadcastInDim S4096x64 ![] bcast_S_S4096x64) : Tab F S_ .i32 → Tab F S4096x64 .i32) v_v4)) ((addi : Tab F S4096x64 .i32 → Tab F S4096x64 .i32 → Tab F S4096x64 .i32) v_v16 (((broadcastInDim S4096x64 ![] bcast_S_S4096x64) : Tab F S_ .i32 → Tab F S4096x64 .i32) v_v6)))

/-- The value of `call0_call0_call0_v6`. -/
def val_t_v6 : Tab F S4096x64 .i32 := step2_t_v6 (F := F) (val_v_v4 F) (val_v_v6 F) (val_v_v16 F) (val_v_v17 F)

/-- The value of `call0_call0_call0_v12` from what the stretch finds. -/
def step2_t_v12 (v_v4 : Tab F S_ .i32) (v_v6 : Tab F S_ .i32) (v_v16 : Tab F S4096x64 .i32) (v_v17 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) v_v17 (((broadcastInDim S4096x64 ![] bcast_S_S4096x64) : Tab F S_ .i32 → Tab F S4096x64 .i32) v_v4)) ((addi : Tab F S4096x64 .i32 → Tab F S4096x64 .i32 → Tab F S4096x64 .i32) v_v16 (((broadcastInDim S4096x64 ![] bcast_S_S4096x64) : Tab F S_ .i32 → Tab F S4096x64 .i32) v_v6))) ((ori : Tab F S4096x64 .i32 → Tab F S4096x64 .i32 → Tab F S4096x64 .i32) ((Host.shli : Tab F S4096x64 .i32 → Tab F S4096x64 .i32 → Tab F S4096x64 .i32) ((addi : Tab F S4096x64 .i32 → Tab F S4096x64 .i32 → Tab F S4096x64 .i32) v_v16 (((broadcastInDim S4096x64 ![] bcast_S_S4096x64) : Tab F S_ .i32 → Tab F S4096x64 .i32) v_v6)) (((broadcastInDim S4096x64 ![] bcast_S_S4096x64) : Tab F S_ .i32 → Tab F S4096x64 .i32) (((constantI S_ 32 13#32) : Tab F S_ .i32)))) ((Host.shrui : Tab F S4096x64 .i32 → Tab F S4096x64 .i32 → Tab F S4096x64 .i32) ((addi : Tab F S4096x64 .i32 → Tab F S4096x64 .i32 → Tab F S4096x64 .i32) v_v16 (((broadcastInDim S4096x64 ![] bcast_S_S4096x64) : Tab F S_ .i32 → Tab F S4096x64 .i32) v_v6)) (((broadcastInDim S4096x64 ![] bcast_S_S4096x64) : Tab F S_ .i32 → Tab F S4096x64 .i32) (((constantI S_ 32 19#32) : Tab F S_ .i32))))))

/-- The value of `call0_call0_call0_v12`. -/
def val_t_v12 : Tab F S4096x64 .i32 := step2_t_v12 (F := F) (val_v_v4 F) (val_v_v6 F) (val_v_v16 F) (val_v_v17 F)

/-- The value of `call0_call0_call0_v13` from what the stretch finds. -/
def step3_t_v13 (t_v6 : Tab F S4096x64 .i32) (t_v12 : Tab F S4096x64 .i32) : Tab F S4096x64 .i32 :=
  ((addi : Tab F S4096x64 .i32 → Tab F S4096x64 .i32 → Tab F S4096x64 .i32) t_v6 t_v12)

/-- The value of `call0_call0_call0_v13`. -/
def val_t_v13 : Tab F S4096x64 .i32 := step3_t_v13 (F := F) (val_t_v6 F) (val_t_v12 F)

/-- The value of `call0_call0_call0_v19` from what the stretch finds. -/
def step3_t_v19 (t_v6 : Tab F S4096x64 .i32) (t_v12 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v6 t_v12) ((ori : Tab F S4096x64 .i32 → Tab F S4096x64 .i32 → Tab F S4096x64 .i32) ((Host.shli : Tab F S4096x64 .i32 → Tab F S4096x64 .i32 → Tab F S4096x64 .i32) t_v12 (((broadcastInDim S4096x64 ![] bcast_S_S4096x64) : Tab F S_ .i32 → Tab F S4096x64 .i32) (((constantI S_ 32 15#32) : Tab F S_ .i32)))) ((Host.shrui : Tab F S4096x64 .i32 → Tab F S4096x64 .i32 → Tab F S4096x64 .i32) t_v12 (((broadcastInDim S4096x64 ![] bcast_S_S4096x64) : Tab F S_ .i32 → Tab F S4096x64 .i32) (((constantI S_ 32 17#32) : Tab F S_ .i32))))))

/-- The value of `call0_call0_call0_v19`. -/
def val_t_v19 : Tab F S4096x64 .i32 := step3_t_v19 (F := F) (val_t_v6 F) (val_t_v12 F)

/-- The value of `call0_call0_call0_v20` from what the stretch finds. -/
def step4_t_v20 (t_v13 : Tab F S4096x64 .i32) (t_v19 : Tab F S4096x64 .i32) : Tab F S4096x64 .i32 :=
  ((addi : Tab F S4096x64 .i32 → Tab F S4096x64 .i32 → Tab F S4096x64 .i32) t_v13 t_v19)

/-- The value of `call0_call0_call0_v20`. -/
def val_t_v20 : Tab F S4096x64 .i32 := step4_t_v20 (F := F) (val_t_v13 F) (val_t_v19 F)

/-- The value of `call0_call0_call0_v26` from what the stretch finds. -/
def step4_t_v26 (t_v13 : Tab F S4096x64 .i32) (t_v19 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v13 t_v19) ((ori : Tab F S4096x64 .i32 → Tab F S4096x64 .i32 → Tab F S4096x64 .i32) ((Host.shli : Tab F S4096x64 .i32 → Tab F S4096x64 .i32 → Tab F S4096x64 .i32) t_v19 (((broadcastInDim S4096x64 ![] bcast_S_S4096x64) : Tab F S_ .i32 → Tab F S4096x64 .i32) (((constantI S_ 32 26#32) : Tab F S_ .i32)))) ((Host.shrui : Tab F S4096x64 .i32 → Tab F S4096x64 .i32 → Tab F S4096x64 .i32) t_v19 (((broadcastInDim S4096x64 ![] bcast_S_S4096x64) : Tab F S_ .i32 → Tab F S4096x64 .i32) (((constantI S_ 32 6#32) : Tab F S_ .i32))))))

/-- The value of `call0_call0_call0_v26`. -/
def val_t_v26 : Tab F S4096x64 .i32 := step4_t_v26 (F := F) (val_t_v13 F) (val_t_v19 F)

/-- The value of `call0_call0_call0_v27` from what the stretch finds. -/
def step5_t_v27 (t_v20 : Tab F S4096x64 .i32) (t_v26 : Tab F S4096x64 .i32) : Tab F S4096x64 .i32 :=
  ((addi : Tab F S4096x64 .i32 → Tab F S4096x64 .i32 → Tab F S4096x64 .i32) t_v20 t_v26)

/-- The value of `call0_call0_call0_v27`. -/
def val_t_v27 : Tab F S4096x64 .i32 := step5_t_v27 (F := F) (val_t_v20 F) (val_t_v26 F)

/-- The value of `call0_call0_call0_v33` from what the stretch finds. -/
def step5_t_v33 (t_v20 : Tab F S4096x64 .i32) (t_v26 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v20 t_v26) ((ori : Tab F S4096x64 .i32 → Tab F S4096x64 .i32 → Tab F S4096x64 .i32) ((Host.shli : Tab F S4096x64 .i32 → Tab F S4096x64 .i32 → Tab F S4096x64 .i32) t_v26 (((broadcastInDim S4096x64 ![] bcast_S_S4096x64) : Tab F S_ .i32 → Tab F S4096x64 .i32) (((constantI S_ 32 6#32) : Tab F S_ .i32)))) ((Host.shrui : Tab F S4096x64 .i32 → Tab F S4096x64 .i32 → Tab F S4096x64 .i32) t_v26 (((broadcastInDim S4096x64 ![] bcast_S_S4096x64) : Tab F S_ .i32 → Tab F S4096x64 .i32) (((constantI S_ 32 26#32) : Tab F S_ .i32))))))

/-- The value of `call0_call0_call0_v33`. -/
def val_t_v33 : Tab F S4096x64 .i32 := step5_t_v33 (F := F) (val_t_v20 F) (val_t_v26 F)

/-- The value of `call0_call0_call0_v40` from what the stretch finds. -/
def step6_t_v40 (v_v6 : Tab F S_ .i32) (t_v1 : Tab F S_ .i32) (t_v27 : Tab F S4096x64 .i32) (t_v33 : Tab F S4096x64 .i32) : Tab F S4096x64 .i32 :=
  ((addi : Tab F S4096x64 .i32 → Tab F S4096x64 .i32 → Tab F S4096x64 .i32) ((addi : Tab F S4096x64 .i32 → Tab F S4096x64 .i32 → Tab F S4096x64 .i32) t_v27 (((broadcastInDim S4096x64 ![] bcast_S_S4096x64) : Tab F S_ .i32 → Tab F S4096x64 .i32) v_v6)) ((addi : Tab F S4096x64 .i32 → Tab F S4096x64 .i32 → Tab F S4096x64 .i32) ((addi : Tab F S4096x64 .i32 → Tab F S4096x64 .i32 → Tab F S4096x64 .i32) t_v33 (((broadcastInDim S4096x64 ![] bcast_S_S4096x64) : Tab F S_ .i32 → Tab F S4096x64 .i32) t_v1)) (((broadcastInDim S4096x64 ![] bcast_S_S4096x64) : Tab F S_ .i32 → Tab F S4096x64 .i32) (((constantI S_ 32 1#32) : Tab F S_ .i32)))))

/-- The value of `call0_call0_call0_v40`. -/
def val_t_v40 : Tab F S4096x64 .i32 := step6_t_v40 (F := F) (val_v_v6 F) (val_t_v1 F) (val_t_v27 F) (val_t_v33 F)

/-- The value of `call0_call0_call0_v46` from what the stretch finds. -/
def step6_t_v46 (v_v6 : Tab F S_ .i32) (t_v1 : Tab F S_ .i32) (t_v27 : Tab F S4096x64 .i32) (t_v33 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v27 (((broadcastInDim S4096x64 ![] bcast_S_S4096x64) : Tab F S_ .i32 → Tab F S4096x64 .i32) v_v6)) ((addi : Tab F S4096x64 .i32 → Tab F S4096x64 .i32 → Tab F S4096x64 .i32) ((addi : Tab F S4096x64 .i32 → Tab F S4096x64 .i32 → Tab F S4096x64 .i32) t_v33 (((broadcastInDim S4096x64 ![] bcast_S_S4096x64) : Tab F S_ .i32 → Tab F S4096x64 .i32) t_v1)) (((broadcastInDim S4096x64 ![] bcast_S_S4096x64) : Tab F S_ .i32 → Tab F S4096x64 .i32) (((constantI S_ 32 1#32) : Tab F S_ .i32))))) ((ori : Tab F S4096x64 .i32 → Tab F S4096x64 .i32 → Tab F S4096x64 .i32) ((Host.shli : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v33 (((broadcastInDim S4096x64 ![] bcast_S_S4096x64) : Tab F S_ .i32 → Tab F S4096x64 .i32) t_v1)) (((broadcastInDim S4096x64 ![] bcast_S_S4096x64) : Tab F S_ .i32 → Tab F S4096x64 .i32) (((constantI S_ 32 1#32) : Tab F S_ .i32)))) (((broadcastInDim S4096x64 ![] bcast_S_S4096x64) : Tab F S_ .i32 → Tab F S4096x64 .i32) (((constantI S_ 32 17#32) : Tab F S_ .i32)))) ((Host.shrui : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v33 (((broadcastInDim S4096x64 ![] bcast_S_S4096x64) : Tab F S_ .i32 → Tab F S4096x64 .i32) t_v1)) (((broadcastInDim S4096x64 ![] bcast_S_S4096x64) : Tab F S_ .i32 → Tab F S4096x64 .i32) (((constantI S_ 32 1#32) : Tab F S_ .i32)))) (((broadcastInDim S4096x64 ![] bcast_S_S4096x64) : Tab F S_ .i32 → Tab F S4096x64 .i32) (((constantI S_ 32 15#32) : Tab F S_ .i32))))))

/-- The value of `call0_call0_call0_v46`. -/
def val_t_v46 : Tab F S4096x64 .i32 := step6_t_v46 (F := F) (val_v_v6 F) (val_t_v1 F) (val_t_v27 F) (val_t_v33 F)

/-- The value of `call0_call0_call0_v47` from what the stretch finds. -/
def step7_t_v47 (t_v40 : Tab F S4096x64 .i32) (t_v46 : Tab F S4096x64 .i32) : Tab F S4096x64 .i32 :=
  ((addi : Tab F S4096x64 .i32 → Tab F S4096x64 .i32 → Tab F S4096x64 .i32) t_v40 t_v46)

/-- The value of `call0_call0_call0_v47`. -/
def val_t_v47 : Tab F S4096x64 .i32 := step7_t_v47 (F := F) (val_t_v40 F) (val_t_v46 F)

/-- The value of `call0_call0_call0_v53` from what the stretch finds. -/
def step7_t_v53 (t_v40 : Tab F S4096x64 .i32) (t_v46 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v40 t_v46) ((ori : Tab F S4096x64 .i32 → Tab F S4096x64 .i32 → Tab F S4096x64 .i32) ((Host.shli : Tab F S4096x64 .i32 → Tab F S4096x64 .i32 → Tab F S4096x64 .i32) t_v46 (((broadcastInDim S4096x64 ![] bcast_S_S4096x64) : Tab F S_ .i32 → Tab F S4096x64 .i32) (((constantI S_ 32 29#32) : Tab F S_ .i32)))) ((Host.shrui : Tab F S4096x64 .i32 → Tab F S4096x64 .i32 → Tab F S4096x64 .i32) t_v46 (((broadcastInDim S4096x64 ![] bcast_S_S4096x64) : Tab F S_ .i32 → Tab F S4096x64 .i32) (((constantI S_ 32 3#32) : Tab F S_ .i32))))))

/-- The value of `call0_call0_call0_v53`. -/
def val_t_v53 : Tab F S4096x64 .i32 := step7_t_v53 (F := F) (val_t_v40 F) (val_t_v46 F)

/-- The value of `call0_call0_call0_v54` from what the stretch finds. -/
def step8_t_v54 (t_v47 : Tab F S4096x64 .i32) (t_v53 : Tab F S4096x64 .i32) : Tab F S4096x64 .i32 :=
  ((addi : Tab F S4096x64 .i32 → Tab F S4096x64 .i32 → Tab F S4096x64 .i32) t_v47 t_v53)

/-- The value of `call0_call0_call0_v54`. -/
def val_t_v54 : Tab F S4096x64 .i32 := step8_t_v54 (F := F) (val_t_v47 F) (val_t_v53 F)

/-- The value of `call0_call0_call0_v60` from what the stretch finds. -/
def step8_t_v60 (t_v47 : Tab F S4096x64 .i32) (t_v53 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v47 t_v53) ((ori : Tab F S4096x64 .i32 → Tab F S4096x64 .i32 → Tab F S4096x64 .i32) ((Host.shli : Tab F S4096x64 .i32 → Tab F S4096x64 .i32 → Tab F S4096x64 .i32) t_v53 (((broadcastInDim S4096x64 ![] bcast_S_S4096x64) : Tab F S_ .i32 → Tab F S4096x64 .i32) (((constantI S_ 32 16#32) : Tab F S_ .i32)))) ((Host.shrui : Tab F S4096x64 .i32 → Tab F S4096x64 .i32 → Tab F S4096x64 .i32) t_v53 (((broadcastInDim S4096x64 ![] bcast_S_S4096x64) : Tab F S_ .i32 → Tab F S4096x64 .i32) (((constantI S_ 32 16#32) : Tab F S_ .i32))))))

/-- The value of `call0_call0_call0_v60`. -/
def val_t_v60 : Tab F S4096x64 .i32 := step8_t_v60 (F := F) (val_t_v47 F) (val_t_v53 F)

/-- The value of `call0_call0_call0_v61` from what the stretch finds. -/
def step9_t_v61 (t_v54 : Tab F S4096x64 .i32) (t_v60 : Tab F S4096x64 .i32) : Tab F S4096x64 .i32 :=
  ((addi : Tab F S4096x64 .i32 → Tab F S4096x64 .i32 → Tab F S4096x64 .i32) t_v54 t_v60)

/-- The value of `call0_call0_call0_v61`. -/
def val_t_v61 : Tab F S4096x64 .i32 := step9_t_v61 (F := F) (val_t_v54 F) (val_t_v60 F)

/-- The value of `call0_call0_call0_v67` from what the stretch finds. -/
def step9_t_v67 (t_v54 : Tab F S4096x64 .i32) (t_v60 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v54 t_v60) ((ori : Tab F S4096x64 .i32 → Tab F S4096x64 .i32 → Tab F S4096x64 .i32) ((Host.shli : Tab F S4096x64 .i32 → Tab F S4096x64 .i32 → Tab F S4096x64 .i32) t_v60 (((broadcastInDim S4096x64 ![] bcast_S_S4096x64) : Tab F S_ .i32 → Tab F S4096x64 .i32) (((constantI S_ 32 24#32) : Tab F S_ .i32)))) ((Host.shrui : Tab F S4096x64 .i32 → Tab F S4096x64 .i32 → Tab F S4096x64 .i32) t_v60 (((broadcastInDim S4096x64 ![] bcast_S_S4096x64) : Tab F S_ .i32 → Tab F S4096x64 .i32) (((constantI S_ 32 8#32) : Tab F S_ .i32))))))

/-- The value of `call0_call0_call0_v67`. -/
def val_t_v67 : Tab F S4096x64 .i32 := step9_t_v67 (F := F) (val_t_v54 F) (val_t_v60 F)

/-- The value of `call0_call0_call0_v74` from what the stretch finds. -/
def step10_t_v74 (v_v4 : Tab F S_ .i32) (t_v1 : Tab F S_ .i32) (t_v61 : Tab F S4096x64 .i32) (t_v67 : Tab F S4096x64 .i32) : Tab F S4096x64 .i32 :=
  ((addi : Tab F S4096x64 .i32 → Tab F S4096x64 .i32 → Tab F S4096x64 .i32) ((addi : Tab F S4096x64 .i32 → Tab F S4096x64 .i32 → Tab F S4096x64 .i32) t_v61 (((broadcastInDim S4096x64 ![] bcast_S_S4096x64) : Tab F S_ .i32 → Tab F S4096x64 .i32) t_v1)) ((addi : Tab F S4096x64 .i32 → Tab F S4096x64 .i32 → Tab F S4096x64 .i32) ((addi : Tab F S4096x64 .i32 → Tab F S4096x64 .i32 → Tab F S4096x64 .i32) t_v67 (((broadcastInDim S4096x64 ![] bcast_S_S4096x64) : Tab F S_ .i32 → Tab F S4096x64 .i32) v_v4)) (((broadcastInDim S4096x64 ![] bcast_S_S4096x64) : Tab F S_ .i32 → Tab F S4096x64 .i32) (((constantI S_ 32 2#32) : Tab F S_ .i32)))))

/-- The value of `call0_call0_call0_v74`. -/
def val_t_v74 : Tab F S4096x64 .i32 := step10_t_v74 (F := F) (val_v_v4 F) (val_t_v1 F) (val_t_v61 F) (val_t_v67 F)

/-- The value of `call0_call0_call0_v80` from what the stretch finds. -/
def step10_t_v80 (v_v4 : Tab F S_ .i32) (t_v1 : Tab F S_ .i32) (t_v61 : Tab F S4096x64 .i32) (t_v67 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v61 (((broadcastInDim S4096x64 ![] bcast_S_S4096x64) : Tab F S_ .i32 → Tab F S4096x64 .i32) t_v1)) ((addi : Tab F S4096x64 .i32 → Tab F S4096x64 .i32 → Tab F S4096x64 .i32) ((addi : Tab F S4096x64 .i32 → Tab F S4096x64 .i32 → Tab F S4096x64 .i32) t_v67 (((broadcastInDim S4096x64 ![] bcast_S_S4096x64) : Tab F S_ .i32 → Tab F S4096x64 .i32) v_v4)) (((broadcastInDim S4096x64 ![] bcast_S_S4096x64) : Tab F S_ .i32 → Tab F S4096x64 .i32) (((constantI S_ 32 2#32) : Tab F S_ .i32))))) ((ori : Tab F S4096x64 .i32 → Tab F S4096x64 .i32 → Tab F S4096x64 .i32) ((Host.shli : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v67 (((broadcastInDim S4096x64 ![] bcast_S_S4096x64) : Tab F S_ .i32 → Tab F S4096x64 .i32) v_v4)) (((broadcastInDim S4096x64 ![] bcast_S_S4096x64) : Tab F S_ .i32 → Tab F S4096x64 .i32) (((constantI S_ 32 2#32) : Tab F S_ .i32)))) (((broadcastInDim S4096x64 ![] bcast_S_S4096x64) : Tab F S_ .i32 → Tab F S4096x64 .i32) (((constantI S_ 32 13#32) : Tab F S_ .i32)))) ((Host.shrui : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v67 (((broadcastInDim S4096x64 ![] bcast_S_S4096x64) : Tab F S_ .i32 → Tab F S4096x64 .i32) v_v4)) (((broadcastInDim S4096x64 ![] bcast_S_S4096x64) : Tab F S_ .i32 → Tab F S4096x64 .i32) (((constantI S_ 32 2#32) : Tab F S_ .i32)))) (((broadcastInDim S4096x64 ![] bcast_S_S4096x64) : Tab F S_ .i32 → Tab F S4096x64 .i32) (((constantI S_ 32 19#32) : Tab F S_ .i32))))))

/-- The value of `call0_call0_call0_v80`. -/
def val_t_v80 : Tab F S4096x64 .i32 := step10_t_v80 (F := F) (val_v_v4 F) (val_t_v1 F) (val_t_v61 F) (val_t_v67 F)

/-- The value of `call0_call0_call0_v81` from what the stretch finds. -/
def step11_t_v81 (t_v74 : Tab F S4096x64 .i32) (t_v80 : Tab F S4096x64 .i32) : Tab F S4096x64 .i32 :=
  ((addi : Tab F S4096x64 .i32 → Tab F S4096x64 .i32 → Tab F S4096x64 .i32) t_v74 t_v80)

/-- The value of `call0_call0_call0_v81`. -/
def val_t_v81 : Tab F S4096x64 .i32 := step11_t_v81 (F := F) (val_t_v74 F) (val_t_v80 F)

/-- The value of `call0_call0_call0_v87` from what the stretch finds. -/
def step11_t_v87 (t_v74 : Tab F S4096x64 .i32) (t_v80 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v74 t_v80) ((ori : Tab F S4096x64 .i32 → Tab F S4096x64 .i32 → Tab F S4096x64 .i32) ((Host.shli : Tab F S4096x64 .i32 → Tab F S4096x64 .i32 → Tab F S4096x64 .i32) t_v80 (((broadcastInDim S4096x64 ![] bcast_S_S4096x64) : Tab F S_ .i32 → Tab F S4096x64 .i32) (((constantI S_ 32 15#32) : Tab F S_ .i32)))) ((Host.shrui : Tab F S4096x64 .i32 → Tab F S4096x64 .i32 → Tab F S4096x64 .i32) t_v80 (((broadcastInDim S4096x64 ![] bcast_S_S4096x64) : Tab F S_ .i32 → Tab F S4096x64 .i32) (((constantI S_ 32 17#32) : Tab F S_ .i32))))))

/-- The value of `call0_call0_call0_v87`. -/
def val_t_v87 : Tab F S4096x64 .i32 := step11_t_v87 (F := F) (val_t_v74 F) (val_t_v80 F)

/-- The value of `call0_call0_call0_v88` from what the stretch finds. -/
def step12_t_v88 (t_v81 : Tab F S4096x64 .i32) (t_v87 : Tab F S4096x64 .i32) : Tab F S4096x64 .i32 :=
  ((addi : Tab F S4096x64 .i32 → Tab F S4096x64 .i32 → Tab F S4096x64 .i32) t_v81 t_v87)

/-- The value of `call0_call0_call0_v88`. -/
def val_t_v88 : Tab F S4096x64 .i32 := step12_t_v88 (F := F) (val_t_v81 F) (val_t_v87 F)

/-- The value of `call0_call0_call0_v94` from what the stretch finds. -/
def step12_t_v94 (t_v81 : Tab F S4096x64 .i32) (t_v87 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v81 t_v87) ((ori : Tab F S4096x64 .i32 → Tab F S4096x64 .i32 → Tab F S4096x64 .i32) ((Host.shli : Tab F S4096x64 .i32 → Tab F S4096x64 .i32 → Tab F S4096x64 .i32) t_v87 (((broadcastInDim S4096x64 ![] bcast_S_S4096x64) : Tab F S_ .i32 → Tab F S4096x64 .i32) (((constantI S_ 32 26#32) : Tab F S_ .i32)))) ((Host.shrui : Tab F S4096x64 .i32 → Tab F S4096x64 .i32 → Tab F S4096x64 .i32) t_v87 (((broadcastInDim S4096x64 ![] bcast_S_S4096x64) : Tab F S_ .i32 → Tab F S4096x64 .i32) (((constantI S_ 32 6#32) : Tab F S_ .i32))))))

/-- The value of `call0_call0_call0_v94`. -/
def val_t_v94 : Tab F S4096x64 .i32 := step12_t_v94 (F := F) (val_t_v81 F) (val_t_v87 F)

/-- The value of `call0_call0_call0_v95` from what the stretch finds. -/
def step13_t_v95 (t_v88 : Tab F S4096x64 .i32) (t_v94 : Tab F S4096x64 .i32) : Tab F S4096x64 .i32 :=
  ((addi : Tab F S4096x64 .i32 → Tab F S4096x64 .i32 → Tab F S4096x64 .i32) t_v88 t_v94)

/-- The value of `call0_call0_call0_v95`. -/
def val_t_v95 : Tab F S4096x64 .i32 := step13_t_v95 (F := F) (val_t_v88 F) (val_t_v94 F)

/-- The value of `call0_call0_call0_v101` from what the stretch finds. -/
def step13_t_v101 (t_v88 : Tab F S4096x64 .i32) (t_v94 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v88 t_v94) ((ori : Tab F S4096x64 .i32 → Tab F S4096x64 .i32 → Tab F S4096x64 .i32) ((Host.shli : Tab F S4096x64 .i32 → Tab F S4096x64 .i32 → Tab F S4096x64 .i32) t_v94 (((broadcastInDim S4096x64 ![] bcast_S_S4096x64) : Tab F S_ .i32 → Tab F S4096x64 .i32) (((constantI S_ 32 6#32) : Tab F S_ .i32)))) ((Host.shrui : Tab F S4096x64 .i32 → Tab F S4096x64 .i32 → Tab F S4096x64 .i32) t_v94 (((broadcastInDim S4096x64 ![] bcast_S_S4096x64) : Tab F S_ .i32 → Tab F S4096x64 .i32) (((constantI S_ 32 26#32) : Tab F S_ .i32))))))

/-- The value of `call0_call0_call0_v101`. -/
def val_t_v101 : Tab F S4096x64 .i32 := step13_t_v101 (F := F) (val_t_v88 F) (val_t_v94 F)

/-- The value of `call0_call0_call0_v108` from what the stretch finds. -/
def step14_t_v108 (v_v4 : Tab F S_ .i32) (v_v6 : Tab F S_ .i32) (t_v95 : Tab F S4096x64 .i32) (t_v101 : Tab F S4096x64 .i32) : Tab F S4096x64 .i32 :=
  ((addi : Tab F S4096x64 .i32 → Tab F S4096x64 .i32 → Tab F S4096x64 .i32) ((addi : Tab F S4096x64 .i32 → Tab F S4096x64 .i32 → Tab F S4096x64 .i32) t_v95 (((broadcastInDim S4096x64 ![] bcast_S_S4096x64) : Tab F S_ .i32 → Tab F S4096x64 .i32) v_v4)) ((addi : Tab F S4096x64 .i32 → Tab F S4096x64 .i32 → Tab F S4096x64 .i32) ((addi : Tab F S4096x64 .i32 → Tab F S4096x64 .i32 → Tab F S4096x64 .i32) t_v101 (((broadcastInDim S4096x64 ![] bcast_S_S4096x64) : Tab F S_ .i32 → Tab F S4096x64 .i32) v_v6)) (((broadcastInDim S4096x64 ![] bcast_S_S4096x64) : Tab F S_ .i32 → Tab F S4096x64 .i32) (((constantI S_ 32 3#32) : Tab F S_ .i32)))))

/-- The value of `call0_call0_call0_v108`. -/
def val_t_v108 : Tab F S4096x64 .i32 := step14_t_v108 (F := F) (val_v_v4 F) (val_v_v6 F) (val_t_v95 F) (val_t_v101 F)

/-- The value of `call0_call0_call0_v114` from what the stretch finds. -/
def step14_t_v114 (v_v4 : Tab F S_ .i32) (v_v6 : Tab F S_ .i32) (t_v95 : Tab F S4096x64 .i32) (t_v101 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v95 (((broadcastInDim S4096x64 ![] bcast_S_S4096x64) : Tab F S_ .i32 → Tab F S4096x64 .i32) v_v4)) ((addi : Tab F S4096x64 .i32 → Tab F S4096x64 .i32 → Tab F S4096x64 .i32) ((addi : Tab F S4096x64 .i32 → Tab F S4096x64 .i32 → Tab F S4096x64 .i32) t_v101 (((broadcastInDim S4096x64 ![] bcast_S_S4096x64) : Tab F S_ .i32 → Tab F S4096x64 .i32) v_v6)) (((broadcastInDim S4096x64 ![] bcast_S_S4096x64) : Tab F S_ .i32 → Tab F S4096x64 .i32) (((constantI S_ 32 3#32) : Tab F S_ .i32))))) ((ori : Tab F S4096x64 .i32 → Tab F S4096x64 .i32 → Tab F S4096x64 .i32) ((Host.shli : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v101 (((broadcastInDim S4096x64 ![] bcast_S_S4096x64) : Tab F S_ .i32 → Tab F S4096x64 .i32) v_v6)) (((broadcastInDim S4096x64 ![] bcast_S_S4096x64) : Tab F S_ .i32 → Tab F S4096x64 .i32) (((constantI S_ 32 3#32) : Tab F S_ .i32)))) (((broadcastInDim S4096x64 ![] bcast_S_S4096x64) : Tab F S_ .i32 → Tab F S4096x64 .i32) (((constantI S_ 32 17#32) : Tab F S_ .i32)))) ((Host.shrui : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v101 (((broadcastInDim S4096x64 ![] bcast_S_S4096x64) : Tab F S_ .i32 → Tab F S4096x64 .i32) v_v6)) (((broadcastInDim S4096x64 ![] bcast_S_S4096x64) : Tab F S_ .i32 → Tab F S4096x64 .i32) (((constantI S_ 32 3#32) : Tab F S_ .i32)))) (((broadcastInDim S4096x64 ![] bcast_S_S4096x64) : Tab F S_ .i32 → Tab F S4096x64 .i32) (((constantI S_ 32 15#32) : Tab F S_ .i32))))))

/-- The value of `call0_call0_call0_v114`. -/
def val_t_v114 : Tab F S4096x64 .i32 := step14_t_v114 (F := F) (val_v_v4 F) (val_v_v6 F) (val_t_v95 F) (val_t_v101 F)

/-- The value of `call0_call0_call0_v115` from what the stretch finds. -/
def step15_t_v115 (t_v108 : Tab F S4096x64 .i32) (t_v114 : Tab F S4096x64 .i32) : Tab F S4096x64 .i32 :=
  ((addi : Tab F S4096x64 .i32 → Tab F S4096x64 .i32 → Tab F S4096x64 .i32) t_v108 t_v114)

/-- The value of `call0_call0_call0_v115`. -/
def val_t_v115 : Tab F S4096x64 .i32 := step15_t_v115 (F := F) (val_t_v108 F) (val_t_v114 F)

/-- The value of `call0_call0_call0_v121` from what the stretch finds. -/
def step15_t_v121 (t_v108 : Tab F S4096x64 .i32) (t_v114 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v108 t_v114) ((ori : Tab F S4096x64 .i32 → Tab F S4096x64 .i32 → Tab F S4096x64 .i32) ((Host.shli : Tab F S4096x64 .i32 → Tab F S4096x64 .i32 → Tab F S4096x64 .i32) t_v114 (((broadcastInDim S4096x64 ![] bcast_S_S4096x64) : Tab F S_ .i32 → Tab F S4096x64 .i32) (((constantI S_ 32 29#32) : Tab F S_ .i32)))) ((Host.shrui : Tab F S4096x64 .i32 → Tab F S4096x64 .i32 → Tab F S4096x64 .i32) t_v114 (((broadcastInDim S4096x64 ![] bcast_S_S4096x64) : Tab F S_ .i32 → Tab F S4096x64 .i32) (((constantI S_ 32 3#32) : Tab F S_ .i32))))))

/-- The value of `call0_call0_call0_v121`. -/
def val_t_v121 : Tab F S4096x64 .i32 := step15_t_v121 (F := F) (val_t_v108 F) (val_t_v114 F)

/-- The value of `call0_call0_call0_v122` from what the stretch finds. -/
def step16_t_v122 (t_v115 : Tab F S4096x64 .i32) (t_v121 : Tab F S4096x64 .i32) : Tab F S4096x64 .i32 :=
  ((addi : Tab F S4096x64 .i32 → Tab F S4096x64 .i32 → Tab F S4096x64 .i32) t_v115 t_v121)

/-- The value of `call0_call0_call0_v122`. -/
def val_t_v122 : Tab F S4096x64 .i32 := step16_t_v122 (F := F) (val_t_v115 F) (val_t_v121 F)

/-- The value of `call0_call0_call0_v128` from what the stretch finds. -/
def step16_t_v128 (t_v115 : Tab F S4096x64 .i32) (t_v121 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v115 t_v121) ((ori : Tab F S4096x64 .i32 → Tab F S4096x64 .i32 → Tab F S4096x64 .i32) ((Host.shli : Tab F S4096x64 .i32 → Tab F S4096x64 .i32 → Tab F S4096x64 .i32) t_v121 (((broadcastInDim S4096x64 ![] bcast_S_S4096x64) : Tab F S_ .i32 → Tab F S4096x64 .i32) (((constantI S_ 32 16#32) : Tab F S_ .i32)))) ((Host.shrui : Tab F S4096x64 .i32 → Tab F S4096x64 .i32 → Tab F S4096x64 .i32) t_v121 (((broadcastInDim S4096x64 ![] bcast_S_S4096x64) : Tab F S_ .i32 → Tab F S4096x64 .i32) (((constantI S_ 32 16#32) : Tab F S_ .i32))))))

/-- The value of `call0_call0_call0_v128`. -/
def val_t_v128 : Tab F S4096x64 .i32 := step16_t_v128 (F := F) (val_t_v115 F) (val_t_v121 F)

/-- The value of `call0_call0_call0_v129` from what the stretch finds. -/
def step17_t_v129 (t_v122 : Tab F S4096x64 .i32) (t_v128 : Tab F S4096x64 .i32) : Tab F S4096x64 .i32 :=
  ((addi : Tab F S4096x64 .i32 → Tab F S4096x64 .i32 → Tab F S4096x64 .i32) t_v122 t_v128)

/-- The value of `call0_call0_call0_v129`. -/
def val_t_v129 : Tab F S4096x64 .i32 := step17_t_v129 (F := F) (val_t_v122 F) (val_t_v128 F)

/-- The value of `call0_call0_call0_v135` from what the stretch finds. -/
def step17_t_v135 (t_v122 : Tab F S4096x64 .i32) (t_v128 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v122 t_v128) ((ori : Tab F S4096x64 .i32 → Tab F S4096x64 .i32 → Tab F S4096x64 .i32) ((Host.shli : Tab F S4096x64 .i32 → Tab F S4096x64 .i32 → Tab F S4096x64 .i32) t_v128 (((broadcastInDim S4096x64 ![] bcast_S_S4096x64) : Tab F S_ .i32 → Tab F S4096x64 .i32) (((constantI S_ 32 24#32) : Tab F S_ .i32)))) ((Host.shrui : Tab F S4096x64 .i32 → Tab F S4096x64 .i32 → Tab F S4096x64 .i32) t_v128 (((broadcastInDim S4096x64 ![] bcast_S_S4096x64) : Tab F S_ .i32 → Tab F S4096x64 .i32) (((constantI S_ 32 8#32) : Tab F S_ .i32))))))

/-- The value of `call0_call0_call0_v135`. -/
def val_t_v135 : Tab F S4096x64 .i32 := step17_t_v135 (F := F) (val_t_v122 F) (val_t_v128 F)

/-- The value of `call0_call0_call0_v142` from what the stretch finds. -/
def step18_t_v142 (v_v6 : Tab F S_ .i32) (t_v1 : Tab F S_ .i32) (t_v129 : Tab F S4096x64 .i32) (t_v135 : Tab F S4096x64 .i32) : Tab F S4096x64 .i32 :=
  ((addi : Tab F S4096x64 .i32 → Tab F S4096x64 .i32 → Tab F S4096x64 .i32) ((addi : Tab F S4096x64 .i32 → Tab F S4096x64 .i32 → Tab F S4096x64 .i32) t_v129 (((broadcastInDim S4096x64 ![] bcast_S_S4096x64) : Tab F S_ .i32 → Tab F S4096x64 .i32) v_v6)) ((addi : Tab F S4096x64 .i32 → Tab F S4096x64 .i32 → Tab F S4096x64 .i32) ((addi : Tab F S4096x64 .i32 → Tab F S4096x64 .i32 → Tab F S4096x64 .i32) t_v135 (((broadcastInDim S4096x64 ![] bcast_S_S4096x64) : Tab F S_ .i32 → Tab F S4096x64 .i32) t_v1)) (((broadcastInDim S4096x64 ![] bcast_S_S4096x64) : Tab F S_ .i32 → Tab F S4096x64 .i32) (((constantI S_ 32 4#32) : Tab F S_ .i32)))))

/-- The value of `call0_call0_call0_v142`. -/
def val_t_v142 : Tab F S4096x64 .i32 := step18_t_v142 (F := F) (val_v_v6 F) (val_t_v1 F) (val_t_v129 F) (val_t_v135 F)

/-- The value of `call0_call0_call0_v148` from what the stretch finds. -/
def step18_t_v148 (v_v6 : Tab F S_ .i32) (t_v1 : Tab F S_ .i32) (t_v129 : Tab F S4096x64 .i32) (t_v135 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v129 (((broadcastInDim S4096x64 ![] bcast_S_S4096x64) : Tab F S_ .i32 → Tab F S4096x64 .i32) v_v6)) ((addi : Tab F S4096x64 .i32 → Tab F S4096x64 .i32 → Tab F S4096x64 .i32) ((addi : Tab F S4096x64 .i32 → Tab F S4096x64 .i32 → Tab F S4096x64 .i32) t_v135 (((broadcastInDim S4096x64 ![] bcast_S_S4096x64) : Tab F S_ .i32 → Tab F S4096x64 .i32) t_v1)) (((broadcastInDim S4096x64 ![] bcast_S_S4096x64) : Tab F S_ .i32 → Tab F S4096x64 .i32) (((constantI S_ 32 4#32) : Tab F S_ .i32))))) ((ori : Tab F S4096x64 .i32 → Tab F S4096x64 .i32 → Tab F S4096x64 .i32) ((Host.shli : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v135 (((broadcastInDim S4096x64 ![] bcast_S_S4096x64) : Tab F S_ .i32 → Tab F S4096x64 .i32) t_v1)) (((broadcastInDim S4096x64 ![] bcast_S_S4096x64) : Tab F S_ .i32 → Tab F S4096x64 .i32) (((constantI S_ 32 4#32) : Tab F S_ .i32)))) (((broadcastInDim S4096x64 ![] bcast_S_S4096x64) : Tab F S_ .i32 → Tab F S4096x64 .i32) (((constantI S_ 32 13#32) : Tab F S_ .i32)))) ((Host.shrui : Tab F S4096x64 .i32 → Tab F S4096x64 .i32 → Tab F S4096x64 .i32) ((addi : Tab F S4096x64 .i32 → Tab F S4096x64 .i32 → Tab F S4096x64 .i32) ((addi : Tab F S4096x64 .i32 → Tab F S4096x64 .i32 → Tab F S4096x64 .i32) t_v135 (((broadcastInDim S4096x64 ![] bcast_S_S4096x64) : Tab F S_ .i32 → Tab F S4096x64 .i32) t_v1)) (((broadcastInDim S4096x64 ![] bcast_S_S4096x64) : Tab F S_ .i32 → Tab F S4096x64 .i32) (((constantI S_ 32 4#32) : Tab F S_ .i32)))) (((broadcastInDim S4096x64 ![] bcast_S_S4096x64) : Tab F S_ .i32 → Tab F S4096x64 .i32) (((constantI S_ 32 19#32) : Tab F S_ .i32))))))

/-- The value of `call0_call0_call0_v148`. -/
def val_t_v148 : Tab F S4096x64 .i32 := step18_t_v148 (F := F) (val_v_v6 F) (val_t_v1 F) (val_t_v129 F) (val_t_v135 F)

/-- The value of `call0_call0_call0_v149` from what the stretch finds. -/
def step19_t_v149 (t_v142 : Tab F S4096x64 .i32) (t_v148 : Tab F S4096x64 .i32) : Tab F S4096x64 .i32 :=
  ((addi : Tab F S4096x64 .i32 → Tab F S4096x64 .i32 → Tab F S4096x64 .i32) t_v142 t_v148)

/-- The value of `call0_call0_call0_v149`. -/
def val_t_v149 : Tab F S4096x64 .i32 := step19_t_v149 (F := F) (val_t_v142 F) (val_t_v148 F)

/-- The value of `call0_call0_call0_v155` from what the stretch finds. -/
def step19_t_v155 (t_v142 : Tab F S4096x64 .i32) (t_v148 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v142 t_v148) ((ori : Tab F S4096x64 .i32 → Tab F S4096x64 .i32 → Tab F S4096x64 .i32) ((Host.shli : Tab F S4096x64 .i32 → Tab F S4096x64 .i32 → Tab F S4096x64 .i32) t_v148 (((broadcastInDim S4096x64 ![] bcast_S_S4096x64) : Tab F S_ .i32 → Tab F S4096x64 .i32) (((constantI S_ 32 15#32) : Tab F S_ .i32)))) ((Host.shrui : Tab F S4096x64 .i32 → Tab F S4096x64 .i32 → Tab F S4096x64 .i32) t_v148 (((broadcastInDim S4096x64 ![] bcast_S_S4096x64) : Tab F S_ .i32 → Tab F S4096x64 .i32) (((constantI S_ 32 17#32) : Tab F S_ .i32))))))

/-- The value of `call0_call0_call0_v155`. -/
def val_t_v155 : Tab F S4096x64 .i32 := step19_t_v155 (F := F) (val_t_v142 F) (val_t_v148 F)

/-- The value of `call0_call0_call0_v156` from what the stretch finds. -/
def step20_t_v156 (t_v149 : Tab F S4096x64 .i32) (t_v155 : Tab F S4096x64 .i32) : Tab F S4096x64 .i32 :=
  ((addi : Tab F S4096x64 .i32 → Tab F S4096x64 .i32 → Tab F S4096x64 .i32) t_v149 t_v155)

/-- The value of `call0_call0_call0_v156`. -/
def val_t_v156 : Tab F S4096x64 .i32 := step20_t_v156 (F := F) (val_t_v149 F) (val_t_v155 F)

/-- The value of `call0_call0_call0_v162` from what the stretch finds. -/
def step20_t_v162 (t_v149 : Tab F S4096x64 .i32) (t_v155 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v149 t_v155) ((ori : Tab F S4096x64 .i32 → Tab F S4096x64 .i32 → Tab F S4096x64 .i32) ((Host.shli : Tab F S4096x64 .i32 → Tab F S4096x64 .i32 → Tab F S4096x64 .i32) t_v155 (((broadcastInDim S4096x64 ![] bcast_S_S4096x64) : Tab F S_ .i32 → Tab F S4096x64 .i32) (((constantI S_ 32 26#32) : Tab F S_ .i32)))) ((Host.shrui : Tab F S4096x64 .i32 → Tab F S4096x64 .i32 → Tab F S4096x64 .i32) t_v155 (((broadcastInDim S4096x64 ![] bcast_S_S4096x64) : Tab F S_ .i32 → Tab F S4096x64 .i32) (((constantI S_ 32 6#32) : Tab F S_ .i32))))))

/-- The value of `call0_call0_call0_v162`. -/
def val_t_v162 : Tab F S4096x64 .i32 := step20_t_v162 (F := F) (val_t_v149 F) (val_t_v155 F)

/-- The value of `call0_call0_call0_v163` from what the stretch finds. -/
def step21_t_v163 (t_v156 : Tab F S4096x64 .i32) (t_v162 : Tab F S4096x64 .i32) : Tab F S4096x64 .i32 :=
  ((addi : Tab F S4096x64 .i32 → Tab F S4096x64 .i32 → Tab F S4096x64 .i32) t_v156 t_v162)

/-- The value of `call0_call0_call0_v163`. -/
def val_t_v163 : Tab F S4096x64 .i32 := step21_t_v163 (F := F) (val_t_v156 F) (val_t_v162 F)

/-- The value of `call0_call0_call0_v169` from what the stretch finds. -/
def step21_t_v169 (t_v156 : Tab F S4096x64 .i32) (t_v162 : Tab F S4096x64 .i32) : Tab F S4096x64 .i32 :=
  ((xori : Tab F S4096x64 .i32 → Tab F S4096x64 .i32 → Tab F S4096x64 .i32) ((addi : Tab F S4096x64 .i32 → Tab F S4096x64 .i32 → Tab F S4096x64 .i32) t_v156 t_v162) ((ori : Tab F S4096x64 .i32 → Tab F S4096x64 .i32 → Tab F S4096x64 .i32) ((Host.shli : Tab F S4096x64 .i32 → Tab F S4096x64 .i32 → Tab F S4096x64 .i32) t_v162 (((broadcastInDim S4096x64 ![] bcast_S_S4096x64) : Tab F S_ .i32 → Tab F S4096x64 .i32) (((constantI S_ 32 6#32) : Tab F S_ .i32)))) ((Host.shrui : Tab F S4096x64 .i32 → Tab F S4096x64 .i32 → Tab F S4096x64 .i32) t_v162 (((broadcastInDim S4096x64 ![] bcast_S_S4096x64) : Tab F S_ .i32 → Tab F S4096x64 .i32) (((constantI S_ 32 26#32) : Tab F S_ .i32))))))

/-- The value of `call0_call0_call0_v169`. -/
def val_t_v169 : Tab F S4096x64 .i32 := step21_t_v169 (F := F) (val_t_v156 F) (val_t_v162 F)

/-- The value of `call0_call0_v18_0` from what the stretch finds. -/
def step22_v_v18_0 (t_v1 : Tab F S_ .i32) (t_v163 : Tab F S4096x64 .i32) : Tab F S4096x64 .i32 :=
  ((addi : Tab F S4096x64 .i32 → Tab F S4096x64 .i32 → Tab F S4096x64 .i32) t_v163 (((broadcastInDim S4096x64 ![] bcast_S_S4096x64) : Tab F S_ .i32 → Tab F S4096x64 .i32) t_v1))

/-- The value of `call0_call0_v18_0`. -/
def val_v_v18_0 : Tab F S4096x64 .i32 := step22_v_v18_0 (F := F) (val_t_v1 F) (val_t_v163 F)

/-- The value of `call0_call0_v18_1` from what the stretch finds. -/
def step22_v_v18_1 (v_v4 : Tab F S_ .i32) (t_v169 : Tab F S4096x64 .i32) : Tab F S4096x64 .i32 :=
  ((addi : Tab F S4096x64 .i32 → Tab F S4096x64 .i32 → Tab F S4096x64 .i32) ((addi : Tab F S4096x64 .i32 → Tab F S4096x64 .i32 → Tab F S4096x64 .i32) t_v169 (((broadcastInDim S4096x64 ![] bcast_S_S4096x64) : Tab F S_ .i32 → Tab F S4096x64 .i32) v_v4)) (((broadcastInDim S4096x64 ![] bcast_S_S4096x64) : Tab F S_ .i32 → Tab F S4096x64 .i32) (((constantI S_ 32 5#32) : Tab F S_ .i32))))

/-- The value of `call0_call0_v18_1`. -/
def val_v_v18_1 : Tab F S4096x64 .i32 := step22_v_v18_1 (F := F) (val_v_v4 F) (val_t_v169 F)

/-- The value of `call0_call0_v24` from what the stretch finds. -/
def step23_v_v24 (v_v18_0 : Tab F S4096x64 .i32) (v_v18_1 : Tab F S4096x64 .i32) : Tab F S4096x64 .f32 :=
  (((bitcastToFloat .f32) : Tab F S4096x64 .i32 → Tab F S4096x64 .f32) ((ori : Tab F S4096x64 .i32 → Tab F S4096x64 .i32 → Tab F S4096x64 .i32) ((Host.shrui : Tab F S4096x64 .i32 → Tab F S4096x64 .i32 → Tab F S4096x64 .i32) ((xori : Tab F S4096x64 .i32 → Tab F S4096x64 .i32 → Tab F S4096x64 .i32) v_v18_0 v_v18_1) (((broadcastInDim S4096x64 ![] bcast_S_S4096x64) : Tab F S_ .i32 → Tab F S4096x64 .i32) (((constantI S_ 32 9#32) : Tab F S_ .i32)))) (((broadcastInDim S4096x64 ![] bcast_S_S4096x64) : Tab F S_ .i32 → Tab F S4096x64 .i32) (((constantI S_ 32 1065353216#32) : Tab F S_ .i32)))))

/-- The value of `call0_call0_v24`. -/
def val_v_v24 : Tab F S4096x64 .f32 := step23_v_v24 (F := F) (val_v_v18_0 F) (val_v_v18_1 F)

/-- The value of `v7` from what the stretch finds. -/
def step24_m_v7 (v_v1 : Tab F S1x1 .f32) (v_v2 : Tab F S1x1 .f32) (v_v24 : Tab F S4096x64 .f32) : Tab F S4096x64 .f32 :=
  ((Host.negf : Tab F S4096x64 .f32 → Tab F S4096x64 .f32) ((Host.log : Tab F S4096x64 .f32 → Tab F S4096x64 .f32) ((Host.negf : Tab F S4096x64 .f32 → Tab F S4096x64 .f32) ((Host.log : Tab F S4096x64 .f32 → Tab F S4096x64 .f32) ((maximumf : Tab F S4096x64 .f32 → Tab F S4096x64 .f32 → Tab F S4096x64 .f32) (((broadcastInDim S4096x64 ![0, 1] bcast_S1x1_S4096x64_0_1) : Tab F S1x1 .f32 → Tab F S4096x64 .f32) v_v1) ((addf : Tab F S4096x64 .f32 → Tab F S4096x64 .f32 → Tab F S4096x64 .f32) ((mulf : Tab F S4096x64 .f32 → Tab F S4096x64 .f32 → Tab F S4096x64 .f32) ((subf : Tab F S4096x64 .f32 → Tab F S4096x64 .f32 → Tab F S4096x64 .f32) v_v24 (((broadcastInDim S4096x64 ![] bcast_S_S4096x64) : Tab F S_ .f32 → Tab F S4096x64 .f32) (((constant S_ .f32 0x3F800000#32) : Tab F S_ .f32)))) (((broadcastInDim S4096x64 ![0, 1] bcast_S1x1_S4096x64_0_1) : Tab F S1x1 .f32 → Tab F S4096x64 .f32) ((subf : Tab F S1x1 .f32 → Tab F S1x1 .f32 → Tab F S1x1 .f32) v_v2 v_v1))) (((broadcastInDim S4096x64 ![0, 1] bcast_S1x1_S4096x64_0_1) : Tab F S1x1 .f32 → Tab F S4096x64 .f32) v_v1)))))))

/-- The value of `v7`. -/
def val_m_v7 : Tab F S4096x64 .f32 := step24_m_v7 (F := F) (val_v_v1 F) (val_v_v2 F) (val_v_v24 F)

end Cert.Noise

end
-- ==== Proof.Reference.Draw.lean ====
/- The draw of the noise table by the reference: its operations stretch by stretch, and that they leave the table of `Cert.Noise`. -/
module

public import proofs.«01_k».proof.Proof.Noise
public import proofs.«01_k».proof.Proof.Gen.ReferenceIdeal
public import Idealize.ShloMosaic.Lib.StableHlo.Run
public import Idealize.ShloMosaic.Lib.StableHlo.RunRead
public import Idealize.ShloMosaic.Lib.Pipeline.Frame
public import Idealize.ShloMosaic.Lib.Pipeline.RegionsLoop

@[expose] public section

set_option maxRecDepth 16384

noncomputable section

namespace Cert.ReferenceIdeal.Draw

open Cert.ReferenceIdeal Cert.ReferenceIdeal.Gen
open Idealize.ShloMosaic Idealize.ShloMosaic.TcCoe Idealize.ShloMosaic.StableHlo
variable {F : FTy → Type} [FloatOps F]

/-! ## The operations -/

/-- Stretch 0 of the draw. -/
abbrev draw0 : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

/-- Stretch 1 of the draw. -/
abbrev draw1 : List (HloOp τ sig (Elt F)) :=
  [ TRef.nullary (.of main_call0_cst : TRef sig ⟨S_, .f32⟩) (constant S_ .f32 0x3F800000#32),
    TRef.nullary (.of main_call0_cst_0 : TRef sig ⟨S_, .f32⟩) (constant S_ .f32 0x00800000#32),
    TRef.unary (.of main_call0_cst : TRef sig ⟨S_, .f32⟩) (.of main_call0_call0_v0 : TRef sig ⟨S_, .f32⟩) id,
    TRef.unary (.of main_call0_cst_0 : TRef sig ⟨S_, .f32⟩) (.of main_call0_call0_v1 : TRef sig ⟨S1x1, .f32⟩) (broadcastInDim S1x1 ![] bcast_S_S1x1),
    TRef.unary (.of main_call0_call0_v0 : TRef sig ⟨S_, .f32⟩) (.of main_call0_call0_v2 : TRef sig ⟨S1x1, .f32⟩) (broadcastInDim S1x1 ![] bcast_S_S1x1),
    TRef.unary (.of main_v6 : TRef sig ⟨S2, .i32⟩) (.of main_call0_call0_v3 : TRef sig ⟨S1, .i32⟩) (extractStridedSlice S1 ![0] · slices_S2_S1_0),
    TRef.reshape (.of main_call0_call0_v3 : TRef sig ⟨S1, .i32⟩) (.of main_call0_call0_v4 : TRef sig ⟨S_, .i32⟩) (rfl : (.i32 : EltTy) = .i32) shapeCasts_S1_S_,
    TRef.unary (.of main_v6 : TRef sig ⟨S2, .i32⟩) (.of main_call0_call0_v5 : TRef sig ⟨S1, .i32⟩) (extractStridedSlice S1 ![1] · slices_S2_S1_1),
    TRef.reshape (.of main_call0_call0_v5 : TRef sig ⟨S1, .i32⟩) (.of main_call0_call0_v6 : TRef sig ⟨S_, .i32⟩) (rfl : (.i32 : EltTy) = .i32) shapeCasts_S1_S_,
    TRef.nullary (.of main_call0_call0_v7 : TRef sig ⟨S4096x64, .i64⟩) (iotaInDim S4096x64 64 0),
    TRef.nullary (.of main_call0_call0_v8 : TRef sig ⟨S4096x64, .i64⟩) (iotaInDim S4096x64 64 1),
    TRef.nullary (.of main_call0_call0_c : TRef sig ⟨S_, .i64⟩) (constantI S_ 64 64#64),
    TRef.unary (.of main_call0_call0_c : TRef sig ⟨S_, .i64⟩) (.of main_call0_call0_v9 : TRef sig ⟨S4096x64, .i64⟩) (broadcastInDim S4096x64 ![] bcast_S_S4096x64),
    TRef.binary (.of main_call0_call0_v9 : TRef sig ⟨S4096x64, .i64⟩) (.of main_call0_call0_v7 : TRef sig ⟨S4096x64, .i64⟩) (.of main_call0_call0_v10 : TRef sig ⟨S4096x64, .i64⟩) muli,
    TRef.nullary (.of main_call0_call0_c_0 : TRef sig ⟨S_, .i64⟩) (constantI S_ 64 1#64),
    TRef.unary (.of main_call0_call0_c_0 : TRef sig ⟨S_, .i64⟩) (.of main_call0_call0_v11 : TRef sig ⟨S4096x64, .i64⟩) (broadcastInDim S4096x64 ![] bcast_S_S4096x64),
    TRef.binary (.of main_call0_call0_v11 : TRef sig ⟨S4096x64, .i64⟩) (.of main_call0_call0_v8 : TRef sig ⟨S4096x64, .i64⟩) (.of main_call0_call0_v12 : TRef sig ⟨S4096x64, .i64⟩) muli,
    TRef.binary (.of main_call0_call0_v10 : TRef sig ⟨S4096x64, .i64⟩) (.of main_call0_call0_v12 : TRef sig ⟨S4096x64, .i64⟩) (.of main_call0_call0_v13 : TRef sig ⟨S4096x64, .i64⟩) addi,
    TRef.nullary (.of main_call0_call0_c_1 : TRef sig ⟨S_, .i64⟩) (constantI S_ 64 32#64),
    TRef.unary (.of main_call0_call0_c_1 : TRef sig ⟨S_, .i64⟩) (.of main_call0_call0_v14 : TRef sig ⟨S4096x64, .i64⟩) (broadcastInDim S4096x64 ![] bcast_S_S4096x64),
    TRef.binary (.of main_call0_call0_v13 : TRef sig ⟨S4096x64, .i64⟩) (.of main_call0_call0_v14 : TRef sig ⟨S4096x64, .i64⟩) (.of main_call0_call0_v15 : TRef sig ⟨S4096x64, .i64⟩) Host.shrui,
    TRef.unary (.of main_call0_call0_v13 : TRef sig ⟨S4096x64, .i64⟩) (.of main_call0_call0_v16 : TRef sig ⟨S4096x64, .i32⟩) (trunci 32 · natLt_32_64),
    TRef.unary (.of main_call0_call0_v15 : TRef sig ⟨S4096x64, .i64⟩) (.of main_call0_call0_v17 : TRef sig ⟨S4096x64, .i32⟩) (trunci 32 · natLt_32_64) ]

/-- Stretch 2 of the draw. -/
abbrev draw2 : List (HloOp τ sig (Elt F)) :=
  [ TRef.binary (.of main_call0_call0_v4 : TRef sig ⟨S_, .i32⟩) (.of main_call0_call0_v6 : TRef sig ⟨S_, .i32⟩) (.of main_call0_call0_call0_v0 : TRef sig ⟨S_, .i32⟩) xori,
    TRef.nullary (.of main_call0_call0_call0_c : TRef sig ⟨S_, .i32⟩) (constantI S_ 32 466688986#32),
    TRef.binary (.of main_call0_call0_call0_v0 : TRef sig ⟨S_, .i32⟩) (.of main_call0_call0_call0_c : TRef sig ⟨S_, .i32⟩) (.of main_call0_call0_call0_v1 : TRef sig ⟨S_, .i32⟩) xori,
    TRef.unary (.of main_call0_call0_v4 : TRef sig ⟨S_, .i32⟩) (.of main_call0_call0_call0_v2 : TRef sig ⟨S4096x64, .i32⟩) (broadcastInDim S4096x64 ![] bcast_S_S4096x64),
    TRef.binary (.of main_call0_call0_v17 : TRef sig ⟨S4096x64, .i32⟩) (.of main_call0_call0_call0_v2 : TRef sig ⟨S4096x64, .i32⟩) (.of main_call0_call0_call0_v3 : TRef sig ⟨S4096x64, .i32⟩) addi,
    TRef.unary (.of main_call0_call0_v6 : TRef sig ⟨S_, .i32⟩) (.of main_call0_call0_call0_v4 : TRef sig ⟨S4096x64, .i32⟩) (broadcastInDim S4096x64 ![] bcast_S_S4096x64),
    TRef.binary (.of main_call0_call0_v16 : TRef sig ⟨S4096x64, .i32⟩) (.of main_call0_call0_call0_v4 : TRef sig ⟨S4096x64, .i32⟩) (.of main_call0_call0_call0_v5 : TRef sig ⟨S4096x64, .i32⟩) addi,
    TRef.binary (.of main_call0_call0_call0_v3 : TRef sig ⟨S4096x64, .i32⟩) (.of main_call0_call0_call0_v5 : TRef sig ⟨S4096x64, .i32⟩) (.of main_call0_call0_call0_v6 : TRef sig ⟨S4096x64, .i32⟩) addi,
    TRef.nullary (.of main_call0_call0_call0_c_0 : TRef sig ⟨S_, .i32⟩) (constantI S_ 32 13#32),
    TRef.unary (.of main_call0_call0_call0_c_0 : TRef sig ⟨S_, .i32⟩) (.of main_call0_call0_call0_v7 : TRef sig ⟨S4096x64, .i32⟩) (broadcastInDim S4096x64 ![] bcast_S_S4096x64),
    TRef.binary (.of main_call0_call0_call0_v5 : TRef sig ⟨S4096x64, .i32⟩) (.of main_call0_call0_call0_v7 : TRef sig ⟨S4096x64, .i32⟩) (.of main_call0_call0_call0_v8 : TRef sig ⟨S4096x64, .i32⟩) Host.shli,
    TRef.nullary (.of main_call0_call0_call0_c_1 : TRef sig ⟨S_, .i32⟩) (constantI S_ 32 19#32),
    TRef.unary (.of main_call0_call0_call0_c_1 : TRef sig ⟨S_, .i32⟩) (.of main_call0_call0_call0_v9 : TRef sig ⟨S4096x64, .i32⟩) (broadcastInDim S4096x64 ![] bcast_S_S4096x64),
    TRef.binary (.of main_call0_call0_call0_v5 : TRef sig ⟨S4096x64, .i32⟩) (.of main_call0_call0_call0_v9 : TRef sig ⟨S4096x64, .i32⟩) (.of main_call0_call0_call0_v10 : TRef sig ⟨S4096x64, .i32⟩) Host.shrui,
    TRef.binary (.of main_call0_call0_call0_v8 : TRef sig ⟨S4096x64, .i32⟩) (.of main_call0_call0_call0_v10 : TRef sig ⟨S4096x64, .i32⟩) (.of main_call0_call0_call0_v11 : TRef sig ⟨S4096x64, .i32⟩) ori,
    TRef.binary (.of main_call0_call0_call0_v6 : TRef sig ⟨S4096x64, .i32⟩) (.of main_call0_call0_call0_v11 : TRef sig ⟨S4096x64, .i32⟩) (.of main_call0_call0_call0_v12 : TRef sig ⟨S4096x64, .i32⟩) xori ]

/-- Stretch 3 of the draw. -/
abbrev draw3 : List (HloOp τ sig (Elt F)) :=
  [ TRef.binary (.of main_call0_call0_call0_v6 : TRef sig ⟨S4096x64, .i32⟩) (.of main_call0_call0_call0_v12 : TRef sig ⟨S4096x64, .i32⟩) (.of main_call0_call0_call0_v13 : TRef sig ⟨S4096x64, .i32⟩) addi,
    TRef.nullary (.of main_call0_call0_call0_c_2 : TRef sig ⟨S_, .i32⟩) (constantI S_ 32 15#32),
    TRef.unary (.of main_call0_call0_call0_c_2 : TRef sig ⟨S_, .i32⟩) (.of main_call0_call0_call0_v14 : TRef sig ⟨S4096x64, .i32⟩) (broadcastInDim S4096x64 ![] bcast_S_S4096x64),
    TRef.binary (.of main_call0_call0_call0_v12 : TRef sig ⟨S4096x64, .i32⟩) (.of main_call0_call0_call0_v14 : TRef sig ⟨S4096x64, .i32⟩) (.of main_call0_call0_call0_v15 : TRef sig ⟨S4096x64, .i32⟩) Host.shli,
    TRef.nullary (.of main_call0_call0_call0_c_3 : TRef sig ⟨S_, .i32⟩) (constantI S_ 32 17#32),
    TRef.unary (.of main_call0_call0_call0_c_3 : TRef sig ⟨S_, .i32⟩) (.of main_call0_call0_call0_v16 : TRef sig ⟨S4096x64, .i32⟩) (broadcastInDim S4096x64 ![] bcast_S_S4096x64),
    TRef.binary (.of main_call0_call0_call0_v12 : TRef sig ⟨S4096x64, .i32⟩) (.of main_call0_call0_call0_v16 : TRef sig ⟨S4096x64, .i32⟩) (.of main_call0_call0_call0_v17 : TRef sig ⟨S4096x64, .i32⟩) Host.shrui,
    TRef.binary (.of main_call0_call0_call0_v15 : TRef sig ⟨S4096x64, .i32⟩) (.of main_call0_call0_call0_v17 : TRef sig ⟨S4096x64, .i32⟩) (.of main_call0_call0_call0_v18 : TRef sig ⟨S4096x64, .i32⟩) ori,
    TRef.binary (.of main_call0_call0_call0_v13 : TRef sig ⟨S4096x64, .i32⟩) (.of main_call0_call0_call0_v18 : TRef sig ⟨S4096x64, .i32⟩) (.of main_call0_call0_call0_v19 : TRef sig ⟨S4096x64, .i32⟩) xori ]

/-- Stretch 4 of the draw. -/
abbrev draw4 : List (HloOp τ sig (Elt F)) :=
  [ TRef.binary (.of main_call0_call0_call0_v13 : TRef sig ⟨S4096x64, .i32⟩) (.of main_call0_call0_call0_v19 : TRef sig ⟨S4096x64, .i32⟩) (.of main_call0_call0_call0_v20 : TRef sig ⟨S4096x64, .i32⟩) addi,
    TRef.nullary (.of main_call0_call0_call0_c_4 : TRef sig ⟨S_, .i32⟩) (constantI S_ 32 26#32),
    TRef.unary (.of main_call0_call0_call0_c_4 : TRef sig ⟨S_, .i32⟩) (.of main_call0_call0_call0_v21 : TRef sig ⟨S4096x64, .i32⟩) (broadcastInDim S4096x64 ![] bcast_S_S4096x64),
    TRef.binary (.of main_call0_call0_call0_v19 : TRef sig ⟨S4096x64, .i32⟩) (.of main_call0_call0_call0_v21 : TRef sig ⟨S4096x64, .i32⟩) (.of main_call0_call0_call0_v22 : TRef sig ⟨S4096x64, .i32⟩) Host.shli,
    TRef.nullary (.of main_call0_call0_call0_c_5 : TRef sig ⟨S_, .i32⟩) (constantI S_ 32 6#32),
    TRef.unary (.of main_call0_call0_call0_c_5 : TRef sig ⟨S_, .i32⟩) (.of main_call0_call0_call0_v23 : TRef sig ⟨S4096x64, .i32⟩) (broadcastInDim S4096x64 ![] bcast_S_S4096x64),
    TRef.binary (.of main_call0_call0_call0_v19 : TRef sig ⟨S4096x64, .i32⟩) (.of main_call0_call0_call0_v23 : TRef sig ⟨S4096x64, .i32⟩) (.of main_call0_call0_call0_v24 : TRef sig ⟨S4096x64, .i32⟩) Host.shrui,
    TRef.binary (.of main_call0_call0_call0_v22 : TRef sig ⟨S4096x64, .i32⟩) (.of main_call0_call0_call0_v24 : TRef sig ⟨S4096x64, .i32⟩) (.of main_call0_call0_call0_v25 : TRef sig ⟨S4096x64, .i32⟩) ori,
    TRef.binary (.of main_call0_call0_call0_v20 : TRef sig ⟨S4096x64, .i32⟩) (.of main_call0_call0_call0_v25 : TRef sig ⟨S4096x64, .i32⟩) (.of main_call0_call0_call0_v26 : TRef sig ⟨S4096x64, .i32⟩) xori ]

/-- Stretch 5 of the draw. -/
abbrev draw5 : List (HloOp τ sig (Elt F)) :=
  [ TRef.binary (.of main_call0_call0_call0_v20 : TRef sig ⟨S4096x64, .i32⟩) (.of main_call0_call0_call0_v26 : TRef sig ⟨S4096x64, .i32⟩) (.of main_call0_call0_call0_v27 : TRef sig ⟨S4096x64, .i32⟩) addi,
    TRef.nullary (.of main_call0_call0_call0_c_6 : TRef sig ⟨S_, .i32⟩) (constantI S_ 32 6#32),
    TRef.unary (.of main_call0_call0_call0_c_6 : TRef sig ⟨S_, .i32⟩) (.of main_call0_call0_call0_v28 : TRef sig ⟨S4096x64, .i32⟩) (broadcastInDim S4096x64 ![] bcast_S_S4096x64),
    TRef.binary (.of main_call0_call0_call0_v26 : TRef sig ⟨S4096x64, .i32⟩) (.of main_call0_call0_call0_v28 : TRef sig ⟨S4096x64, .i32⟩) (.of main_call0_call0_call0_v29 : TRef sig ⟨S4096x64, .i32⟩) Host.shli,
    TRef.nullary (.of main_call0_call0_call0_c_7 : TRef sig ⟨S_, .i32⟩) (constantI S_ 32 26#32),
    TRef.unary (.of main_call0_call0_call0_c_7 : TRef sig ⟨S_, .i32⟩) (.of main_call0_call0_call0_v30 : TRef sig ⟨S4096x64, .i32⟩) (broadcastInDim S4096x64 ![] bcast_S_S4096x64),
    TRef.binary (.of main_call0_call0_call0_v26 : TRef sig ⟨S4096x64, .i32⟩) (.of main_call0_call0_call0_v30 : TRef sig ⟨S4096x64, .i32⟩) (.of main_call0_call0_call0_v31 : TRef sig ⟨S4096x64, .i32⟩) Host.shrui,
    TRef.binary (.of main_call0_call0_call0_v29 : TRef sig ⟨S4096x64, .i32⟩) (.of main_call0_call0_call0_v31 : TRef sig ⟨S4096x64, .i32⟩) (.of main_call0_call0_call0_v32 : TRef sig ⟨S4096x64, .i32⟩) ori,
    TRef.binary (.of main_call0_call0_call0_v27 : TRef sig ⟨S4096x64, .i32⟩) (.of main_call0_call0_call0_v32 : TRef sig ⟨S4096x64, .i32⟩) (.of main_call0_call0_call0_v33 : TRef sig ⟨S4096x64, .i32⟩) xori ]

/-- Stretch 6 of the draw. -/
abbrev draw6 : List (HloOp τ sig (Elt F)) :=
  [ TRef.unary (.of main_call0_call0_v6 : TRef sig ⟨S_, .i32⟩) (.of main_call0_call0_call0_v34 : TRef sig ⟨S4096x64, .i32⟩) (broadcastInDim S4096x64 ![] bcast_S_S4096x64),
    TRef.binary (.of main_call0_call0_call0_v27 : TRef sig ⟨S4096x64, .i32⟩) (.of main_call0_call0_call0_v34 : TRef sig ⟨S4096x64, .i32⟩) (.of main_call0_call0_call0_v35 : TRef sig ⟨S4096x64, .i32⟩) addi,
    TRef.unary (.of main_call0_call0_call0_v1 : TRef sig ⟨S_, .i32⟩) (.of main_call0_call0_call0_v36 : TRef sig ⟨S4096x64, .i32⟩) (broadcastInDim S4096x64 ![] bcast_S_S4096x64),
    TRef.binary (.of main_call0_call0_call0_v33 : TRef sig ⟨S4096x64, .i32⟩) (.of main_call0_call0_call0_v36 : TRef sig ⟨S4096x64, .i32⟩) (.of main_call0_call0_call0_v37 : TRef sig ⟨S4096x64, .i32⟩) addi,
    TRef.nullary (.of main_call0_call0_call0_c_8 : TRef sig ⟨S_, .i32⟩) (constantI S_ 32 1#32),
    TRef.unary (.of main_call0_call0_call0_c_8 : TRef sig ⟨S_, .i32⟩) (.of main_call0_call0_call0_v38 : TRef sig ⟨S4096x64, .i32⟩) (broadcastInDim S4096x64 ![] bcast_S_S4096x64),
    TRef.binary (.of main_call0_call0_call0_v37 : TRef sig ⟨S4096x64, .i32⟩) (.of main_call0_call0_call0_v38 : TRef sig ⟨S4096x64, .i32⟩) (.of main_call0_call0_call0_v39 : TRef sig ⟨S4096x64, .i32⟩) addi,
    TRef.binary (.of main_call0_call0_call0_v35 : TRef sig ⟨S4096x64, .i32⟩) (.of main_call0_call0_call0_v39 : TRef sig ⟨S4096x64, .i32⟩) (.of main_call0_call0_call0_v40 : TRef sig ⟨S4096x64, .i32⟩) addi,
    TRef.nullary (.of main_call0_call0_call0_c_9 : TRef sig ⟨S_, .i32⟩) (constantI S_ 32 17#32),
    TRef.unary (.of main_call0_call0_call0_c_9 : TRef sig ⟨S_, .i32⟩) (.of main_call0_call0_call0_v41 : TRef sig ⟨S4096x64, .i32⟩) (broadcastInDim S4096x64 ![] bcast_S_S4096x64),
    TRef.binary (.of main_call0_call0_call0_v39 : TRef sig ⟨S4096x64, .i32⟩) (.of main_call0_call0_call0_v41 : TRef sig ⟨S4096x64, .i32⟩) (.of main_call0_call0_call0_v42 : TRef sig ⟨S4096x64, .i32⟩) Host.shli,
    TRef.nullary (.of main_call0_call0_call0_c_10 : TRef sig ⟨S_, .i32⟩) (constantI S_ 32 15#32),
    TRef.unary (.of main_call0_call0_call0_c_10 : TRef sig ⟨S_, .i32⟩) (.of main_call0_call0_call0_v43 : TRef sig ⟨S4096x64, .i32⟩) (broadcastInDim S4096x64 ![] bcast_S_S4096x64),
    TRef.binary (.of main_call0_call0_call0_v39 : TRef sig ⟨S4096x64, .i32⟩) (.of main_call0_call0_call0_v43 : TRef sig ⟨S4096x64, .i32⟩) (.of main_call0_call0_call0_v44 : TRef sig ⟨S4096x64, .i32⟩) Host.shrui,
    TRef.binary (.of main_call0_call0_call0_v42 : TRef sig ⟨S4096x64, .i32⟩) (.of main_call0_call0_call0_v44 : TRef sig ⟨S4096x64, .i32⟩) (.of main_call0_call0_call0_v45 : TRef sig ⟨S4096x64, .i32⟩) ori,
    TRef.binary (.of main_call0_call0_call0_v40 : TRef sig ⟨S4096x64, .i32⟩) (.of main_call0_call0_call0_v45 : TRef sig ⟨S4096x64, .i32⟩) (.of main_call0_call0_call0_v46 : TRef sig ⟨S4096x64, .i32⟩) xori ]

/-- Stretch 7 of the draw. -/
abbrev draw7 : List (HloOp τ sig (Elt F)) :=
  [ TRef.binary (.of main_call0_call0_call0_v40 : TRef sig ⟨S4096x64, .i32⟩) (.of main_call0_call0_call0_v46 : TRef sig ⟨S4096x64, .i32⟩) (.of main_call0_call0_call0_v47 : TRef sig ⟨S4096x64, .i32⟩) addi,
    TRef.nullary (.of main_call0_call0_call0_c_11 : TRef sig ⟨S_, .i32⟩) (constantI S_ 32 29#32),
    TRef.unary (.of main_call0_call0_call0_c_11 : TRef sig ⟨S_, .i32⟩) (.of main_call0_call0_call0_v48 : TRef sig ⟨S4096x64, .i32⟩) (broadcastInDim S4096x64 ![] bcast_S_S4096x64),
    TRef.binary (.of main_call0_call0_call0_v46 : TRef sig ⟨S4096x64, .i32⟩) (.of main_call0_call0_call0_v48 : TRef sig ⟨S4096x64, .i32⟩) (.of main_call0_call0_call0_v49 : TRef sig ⟨S4096x64, .i32⟩) Host.shli,
    TRef.nullary (.of main_call0_call0_call0_c_12 : TRef sig ⟨S_, .i32⟩) (constantI S_ 32 3#32),
    TRef.unary (.of main_call0_call0_call0_c_12 : TRef sig ⟨S_, .i32⟩) (.of main_call0_call0_call0_v50 : TRef sig ⟨S4096x64, .i32⟩) (broadcastInDim S4096x64 ![] bcast_S_S4096x64),
    TRef.binary (.of main_call0_call0_call0_v46 : TRef sig ⟨S4096x64, .i32⟩) (.of main_call0_call0_call0_v50 : TRef sig ⟨S4096x64, .i32⟩) (.of main_call0_call0_call0_v51 : TRef sig ⟨S4096x64, .i32⟩) Host.shrui,
    TRef.binary (.of main_call0_call0_call0_v49 : TRef sig ⟨S4096x64, .i32⟩) (.of main_call0_call0_call0_v51 : TRef sig ⟨S4096x64, .i32⟩) (.of main_call0_call0_call0_v52 : TRef sig ⟨S4096x64, .i32⟩) ori,
    TRef.binary (.of main_call0_call0_call0_v47 : TRef sig ⟨S4096x64, .i32⟩) (.of main_call0_call0_call0_v52 : TRef sig ⟨S4096x64, .i32⟩) (.of main_call0_call0_call0_v53 : TRef sig ⟨S4096x64, .i32⟩) xori ]

/-- Stretch 8 of the draw. -/
abbrev draw8 : List (HloOp τ sig (Elt F)) :=
  [ TRef.binary (.of main_call0_call0_call0_v47 : TRef sig ⟨S4096x64, .i32⟩) (.of main_call0_call0_call0_v53 : TRef sig ⟨S4096x64, .i32⟩) (.of main_call0_call0_call0_v54 : TRef sig ⟨S4096x64, .i32⟩) addi,
    TRef.nullary (.of main_call0_call0_call0_c_13 : TRef sig ⟨S_, .i32⟩) (constantI S_ 32 16#32),
    TRef.unary (.of main_call0_call0_call0_c_13 : TRef sig ⟨S_, .i32⟩) (.of main_call0_call0_call0_v55 : TRef sig ⟨S4096x64, .i32⟩) (broadcastInDim S4096x64 ![] bcast_S_S4096x64),
    TRef.binary (.of main_call0_call0_call0_v53 : TRef sig ⟨S4096x64, .i32⟩) (.of main_call0_call0_call0_v55 : TRef sig ⟨S4096x64, .i32⟩) (.of main_call0_call0_call0_v56 : TRef sig ⟨S4096x64, .i32⟩) Host.shli,
    TRef.nullary (.of main_call0_call0_call0_c_14 : TRef sig ⟨S_, .i32⟩) (constantI S_ 32 16#32),
    TRef.unary (.of main_call0_call0_call0_c_14 : TRef sig ⟨S_, .i32⟩) (.of main_call0_call0_call0_v57 : TRef sig ⟨S4096x64, .i32⟩) (broadcastInDim S4096x64 ![] bcast_S_S4096x64),
    TRef.binary (.of main_call0_call0_call0_v53 : TRef sig ⟨S4096x64, .i32⟩) (.of main_call0_call0_call0_v57 : TRef sig ⟨S4096x64, .i32⟩) (.of main_call0_call0_call0_v58 : TRef sig ⟨S4096x64, .i32⟩) Host.shrui,
    TRef.binary (.of main_call0_call0_call0_v56 : TRef sig ⟨S4096x64, .i32⟩) (.of main_call0_call0_call0_v58 : TRef sig ⟨S4096x64, .i32⟩) (.of main_call0_call0_call0_v59 : TRef sig ⟨S4096x64, .i32⟩) ori,
    TRef.binary (.of main_call0_call0_call0_v54 : TRef sig ⟨S4096x64, .i32⟩) (.of main_call0_call0_call0_v59 : TRef sig ⟨S4096x64, .i32⟩) (.of main_call0_call0_call0_v60 : TRef sig ⟨S4096x64, .i32⟩) xori ]

/-- Stretch 9 of the draw. -/
abbrev draw9 : List (HloOp τ sig (Elt F)) :=
  [ TRef.binary (.of main_call0_call0_call0_v54 : TRef sig ⟨S4096x64, .i32⟩) (.of main_call0_call0_call0_v60 : TRef sig ⟨S4096x64, .i32⟩) (.of main_call0_call0_call0_v61 : TRef sig ⟨S4096x64, .i32⟩) addi,
    TRef.nullary (.of main_call0_call0_call0_c_15 : TRef sig ⟨S_, .i32⟩) (constantI S_ 32 24#32),
    TRef.unary (.of main_call0_call0_call0_c_15 : TRef sig ⟨S_, .i32⟩) (.of main_call0_call0_call0_v62 : TRef sig ⟨S4096x64, .i32⟩) (broadcastInDim S4096x64 ![] bcast_S_S4096x64),
    TRef.binary (.of main_call0_call0_call0_v60 : TRef sig ⟨S4096x64, .i32⟩) (.of main_call0_call0_call0_v62 : TRef sig ⟨S4096x64, .i32⟩) (.of main_call0_call0_call0_v63 : TRef sig ⟨S4096x64, .i32⟩) Host.shli,
    TRef.nullary (.of main_call0_call0_call0_c_16 : TRef sig ⟨S_, .i32⟩) (constantI S_ 32 8#32),
    TRef.unary (.of main_call0_call0_call0_c_16 : TRef sig ⟨S_, .i32⟩) (.of main_call0_call0_call0_v64 : TRef sig ⟨S4096x64, .i32⟩) (broadcastInDim S4096x64 ![] bcast_S_S4096x64),
    TRef.binary (.of main_call0_call0_call0_v60 : TRef sig ⟨S4096x64, .i32⟩) (.of main_call0_call0_call0_v64 : TRef sig ⟨S4096x64, .i32⟩) (.of main_call0_call0_call0_v65 : TRef sig ⟨S4096x64, .i32⟩) Host.shrui,
    TRef.binary (.of main_call0_call0_call0_v63 : TRef sig ⟨S4096x64, .i32⟩) (.of main_call0_call0_call0_v65 : TRef sig ⟨S4096x64, .i32⟩) (.of main_call0_call0_call0_v66 : TRef sig ⟨S4096x64, .i32⟩) ori,
    TRef.binary (.of main_call0_call0_call0_v61 : TRef sig ⟨S4096x64, .i32⟩) (.of main_call0_call0_call0_v66 : TRef sig ⟨S4096x64, .i32⟩) (.of main_call0_call0_call0_v67 : TRef sig ⟨S4096x64, .i32⟩) xori ]

/-- Stretch 10 of the draw. -/
abbrev draw10 : List (HloOp τ sig (Elt F)) :=
  [ TRef.unary (.of main_call0_call0_call0_v1 : TRef sig ⟨S_, .i32⟩) (.of main_call0_call0_call0_v68 : TRef sig ⟨S4096x64, .i32⟩) (broadcastInDim S4096x64 ![] bcast_S_S4096x64),
    TRef.binary (.of main_call0_call0_call0_v61 : TRef sig ⟨S4096x64, .i32⟩) (.of main_call0_call0_call0_v68 : TRef sig ⟨S4096x64, .i32⟩) (.of main_call0_call0_call0_v69 : TRef sig ⟨S4096x64, .i32⟩) addi,
    TRef.unary (.of main_call0_call0_v4 : TRef sig ⟨S_, .i32⟩) (.of main_call0_call0_call0_v70 : TRef sig ⟨S4096x64, .i32⟩) (broadcastInDim S4096x64 ![] bcast_S_S4096x64),
    TRef.binary (.of main_call0_call0_call0_v67 : TRef sig ⟨S4096x64, .i32⟩) (.of main_call0_call0_call0_v70 : TRef sig ⟨S4096x64, .i32⟩) (.of main_call0_call0_call0_v71 : TRef sig ⟨S4096x64, .i32⟩) addi,
    TRef.nullary (.of main_call0_call0_call0_c_17 : TRef sig ⟨S_, .i32⟩) (constantI S_ 32 2#32),
    TRef.unary (.of main_call0_call0_call0_c_17 : TRef sig ⟨S_, .i32⟩) (.of main_call0_call0_call0_v72 : TRef sig ⟨S4096x64, .i32⟩) (broadcastInDim S4096x64 ![] bcast_S_S4096x64),
    TRef.binary (.of main_call0_call0_call0_v71 : TRef sig ⟨S4096x64, .i32⟩) (.of main_call0_call0_call0_v72 : TRef sig ⟨S4096x64, .i32⟩) (.of main_call0_call0_call0_v73 : TRef sig ⟨S4096x64, .i32⟩) addi,
    TRef.binary (.of main_call0_call0_call0_v69 : TRef sig ⟨S4096x64, .i32⟩) (.of main_call0_call0_call0_v73 : TRef sig ⟨S4096x64, .i32⟩) (.of main_call0_call0_call0_v74 : TRef sig ⟨S4096x64, .i32⟩) addi,
    TRef.nullary (.of main_call0_call0_call0_c_18 : TRef sig ⟨S_, .i32⟩) (constantI S_ 32 13#32),
    TRef.unary (.of main_call0_call0_call0_c_18 : TRef sig ⟨S_, .i32⟩) (.of main_call0_call0_call0_v75 : TRef sig ⟨S4096x64, .i32⟩) (broadcastInDim S4096x64 ![] bcast_S_S4096x64),
    TRef.binary (.of main_call0_call0_call0_v73 : TRef sig ⟨S4096x64, .i32⟩) (.of main_call0_call0_call0_v75 : TRef sig ⟨S4096x64, .i32⟩) (.of main_call0_call0_call0_v76 : TRef sig ⟨S4096x64, .i32⟩) Host.shli,
    TRef.nullary (.of main_call0_call0_call0_c_19 : TRef sig ⟨S_, .i32⟩) (constantI S_ 32 19#32),
    TRef.unary (.of main_call0_call0_call0_c_19 : TRef sig ⟨S_, .i32⟩) (.of main_call0_call0_call0_v77 : TRef sig ⟨S4096x64, .i32⟩) (broadcastInDim S4096x64 ![] bcast_S_S4096x64),
    TRef.binary (.of main_call0_call0_call0_v73 : TRef sig ⟨S4096x64, .i32⟩) (.of main_call0_call0_call0_v77 : TRef sig ⟨S4096x64, .i32⟩) (.of main_call0_call0_call0_v78 : TRef sig ⟨S4096x64, .i32⟩) Host.shrui,
    TRef.binary (.of main_call0_call0_call0_v76 : TRef sig ⟨S4096x64, .i32⟩) (.of main_call0_call0_call0_v78 : TRef sig ⟨S4096x64, .i32⟩) (.of main_call0_call0_call0_v79 : TRef sig ⟨S4096x64, .i32⟩) ori,
    TRef.binary (.of main_call0_call0_call0_v74 : TRef sig ⟨S4096x64, .i32⟩) (.of main_call0_call0_call0_v79 : TRef sig ⟨S4096x64, .i32⟩) (.of main_call0_call0_call0_v80 : TRef sig ⟨S4096x64, .i32⟩) xori ]

/-- Stretch 11 of the draw. -/
abbrev draw11 : List (HloOp τ sig (Elt F)) :=
  [ TRef.binary (.of main_call0_call0_call0_v74 : TRef sig ⟨S4096x64, .i32⟩) (.of main_call0_call0_call0_v80 : TRef sig ⟨S4096x64, .i32⟩) (.of main_call0_call0_call0_v81 : TRef sig ⟨S4096x64, .i32⟩) addi,
    TRef.nullary (.of main_call0_call0_call0_c_20 : TRef sig ⟨S_, .i32⟩) (constantI S_ 32 15#32),
    TRef.unary (.of main_call0_call0_call0_c_20 : TRef sig ⟨S_, .i32⟩) (.of main_call0_call0_call0_v82 : TRef sig ⟨S4096x64, .i32⟩) (broadcastInDim S4096x64 ![] bcast_S_S4096x64),
    TRef.binary (.of main_call0_call0_call0_v80 : TRef sig ⟨S4096x64, .i32⟩) (.of main_call0_call0_call0_v82 : TRef sig ⟨S4096x64, .i32⟩) (.of main_call0_call0_call0_v83 : TRef sig ⟨S4096x64, .i32⟩) Host.shli,
    TRef.nullary (.of main_call0_call0_call0_c_21 : TRef sig ⟨S_, .i32⟩) (constantI S_ 32 17#32),
    TRef.unary (.of main_call0_call0_call0_c_21 : TRef sig ⟨S_, .i32⟩) (.of main_call0_call0_call0_v84 : TRef sig ⟨S4096x64, .i32⟩) (broadcastInDim S4096x64 ![] bcast_S_S4096x64),
    TRef.binary (.of main_call0_call0_call0_v80 : TRef sig ⟨S4096x64, .i32⟩) (.of main_call0_call0_call0_v84 : TRef sig ⟨S4096x64, .i32⟩) (.of main_call0_call0_call0_v85 : TRef sig ⟨S4096x64, .i32⟩) Host.shrui,
    TRef.binary (.of main_call0_call0_call0_v83 : TRef sig ⟨S4096x64, .i32⟩) (.of main_call0_call0_call0_v85 : TRef sig ⟨S4096x64, .i32⟩) (.of main_call0_call0_call0_v86 : TRef sig ⟨S4096x64, .i32⟩) ori,
    TRef.binary (.of main_call0_call0_call0_v81 : TRef sig ⟨S4096x64, .i32⟩) (.of main_call0_call0_call0_v86 : TRef sig ⟨S4096x64, .i32⟩) (.of main_call0_call0_call0_v87 : TRef sig ⟨S4096x64, .i32⟩) xori ]

/-- Stretch 12 of the draw. -/
abbrev draw12 : List (HloOp τ sig (Elt F)) :=
  [ TRef.binary (.of main_call0_call0_call0_v81 : TRef sig ⟨S4096x64, .i32⟩) (.of main_call0_call0_call0_v87 : TRef sig ⟨S4096x64, .i32⟩) (.of main_call0_call0_call0_v88 : TRef sig ⟨S4096x64, .i32⟩) addi,
    TRef.nullary (.of main_call0_call0_call0_c_22 : TRef sig ⟨S_, .i32⟩) (constantI S_ 32 26#32),
    TRef.unary (.of main_call0_call0_call0_c_22 : TRef sig ⟨S_, .i32⟩) (.of main_call0_call0_call0_v89 : TRef sig ⟨S4096x64, .i32⟩) (broadcastInDim S4096x64 ![] bcast_S_S4096x64),
    TRef.binary (.of main_call0_call0_call0_v87 : TRef sig ⟨S4096x64, .i32⟩) (.of main_call0_call0_call0_v89 : TRef sig ⟨S4096x64, .i32⟩) (.of main_call0_call0_call0_v90 : TRef sig ⟨S4096x64, .i32⟩) Host.shli,
    TRef.nullary (.of main_call0_call0_call0_c_23 : TRef sig ⟨S_, .i32⟩) (constantI S_ 32 6#32),
    TRef.unary (.of main_call0_call0_call0_c_23 : TRef sig ⟨S_, .i32⟩) (.of main_call0_call0_call0_v91 : TRef sig ⟨S4096x64, .i32⟩) (broadcastInDim S4096x64 ![] bcast_S_S4096x64),
    TRef.binary (.of main_call0_call0_call0_v87 : TRef sig ⟨S4096x64, .i32⟩) (.of main_call0_call0_call0_v91 : TRef sig ⟨S4096x64, .i32⟩) (.of main_call0_call0_call0_v92 : TRef sig ⟨S4096x64, .i32⟩) Host.shrui,
    TRef.binary (.of main_call0_call0_call0_v90 : TRef sig ⟨S4096x64, .i32⟩) (.of main_call0_call0_call0_v92 : TRef sig ⟨S4096x64, .i32⟩) (.of main_call0_call0_call0_v93 : TRef sig ⟨S4096x64, .i32⟩) ori,
    TRef.binary (.of main_call0_call0_call0_v88 : TRef sig ⟨S4096x64, .i32⟩) (.of main_call0_call0_call0_v93 : TRef sig ⟨S4096x64, .i32⟩) (.of main_call0_call0_call0_v94 : TRef sig ⟨S4096x64, .i32⟩) xori ]

/-- Stretch 13 of the draw. -/
abbrev draw13 : List (HloOp τ sig (Elt F)) :=
  [ TRef.binary (.of main_call0_call0_call0_v88 : TRef sig ⟨S4096x64, .i32⟩) (.of main_call0_call0_call0_v94 : TRef sig ⟨S4096x64, .i32⟩) (.of main_call0_call0_call0_v95 : TRef sig ⟨S4096x64, .i32⟩) addi,
    TRef.nullary (.of main_call0_call0_call0_c_24 : TRef sig ⟨S_, .i32⟩) (constantI S_ 32 6#32),
    TRef.unary (.of main_call0_call0_call0_c_24 : TRef sig ⟨S_, .i32⟩) (.of main_call0_call0_call0_v96 : TRef sig ⟨S4096x64, .i32⟩) (broadcastInDim S4096x64 ![] bcast_S_S4096x64),
    TRef.binary (.of main_call0_call0_call0_v94 : TRef sig ⟨S4096x64, .i32⟩) (.of main_call0_call0_call0_v96 : TRef sig ⟨S4096x64, .i32⟩) (.of main_call0_call0_call0_v97 : TRef sig ⟨S4096x64, .i32⟩) Host.shli,
    TRef.nullary (.of main_call0_call0_call0_c_25 : TRef sig ⟨S_, .i32⟩) (constantI S_ 32 26#32),
    TRef.unary (.of main_call0_call0_call0_c_25 : TRef sig ⟨S_, .i32⟩) (.of main_call0_call0_call0_v98 : TRef sig ⟨S4096x64, .i32⟩) (broadcastInDim S4096x64 ![] bcast_S_S4096x64),
    TRef.binary (.of main_call0_call0_call0_v94 : TRef sig ⟨S4096x64, .i32⟩) (.of main_call0_call0_call0_v98 : TRef sig ⟨S4096x64, .i32⟩) (.of main_call0_call0_call0_v99 : TRef sig ⟨S4096x64, .i32⟩) Host.shrui,
    TRef.binary (.of main_call0_call0_call0_v97 : TRef sig ⟨S4096x64, .i32⟩) (.of main_call0_call0_call0_v99 : TRef sig ⟨S4096x64, .i32⟩) (.of main_call0_call0_call0_v100 : TRef sig ⟨S4096x64, .i32⟩) ori,
    TRef.binary (.of main_call0_call0_call0_v95 : TRef sig ⟨S4096x64, .i32⟩) (.of main_call0_call0_call0_v100 : TRef sig ⟨S4096x64, .i32⟩) (.of main_call0_call0_call0_v101 : TRef sig ⟨S4096x64, .i32⟩) xori ]

/-- Stretch 14 of the draw. -/
abbrev draw14 : List (HloOp τ sig (Elt F)) :=
  [ TRef.unary (.of main_call0_call0_v4 : TRef sig ⟨S_, .i32⟩) (.of main_call0_call0_call0_v102 : TRef sig ⟨S4096x64, .i32⟩) (broadcastInDim S4096x64 ![] bcast_S_S4096x64),
    TRef.binary (.of main_call0_call0_call0_v95 : TRef sig ⟨S4096x64, .i32⟩) (.of main_call0_call0_call0_v102 : TRef sig ⟨S4096x64, .i32⟩) (.of main_call0_call0_call0_v103 : TRef sig ⟨S4096x64, .i32⟩) addi,
    TRef.unary (.of main_call0_call0_v6 : TRef sig ⟨S_, .i32⟩) (.of main_call0_call0_call0_v104 : TRef sig ⟨S4096x64, .i32⟩) (broadcastInDim S4096x64 ![] bcast_S_S4096x64),
    TRef.binary (.of main_call0_call0_call0_v101 : TRef sig ⟨S4096x64, .i32⟩) (.of main_call0_call0_call0_v104 : TRef sig ⟨S4096x64, .i32⟩) (.of main_call0_call0_call0_v105 : TRef sig ⟨S4096x64, .i32⟩) addi,
    TRef.nullary (.of main_call0_call0_call0_c_26 : TRef sig ⟨S_, .i32⟩) (constantI S_ 32 3#32),
    TRef.unary (.of main_call0_call0_call0_c_26 : TRef sig ⟨S_, .i32⟩) (.of main_call0_call0_call0_v106 : TRef sig ⟨S4096x64, .i32⟩) (broadcastInDim S4096x64 ![] bcast_S_S4096x64),
    TRef.binary (.of main_call0_call0_call0_v105 : TRef sig ⟨S4096x64, .i32⟩) (.of main_call0_call0_call0_v106 : TRef sig ⟨S4096x64, .i32⟩) (.of main_call0_call0_call0_v107 : TRef sig ⟨S4096x64, .i32⟩) addi,
    TRef.binary (.of main_call0_call0_call0_v103 : TRef sig ⟨S4096x64, .i32⟩) (.of main_call0_call0_call0_v107 : TRef sig ⟨S4096x64, .i32⟩) (.of main_call0_call0_call0_v108 : TRef sig ⟨S4096x64, .i32⟩) addi,
    TRef.nullary (.of main_call0_call0_call0_c_27 : TRef sig ⟨S_, .i32⟩) (constantI S_ 32 17#32),
    TRef.unary (.of main_call0_call0_call0_c_27 : TRef sig ⟨S_, .i32⟩) (.of main_call0_call0_call0_v109 : TRef sig ⟨S4096x64, .i32⟩) (broadcastInDim S4096x64 ![] bcast_S_S4096x64),
    TRef.binary (.of main_call0_call0_call0_v107 : TRef sig ⟨S4096x64, .i32⟩) (.of main_call0_call0_call0_v109 : TRef sig ⟨S4096x64, .i32⟩) (.of main_call0_call0_call0_v110 : TRef sig ⟨S4096x64, .i32⟩) Host.shli,
    TRef.nullary (.of main_call0_call0_call0_c_28 : TRef sig ⟨S_, .i32⟩) (constantI S_ 32 15#32),
    TRef.unary (.of main_call0_call0_call0_c_28 : TRef sig ⟨S_, .i32⟩) (.of main_call0_call0_call0_v111 : TRef sig ⟨S4096x64, .i32⟩) (broadcastInDim S4096x64 ![] bcast_S_S4096x64),
    TRef.binary (.of main_call0_call0_call0_v107 : TRef sig ⟨S4096x64, .i32⟩) (.of main_call0_call0_call0_v111 : TRef sig ⟨S4096x64, .i32⟩) (.of main_call0_call0_call0_v112 : TRef sig ⟨S4096x64, .i32⟩) Host.shrui,
    TRef.binary (.of main_call0_call0_call0_v110 : TRef sig ⟨S4096x64, .i32⟩) (.of main_call0_call0_call0_v112 : TRef sig ⟨S4096x64, .i32⟩) (.of main_call0_call0_call0_v113 : TRef sig ⟨S4096x64, .i32⟩) ori,
    TRef.binary (.of main_call0_call0_call0_v108 : TRef sig ⟨S4096x64, .i32⟩) (.of main_call0_call0_call0_v113 : TRef sig ⟨S4096x64, .i32⟩) (.of main_call0_call0_call0_v114 : TRef sig ⟨S4096x64, .i32⟩) xori ]

/-- Stretch 15 of the draw. -/
abbrev draw15 : List (HloOp τ sig (Elt F)) :=
  [ TRef.binary (.of main_call0_call0_call0_v108 : TRef sig ⟨S4096x64, .i32⟩) (.of main_call0_call0_call0_v114 : TRef sig ⟨S4096x64, .i32⟩) (.of main_call0_call0_call0_v115 : TRef sig ⟨S4096x64, .i32⟩) addi,
    TRef.nullary (.of main_call0_call0_call0_c_29 : TRef sig ⟨S_, .i32⟩) (constantI S_ 32 29#32),
    TRef.unary (.of main_call0_call0_call0_c_29 : TRef sig ⟨S_, .i32⟩) (.of main_call0_call0_call0_v116 : TRef sig ⟨S4096x64, .i32⟩) (broadcastInDim S4096x64 ![] bcast_S_S4096x64),
    TRef.binary (.of main_call0_call0_call0_v114 : TRef sig ⟨S4096x64, .i32⟩) (.of main_call0_call0_call0_v116 : TRef sig ⟨S4096x64, .i32⟩) (.of main_call0_call0_call0_v117 : TRef sig ⟨S4096x64, .i32⟩) Host.shli,
    TRef.nullary (.of main_call0_call0_call0_c_30 : TRef sig ⟨S_, .i32⟩) (constantI S_ 32 3#32),
    TRef.unary (.of main_call0_call0_call0_c_30 : TRef sig ⟨S_, .i32⟩) (.of main_call0_call0_call0_v118 : TRef sig ⟨S4096x64, .i32⟩) (broadcastInDim S4096x64 ![] bcast_S_S4096x64),
    TRef.binary (.of main_call0_call0_call0_v114 : TRef sig ⟨S4096x64, .i32⟩) (.of main_call0_call0_call0_v118 : TRef sig ⟨S4096x64, .i32⟩) (.of main_call0_call0_call0_v119 : TRef sig ⟨S4096x64, .i32⟩) Host.shrui,
    TRef.binary (.of main_call0_call0_call0_v117 : TRef sig ⟨S4096x64, .i32⟩) (.of main_call0_call0_call0_v119 : TRef sig ⟨S4096x64, .i32⟩) (.of main_call0_call0_call0_v120 : TRef sig ⟨S4096x64, .i32⟩) ori,
    TRef.binary (.of main_call0_call0_call0_v115 : TRef sig ⟨S4096x64, .i32⟩) (.of main_call0_call0_call0_v120 : TRef sig ⟨S4096x64, .i32⟩) (.of main_call0_call0_call0_v121 : TRef sig ⟨S4096x64, .i32⟩) xori ]

/-- Stretch 16 of the draw. -/
abbrev draw16 : List (HloOp τ sig (Elt F)) :=
  [ TRef.binary (.of main_call0_call0_call0_v115 : TRef sig ⟨S4096x64, .i32⟩) (.of main_call0_call0_call0_v121 : TRef sig ⟨S4096x64, .i32⟩) (.of main_call0_call0_call0_v122 : TRef sig ⟨S4096x64, .i32⟩) addi,
    TRef.nullary (.of main_call0_call0_call0_c_31 : TRef sig ⟨S_, .i32⟩) (constantI S_ 32 16#32),
    TRef.unary (.of main_call0_call0_call0_c_31 : TRef sig ⟨S_, .i32⟩) (.of main_call0_call0_call0_v123 : TRef sig ⟨S4096x64, .i32⟩) (broadcastInDim S4096x64 ![] bcast_S_S4096x64),
    TRef.binary (.of main_call0_call0_call0_v121 : TRef sig ⟨S4096x64, .i32⟩) (.of main_call0_call0_call0_v123 : TRef sig ⟨S4096x64, .i32⟩) (.of main_call0_call0_call0_v124 : TRef sig ⟨S4096x64, .i32⟩) Host.shli,
    TRef.nullary (.of main_call0_call0_call0_c_32 : TRef sig ⟨S_, .i32⟩) (constantI S_ 32 16#32),
    TRef.unary (.of main_call0_call0_call0_c_32 : TRef sig ⟨S_, .i32⟩) (.of main_call0_call0_call0_v125 : TRef sig ⟨S4096x64, .i32⟩) (broadcastInDim S4096x64 ![] bcast_S_S4096x64),
    TRef.binary (.of main_call0_call0_call0_v121 : TRef sig ⟨S4096x64, .i32⟩) (.of main_call0_call0_call0_v125 : TRef sig ⟨S4096x64, .i32⟩) (.of main_call0_call0_call0_v126 : TRef sig ⟨S4096x64, .i32⟩) Host.shrui,
    TRef.binary (.of main_call0_call0_call0_v124 : TRef sig ⟨S4096x64, .i32⟩) (.of main_call0_call0_call0_v126 : TRef sig ⟨S4096x64, .i32⟩) (.of main_call0_call0_call0_v127 : TRef sig ⟨S4096x64, .i32⟩) ori,
    TRef.binary (.of main_call0_call0_call0_v122 : TRef sig ⟨S4096x64, .i32⟩) (.of main_call0_call0_call0_v127 : TRef sig ⟨S4096x64, .i32⟩) (.of main_call0_call0_call0_v128 : TRef sig ⟨S4096x64, .i32⟩) xori ]

/-- Stretch 17 of the draw. -/
abbrev draw17 : List (HloOp τ sig (Elt F)) :=
  [ TRef.binary (.of main_call0_call0_call0_v122 : TRef sig ⟨S4096x64, .i32⟩) (.of main_call0_call0_call0_v128 : TRef sig ⟨S4096x64, .i32⟩) (.of main_call0_call0_call0_v129 : TRef sig ⟨S4096x64, .i32⟩) addi,
    TRef.nullary (.of main_call0_call0_call0_c_33 : TRef sig ⟨S_, .i32⟩) (constantI S_ 32 24#32),
    TRef.unary (.of main_call0_call0_call0_c_33 : TRef sig ⟨S_, .i32⟩) (.of main_call0_call0_call0_v130 : TRef sig ⟨S4096x64, .i32⟩) (broadcastInDim S4096x64 ![] bcast_S_S4096x64),
    TRef.binary (.of main_call0_call0_call0_v128 : TRef sig ⟨S4096x64, .i32⟩) (.of main_call0_call0_call0_v130 : TRef sig ⟨S4096x64, .i32⟩) (.of main_call0_call0_call0_v131 : TRef sig ⟨S4096x64, .i32⟩) Host.shli,
    TRef.nullary (.of main_call0_call0_call0_c_34 : TRef sig ⟨S_, .i32⟩) (constantI S_ 32 8#32),
    TRef.unary (.of main_call0_call0_call0_c_34 : TRef sig ⟨S_, .i32⟩) (.of main_call0_call0_call0_v132 : TRef sig ⟨S4096x64, .i32⟩) (broadcastInDim S4096x64 ![] bcast_S_S4096x64),
    TRef.binary (.of main_call0_call0_call0_v128 : TRef sig ⟨S4096x64, .i32⟩) (.of main_call0_call0_call0_v132 : TRef sig ⟨S4096x64, .i32⟩) (.of main_call0_call0_call0_v133 : TRef sig ⟨S4096x64, .i32⟩) Host.shrui,
    TRef.binary (.of main_call0_call0_call0_v131 : TRef sig ⟨S4096x64, .i32⟩) (.of main_call0_call0_call0_v133 : TRef sig ⟨S4096x64, .i32⟩) (.of main_call0_call0_call0_v134 : TRef sig ⟨S4096x64, .i32⟩) ori,
    TRef.binary (.of main_call0_call0_call0_v129 : TRef sig ⟨S4096x64, .i32⟩) (.of main_call0_call0_call0_v134 : TRef sig ⟨S4096x64, .i32⟩) (.of main_call0_call0_call0_v135 : TRef sig ⟨S4096x64, .i32⟩) xori ]

/-- Stretch 18 of the draw. -/
abbrev draw18 : List (HloOp τ sig (Elt F)) :=
  [ TRef.unary (.of main_call0_call0_v6 : TRef sig ⟨S_, .i32⟩) (.of main_call0_call0_call0_v136 : TRef sig ⟨S4096x64, .i32⟩) (broadcastInDim S4096x64 ![] bcast_S_S4096x64),
    TRef.binary (.of main_call0_call0_call0_v129 : TRef sig ⟨S4096x64, .i32⟩) (.of main_call0_call0_call0_v136 : TRef sig ⟨S4096x64, .i32⟩) (.of main_call0_call0_call0_v137 : TRef sig ⟨S4096x64, .i32⟩) addi,
    TRef.unary (.of main_call0_call0_call0_v1 : TRef sig ⟨S_, .i32⟩) (.of main_call0_call0_call0_v138 : TRef sig ⟨S4096x64, .i32⟩) (broadcastInDim S4096x64 ![] bcast_S_S4096x64),
    TRef.binary (.of main_call0_call0_call0_v135 : TRef sig ⟨S4096x64, .i32⟩) (.of main_call0_call0_call0_v138 : TRef sig ⟨S4096x64, .i32⟩) (.of main_call0_call0_call0_v139 : TRef sig ⟨S4096x64, .i32⟩) addi,
    TRef.nullary (.of main_call0_call0_call0_c_35 : TRef sig ⟨S_, .i32⟩) (constantI S_ 32 4#32),
    TRef.unary (.of main_call0_call0_call0_c_35 : TRef sig ⟨S_, .i32⟩) (.of main_call0_call0_call0_v140 : TRef sig ⟨S4096x64, .i32⟩) (broadcastInDim S4096x64 ![] bcast_S_S4096x64),
    TRef.binary (.of main_call0_call0_call0_v139 : TRef sig ⟨S4096x64, .i32⟩) (.of main_call0_call0_call0_v140 : TRef sig ⟨S4096x64, .i32⟩) (.of main_call0_call0_call0_v141 : TRef sig ⟨S4096x64, .i32⟩) addi,
    TRef.binary (.of main_call0_call0_call0_v137 : TRef sig ⟨S4096x64, .i32⟩) (.of main_call0_call0_call0_v141 : TRef sig ⟨S4096x64, .i32⟩) (.of main_call0_call0_call0_v142 : TRef sig ⟨S4096x64, .i32⟩) addi,
    TRef.nullary (.of main_call0_call0_call0_c_36 : TRef sig ⟨S_, .i32⟩) (constantI S_ 32 13#32),
    TRef.unary (.of main_call0_call0_call0_c_36 : TRef sig ⟨S_, .i32⟩) (.of main_call0_call0_call0_v143 : TRef sig ⟨S4096x64, .i32⟩) (broadcastInDim S4096x64 ![] bcast_S_S4096x64),
    TRef.binary (.of main_call0_call0_call0_v141 : TRef sig ⟨S4096x64, .i32⟩) (.of main_call0_call0_call0_v143 : TRef sig ⟨S4096x64, .i32⟩) (.of main_call0_call0_call0_v144 : TRef sig ⟨S4096x64, .i32⟩) Host.shli,
    TRef.nullary (.of main_call0_call0_call0_c_37 : TRef sig ⟨S_, .i32⟩) (constantI S_ 32 19#32),
    TRef.unary (.of main_call0_call0_call0_c_37 : TRef sig ⟨S_, .i32⟩) (.of main_call0_call0_call0_v145 : TRef sig ⟨S4096x64, .i32⟩) (broadcastInDim S4096x64 ![] bcast_S_S4096x64),
    TRef.binary (.of main_call0_call0_call0_v141 : TRef sig ⟨S4096x64, .i32⟩) (.of main_call0_call0_call0_v145 : TRef sig ⟨S4096x64, .i32⟩) (.of main_call0_call0_call0_v146 : TRef sig ⟨S4096x64, .i32⟩) Host.shrui,
    TRef.binary (.of main_call0_call0_call0_v144 : TRef sig ⟨S4096x64, .i32⟩) (.of main_call0_call0_call0_v146 : TRef sig ⟨S4096x64, .i32⟩) (.of main_call0_call0_call0_v147 : TRef sig ⟨S4096x64, .i32⟩) ori,
    TRef.binary (.of main_call0_call0_call0_v142 : TRef sig ⟨S4096x64, .i32⟩) (.of main_call0_call0_call0_v147 : TRef sig ⟨S4096x64, .i32⟩) (.of main_call0_call0_call0_v148 : TRef sig ⟨S4096x64, .i32⟩) xori ]

/-- Stretch 19 of the draw. -/
abbrev draw19 : List (HloOp τ sig (Elt F)) :=
  [ TRef.binary (.of main_call0_call0_call0_v142 : TRef sig ⟨S4096x64, .i32⟩) (.of main_call0_call0_call0_v148 : TRef sig ⟨S4096x64, .i32⟩) (.of main_call0_call0_call0_v149 : TRef sig ⟨S4096x64, .i32⟩) addi,
    TRef.nullary (.of main_call0_call0_call0_c_38 : TRef sig ⟨S_, .i32⟩) (constantI S_ 32 15#32),
    TRef.unary (.of main_call0_call0_call0_c_38 : TRef sig ⟨S_, .i32⟩) (.of main_call0_call0_call0_v150 : TRef sig ⟨S4096x64, .i32⟩) (broadcastInDim S4096x64 ![] bcast_S_S4096x64),
    TRef.binary (.of main_call0_call0_call0_v148 : TRef sig ⟨S4096x64, .i32⟩) (.of main_call0_call0_call0_v150 : TRef sig ⟨S4096x64, .i32⟩) (.of main_call0_call0_call0_v151 : TRef sig ⟨S4096x64, .i32⟩) Host.shli,
    TRef.nullary (.of main_call0_call0_call0_c_39 : TRef sig ⟨S_, .i32⟩) (constantI S_ 32 17#32),
    TRef.unary (.of main_call0_call0_call0_c_39 : TRef sig ⟨S_, .i32⟩) (.of main_call0_call0_call0_v152 : TRef sig ⟨S4096x64, .i32⟩) (broadcastInDim S4096x64 ![] bcast_S_S4096x64),
    TRef.binary (.of main_call0_call0_call0_v148 : TRef sig ⟨S4096x64, .i32⟩) (.of main_call0_call0_call0_v152 : TRef sig ⟨S4096x64, .i32⟩) (.of main_call0_call0_call0_v153 : TRef sig ⟨S4096x64, .i32⟩) Host.shrui,
    TRef.binary (.of main_call0_call0_call0_v151 : TRef sig ⟨S4096x64, .i32⟩) (.of main_call0_call0_call0_v153 : TRef sig ⟨S4096x64, .i32⟩) (.of main_call0_call0_call0_v154 : TRef sig ⟨S4096x64, .i32⟩) ori,
    TRef.binary (.of main_call0_call0_call0_v149 : TRef sig ⟨S4096x64, .i32⟩) (.of main_call0_call0_call0_v154 : TRef sig ⟨S4096x64, .i32⟩) (.of main_call0_call0_call0_v155 : TRef sig ⟨S4096x64, .i32⟩) xori ]

/-- Stretch 20 of the draw. -/
abbrev draw20 : List (HloOp τ sig (Elt F)) :=
  [ TRef.binary (.of main_call0_call0_call0_v149 : TRef sig ⟨S4096x64, .i32⟩) (.of main_call0_call0_call0_v155 : TRef sig ⟨S4096x64, .i32⟩) (.of main_call0_call0_call0_v156 : TRef sig ⟨S4096x64, .i32⟩) addi,
    TRef.nullary (.of main_call0_call0_call0_c_40 : TRef sig ⟨S_, .i32⟩) (constantI S_ 32 26#32),
    TRef.unary (.of main_call0_call0_call0_c_40 : TRef sig ⟨S_, .i32⟩) (.of main_call0_call0_call0_v157 : TRef sig ⟨S4096x64, .i32⟩) (broadcastInDim S4096x64 ![] bcast_S_S4096x64),
    TRef.binary (.of main_call0_call0_call0_v155 : TRef sig ⟨S4096x64, .i32⟩) (.of main_call0_call0_call0_v157 : TRef sig ⟨S4096x64, .i32⟩) (.of main_call0_call0_call0_v158 : TRef sig ⟨S4096x64, .i32⟩) Host.shli,
    TRef.nullary (.of main_call0_call0_call0_c_41 : TRef sig ⟨S_, .i32⟩) (constantI S_ 32 6#32),
    TRef.unary (.of main_call0_call0_call0_c_41 : TRef sig ⟨S_, .i32⟩) (.of main_call0_call0_call0_v159 : TRef sig ⟨S4096x64, .i32⟩) (broadcastInDim S4096x64 ![] bcast_S_S4096x64),
    TRef.binary (.of main_call0_call0_call0_v155 : TRef sig ⟨S4096x64, .i32⟩) (.of main_call0_call0_call0_v159 : TRef sig ⟨S4096x64, .i32⟩) (.of main_call0_call0_call0_v160 : TRef sig ⟨S4096x64, .i32⟩) Host.shrui,
    TRef.binary (.of main_call0_call0_call0_v158 : TRef sig ⟨S4096x64, .i32⟩) (.of main_call0_call0_call0_v160 : TRef sig ⟨S4096x64, .i32⟩) (.of main_call0_call0_call0_v161 : TRef sig ⟨S4096x64, .i32⟩) ori,
    TRef.binary (.of main_call0_call0_call0_v156 : TRef sig ⟨S4096x64, .i32⟩) (.of main_call0_call0_call0_v161 : TRef sig ⟨S4096x64, .i32⟩) (.of main_call0_call0_call0_v162 : TRef sig ⟨S4096x64, .i32⟩) xori ]

/-- Stretch 21 of the draw. -/
abbrev draw21 : List (HloOp τ sig (Elt F)) :=
  [ TRef.binary (.of main_call0_call0_call0_v156 : TRef sig ⟨S4096x64, .i32⟩) (.of main_call0_call0_call0_v162 : TRef sig ⟨S4096x64, .i32⟩) (.of main_call0_call0_call0_v163 : TRef sig ⟨S4096x64, .i32⟩) addi,
    TRef.nullary (.of main_call0_call0_call0_c_42 : TRef sig ⟨S_, .i32⟩) (constantI S_ 32 6#32),
    TRef.unary (.of main_call0_call0_call0_c_42 : TRef sig ⟨S_, .i32⟩) (.of main_call0_call0_call0_v164 : TRef sig ⟨S4096x64, .i32⟩) (broadcastInDim S4096x64 ![] bcast_S_S4096x64),
    TRef.binary (.of main_call0_call0_call0_v162 : TRef sig ⟨S4096x64, .i32⟩) (.of main_call0_call0_call0_v164 : TRef sig ⟨S4096x64, .i32⟩) (.of main_call0_call0_call0_v165 : TRef sig ⟨S4096x64, .i32⟩) Host.shli,
    TRef.nullary (.of main_call0_call0_call0_c_43 : TRef sig ⟨S_, .i32⟩) (constantI S_ 32 26#32),
    TRef.unary (.of main_call0_call0_call0_c_43 : TRef sig ⟨S_, .i32⟩) (.of main_call0_call0_call0_v166 : TRef sig ⟨S4096x64, .i32⟩) (broadcastInDim S4096x64 ![] bcast_S_S4096x64),
    TRef.binary (.of main_call0_call0_call0_v162 : TRef sig ⟨S4096x64, .i32⟩) (.of main_call0_call0_call0_v166 : TRef sig ⟨S4096x64, .i32⟩) (.of main_call0_call0_call0_v167 : TRef sig ⟨S4096x64, .i32⟩) Host.shrui,
    TRef.binary (.of main_call0_call0_call0_v165 : TRef sig ⟨S4096x64, .i32⟩) (.of main_call0_call0_call0_v167 : TRef sig ⟨S4096x64, .i32⟩) (.of main_call0_call0_call0_v168 : TRef sig ⟨S4096x64, .i32⟩) ori,
    TRef.binary (.of main_call0_call0_call0_v163 : TRef sig ⟨S4096x64, .i32⟩) (.of main_call0_call0_call0_v168 : TRef sig ⟨S4096x64, .i32⟩) (.of main_call0_call0_call0_v169 : TRef sig ⟨S4096x64, .i32⟩) xori ]

/-- Stretch 22 of the draw. -/
abbrev draw22 : List (HloOp τ sig (Elt F)) :=
  [ TRef.unary (.of main_call0_call0_call0_v1 : TRef sig ⟨S_, .i32⟩) (.of main_call0_call0_call0_v170 : TRef sig ⟨S4096x64, .i32⟩) (broadcastInDim S4096x64 ![] bcast_S_S4096x64),
    TRef.binary (.of main_call0_call0_call0_v163 : TRef sig ⟨S4096x64, .i32⟩) (.of main_call0_call0_call0_v170 : TRef sig ⟨S4096x64, .i32⟩) (.of main_call0_call0_v18_0 : TRef sig ⟨S4096x64, .i32⟩) addi,
    TRef.unary (.of main_call0_call0_v4 : TRef sig ⟨S_, .i32⟩) (.of main_call0_call0_call0_v172 : TRef sig ⟨S4096x64, .i32⟩) (broadcastInDim S4096x64 ![] bcast_S_S4096x64),
    TRef.binary (.of main_call0_call0_call0_v169 : TRef sig ⟨S4096x64, .i32⟩) (.of main_call0_call0_call0_v172 : TRef sig ⟨S4096x64, .i32⟩) (.of main_call0_call0_call0_v173 : TRef sig ⟨S4096x64, .i32⟩) addi,
    TRef.nullary (.of main_call0_call0_call0_c_44 : TRef sig ⟨S_, .i32⟩) (constantI S_ 32 5#32),
    TRef.unary (.of main_call0_call0_call0_c_44 : TRef sig ⟨S_, .i32⟩) (.of main_call0_call0_call0_v174 : TRef sig ⟨S4096x64, .i32⟩) (broadcastInDim S4096x64 ![] bcast_S_S4096x64),
    TRef.binary (.of main_call0_call0_call0_v173 : TRef sig ⟨S4096x64, .i32⟩) (.of main_call0_call0_call0_v174 : TRef sig ⟨S4096x64, .i32⟩) (.of main_call0_call0_v18_1 : TRef sig ⟨S4096x64, .i32⟩) addi ]

/-- Stretch 23 of the draw. -/
abbrev draw23 : List (HloOp τ sig (Elt F)) :=
  [ TRef.binary (.of main_call0_call0_v18_0 : TRef sig ⟨S4096x64, .i32⟩) (.of main_call0_call0_v18_1 : TRef sig ⟨S4096x64, .i32⟩) (.of main_call0_call0_v19 : TRef sig ⟨S4096x64, .i32⟩) xori,
    TRef.nullary (.of main_call0_call0_c_2 : TRef sig ⟨S_, .i32⟩) (constantI S_ 32 9#32),
    TRef.unary (.of main_call0_call0_c_2 : TRef sig ⟨S_, .i32⟩) (.of main_call0_call0_v20 : TRef sig ⟨S4096x64, .i32⟩) (broadcastInDim S4096x64 ![] bcast_S_S4096x64),
    TRef.binary (.of main_call0_call0_v19 : TRef sig ⟨S4096x64, .i32⟩) (.of main_call0_call0_v20 : TRef sig ⟨S4096x64, .i32⟩) (.of main_call0_call0_v21 : TRef sig ⟨S4096x64, .i32⟩) Host.shrui,
    TRef.nullary (.of main_call0_call0_c_3 : TRef sig ⟨S_, .i32⟩) (constantI S_ 32 1065353216#32),
    TRef.unary (.of main_call0_call0_c_3 : TRef sig ⟨S_, .i32⟩) (.of main_call0_call0_v22 : TRef sig ⟨S4096x64, .i32⟩) (broadcastInDim S4096x64 ![] bcast_S_S4096x64),
    TRef.binary (.of main_call0_call0_v21 : TRef sig ⟨S4096x64, .i32⟩) (.of main_call0_call0_v22 : TRef sig ⟨S4096x64, .i32⟩) (.of main_call0_call0_v23 : TRef sig ⟨S4096x64, .i32⟩) ori,
    TRef.unary (.of main_call0_call0_v23 : TRef sig ⟨S4096x64, .i32⟩) (.of main_call0_call0_v24 : TRef sig ⟨S4096x64, .f32⟩) (bitcastToFloat .f32) ]

/-- Stretch 24 of the draw. -/
abbrev draw24 : List (HloOp τ sig (Elt F)) :=
  [ TRef.nullary (.of main_call0_call0_cst : TRef sig ⟨S_, .f32⟩) (constant S_ .f32 0x3F800000#32),
    TRef.unary (.of main_call0_call0_cst : TRef sig ⟨S_, .f32⟩) (.of main_call0_call0_v25 : TRef sig ⟨S4096x64, .f32⟩) (broadcastInDim S4096x64 ![] bcast_S_S4096x64),
    TRef.binary (.of main_call0_call0_v24 : TRef sig ⟨S4096x64, .f32⟩) (.of main_call0_call0_v25 : TRef sig ⟨S4096x64, .f32⟩) (.of main_call0_call0_v26 : TRef sig ⟨S4096x64, .f32⟩) subf,
    TRef.binary (.of main_call0_call0_v2 : TRef sig ⟨S1x1, .f32⟩) (.of main_call0_call0_v1 : TRef sig ⟨S1x1, .f32⟩) (.of main_call0_call0_v27 : TRef sig ⟨S1x1, .f32⟩) subf,
    TRef.unary (.of main_call0_call0_v27 : TRef sig ⟨S1x1, .f32⟩) (.of main_call0_call0_v28 : TRef sig ⟨S4096x64, .f32⟩) (broadcastInDim S4096x64 ![0, 1] bcast_S1x1_S4096x64_0_1),
    TRef.binary (.of main_call0_call0_v26 : TRef sig ⟨S4096x64, .f32⟩) (.of main_call0_call0_v28 : TRef sig ⟨S4096x64, .f32⟩) (.of main_call0_call0_v29 : TRef sig ⟨S4096x64, .f32⟩) mulf,
    TRef.unary (.of main_call0_call0_v1 : TRef sig ⟨S1x1, .f32⟩) (.of main_call0_call0_v30 : TRef sig ⟨S4096x64, .f32⟩) (broadcastInDim S4096x64 ![0, 1] bcast_S1x1_S4096x64_0_1),
    TRef.binary (.of main_call0_call0_v29 : TRef sig ⟨S4096x64, .f32⟩) (.of main_call0_call0_v30 : TRef sig ⟨S4096x64, .f32⟩) (.of main_call0_call0_v31 : TRef sig ⟨S4096x64, .f32⟩) addf,
    TRef.unary (.of main_call0_call0_v1 : TRef sig ⟨S1x1, .f32⟩) (.of main_call0_call0_v32 : TRef sig ⟨S4096x64, .f32⟩) (broadcastInDim S4096x64 ![0, 1] bcast_S1x1_S4096x64_0_1),
    TRef.binary (.of main_call0_call0_v32 : TRef sig ⟨S4096x64, .f32⟩) (.of main_call0_call0_v31 : TRef sig ⟨S4096x64, .f32⟩) (.of main_call0_v0 : TRef sig ⟨S4096x64, .f32⟩) maximumf,
    TRef.unary (.of main_call0_v0 : TRef sig ⟨S4096x64, .f32⟩) (.of main_call0_v1 : TRef sig ⟨S4096x64, .f32⟩) Host.log,
    TRef.unary (.of main_call0_v1 : TRef sig ⟨S4096x64, .f32⟩) (.of main_call0_v2 : TRef sig ⟨S4096x64, .f32⟩) Host.negf,
    TRef.unary (.of main_call0_v2 : TRef sig ⟨S4096x64, .f32⟩) (.of main_call0_v3 : TRef sig ⟨S4096x64, .f32⟩) Host.log,
    TRef.unary (.of main_call0_v3 : TRef sig ⟨S4096x64, .f32⟩) (.of main_v7 : TRef sig ⟨S4096x64, .f32⟩) Host.negf ]

/-! ## What each stretch computes -/

theorem draw0_m_v6 (V : Valuation τ sig (Elt F)) : after draw0 V (main_v6 : DevRef τ sig) = Noise.step0_m_v6 (F := F) := by
  after_reads_simp
  rfl
theorem draw0_keeps (V : Valuation τ sig (Elt F)) : after draw0 V (main_arg0 : DevRef τ sig) = V (main_arg0 : DevRef τ sig)
    ∧ after draw0 V (main_arg1 : DevRef τ sig) = V (main_arg1 : DevRef τ sig) := by
  refine ⟨?_, ?_⟩ <;> after_reads_simp

theorem draw1_v_v1 (V : Valuation τ sig (Elt F)) : after draw1 V (main_call0_call0_v1 : DevRef τ sig) = Noise.step1_v_v1 (F := F) := by
  after_reads_simp
  try simp only [TRef.ofBuf_toBuf]
  try simp -implicitDefEqProofs only [TRef.toBuf, TRef.ofBuf, cast_eq]
  rfl
theorem draw1_v_v2 (V : Valuation τ sig (Elt F)) : after draw1 V (main_call0_call0_v2 : DevRef τ sig) = Noise.step1_v_v2 (F := F) := by
  after_reads_simp
  try simp only [TRef.ofBuf_toBuf]
  try simp -implicitDefEqProofs only [TRef.toBuf, TRef.ofBuf, cast_eq]
  rfl
theorem draw1_v_v4 (V : Valuation τ sig (Elt F)) : after draw1 V (main_call0_call0_v4 : DevRef τ sig) = Noise.step1_v_v4 (F := F) (V (main_v6 : DevRef τ sig)) := by
  after_reads_simp
  try simp only [TRef.ofBuf_toBuf]
  try simp -implicitDefEqProofs only [TRef.toBuf, TRef.ofBuf, cast_eq]
  rfl
theorem draw1_v_v6 (V : Valuation τ sig (Elt F)) : after draw1 V (main_call0_call0_v6 : DevRef τ sig) = Noise.step1_v_v6 (F := F) (V (main_v6 : DevRef τ sig)) := by
  after_reads_simp
  try simp only [TRef.ofBuf_toBuf]
  try simp -implicitDefEqProofs only [TRef.toBuf, TRef.ofBuf, cast_eq]
  rfl
theorem draw1_v_v16 (V : Valuation τ sig (Elt F)) : after draw1 V (main_call0_call0_v16 : DevRef τ sig) = Noise.step1_v_v16 (F := F) := by
  after_reads_simp
  try simp only [TRef.ofBuf_toBuf]
  try simp -implicitDefEqProofs only [TRef.toBuf, TRef.ofBuf, cast_eq]
  rfl
theorem draw1_v_v17 (V : Valuation τ sig (Elt F)) : after draw1 V (main_call0_call0_v17 : DevRef τ sig) = Noise.step1_v_v17 (F := F) := by
  after_reads_simp
  try simp only [TRef.ofBuf_toBuf]
  try simp -implicitDefEqProofs only [TRef.toBuf, TRef.ofBuf, cast_eq]
  rfl
theorem draw1_keeps (V : Valuation τ sig (Elt F)) : after draw1 V (main_arg0 : DevRef τ sig) = V (main_arg0 : DevRef τ sig)
    ∧ after draw1 V (main_arg1 : DevRef τ sig) = V (main_arg1 : DevRef τ sig) := by
  refine ⟨?_, ?_⟩ <;> after_reads_simp

theorem draw2_t_v1 (V : Valuation τ sig (Elt F)) : after draw2 V (main_call0_call0_call0_v1 : DevRef τ sig) = Noise.step2_t_v1 (F := F) (V (main_call0_call0_v4 : DevRef τ sig)) (V (main_call0_call0_v6 : DevRef τ sig)) := by
  after_reads_simp
  try simp only [TRef.ofBuf_toBuf]
  try simp -implicitDefEqProofs only [TRef.toBuf, TRef.ofBuf, cast_eq]
  rfl
theorem draw2_t_v6 (V : Valuation τ sig (Elt F)) : after draw2 V (main_call0_call0_call0_v6 : DevRef τ sig) = Noise.step2_t_v6 (F := F) (V (main_call0_call0_v4 : DevRef τ sig)) (V (main_call0_call0_v6 : DevRef τ sig)) (V (main_call0_call0_v16 : DevRef τ sig)) (V (main_call0_call0_v17 : DevRef τ sig)) := by
  after_reads_simp
  try simp only [TRef.ofBuf_toBuf]
  try simp -implicitDefEqProofs only [TRef.toBuf, TRef.ofBuf, cast_eq]
  rfl
theorem draw2_t_v12 (V : Valuation τ sig (Elt F)) : after draw2 V (main_call0_call0_call0_v12 : DevRef τ sig) = Noise.step2_t_v12 (F := F) (V (main_call0_call0_v4 : DevRef τ sig)) (V (main_call0_call0_v6 : DevRef τ sig)) (V (main_call0_call0_v16 : DevRef τ sig)) (V (main_call0_call0_v17 : DevRef τ sig)) := by
  after_reads_simp
  try simp only [TRef.ofBuf_toBuf]
  try simp -implicitDefEqProofs only [TRef.toBuf, TRef.ofBuf, cast_eq]
  rfl
theorem draw2_keeps (V : Valuation τ sig (Elt F)) : after draw2 V (main_call0_call0_v1 : DevRef τ sig) = V (main_call0_call0_v1 : DevRef τ sig)
    ∧ after draw2 V (main_call0_call0_v2 : DevRef τ sig) = V (main_call0_call0_v2 : DevRef τ sig)
    ∧ after draw2 V (main_call0_call0_v4 : DevRef τ sig) = V (main_call0_call0_v4 : DevRef τ sig)
    ∧ after draw2 V (main_call0_call0_v6 : DevRef τ sig) = V (main_call0_call0_v6 : DevRef τ sig)
    ∧ after draw2 V (main_arg0 : DevRef τ sig) = V (main_arg0 : DevRef τ sig)
    ∧ after draw2 V (main_arg1 : DevRef τ sig) = V (main_arg1 : DevRef τ sig) := by
  refine ⟨?_, ?_, ?_, ?_, ?_, ?_⟩ <;> after_reads_simp

theorem draw3_t_v13 (V : Valuation τ sig (Elt F)) : after draw3 V (main_call0_call0_call0_v13 : DevRef τ sig) = Noise.step3_t_v13 (F := F) (V (main_call0_call0_call0_v6 : DevRef τ sig)) (V (main_call0_call0_call0_v12 : DevRef τ sig)) := by
  after_reads_simp
  try simp -implicitDefEqProofs only [TRef.toBuf, TRef.ofBuf, cast_eq]
  rfl
theorem draw3_t_v19 (V : Valuation τ sig (Elt F)) : after draw3 V (main_call0_call0_call0_v19 : DevRef τ sig) = Noise.step3_t_v19 (F := F) (V (main_call0_call0_call0_v6 : DevRef τ sig)) (V (main_call0_call0_call0_v12 : DevRef τ sig)) := by
  after_reads_simp
  try simp only [TRef.ofBuf_toBuf]
  try simp -implicitDefEqProofs only [TRef.toBuf, TRef.ofBuf, cast_eq]
  rfl
theorem draw3_keeps (V : Valuation τ sig (Elt F)) : after draw3 V (main_call0_call0_v1 : DevRef τ sig) = V (main_call0_call0_v1 : DevRef τ sig)
    ∧ after draw3 V (main_call0_call0_v2 : DevRef τ sig) = V (main_call0_call0_v2 : DevRef τ sig)
    ∧ after draw3 V (main_call0_call0_v4 : DevRef τ sig) = V (main_call0_call0_v4 : DevRef τ sig)
    ∧ after draw3 V (main_call0_call0_v6 : DevRef τ sig) = V (main_call0_call0_v6 : DevRef τ sig)
    ∧ after draw3 V (main_call0_call0_call0_v1 : DevRef τ sig) = V (main_call0_call0_call0_v1 : DevRef τ sig)
    ∧ after draw3 V (main_arg0 : DevRef τ sig) = V (main_arg0 : DevRef τ sig)
    ∧ after draw3 V (main_arg1 : DevRef τ sig) = V (main_arg1 : DevRef τ sig) := by
  refine ⟨?_, ?_, ?_, ?_, ?_, ?_, ?_⟩ <;> after_reads_simp

theorem draw4_t_v20 (V : Valuation τ sig (Elt F)) : after draw4 V (main_call0_call0_call0_v20 : DevRef τ sig) = Noise.step4_t_v20 (F := F) (V (main_call0_call0_call0_v13 : DevRef τ sig)) (V (main_call0_call0_call0_v19 : DevRef τ sig)) := by
  after_reads_simp
  try simp -implicitDefEqProofs only [TRef.toBuf, TRef.ofBuf, cast_eq]
  rfl
theorem draw4_t_v26 (V : Valuation τ sig (Elt F)) : after draw4 V (main_call0_call0_call0_v26 : DevRef τ sig) = Noise.step4_t_v26 (F := F) (V (main_call0_call0_call0_v13 : DevRef τ sig)) (V (main_call0_call0_call0_v19 : DevRef τ sig)) := by
  after_reads_simp
  try simp only [TRef.ofBuf_toBuf]
  try simp -implicitDefEqProofs only [TRef.toBuf, TRef.ofBuf, cast_eq]
  rfl
theorem draw4_keeps (V : Valuation τ sig (Elt F)) : after draw4 V (main_call0_call0_v1 : DevRef τ sig) = V (main_call0_call0_v1 : DevRef τ sig)
    ∧ after draw4 V (main_call0_call0_v2 : DevRef τ sig) = V (main_call0_call0_v2 : DevRef τ sig)
    ∧ after draw4 V (main_call0_call0_v4 : DevRef τ sig) = V (main_call0_call0_v4 : DevRef τ sig)
    ∧ after draw4 V (main_call0_call0_v6 : DevRef τ sig) = V (main_call0_call0_v6 : DevRef τ sig)
    ∧ after draw4 V (main_call0_call0_call0_v1 : DevRef τ sig) = V (main_call0_call0_call0_v1 : DevRef τ sig)
    ∧ after draw4 V (main_arg0 : DevRef τ sig) = V (main_arg0 : DevRef τ sig)
    ∧ after draw4 V (main_arg1 : DevRef τ sig) = V (main_arg1 : DevRef τ sig) := by
  refine ⟨?_, ?_, ?_, ?_, ?_, ?_, ?_⟩ <;> after_reads_simp

theorem draw5_t_v27 (V : Valuation τ sig (Elt F)) : after draw5 V (main_call0_call0_call0_v27 : DevRef τ sig) = Noise.step5_t_v27 (F := F) (V (main_call0_call0_call0_v20 : DevRef τ sig)) (V (main_call0_call0_call0_v26 : DevRef τ sig)) := by
  after_reads_simp
  try simp -implicitDefEqProofs only [TRef.toBuf, TRef.ofBuf, cast_eq]
  rfl
theorem draw5_t_v33 (V : Valuation τ sig (Elt F)) : after draw5 V (main_call0_call0_call0_v33 : DevRef τ sig) = Noise.step5_t_v33 (F := F) (V (main_call0_call0_call0_v20 : DevRef τ sig)) (V (main_call0_call0_call0_v26 : DevRef τ sig)) := by
  after_reads_simp
  try simp only [TRef.ofBuf_toBuf]
  try simp -implicitDefEqProofs only [TRef.toBuf, TRef.ofBuf, cast_eq]
  rfl
theorem draw5_keeps (V : Valuation τ sig (Elt F)) : after draw5 V (main_call0_call0_v1 : DevRef τ sig) = V (main_call0_call0_v1 : DevRef τ sig)
    ∧ after draw5 V (main_call0_call0_v2 : DevRef τ sig) = V (main_call0_call0_v2 : DevRef τ sig)
    ∧ after draw5 V (main_call0_call0_v4 : DevRef τ sig) = V (main_call0_call0_v4 : DevRef τ sig)
    ∧ after draw5 V (main_call0_call0_v6 : DevRef τ sig) = V (main_call0_call0_v6 : DevRef τ sig)
    ∧ after draw5 V (main_call0_call0_call0_v1 : DevRef τ sig) = V (main_call0_call0_call0_v1 : DevRef τ sig)
    ∧ after draw5 V (main_arg0 : DevRef τ sig) = V (main_arg0 : DevRef τ sig)
    ∧ after draw5 V (main_arg1 : DevRef τ sig) = V (main_arg1 : DevRef τ sig) := by
  refine ⟨?_, ?_, ?_, ?_, ?_, ?_, ?_⟩ <;> after_reads_simp

theorem draw6_t_v40 (V : Valuation τ sig (Elt F)) : after draw6 V (main_call0_call0_call0_v40 : DevRef τ sig) = Noise.step6_t_v40 (F := F) (V (main_call0_call0_v6 : DevRef τ sig)) (V (main_call0_call0_call0_v1 : DevRef τ sig)) (V (main_call0_call0_call0_v27 : DevRef τ sig)) (V (main_call0_call0_call0_v33 : DevRef τ sig)) := by
  after_reads_simp
  try simp only [TRef.ofBuf_toBuf]
  try simp -implicitDefEqProofs only [TRef.toBuf, TRef.ofBuf, cast_eq]
  rfl
theorem draw6_t_v46 (V : Valuation τ sig (Elt F)) : after draw6 V (main_call0_call0_call0_v46 : DevRef τ sig) = Noise.step6_t_v46 (F := F) (V (main_call0_call0_v6 : DevRef τ sig)) (V (main_call0_call0_call0_v1 : DevRef τ sig)) (V (main_call0_call0_call0_v27 : DevRef τ sig)) (V (main_call0_call0_call0_v33 : DevRef τ sig)) := by
  after_reads_simp
  try simp only [TRef.ofBuf_toBuf]
  try simp -implicitDefEqProofs only [TRef.toBuf, TRef.ofBuf, cast_eq]
  rfl
theorem draw6_keeps (V : Valuation τ sig (Elt F)) : after draw6 V (main_call0_call0_v1 : DevRef τ sig) = V (main_call0_call0_v1 : DevRef τ sig)
    ∧ after draw6 V (main_call0_call0_v2 : DevRef τ sig) = V (main_call0_call0_v2 : DevRef τ sig)
    ∧ after draw6 V (main_call0_call0_v4 : DevRef τ sig) = V (main_call0_call0_v4 : DevRef τ sig)
    ∧ after draw6 V (main_call0_call0_v6 : DevRef τ sig) = V (main_call0_call0_v6 : DevRef τ sig)
    ∧ after draw6 V (main_call0_call0_call0_v1 : DevRef τ sig) = V (main_call0_call0_call0_v1 : DevRef τ sig)
    ∧ after draw6 V (main_arg0 : DevRef τ sig) = V (main_arg0 : DevRef τ sig)
    ∧ after draw6 V (main_arg1 : DevRef τ sig) = V (main_arg1 : DevRef τ sig) := by
  refine ⟨?_, ?_, ?_, ?_, ?_, ?_, ?_⟩ <;> after_reads_simp

theorem draw7_t_v47 (V : Valuation τ sig (Elt F)) : after draw7 V (main_call0_call0_call0_v47 : DevRef τ sig) = Noise.step7_t_v47 (F := F) (V (main_call0_call0_call0_v40 : DevRef τ sig)) (V (main_call0_call0_call0_v46 : DevRef τ sig)) := by
  after_reads_simp
  try simp -implicitDefEqProofs only [TRef.toBuf, TRef.ofBuf, cast_eq]
  rfl
theorem draw7_t_v53 (V : Valuation τ sig (Elt F)) : after draw7 V (main_call0_call0_call0_v53 : DevRef τ sig) = Noise.step7_t_v53 (F := F) (V (main_call0_call0_call0_v40 : DevRef τ sig)) (V (main_call0_call0_call0_v46 : DevRef τ sig)) := by
  after_reads_simp
  try simp only [TRef.ofBuf_toBuf]
  try simp -implicitDefEqProofs only [TRef.toBuf, TRef.ofBuf, cast_eq]
  rfl
theorem draw7_keeps (V : Valuation τ sig (Elt F)) : after draw7 V (main_call0_call0_v1 : DevRef τ sig) = V (main_call0_call0_v1 : DevRef τ sig)
    ∧ after draw7 V (main_call0_call0_v2 : DevRef τ sig) = V (main_call0_call0_v2 : DevRef τ sig)
    ∧ after draw7 V (main_call0_call0_v4 : DevRef τ sig) = V (main_call0_call0_v4 : DevRef τ sig)
    ∧ after draw7 V (main_call0_call0_v6 : DevRef τ sig) = V (main_call0_call0_v6 : DevRef τ sig)
    ∧ after draw7 V (main_call0_call0_call0_v1 : DevRef τ sig) = V (main_call0_call0_call0_v1 : DevRef τ sig)
    ∧ after draw7 V (main_arg0 : DevRef τ sig) = V (main_arg0 : DevRef τ sig)
    ∧ after draw7 V (main_arg1 : DevRef τ sig) = V (main_arg1 : DevRef τ sig) := by
  refine ⟨?_, ?_, ?_, ?_, ?_, ?_, ?_⟩ <;> after_reads_simp

theorem draw8_t_v54 (V : Valuation τ sig (Elt F)) : after draw8 V (main_call0_call0_call0_v54 : DevRef τ sig) = Noise.step8_t_v54 (F := F) (V (main_call0_call0_call0_v47 : DevRef τ sig)) (V (main_call0_call0_call0_v53 : DevRef τ sig)) := by
  after_reads_simp
  try simp -implicitDefEqProofs only [TRef.toBuf, TRef.ofBuf, cast_eq]
  rfl
theorem draw8_t_v60 (V : Valuation τ sig (Elt F)) : after draw8 V (main_call0_call0_call0_v60 : DevRef τ sig) = Noise.step8_t_v60 (F := F) (V (main_call0_call0_call0_v47 : DevRef τ sig)) (V (main_call0_call0_call0_v53 : DevRef τ sig)) := by
  after_reads_simp
  try simp only [TRef.ofBuf_toBuf]
  try simp -implicitDefEqProofs only [TRef.toBuf, TRef.ofBuf, cast_eq]
  rfl
theorem draw8_keeps (V : Valuation τ sig (Elt F)) : after draw8 V (main_call0_call0_v1 : DevRef τ sig) = V (main_call0_call0_v1 : DevRef τ sig)
    ∧ after draw8 V (main_call0_call0_v2 : DevRef τ sig) = V (main_call0_call0_v2 : DevRef τ sig)
    ∧ after draw8 V (main_call0_call0_v4 : DevRef τ sig) = V (main_call0_call0_v4 : DevRef τ sig)
    ∧ after draw8 V (main_call0_call0_v6 : DevRef τ sig) = V (main_call0_call0_v6 : DevRef τ sig)
    ∧ after draw8 V (main_call0_call0_call0_v1 : DevRef τ sig) = V (main_call0_call0_call0_v1 : DevRef τ sig)
    ∧ after draw8 V (main_arg0 : DevRef τ sig) = V (main_arg0 : DevRef τ sig)
    ∧ after draw8 V (main_arg1 : DevRef τ sig) = V (main_arg1 : DevRef τ sig) := by
  refine ⟨?_, ?_, ?_, ?_, ?_, ?_, ?_⟩ <;> after_reads_simp

theorem draw9_t_v61 (V : Valuation τ sig (Elt F)) : after draw9 V (main_call0_call0_call0_v61 : DevRef τ sig) = Noise.step9_t_v61 (F := F) (V (main_call0_call0_call0_v54 : DevRef τ sig)) (V (main_call0_call0_call0_v60 : DevRef τ sig)) := by
  after_reads_simp
  try simp -implicitDefEqProofs only [TRef.toBuf, TRef.ofBuf, cast_eq]
  rfl
theorem draw9_t_v67 (V : Valuation τ sig (Elt F)) : after draw9 V (main_call0_call0_call0_v67 : DevRef τ sig) = Noise.step9_t_v67 (F := F) (V (main_call0_call0_call0_v54 : DevRef τ sig)) (V (main_call0_call0_call0_v60 : DevRef τ sig)) := by
  after_reads_simp
  try simp only [TRef.ofBuf_toBuf]
  try simp -implicitDefEqProofs only [TRef.toBuf, TRef.ofBuf, cast_eq]
  rfl
theorem draw9_keeps (V : Valuation τ sig (Elt F)) : after draw9 V (main_call0_call0_v1 : DevRef τ sig) = V (main_call0_call0_v1 : DevRef τ sig)
    ∧ after draw9 V (main_call0_call0_v2 : DevRef τ sig) = V (main_call0_call0_v2 : DevRef τ sig)
    ∧ after draw9 V (main_call0_call0_v4 : DevRef τ sig) = V (main_call0_call0_v4 : DevRef τ sig)
    ∧ after draw9 V (main_call0_call0_v6 : DevRef τ sig) = V (main_call0_call0_v6 : DevRef τ sig)
    ∧ after draw9 V (main_call0_call0_call0_v1 : DevRef τ sig) = V (main_call0_call0_call0_v1 : DevRef τ sig)
    ∧ after draw9 V (main_arg0 : DevRef τ sig) = V (main_arg0 : DevRef τ sig)
    ∧ after draw9 V (main_arg1 : DevRef τ sig) = V (main_arg1 : DevRef τ sig) := by
  refine ⟨?_, ?_, ?_, ?_, ?_, ?_, ?_⟩ <;> after_reads_simp

theorem draw10_t_v74 (V : Valuation τ sig (Elt F)) : after draw10 V (main_call0_call0_call0_v74 : DevRef τ sig) = Noise.step10_t_v74 (F := F) (V (main_call0_call0_v4 : DevRef τ sig)) (V (main_call0_call0_call0_v1 : DevRef τ sig)) (V (main_call0_call0_call0_v61 : DevRef τ sig)) (V (main_call0_call0_call0_v67 : DevRef τ sig)) := by
  after_reads_simp
  try simp only [TRef.ofBuf_toBuf]
  try simp -implicitDefEqProofs only [TRef.toBuf, TRef.ofBuf, cast_eq]
  rfl
theorem draw10_t_v80 (V : Valuation τ sig (Elt F)) : after draw10 V (main_call0_call0_call0_v80 : DevRef τ sig) = Noise.step10_t_v80 (F := F) (V (main_call0_call0_v4 : DevRef τ sig)) (V (main_call0_call0_call0_v1 : DevRef τ sig)) (V (main_call0_call0_call0_v61 : DevRef τ sig)) (V (main_call0_call0_call0_v67 : DevRef τ sig)) := by
  after_reads_simp
  try simp only [TRef.ofBuf_toBuf]
  try simp -implicitDefEqProofs only [TRef.toBuf, TRef.ofBuf, cast_eq]
  rfl
theorem draw10_keeps (V : Valuation τ sig (Elt F)) : after draw10 V (main_call0_call0_v1 : DevRef τ sig) = V (main_call0_call0_v1 : DevRef τ sig)
    ∧ after draw10 V (main_call0_call0_v2 : DevRef τ sig) = V (main_call0_call0_v2 : DevRef τ sig)
    ∧ after draw10 V (main_call0_call0_v4 : DevRef τ sig) = V (main_call0_call0_v4 : DevRef τ sig)
    ∧ after draw10 V (main_call0_call0_v6 : DevRef τ sig) = V (main_call0_call0_v6 : DevRef τ sig)
    ∧ after draw10 V (main_call0_call0_call0_v1 : DevRef τ sig) = V (main_call0_call0_call0_v1 : DevRef τ sig)
    ∧ after draw10 V (main_arg0 : DevRef τ sig) = V (main_arg0 : DevRef τ sig)
    ∧ after draw10 V (main_arg1 : DevRef τ sig) = V (main_arg1 : DevRef τ sig) := by
  refine ⟨?_, ?_, ?_, ?_, ?_, ?_, ?_⟩ <;> after_reads_simp

theorem draw11_t_v81 (V : Valuation τ sig (Elt F)) : after draw11 V (main_call0_call0_call0_v81 : DevRef τ sig) = Noise.step11_t_v81 (F := F) (V (main_call0_call0_call0_v74 : DevRef τ sig)) (V (main_call0_call0_call0_v80 : DevRef τ sig)) := by
  after_reads_simp
  try simp -implicitDefEqProofs only [TRef.toBuf, TRef.ofBuf, cast_eq]
  rfl
theorem draw11_t_v87 (V : Valuation τ sig (Elt F)) : after draw11 V (main_call0_call0_call0_v87 : DevRef τ sig) = Noise.step11_t_v87 (F := F) (V (main_call0_call0_call0_v74 : DevRef τ sig)) (V (main_call0_call0_call0_v80 : DevRef τ sig)) := by
  after_reads_simp
  try simp only [TRef.ofBuf_toBuf]
  try simp -implicitDefEqProofs only [TRef.toBuf, TRef.ofBuf, cast_eq]
  rfl
theorem draw11_keeps (V : Valuation τ sig (Elt F)) : after draw11 V (main_call0_call0_v1 : DevRef τ sig) = V (main_call0_call0_v1 : DevRef τ sig)
    ∧ after draw11 V (main_call0_call0_v2 : DevRef τ sig) = V (main_call0_call0_v2 : DevRef τ sig)
    ∧ after draw11 V (main_call0_call0_v4 : DevRef τ sig) = V (main_call0_call0_v4 : DevRef τ sig)
    ∧ after draw11 V (main_call0_call0_v6 : DevRef τ sig) = V (main_call0_call0_v6 : DevRef τ sig)
    ∧ after draw11 V (main_call0_call0_call0_v1 : DevRef τ sig) = V (main_call0_call0_call0_v1 : DevRef τ sig)
    ∧ after draw11 V (main_arg0 : DevRef τ sig) = V (main_arg0 : DevRef τ sig)
    ∧ after draw11 V (main_arg1 : DevRef τ sig) = V (main_arg1 : DevRef τ sig) := by
  refine ⟨?_, ?_, ?_, ?_, ?_, ?_, ?_⟩ <;> after_reads_simp

theorem draw12_t_v88 (V : Valuation τ sig (Elt F)) : after draw12 V (main_call0_call0_call0_v88 : DevRef τ sig) = Noise.step12_t_v88 (F := F) (V (main_call0_call0_call0_v81 : DevRef τ sig)) (V (main_call0_call0_call0_v87 : DevRef τ sig)) := by
  after_reads_simp
  try simp -implicitDefEqProofs only [TRef.toBuf, TRef.ofBuf, cast_eq]
  rfl
theorem draw12_t_v94 (V : Valuation τ sig (Elt F)) : after draw12 V (main_call0_call0_call0_v94 : DevRef τ sig) = Noise.step12_t_v94 (F := F) (V (main_call0_call0_call0_v81 : DevRef τ sig)) (V (main_call0_call0_call0_v87 : DevRef τ sig)) := by
  after_reads_simp
  try simp only [TRef.ofBuf_toBuf]
  try simp -implicitDefEqProofs only [TRef.toBuf, TRef.ofBuf, cast_eq]
  rfl
theorem draw12_keeps (V : Valuation τ sig (Elt F)) : after draw12 V (main_call0_call0_v1 : DevRef τ sig) = V (main_call0_call0_v1 : DevRef τ sig)
    ∧ after draw12 V (main_call0_call0_v2 : DevRef τ sig) = V (main_call0_call0_v2 : DevRef τ sig)
    ∧ after draw12 V (main_call0_call0_v4 : DevRef τ sig) = V (main_call0_call0_v4 : DevRef τ sig)
    ∧ after draw12 V (main_call0_call0_v6 : DevRef τ sig) = V (main_call0_call0_v6 : DevRef τ sig)
    ∧ after draw12 V (main_call0_call0_call0_v1 : DevRef τ sig) = V (main_call0_call0_call0_v1 : DevRef τ sig)
    ∧ after draw12 V (main_arg0 : DevRef τ sig) = V (main_arg0 : DevRef τ sig)
    ∧ after draw12 V (main_arg1 : DevRef τ sig) = V (main_arg1 : DevRef τ sig) := by
  refine ⟨?_, ?_, ?_, ?_, ?_, ?_, ?_⟩ <;> after_reads_simp

theorem draw13_t_v95 (V : Valuation τ sig (Elt F)) : after draw13 V (main_call0_call0_call0_v95 : DevRef τ sig) = Noise.step13_t_v95 (F := F) (V (main_call0_call0_call0_v88 : DevRef τ sig)) (V (main_call0_call0_call0_v94 : DevRef τ sig)) := by
  after_reads_simp
  try simp -implicitDefEqProofs only [TRef.toBuf, TRef.ofBuf, cast_eq]
  rfl
theorem draw13_t_v101 (V : Valuation τ sig (Elt F)) : after draw13 V (main_call0_call0_call0_v101 : DevRef τ sig) = Noise.step13_t_v101 (F := F) (V (main_call0_call0_call0_v88 : DevRef τ sig)) (V (main_call0_call0_call0_v94 : DevRef τ sig)) := by
  after_reads_simp
  try simp only [TRef.ofBuf_toBuf]
  try simp -implicitDefEqProofs only [TRef.toBuf, TRef.ofBuf, cast_eq]
  rfl
theorem draw13_keeps (V : Valuation τ sig (Elt F)) : after draw13 V (main_call0_call0_v1 : DevRef τ sig) = V (main_call0_call0_v1 : DevRef τ sig)
    ∧ after draw13 V (main_call0_call0_v2 : DevRef τ sig) = V (main_call0_call0_v2 : DevRef τ sig)
    ∧ after draw13 V (main_call0_call0_v4 : DevRef τ sig) = V (main_call0_call0_v4 : DevRef τ sig)
    ∧ after draw13 V (main_call0_call0_v6 : DevRef τ sig) = V (main_call0_call0_v6 : DevRef τ sig)
    ∧ after draw13 V (main_call0_call0_call0_v1 : DevRef τ sig) = V (main_call0_call0_call0_v1 : DevRef τ sig)
    ∧ after draw13 V (main_arg0 : DevRef τ sig) = V (main_arg0 : DevRef τ sig)
    ∧ after draw13 V (main_arg1 : DevRef τ sig) = V (main_arg1 : DevRef τ sig) := by
  refine ⟨?_, ?_, ?_, ?_, ?_, ?_, ?_⟩ <;> after_reads_simp

theorem draw14_t_v108 (V : Valuation τ sig (Elt F)) : after draw14 V (main_call0_call0_call0_v108 : DevRef τ sig) = Noise.step14_t_v108 (F := F) (V (main_call0_call0_v4 : DevRef τ sig)) (V (main_call0_call0_v6 : DevRef τ sig)) (V (main_call0_call0_call0_v95 : DevRef τ sig)) (V (main_call0_call0_call0_v101 : DevRef τ sig)) := by
  after_reads_simp
  try simp only [TRef.ofBuf_toBuf]
  try simp -implicitDefEqProofs only [TRef.toBuf, TRef.ofBuf, cast_eq]
  rfl
theorem draw14_t_v114 (V : Valuation τ sig (Elt F)) : after draw14 V (main_call0_call0_call0_v114 : DevRef τ sig) = Noise.step14_t_v114 (F := F) (V (main_call0_call0_v4 : DevRef τ sig)) (V (main_call0_call0_v6 : DevRef τ sig)) (V (main_call0_call0_call0_v95 : DevRef τ sig)) (V (main_call0_call0_call0_v101 : DevRef τ sig)) := by
  after_reads_simp
  try simp only [TRef.ofBuf_toBuf]
  try simp -implicitDefEqProofs only [TRef.toBuf, TRef.ofBuf, cast_eq]
  rfl
theorem draw14_keeps (V : Valuation τ sig (Elt F)) : after draw14 V (main_call0_call0_v1 : DevRef τ sig) = V (main_call0_call0_v1 : DevRef τ sig)
    ∧ after draw14 V (main_call0_call0_v2 : DevRef τ sig) = V (main_call0_call0_v2 : DevRef τ sig)
    ∧ after draw14 V (main_call0_call0_v4 : DevRef τ sig) = V (main_call0_call0_v4 : DevRef τ sig)
    ∧ after draw14 V (main_call0_call0_v6 : DevRef τ sig) = V (main_call0_call0_v6 : DevRef τ sig)
    ∧ after draw14 V (main_call0_call0_call0_v1 : DevRef τ sig) = V (main_call0_call0_call0_v1 : DevRef τ sig)
    ∧ after draw14 V (main_arg0 : DevRef τ sig) = V (main_arg0 : DevRef τ sig)
    ∧ after draw14 V (main_arg1 : DevRef τ sig) = V (main_arg1 : DevRef τ sig) := by
  refine ⟨?_, ?_, ?_, ?_, ?_, ?_, ?_⟩ <;> after_reads_simp

theorem draw15_t_v115 (V : Valuation τ sig (Elt F)) : after draw15 V (main_call0_call0_call0_v115 : DevRef τ sig) = Noise.step15_t_v115 (F := F) (V (main_call0_call0_call0_v108 : DevRef τ sig)) (V (main_call0_call0_call0_v114 : DevRef τ sig)) := by
  after_reads_simp
  try simp -implicitDefEqProofs only [TRef.toBuf, TRef.ofBuf, cast_eq]
  rfl
theorem draw15_t_v121 (V : Valuation τ sig (Elt F)) : after draw15 V (main_call0_call0_call0_v121 : DevRef τ sig) = Noise.step15_t_v121 (F := F) (V (main_call0_call0_call0_v108 : DevRef τ sig)) (V (main_call0_call0_call0_v114 : DevRef τ sig)) := by
  after_reads_simp
  try simp only [TRef.ofBuf_toBuf]
  try simp -implicitDefEqProofs only [TRef.toBuf, TRef.ofBuf, cast_eq]
  rfl
theorem draw15_keeps (V : Valuation τ sig (Elt F)) : after draw15 V (main_call0_call0_v1 : DevRef τ sig) = V (main_call0_call0_v1 : DevRef τ sig)
    ∧ after draw15 V (main_call0_call0_v2 : DevRef τ sig) = V (main_call0_call0_v2 : DevRef τ sig)
    ∧ after draw15 V (main_call0_call0_v4 : DevRef τ sig) = V (main_call0_call0_v4 : DevRef τ sig)
    ∧ after draw15 V (main_call0_call0_v6 : DevRef τ sig) = V (main_call0_call0_v6 : DevRef τ sig)
    ∧ after draw15 V (main_call0_call0_call0_v1 : DevRef τ sig) = V (main_call0_call0_call0_v1 : DevRef τ sig)
    ∧ after draw15 V (main_arg0 : DevRef τ sig) = V (main_arg0 : DevRef τ sig)
    ∧ after draw15 V (main_arg1 : DevRef τ sig) = V (main_arg1 : DevRef τ sig) := by
  refine ⟨?_, ?_, ?_, ?_, ?_, ?_, ?_⟩ <;> after_reads_simp

theorem draw16_t_v122 (V : Valuation τ sig (Elt F)) : after draw16 V (main_call0_call0_call0_v122 : DevRef τ sig) = Noise.step16_t_v122 (F := F) (V (main_call0_call0_call0_v115 : DevRef τ sig)) (V (main_call0_call0_call0_v121 : DevRef τ sig)) := by
  after_reads_simp
  try simp -implicitDefEqProofs only [TRef.toBuf, TRef.ofBuf, cast_eq]
  rfl
theorem draw16_t_v128 (V : Valuation τ sig (Elt F)) : after draw16 V (main_call0_call0_call0_v128 : DevRef τ sig) = Noise.step16_t_v128 (F := F) (V (main_call0_call0_call0_v115 : DevRef τ sig)) (V (main_call0_call0_call0_v121 : DevRef τ sig)) := by
  after_reads_simp
  try simp only [TRef.ofBuf_toBuf]
  try simp -implicitDefEqProofs only [TRef.toBuf, TRef.ofBuf, cast_eq]
  rfl
theorem draw16_keeps (V : Valuation τ sig (Elt F)) : after draw16 V (main_call0_call0_v1 : DevRef τ sig) = V (main_call0_call0_v1 : DevRef τ sig)
    ∧ after draw16 V (main_call0_call0_v2 : DevRef τ sig) = V (main_call0_call0_v2 : DevRef τ sig)
    ∧ after draw16 V (main_call0_call0_v4 : DevRef τ sig) = V (main_call0_call0_v4 : DevRef τ sig)
    ∧ after draw16 V (main_call0_call0_v6 : DevRef τ sig) = V (main_call0_call0_v6 : DevRef τ sig)
    ∧ after draw16 V (main_call0_call0_call0_v1 : DevRef τ sig) = V (main_call0_call0_call0_v1 : DevRef τ sig)
    ∧ after draw16 V (main_arg0 : DevRef τ sig) = V (main_arg0 : DevRef τ sig)
    ∧ after draw16 V (main_arg1 : DevRef τ sig) = V (main_arg1 : DevRef τ sig) := by
  refine ⟨?_, ?_, ?_, ?_, ?_, ?_, ?_⟩ <;> after_reads_simp

theorem draw17_t_v129 (V : Valuation τ sig (Elt F)) : after draw17 V (main_call0_call0_call0_v129 : DevRef τ sig) = Noise.step17_t_v129 (F := F) (V (main_call0_call0_call0_v122 : DevRef τ sig)) (V (main_call0_call0_call0_v128 : DevRef τ sig)) := by
  after_reads_simp
  try simp -implicitDefEqProofs only [TRef.toBuf, TRef.ofBuf, cast_eq]
  rfl
theorem draw17_t_v135 (V : Valuation τ sig (Elt F)) : after draw17 V (main_call0_call0_call0_v135 : DevRef τ sig) = Noise.step17_t_v135 (F := F) (V (main_call0_call0_call0_v122 : DevRef τ sig)) (V (main_call0_call0_call0_v128 : DevRef τ sig)) := by
  after_reads_simp
  try simp only [TRef.ofBuf_toBuf]
  try simp -implicitDefEqProofs only [TRef.toBuf, TRef.ofBuf, cast_eq]
  rfl
theorem draw17_keeps (V : Valuation τ sig (Elt F)) : after draw17 V (main_call0_call0_v1 : DevRef τ sig) = V (main_call0_call0_v1 : DevRef τ sig)
    ∧ after draw17 V (main_call0_call0_v2 : DevRef τ sig) = V (main_call0_call0_v2 : DevRef τ sig)
    ∧ after draw17 V (main_call0_call0_v4 : DevRef τ sig) = V (main_call0_call0_v4 : DevRef τ sig)
    ∧ after draw17 V (main_call0_call0_v6 : DevRef τ sig) = V (main_call0_call0_v6 : DevRef τ sig)
    ∧ after draw17 V (main_call0_call0_call0_v1 : DevRef τ sig) = V (main_call0_call0_call0_v1 : DevRef τ sig)
    ∧ after draw17 V (main_arg0 : DevRef τ sig) = V (main_arg0 : DevRef τ sig)
    ∧ after draw17 V (main_arg1 : DevRef τ sig) = V (main_arg1 : DevRef τ sig) := by
  refine ⟨?_, ?_, ?_, ?_, ?_, ?_, ?_⟩ <;> after_reads_simp

theorem draw18_t_v142 (V : Valuation τ sig (Elt F)) : after draw18 V (main_call0_call0_call0_v142 : DevRef τ sig) = Noise.step18_t_v142 (F := F) (V (main_call0_call0_v6 : DevRef τ sig)) (V (main_call0_call0_call0_v1 : DevRef τ sig)) (V (main_call0_call0_call0_v129 : DevRef τ sig)) (V (main_call0_call0_call0_v135 : DevRef τ sig)) := by
  after_reads_simp
  try simp only [TRef.ofBuf_toBuf]
  try simp -implicitDefEqProofs only [TRef.toBuf, TRef.ofBuf, cast_eq]
  rfl
theorem draw18_t_v148 (V : Valuation τ sig (Elt F)) : after draw18 V (main_call0_call0_call0_v148 : DevRef τ sig) = Noise.step18_t_v148 (F := F) (V (main_call0_call0_v6 : DevRef τ sig)) (V (main_call0_call0_call0_v1 : DevRef τ sig)) (V (main_call0_call0_call0_v129 : DevRef τ sig)) (V (main_call0_call0_call0_v135 : DevRef τ sig)) := by
  after_reads_simp
  try simp only [TRef.ofBuf_toBuf]
  try simp -implicitDefEqProofs only [TRef.toBuf, TRef.ofBuf, cast_eq]
  rfl
theorem draw18_keeps (V : Valuation τ sig (Elt F)) : after draw18 V (main_call0_call0_v1 : DevRef τ sig) = V (main_call0_call0_v1 : DevRef τ sig)
    ∧ after draw18 V (main_call0_call0_v2 : DevRef τ sig) = V (main_call0_call0_v2 : DevRef τ sig)
    ∧ after draw18 V (main_call0_call0_v4 : DevRef τ sig) = V (main_call0_call0_v4 : DevRef τ sig)
    ∧ after draw18 V (main_call0_call0_call0_v1 : DevRef τ sig) = V (main_call0_call0_call0_v1 : DevRef τ sig)
    ∧ after draw18 V (main_arg0 : DevRef τ sig) = V (main_arg0 : DevRef τ sig)
    ∧ after draw18 V (main_arg1 : DevRef τ sig) = V (main_arg1 : DevRef τ sig) := by
  refine ⟨?_, ?_, ?_, ?_, ?_, ?_⟩ <;> after_reads_simp

theorem draw19_t_v149 (V : Valuation τ sig (Elt F)) : after draw19 V (main_call0_call0_call0_v149 : DevRef τ sig) = Noise.step19_t_v149 (F := F) (V (main_call0_call0_call0_v142 : DevRef τ sig)) (V (main_call0_call0_call0_v148 : DevRef τ sig)) := by
  after_reads_simp
  try simp -implicitDefEqProofs only [TRef.toBuf, TRef.ofBuf, cast_eq]
  rfl
theorem draw19_t_v155 (V : Valuation τ sig (Elt F)) : after draw19 V (main_call0_call0_call0_v155 : DevRef τ sig) = Noise.step19_t_v155 (F := F) (V (main_call0_call0_call0_v142 : DevRef τ sig)) (V (main_call0_call0_call0_v148 : DevRef τ sig)) := by
  after_reads_simp
  try simp only [TRef.ofBuf_toBuf]
  try simp -implicitDefEqProofs only [TRef.toBuf, TRef.ofBuf, cast_eq]
  rfl
theorem draw19_keeps (V : Valuation τ sig (Elt F)) : after draw19 V (main_call0_call0_v1 : DevRef τ sig) = V (main_call0_call0_v1 : DevRef τ sig)
    ∧ after draw19 V (main_call0_call0_v2 : DevRef τ sig) = V (main_call0_call0_v2 : DevRef τ sig)
    ∧ after draw19 V (main_call0_call0_v4 : DevRef τ sig) = V (main_call0_call0_v4 : DevRef τ sig)
    ∧ after draw19 V (main_call0_call0_call0_v1 : DevRef τ sig) = V (main_call0_call0_call0_v1 : DevRef τ sig)
    ∧ after draw19 V (main_arg0 : DevRef τ sig) = V (main_arg0 : DevRef τ sig)
    ∧ after draw19 V (main_arg1 : DevRef τ sig) = V (main_arg1 : DevRef τ sig) := by
  refine ⟨?_, ?_, ?_, ?_, ?_, ?_⟩ <;> after_reads_simp

theorem draw20_t_v156 (V : Valuation τ sig (Elt F)) : after draw20 V (main_call0_call0_call0_v156 : DevRef τ sig) = Noise.step20_t_v156 (F := F) (V (main_call0_call0_call0_v149 : DevRef τ sig)) (V (main_call0_call0_call0_v155 : DevRef τ sig)) := by
  after_reads_simp
  try simp -implicitDefEqProofs only [TRef.toBuf, TRef.ofBuf, cast_eq]
  rfl
theorem draw20_t_v162 (V : Valuation τ sig (Elt F)) : after draw20 V (main_call0_call0_call0_v162 : DevRef τ sig) = Noise.step20_t_v162 (F := F) (V (main_call0_call0_call0_v149 : DevRef τ sig)) (V (main_call0_call0_call0_v155 : DevRef τ sig)) := by
  after_reads_simp
  try simp only [TRef.ofBuf_toBuf]
  try simp -implicitDefEqProofs only [TRef.toBuf, TRef.ofBuf, cast_eq]
  rfl
theorem draw20_keeps (V : Valuation τ sig (Elt F)) : after draw20 V (main_call0_call0_v1 : DevRef τ sig) = V (main_call0_call0_v1 : DevRef τ sig)
    ∧ after draw20 V (main_call0_call0_v2 : DevRef τ sig) = V (main_call0_call0_v2 : DevRef τ sig)
    ∧ after draw20 V (main_call0_call0_v4 : DevRef τ sig) = V (main_call0_call0_v4 : DevRef τ sig)
    ∧ after draw20 V (main_call0_call0_call0_v1 : DevRef τ sig) = V (main_call0_call0_call0_v1 : DevRef τ sig)
    ∧ after draw20 V (main_arg0 : DevRef τ sig) = V (main_arg0 : DevRef τ sig)
    ∧ after draw20 V (main_arg1 : DevRef τ sig) = V (main_arg1 : DevRef τ sig) := by
  refine ⟨?_, ?_, ?_, ?_, ?_, ?_⟩ <;> after_reads_simp

theorem draw21_t_v163 (V : Valuation τ sig (Elt F)) : after draw21 V (main_call0_call0_call0_v163 : DevRef τ sig) = Noise.step21_t_v163 (F := F) (V (main_call0_call0_call0_v156 : DevRef τ sig)) (V (main_call0_call0_call0_v162 : DevRef τ sig)) := by
  after_reads_simp
  try simp -implicitDefEqProofs only [TRef.toBuf, TRef.ofBuf, cast_eq]
  rfl
theorem draw21_t_v169 (V : Valuation τ sig (Elt F)) : after draw21 V (main_call0_call0_call0_v169 : DevRef τ sig) = Noise.step21_t_v169 (F := F) (V (main_call0_call0_call0_v156 : DevRef τ sig)) (V (main_call0_call0_call0_v162 : DevRef τ sig)) := by
  after_reads_simp
  try simp only [TRef.ofBuf_toBuf]
  try simp -implicitDefEqProofs only [TRef.toBuf, TRef.ofBuf, cast_eq]
  rfl
theorem draw21_keeps (V : Valuation τ sig (Elt F)) : after draw21 V (main_call0_call0_v1 : DevRef τ sig) = V (main_call0_call0_v1 : DevRef τ sig)
    ∧ after draw21 V (main_call0_call0_v2 : DevRef τ sig) = V (main_call0_call0_v2 : DevRef τ sig)
    ∧ after draw21 V (main_call0_call0_v4 : DevRef τ sig) = V (main_call0_call0_v4 : DevRef τ sig)
    ∧ after draw21 V (main_call0_call0_call0_v1 : DevRef τ sig) = V (main_call0_call0_call0_v1 : DevRef τ sig)
    ∧ after draw21 V (main_arg0 : DevRef τ sig) = V (main_arg0 : DevRef τ sig)
    ∧ after draw21 V (main_arg1 : DevRef τ sig) = V (main_arg1 : DevRef τ sig) := by
  refine ⟨?_, ?_, ?_, ?_, ?_, ?_⟩ <;> after_reads_simp

theorem draw22_v_v18_0 (V : Valuation τ sig (Elt F)) : after draw22 V (main_call0_call0_v18_0 : DevRef τ sig) = Noise.step22_v_v18_0 (F := F) (V (main_call0_call0_call0_v1 : DevRef τ sig)) (V (main_call0_call0_call0_v163 : DevRef τ sig)) := by
  after_reads_simp
  try simp only [TRef.ofBuf_toBuf]
  try simp -implicitDefEqProofs only [TRef.toBuf, TRef.ofBuf, cast_eq]
  rfl
theorem draw22_v_v18_1 (V : Valuation τ sig (Elt F)) : after draw22 V (main_call0_call0_v18_1 : DevRef τ sig) = Noise.step22_v_v18_1 (F := F) (V (main_call0_call0_v4 : DevRef τ sig)) (V (main_call0_call0_call0_v169 : DevRef τ sig)) := by
  after_reads_simp
  try simp only [TRef.ofBuf_toBuf]
  try simp -implicitDefEqProofs only [TRef.toBuf, TRef.ofBuf, cast_eq]
  rfl
theorem draw22_keeps (V : Valuation τ sig (Elt F)) : after draw22 V (main_call0_call0_v1 : DevRef τ sig) = V (main_call0_call0_v1 : DevRef τ sig)
    ∧ after draw22 V (main_call0_call0_v2 : DevRef τ sig) = V (main_call0_call0_v2 : DevRef τ sig)
    ∧ after draw22 V (main_arg0 : DevRef τ sig) = V (main_arg0 : DevRef τ sig)
    ∧ after draw22 V (main_arg1 : DevRef τ sig) = V (main_arg1 : DevRef τ sig) := by
  refine ⟨?_, ?_, ?_, ?_⟩ <;> after_reads_simp

theorem draw23_v_v24 (V : Valuation τ sig (Elt F)) : after draw23 V (main_call0_call0_v24 : DevRef τ sig) = Noise.step23_v_v24 (F := F) (V (main_call0_call0_v18_0 : DevRef τ sig)) (V (main_call0_call0_v18_1 : DevRef τ sig)) := by
  after_reads_simp
  try simp only [TRef.ofBuf_toBuf]
  try simp -implicitDefEqProofs only [TRef.toBuf, TRef.ofBuf, cast_eq]
  rfl
theorem draw23_keeps (V : Valuation τ sig (Elt F)) : after draw23 V (main_call0_call0_v1 : DevRef τ sig) = V (main_call0_call0_v1 : DevRef τ sig)
    ∧ after draw23 V (main_call0_call0_v2 : DevRef τ sig) = V (main_call0_call0_v2 : DevRef τ sig)
    ∧ after draw23 V (main_arg0 : DevRef τ sig) = V (main_arg0 : DevRef τ sig)
    ∧ after draw23 V (main_arg1 : DevRef τ sig) = V (main_arg1 : DevRef τ sig) := by
  refine ⟨?_, ?_, ?_, ?_⟩ <;> after_reads_simp

theorem draw24_m_v7 (V : Valuation τ sig (Elt F)) : after draw24 V (main_v7 : DevRef τ sig) = Noise.step24_m_v7 (F := F) (V (main_call0_call0_v1 : DevRef τ sig)) (V (main_call0_call0_v2 : DevRef τ sig)) (V (main_call0_call0_v24 : DevRef τ sig)) := by
  after_reads_simp
  try simp only [TRef.ofBuf_toBuf]
  try simp -implicitDefEqProofs only [TRef.toBuf, TRef.ofBuf, cast_eq]
  rfl
theorem draw24_keeps (V : Valuation τ sig (Elt F)) : after draw24 V (main_arg0 : DevRef τ sig) = V (main_arg0 : DevRef τ sig)
    ∧ after draw24 V (main_arg1 : DevRef τ sig) = V (main_arg1 : DevRef τ sig) := by
  refine ⟨?_, ?_⟩ <;> after_reads_simp

/-! ## The whole draw -/

private theorem after_all (a0 a1 a2 a3 a4 a5 a6 a7 a8 a9 a10 a11 a12 a13 a14 a15 a16 a17 a18 a19 a20 a21 a22 a23 a24 : List (HloOp τ sig (Elt F))) (V : Valuation τ sig (Elt F)) :
    after (a0 ++ a1 ++ a2 ++ a3 ++ a4 ++ a5 ++ a6 ++ a7 ++ a8 ++ a9 ++ a10 ++ a11 ++ a12 ++ a13 ++ a14 ++ a15 ++ a16 ++ a17 ++ a18 ++ a19 ++ a20 ++ a21 ++ a22 ++ a23 ++ a24) V
      = after a24 (after a23 (after a22 (after a21 (after a20 (after a19 (after a18 (after a17 (after a16 (after a15 (after a14 (after a13 (after a12 (after a11 (after a10 (after a9 (after a8 (after a7 (after a6 (after a5 (after a4 (after a3 (after a2 (after a1 (after a0 V)))))))))))))))))))))))) := by
  simp only [after_append]

/-- The whole draw. -/
abbrev draws : List (HloOp τ sig (Elt F)) :=
  draw0 ++ draw1 ++ draw2 ++ draw3 ++ draw4 ++ draw5 ++ draw6 ++ draw7 ++ draw8 ++ draw9 ++ draw10 ++ draw11 ++ draw12 ++ draw13 ++ draw14 ++ draw15 ++ draw16 ++ draw17 ++ draw18 ++ draw19 ++ draw20 ++ draw21 ++ draw22 ++ draw23 ++ draw24

theorem draw0_sub : (draw0 (F := F)).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub ..⟩
theorem draw1_sub : (draw1 (F := F)).Forall fun op => op.bufs ⊆ tcRefs τ sig :=
  ⟨nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩
theorem draw2_sub : (draw2 (F := F)).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem draw3_sub : (draw3 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw4_sub : (draw4 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw5_sub : (draw5 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw6_sub : (draw6 (F := F)).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem draw7_sub : (draw7 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw8_sub : (draw8 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw9_sub : (draw9 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw10_sub : (draw10 (F := F)).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem draw11_sub : (draw11 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw12_sub : (draw12 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw13_sub : (draw13 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw14_sub : (draw14 (F := F)).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem draw15_sub : (draw15 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw16_sub : (draw16 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw17_sub : (draw17 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw18_sub : (draw18 (F := F)).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem draw19_sub : (draw19 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw20_sub : (draw20 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw21_sub : (draw21 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem draw22_sub : (draw22 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem draw23_sub : (draw23 (F := F)).Forall fun op => op.bufs ⊆ tcRefs τ sig :=
  ⟨binary_bufs_sub .., nullary_bufs_sub .., unary_bufs_sub .., binary_bufs_sub .., nullary_bufs_sub .., unary_bufs_sub .., binary_bufs_sub .., unary_bufs_sub ..⟩
theorem draw24_sub : (draw24 (F := F)).Forall fun op => op.bufs ⊆ tcRefs τ sig :=
  ⟨nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub ..⟩
private theorem forall_all {a0 a1 a2 a3 a4 a5 a6 a7 a8 a9 a10 a11 a12 a13 a14 a15 a16 a17 a18 a19 a20 a21 a22 a23 a24 : List (HloOp τ sig (Elt F))} {p : HloOp τ sig (Elt F) → Prop}
    (h0 : a0.Forall p) (h1 : a1.Forall p) (h2 : a2.Forall p) (h3 : a3.Forall p) (h4 : a4.Forall p) (h5 : a5.Forall p) (h6 : a6.Forall p) (h7 : a7.Forall p) (h8 : a8.Forall p) (h9 : a9.Forall p) (h10 : a10.Forall p) (h11 : a11.Forall p) (h12 : a12.Forall p) (h13 : a13.Forall p) (h14 : a14.Forall p) (h15 : a15.Forall p) (h16 : a16.Forall p) (h17 : a17.Forall p) (h18 : a18.Forall p) (h19 : a19.Forall p) (h20 : a20.Forall p) (h21 : a21.Forall p) (h22 : a22.Forall p) (h23 : a23.Forall p) (h24 : a24.Forall p) :
    ∀ op ∈ a0 ++ a1 ++ a2 ++ a3 ++ a4 ++ a5 ++ a6 ++ a7 ++ a8 ++ a9 ++ a10 ++ a11 ++ a12 ++ a13 ++ a14 ++ a15 ++ a16 ++ a17 ++ a18 ++ a19 ++ a20 ++ a21 ++ a22 ++ a23 ++ a24, p op := by
  rw [← List.forall_iff_forall_mem]
  simp only [List.forall_append, h0, h1, h2, h3, h4, h5, h6, h7, h8, h9, h10, h11, h12, h13, h14, h15, h16, h17, h18, h19, h20, h21, h22, h23, h24, and_self]

theorem draws_sub : ∀ op ∈ (draws (F := F)), op.bufs ⊆ tcRefs τ sig :=
  forall_all (p := fun op => op.bufs ⊆ tcRefs τ sig) (a0 := draw0) (a1 := draw1) (a2 := draw2) (a3 := draw3) (a4 := draw4) (a5 := draw5) (a6 := draw6) (a7 := draw7) (a8 := draw8) (a9 := draw9) (a10 := draw10) (a11 := draw11) (a12 := draw12) (a13 := draw13) (a14 := draw14) (a15 := draw15) (a16 := draw16) (a17 := draw17) (a18 := draw18) (a19 := draw19) (a20 := draw20) (a21 := draw21) (a22 := draw22) (a23 := draw23) (a24 := draw24)
    draw0_sub draw1_sub draw2_sub draw3_sub draw4_sub draw5_sub draw6_sub draw7_sub draw8_sub draw9_sub draw10_sub draw11_sub draw12_sub draw13_sub draw14_sub draw15_sub draw16_sub draw17_sub draw18_sub draw19_sub draw20_sub draw21_sub draw22_sub draw23_sub draw24_sub

theorem draw0_fresh : (draw0 (F := F)).Forall fun op => op.fresh = ∅ := forall_fresh_of_map rfl
theorem draw1_fresh : (draw1 (F := F)).Forall fun op => op.fresh = ∅ := forall_fresh_of_map rfl
theorem draw2_fresh : (draw2 (F := F)).Forall fun op => op.fresh = ∅ := forall_fresh_of_map rfl
theorem draw3_fresh : (draw3 (F := F)).Forall fun op => op.fresh = ∅ := forall_fresh_of_map rfl
theorem draw4_fresh : (draw4 (F := F)).Forall fun op => op.fresh = ∅ := forall_fresh_of_map rfl
theorem draw5_fresh : (draw5 (F := F)).Forall fun op => op.fresh = ∅ := forall_fresh_of_map rfl
theorem draw6_fresh : (draw6 (F := F)).Forall fun op => op.fresh = ∅ := forall_fresh_of_map rfl
theorem draw7_fresh : (draw7 (F := F)).Forall fun op => op.fresh = ∅ := forall_fresh_of_map rfl
theorem draw8_fresh : (draw8 (F := F)).Forall fun op => op.fresh = ∅ := forall_fresh_of_map rfl
theorem draw9_fresh : (draw9 (F := F)).Forall fun op => op.fresh = ∅ := forall_fresh_of_map rfl
theorem draw10_fresh : (draw10 (F := F)).Forall fun op => op.fresh = ∅ := forall_fresh_of_map rfl
theorem draw11_fresh : (draw11 (F := F)).Forall fun op => op.fresh = ∅ := forall_fresh_of_map rfl
theorem draw12_fresh : (draw12 (F := F)).Forall fun op => op.fresh = ∅ := forall_fresh_of_map rfl
theorem draw13_fresh : (draw13 (F := F)).Forall fun op => op.fresh = ∅ := forall_fresh_of_map rfl
theorem draw14_fresh : (draw14 (F := F)).Forall fun op => op.fresh = ∅ := forall_fresh_of_map rfl
theorem draw15_fresh : (draw15 (F := F)).Forall fun op => op.fresh = ∅ := forall_fresh_of_map rfl
theorem draw16_fresh : (draw16 (F := F)).Forall fun op => op.fresh = ∅ := forall_fresh_of_map rfl
theorem draw17_fresh : (draw17 (F := F)).Forall fun op => op.fresh = ∅ := forall_fresh_of_map rfl
theorem draw18_fresh : (draw18 (F := F)).Forall fun op => op.fresh = ∅ := forall_fresh_of_map rfl
theorem draw19_fresh : (draw19 (F := F)).Forall fun op => op.fresh = ∅ := forall_fresh_of_map rfl
theorem draw20_fresh : (draw20 (F := F)).Forall fun op => op.fresh = ∅ := forall_fresh_of_map rfl
theorem draw21_fresh : (draw21 (F := F)).Forall fun op => op.fresh = ∅ := forall_fresh_of_map rfl
theorem draw22_fresh : (draw22 (F := F)).Forall fun op => op.fresh = ∅ := forall_fresh_of_map rfl
theorem draw23_fresh : (draw23 (F := F)).Forall fun op => op.fresh = ∅ := forall_fresh_of_map rfl
theorem draw24_fresh : (draw24 (F := F)).Forall fun op => op.fresh = ∅ := forall_fresh_of_map rfl

/-- No operation of the draw leaves a buffer undetermined. -/
theorem draws_fresh : ∀ op ∈ (draws (F := F)), op.fresh = ∅ :=
  forall_all (p := fun op => op.fresh = ∅) (a0 := draw0) (a1 := draw1) (a2 := draw2) (a3 := draw3) (a4 := draw4) (a5 := draw5) (a6 := draw6) (a7 := draw7) (a8 := draw8) (a9 := draw9) (a10 := draw10) (a11 := draw11) (a12 := draw12) (a13 := draw13) (a14 := draw14) (a15 := draw15) (a16 := draw16) (a17 := draw17) (a18 := draw18) (a19 := draw19) (a20 := draw20) (a21 := draw21) (a22 := draw22) (a23 := draw23) (a24 := draw24)
    draw0_fresh draw1_fresh draw2_fresh draw3_fresh draw4_fresh draw5_fresh draw6_fresh draw7_fresh draw8_fresh draw9_fresh draw10_fresh draw11_fresh draw12_fresh draw13_fresh draw14_fresh draw15_fresh draw16_fresh draw17_fresh draw18_fresh draw19_fresh draw20_fresh draw21_fresh draw22_fresh draw23_fresh draw24_fresh

set_option maxHeartbeats 4000000 in
/-- The draw leaves the noise table, and keeps the arguments. -/
theorem after_draws (V : Valuation τ sig (Elt F)) :
    after draws V (main_v7 : DevRef τ sig) = Noise.val_m_v7 F
    ∧ after draws V (main_arg0 : DevRef τ sig) = V (main_arg0 : DevRef τ sig)
    ∧ after draws V (main_arg1 : DevRef τ sig) = V (main_arg1 : DevRef τ sig) := by
  have hsplit : ∀ b, after draws V b = (after draw24 (after draw23 (after draw22 (after draw21 (after draw20 (after draw19 (after draw18 (after draw17 (after draw16 (after draw15 (after draw14 (after draw13 (after draw12 (after draw11 (after draw10 (after draw9 (after draw8 (after draw7 (after draw6 (after draw5 (after draw4 (after draw3 (after draw2 (after draw1 (after draw0 V))))))))))))))))))))))))) b := congrFun (after_all ..)
  simp only [hsplit]
  clear hsplit
  have p0_m_v6 := draw0_m_v6 V
  obtain ⟨q0_m_arg0, q0_m_arg1⟩ := draw0_keeps V
  generalize after draw0 V = V1 at *
  have e1_m_v6 : V1 (main_v6 : DevRef τ sig) = Noise.val_m_v6 F := by rw [p0_m_v6]; rfl
  have e1_m_arg0 : V1 (main_arg0 : DevRef τ sig) = V (main_arg0 : DevRef τ sig) := q0_m_arg0
  have e1_m_arg1 : V1 (main_arg1 : DevRef τ sig) = V (main_arg1 : DevRef τ sig) := q0_m_arg1
  have p1_v_v1 := draw1_v_v1 V1
  have p1_v_v2 := draw1_v_v2 V1
  have p1_v_v4 := draw1_v_v4 V1
  have p1_v_v6 := draw1_v_v6 V1
  have p1_v_v16 := draw1_v_v16 V1
  have p1_v_v17 := draw1_v_v17 V1
  obtain ⟨q1_m_arg0, q1_m_arg1⟩ := draw1_keeps V1
  generalize after draw1 V1 = V2 at *
  have e2_v_v1 : V2 (main_call0_call0_v1 : DevRef τ sig) = Noise.val_v_v1 F := by rw [p1_v_v1]; rfl
  have e2_v_v2 : V2 (main_call0_call0_v2 : DevRef τ sig) = Noise.val_v_v2 F := by rw [p1_v_v2]; rfl
  have e2_v_v4 : V2 (main_call0_call0_v4 : DevRef τ sig) = Noise.val_v_v4 F := by rw [p1_v_v4, e1_m_v6]; rfl
  have e2_v_v6 : V2 (main_call0_call0_v6 : DevRef τ sig) = Noise.val_v_v6 F := by rw [p1_v_v6, e1_m_v6]; rfl
  have e2_v_v16 : V2 (main_call0_call0_v16 : DevRef τ sig) = Noise.val_v_v16 F := by rw [p1_v_v16]; rfl
  have e2_v_v17 : V2 (main_call0_call0_v17 : DevRef τ sig) = Noise.val_v_v17 F := by rw [p1_v_v17]; rfl
  have e2_m_arg0 : V2 (main_arg0 : DevRef τ sig) = V (main_arg0 : DevRef τ sig) := q1_m_arg0.trans e1_m_arg0
  have e2_m_arg1 : V2 (main_arg1 : DevRef τ sig) = V (main_arg1 : DevRef τ sig) := q1_m_arg1.trans e1_m_arg1
  have p2_t_v1 := draw2_t_v1 V2
  have p2_t_v6 := draw2_t_v6 V2
  have p2_t_v12 := draw2_t_v12 V2
  obtain ⟨q2_v_v1, q2_v_v2, q2_v_v4, q2_v_v6, q2_m_arg0, q2_m_arg1⟩ := draw2_keeps V2
  generalize after draw2 V2 = V3 at *
  have e3_t_v1 : V3 (main_call0_call0_call0_v1 : DevRef τ sig) = Noise.val_t_v1 F := by rw [p2_t_v1, e2_v_v4, e2_v_v6]; rfl
  have e3_t_v6 : V3 (main_call0_call0_call0_v6 : DevRef τ sig) = Noise.val_t_v6 F := by rw [p2_t_v6, e2_v_v4, e2_v_v6, e2_v_v16, e2_v_v17]; rfl
  have e3_t_v12 : V3 (main_call0_call0_call0_v12 : DevRef τ sig) = Noise.val_t_v12 F := by rw [p2_t_v12, e2_v_v4, e2_v_v6, e2_v_v16, e2_v_v17]; rfl
  have e3_v_v1 : V3 (main_call0_call0_v1 : DevRef τ sig) = Noise.val_v_v1 F := q2_v_v1.trans e2_v_v1
  have e3_v_v2 : V3 (main_call0_call0_v2 : DevRef τ sig) = Noise.val_v_v2 F := q2_v_v2.trans e2_v_v2
  have e3_v_v4 : V3 (main_call0_call0_v4 : DevRef τ sig) = Noise.val_v_v4 F := q2_v_v4.trans e2_v_v4
  have e3_v_v6 : V3 (main_call0_call0_v6 : DevRef τ sig) = Noise.val_v_v6 F := q2_v_v6.trans e2_v_v6
  have e3_m_arg0 : V3 (main_arg0 : DevRef τ sig) = V (main_arg0 : DevRef τ sig) := q2_m_arg0.trans e2_m_arg0
  have e3_m_arg1 : V3 (main_arg1 : DevRef τ sig) = V (main_arg1 : DevRef τ sig) := q2_m_arg1.trans e2_m_arg1
  have p3_t_v13 := draw3_t_v13 V3
  have p3_t_v19 := draw3_t_v19 V3
  obtain ⟨q3_v_v1, q3_v_v2, q3_v_v4, q3_v_v6, q3_t_v1, q3_m_arg0, q3_m_arg1⟩ := draw3_keeps V3
  generalize after draw3 V3 = V4 at *
  have e4_t_v13 : V4 (main_call0_call0_call0_v13 : DevRef τ sig) = Noise.val_t_v13 F := by rw [p3_t_v13, e3_t_v6, e3_t_v12]; rfl
  have e4_t_v19 : V4 (main_call0_call0_call0_v19 : DevRef τ sig) = Noise.val_t_v19 F := by rw [p3_t_v19, e3_t_v6, e3_t_v12]; rfl
  have e4_v_v1 : V4 (main_call0_call0_v1 : DevRef τ sig) = Noise.val_v_v1 F := q3_v_v1.trans e3_v_v1
  have e4_v_v2 : V4 (main_call0_call0_v2 : DevRef τ sig) = Noise.val_v_v2 F := q3_v_v2.trans e3_v_v2
  have e4_v_v4 : V4 (main_call0_call0_v4 : DevRef τ sig) = Noise.val_v_v4 F := q3_v_v4.trans e3_v_v4
  have e4_v_v6 : V4 (main_call0_call0_v6 : DevRef τ sig) = Noise.val_v_v6 F := q3_v_v6.trans e3_v_v6
  have e4_t_v1 : V4 (main_call0_call0_call0_v1 : DevRef τ sig) = Noise.val_t_v1 F := q3_t_v1.trans e3_t_v1
  have e4_m_arg0 : V4 (main_arg0 : DevRef τ sig) = V (main_arg0 : DevRef τ sig) := q3_m_arg0.trans e3_m_arg0
  have e4_m_arg1 : V4 (main_arg1 : DevRef τ sig) = V (main_arg1 : DevRef τ sig) := q3_m_arg1.trans e3_m_arg1
  have p4_t_v20 := draw4_t_v20 V4
  have p4_t_v26 := draw4_t_v26 V4
  obtain ⟨q4_v_v1, q4_v_v2, q4_v_v4, q4_v_v6, q4_t_v1, q4_m_arg0, q4_m_arg1⟩ := draw4_keeps V4
  generalize after draw4 V4 = V5 at *
  have e5_t_v20 : V5 (main_call0_call0_call0_v20 : DevRef τ sig) = Noise.val_t_v20 F := by rw [p4_t_v20, e4_t_v13, e4_t_v19]; rfl
  have e5_t_v26 : V5 (main_call0_call0_call0_v26 : DevRef τ sig) = Noise.val_t_v26 F := by rw [p4_t_v26, e4_t_v13, e4_t_v19]; rfl
  have e5_v_v1 : V5 (main_call0_call0_v1 : DevRef τ sig) = Noise.val_v_v1 F := q4_v_v1.trans e4_v_v1
  have e5_v_v2 : V5 (main_call0_call0_v2 : DevRef τ sig) = Noise.val_v_v2 F := q4_v_v2.trans e4_v_v2
  have e5_v_v4 : V5 (main_call0_call0_v4 : DevRef τ sig) = Noise.val_v_v4 F := q4_v_v4.trans e4_v_v4
  have e5_v_v6 : V5 (main_call0_call0_v6 : DevRef τ sig) = Noise.val_v_v6 F := q4_v_v6.trans e4_v_v6
  have e5_t_v1 : V5 (main_call0_call0_call0_v1 : DevRef τ sig) = Noise.val_t_v1 F := q4_t_v1.trans e4_t_v1
  have e5_m_arg0 : V5 (main_arg0 : DevRef τ sig) = V (main_arg0 : DevRef τ sig) := q4_m_arg0.trans e4_m_arg0
  have e5_m_arg1 : V5 (main_arg1 : DevRef τ sig) = V (main_arg1 : DevRef τ sig) := q4_m_arg1.trans e4_m_arg1
  have p5_t_v27 := draw5_t_v27 V5
  have p5_t_v33 := draw5_t_v33 V5
  obtain ⟨q5_v_v1, q5_v_v2, q5_v_v4, q5_v_v6, q5_t_v1, q5_m_arg0, q5_m_arg1⟩ := draw5_keeps V5
  generalize after draw5 V5 = V6 at *
  have e6_t_v27 : V6 (main_call0_call0_call0_v27 : DevRef τ sig) = Noise.val_t_v27 F := by rw [p5_t_v27, e5_t_v20, e5_t_v26]; rfl
  have e6_t_v33 : V6 (main_call0_call0_call0_v33 : DevRef τ sig) = Noise.val_t_v33 F := by rw [p5_t_v33, e5_t_v20, e5_t_v26]; rfl
  have e6_v_v1 : V6 (main_call0_call0_v1 : DevRef τ sig) = Noise.val_v_v1 F := q5_v_v1.trans e5_v_v1
  have e6_v_v2 : V6 (main_call0_call0_v2 : DevRef τ sig) = Noise.val_v_v2 F := q5_v_v2.trans e5_v_v2
  have e6_v_v4 : V6 (main_call0_call0_v4 : DevRef τ sig) = Noise.val_v_v4 F := q5_v_v4.trans e5_v_v4
  have e6_v_v6 : V6 (main_call0_call0_v6 : DevRef τ sig) = Noise.val_v_v6 F := q5_v_v6.trans e5_v_v6
  have e6_t_v1 : V6 (main_call0_call0_call0_v1 : DevRef τ sig) = Noise.val_t_v1 F := q5_t_v1.trans e5_t_v1
  have e6_m_arg0 : V6 (main_arg0 : DevRef τ sig) = V (main_arg0 : DevRef τ sig) := q5_m_arg0.trans e5_m_arg0
  have e6_m_arg1 : V6 (main_arg1 : DevRef τ sig) = V (main_arg1 : DevRef τ sig) := q5_m_arg1.trans e5_m_arg1
  have p6_t_v40 := draw6_t_v40 V6
  have p6_t_v46 := draw6_t_v46 V6
  obtain ⟨q6_v_v1, q6_v_v2, q6_v_v4, q6_v_v6, q6_t_v1, q6_m_arg0, q6_m_arg1⟩ := draw6_keeps V6
  generalize after draw6 V6 = V7 at *
  have e7_t_v40 : V7 (main_call0_call0_call0_v40 : DevRef τ sig) = Noise.val_t_v40 F := by rw [p6_t_v40, e6_v_v6, e6_t_v1, e6_t_v27, e6_t_v33]; rfl
  have e7_t_v46 : V7 (main_call0_call0_call0_v46 : DevRef τ sig) = Noise.val_t_v46 F := by rw [p6_t_v46, e6_v_v6, e6_t_v1, e6_t_v27, e6_t_v33]; rfl
  have e7_v_v1 : V7 (main_call0_call0_v1 : DevRef τ sig) = Noise.val_v_v1 F := q6_v_v1.trans e6_v_v1
  have e7_v_v2 : V7 (main_call0_call0_v2 : DevRef τ sig) = Noise.val_v_v2 F := q6_v_v2.trans e6_v_v2
  have e7_v_v4 : V7 (main_call0_call0_v4 : DevRef τ sig) = Noise.val_v_v4 F := q6_v_v4.trans e6_v_v4
  have e7_v_v6 : V7 (main_call0_call0_v6 : DevRef τ sig) = Noise.val_v_v6 F := q6_v_v6.trans e6_v_v6
  have e7_t_v1 : V7 (main_call0_call0_call0_v1 : DevRef τ sig) = Noise.val_t_v1 F := q6_t_v1.trans e6_t_v1
  have e7_m_arg0 : V7 (main_arg0 : DevRef τ sig) = V (main_arg0 : DevRef τ sig) := q6_m_arg0.trans e6_m_arg0
  have e7_m_arg1 : V7 (main_arg1 : DevRef τ sig) = V (main_arg1 : DevRef τ sig) := q6_m_arg1.trans e6_m_arg1
  have p7_t_v47 := draw7_t_v47 V7
  have p7_t_v53 := draw7_t_v53 V7
  obtain ⟨q7_v_v1, q7_v_v2, q7_v_v4, q7_v_v6, q7_t_v1, q7_m_arg0, q7_m_arg1⟩ := draw7_keeps V7
  generalize after draw7 V7 = V8 at *
  have e8_t_v47 : V8 (main_call0_call0_call0_v47 : DevRef τ sig) = Noise.val_t_v47 F := by rw [p7_t_v47, e7_t_v40, e7_t_v46]; rfl
  have e8_t_v53 : V8 (main_call0_call0_call0_v53 : DevRef τ sig) = Noise.val_t_v53 F := by rw [p7_t_v53, e7_t_v40, e7_t_v46]; rfl
  have e8_v_v1 : V8 (main_call0_call0_v1 : DevRef τ sig) = Noise.val_v_v1 F := q7_v_v1.trans e7_v_v1
  have e8_v_v2 : V8 (main_call0_call0_v2 : DevRef τ sig) = Noise.val_v_v2 F := q7_v_v2.trans e7_v_v2
  have e8_v_v4 : V8 (main_call0_call0_v4 : DevRef τ sig) = Noise.val_v_v4 F := q7_v_v4.trans e7_v_v4
  have e8_v_v6 : V8 (main_call0_call0_v6 : DevRef τ sig) = Noise.val_v_v6 F := q7_v_v6.trans e7_v_v6
  have e8_t_v1 : V8 (main_call0_call0_call0_v1 : DevRef τ sig) = Noise.val_t_v1 F := q7_t_v1.trans e7_t_v1
  have e8_m_arg0 : V8 (main_arg0 : DevRef τ sig) = V (main_arg0 : DevRef τ sig) := q7_m_arg0.trans e7_m_arg0
  have e8_m_arg1 : V8 (main_arg1 : DevRef τ sig) = V (main_arg1 : DevRef τ sig) := q7_m_arg1.trans e7_m_arg1
  have p8_t_v54 := draw8_t_v54 V8
  have p8_t_v60 := draw8_t_v60 V8
  obtain ⟨q8_v_v1, q8_v_v2, q8_v_v4, q8_v_v6, q8_t_v1, q8_m_arg0, q8_m_arg1⟩ := draw8_keeps V8
  generalize after draw8 V8 = V9 at *
  have e9_t_v54 : V9 (main_call0_call0_call0_v54 : DevRef τ sig) = Noise.val_t_v54 F := by rw [p8_t_v54, e8_t_v47, e8_t_v53]; rfl
  have e9_t_v60 : V9 (main_call0_call0_call0_v60 : DevRef τ sig) = Noise.val_t_v60 F := by rw [p8_t_v60, e8_t_v47, e8_t_v53]; rfl
  have e9_v_v1 : V9 (main_call0_call0_v1 : DevRef τ sig) = Noise.val_v_v1 F := q8_v_v1.trans e8_v_v1
  have e9_v_v2 : V9 (main_call0_call0_v2 : DevRef τ sig) = Noise.val_v_v2 F := q8_v_v2.trans e8_v_v2
  have e9_v_v4 : V9 (main_call0_call0_v4 : DevRef τ sig) = Noise.val_v_v4 F := q8_v_v4.trans e8_v_v4
  have e9_v_v6 : V9 (main_call0_call0_v6 : DevRef τ sig) = Noise.val_v_v6 F := q8_v_v6.trans e8_v_v6
  have e9_t_v1 : V9 (main_call0_call0_call0_v1 : DevRef τ sig) = Noise.val_t_v1 F := q8_t_v1.trans e8_t_v1
  have e9_m_arg0 : V9 (main_arg0 : DevRef τ sig) = V (main_arg0 : DevRef τ sig) := q8_m_arg0.trans e8_m_arg0
  have e9_m_arg1 : V9 (main_arg1 : DevRef τ sig) = V (main_arg1 : DevRef τ sig) := q8_m_arg1.trans e8_m_arg1
  have p9_t_v61 := draw9_t_v61 V9
  have p9_t_v67 := draw9_t_v67 V9
  obtain ⟨q9_v_v1, q9_v_v2, q9_v_v4, q9_v_v6, q9_t_v1, q9_m_arg0, q9_m_arg1⟩ := draw9_keeps V9
  generalize after draw9 V9 = V10 at *
  have e10_t_v61 : V10 (main_call0_call0_call0_v61 : DevRef τ sig) = Noise.val_t_v61 F := by rw [p9_t_v61, e9_t_v54, e9_t_v60]; rfl
  have e10_t_v67 : V10 (main_call0_call0_call0_v67 : DevRef τ sig) = Noise.val_t_v67 F := by rw [p9_t_v67, e9_t_v54, e9_t_v60]; rfl
  have e10_v_v1 : V10 (main_call0_call0_v1 : DevRef τ sig) = Noise.val_v_v1 F := q9_v_v1.trans e9_v_v1
  have e10_v_v2 : V10 (main_call0_call0_v2 : DevRef τ sig) = Noise.val_v_v2 F := q9_v_v2.trans e9_v_v2
  have e10_v_v4 : V10 (main_call0_call0_v4 : DevRef τ sig) = Noise.val_v_v4 F := q9_v_v4.trans e9_v_v4
  have e10_v_v6 : V10 (main_call0_call0_v6 : DevRef τ sig) = Noise.val_v_v6 F := q9_v_v6.trans e9_v_v6
  have e10_t_v1 : V10 (main_call0_call0_call0_v1 : DevRef τ sig) = Noise.val_t_v1 F := q9_t_v1.trans e9_t_v1
  have e10_m_arg0 : V10 (main_arg0 : DevRef τ sig) = V (main_arg0 : DevRef τ sig) := q9_m_arg0.trans e9_m_arg0
  have e10_m_arg1 : V10 (main_arg1 : DevRef τ sig) = V (main_arg1 : DevRef τ sig) := q9_m_arg1.trans e9_m_arg1
  have p10_t_v74 := draw10_t_v74 V10
  have p10_t_v80 := draw10_t_v80 V10
  obtain ⟨q10_v_v1, q10_v_v2, q10_v_v4, q10_v_v6, q10_t_v1, q10_m_arg0, q10_m_arg1⟩ := draw10_keeps V10
  generalize after draw10 V10 = V11 at *
  have e11_t_v74 : V11 (main_call0_call0_call0_v74 : DevRef τ sig) = Noise.val_t_v74 F := by rw [p10_t_v74, e10_v_v4, e10_t_v1, e10_t_v61, e10_t_v67]; rfl
  have e11_t_v80 : V11 (main_call0_call0_call0_v80 : DevRef τ sig) = Noise.val_t_v80 F := by rw [p10_t_v80, e10_v_v4, e10_t_v1, e10_t_v61, e10_t_v67]; rfl
  have e11_v_v1 : V11 (main_call0_call0_v1 : DevRef τ sig) = Noise.val_v_v1 F := q10_v_v1.trans e10_v_v1
  have e11_v_v2 : V11 (main_call0_call0_v2 : DevRef τ sig) = Noise.val_v_v2 F := q10_v_v2.trans e10_v_v2
  have e11_v_v4 : V11 (main_call0_call0_v4 : DevRef τ sig) = Noise.val_v_v4 F := q10_v_v4.trans e10_v_v4
  have e11_v_v6 : V11 (main_call0_call0_v6 : DevRef τ sig) = Noise.val_v_v6 F := q10_v_v6.trans e10_v_v6
  have e11_t_v1 : V11 (main_call0_call0_call0_v1 : DevRef τ sig) = Noise.val_t_v1 F := q10_t_v1.trans e10_t_v1
  have e11_m_arg0 : V11 (main_arg0 : DevRef τ sig) = V (main_arg0 : DevRef τ sig) := q10_m_arg0.trans e10_m_arg0
  have e11_m_arg1 : V11 (main_arg1 : DevRef τ sig) = V (main_arg1 : DevRef τ sig) := q10_m_arg1.trans e10_m_arg1
  have p11_t_v81 := draw11_t_v81 V11
  have p11_t_v87 := draw11_t_v87 V11
  obtain ⟨q11_v_v1, q11_v_v2, q11_v_v4, q11_v_v6, q11_t_v1, q11_m_arg0, q11_m_arg1⟩ := draw11_keeps V11
  generalize after draw11 V11 = V12 at *
  have e12_t_v81 : V12 (main_call0_call0_call0_v81 : DevRef τ sig) = Noise.val_t_v81 F := by rw [p11_t_v81, e11_t_v74, e11_t_v80]; rfl
  have e12_t_v87 : V12 (main_call0_call0_call0_v87 : DevRef τ sig) = Noise.val_t_v87 F := by rw [p11_t_v87, e11_t_v74, e11_t_v80]; rfl
  have e12_v_v1 : V12 (main_call0_call0_v1 : DevRef τ sig) = Noise.val_v_v1 F := q11_v_v1.trans e11_v_v1
  have e12_v_v2 : V12 (main_call0_call0_v2 : DevRef τ sig) = Noise.val_v_v2 F := q11_v_v2.trans e11_v_v2
  have e12_v_v4 : V12 (main_call0_call0_v4 : DevRef τ sig) = Noise.val_v_v4 F := q11_v_v4.trans e11_v_v4
  have e12_v_v6 : V12 (main_call0_call0_v6 : DevRef τ sig) = Noise.val_v_v6 F := q11_v_v6.trans e11_v_v6
  have e12_t_v1 : V12 (main_call0_call0_call0_v1 : DevRef τ sig) = Noise.val_t_v1 F := q11_t_v1.trans e11_t_v1
  have e12_m_arg0 : V12 (main_arg0 : DevRef τ sig) = V (main_arg0 : DevRef τ sig) := q11_m_arg0.trans e11_m_arg0
  have e12_m_arg1 : V12 (main_arg1 : DevRef τ sig) = V (main_arg1 : DevRef τ sig) := q11_m_arg1.trans e11_m_arg1
  have p12_t_v88 := draw12_t_v88 V12
  have p12_t_v94 := draw12_t_v94 V12
  obtain ⟨q12_v_v1, q12_v_v2, q12_v_v4, q12_v_v6, q12_t_v1, q12_m_arg0, q12_m_arg1⟩ := draw12_keeps V12
  generalize after draw12 V12 = V13 at *
  have e13_t_v88 : V13 (main_call0_call0_call0_v88 : DevRef τ sig) = Noise.val_t_v88 F := by rw [p12_t_v88, e12_t_v81, e12_t_v87]; rfl
  have e13_t_v94 : V13 (main_call0_call0_call0_v94 : DevRef τ sig) = Noise.val_t_v94 F := by rw [p12_t_v94, e12_t_v81, e12_t_v87]; rfl
  have e13_v_v1 : V13 (main_call0_call0_v1 : DevRef τ sig) = Noise.val_v_v1 F := q12_v_v1.trans e12_v_v1
  have e13_v_v2 : V13 (main_call0_call0_v2 : DevRef τ sig) = Noise.val_v_v2 F := q12_v_v2.trans e12_v_v2
  have e13_v_v4 : V13 (main_call0_call0_v4 : DevRef τ sig) = Noise.val_v_v4 F := q12_v_v4.trans e12_v_v4
  have e13_v_v6 : V13 (main_call0_call0_v6 : DevRef τ sig) = Noise.val_v_v6 F := q12_v_v6.trans e12_v_v6
  have e13_t_v1 : V13 (main_call0_call0_call0_v1 : DevRef τ sig) = Noise.val_t_v1 F := q12_t_v1.trans e12_t_v1
  have e13_m_arg0 : V13 (main_arg0 : DevRef τ sig) = V (main_arg0 : DevRef τ sig) := q12_m_arg0.trans e12_m_arg0
  have e13_m_arg1 : V13 (main_arg1 : DevRef τ sig) = V (main_arg1 : DevRef τ sig) := q12_m_arg1.trans e12_m_arg1
  have p13_t_v95 := draw13_t_v95 V13
  have p13_t_v101 := draw13_t_v101 V13
  obtain ⟨q13_v_v1, q13_v_v2, q13_v_v4, q13_v_v6, q13_t_v1, q13_m_arg0, q13_m_arg1⟩ := draw13_keeps V13
  generalize after draw13 V13 = V14 at *
  have e14_t_v95 : V14 (main_call0_call0_call0_v95 : DevRef τ sig) = Noise.val_t_v95 F := by rw [p13_t_v95, e13_t_v88, e13_t_v94]; rfl
  have e14_t_v101 : V14 (main_call0_call0_call0_v101 : DevRef τ sig) = Noise.val_t_v101 F := by rw [p13_t_v101, e13_t_v88, e13_t_v94]; rfl
  have e14_v_v1 : V14 (main_call0_call0_v1 : DevRef τ sig) = Noise.val_v_v1 F := q13_v_v1.trans e13_v_v1
  have e14_v_v2 : V14 (main_call0_call0_v2 : DevRef τ sig) = Noise.val_v_v2 F := q13_v_v2.trans e13_v_v2
  have e14_v_v4 : V14 (main_call0_call0_v4 : DevRef τ sig) = Noise.val_v_v4 F := q13_v_v4.trans e13_v_v4
  have e14_v_v6 : V14 (main_call0_call0_v6 : DevRef τ sig) = Noise.val_v_v6 F := q13_v_v6.trans e13_v_v6
  have e14_t_v1 : V14 (main_call0_call0_call0_v1 : DevRef τ sig) = Noise.val_t_v1 F := q13_t_v1.trans e13_t_v1
  have e14_m_arg0 : V14 (main_arg0 : DevRef τ sig) = V (main_arg0 : DevRef τ sig) := q13_m_arg0.trans e13_m_arg0
  have e14_m_arg1 : V14 (main_arg1 : DevRef τ sig) = V (main_arg1 : DevRef τ sig) := q13_m_arg1.trans e13_m_arg1
  have p14_t_v108 := draw14_t_v108 V14
  have p14_t_v114 := draw14_t_v114 V14
  obtain ⟨q14_v_v1, q14_v_v2, q14_v_v4, q14_v_v6, q14_t_v1, q14_m_arg0, q14_m_arg1⟩ := draw14_keeps V14
  generalize after draw14 V14 = V15 at *
  have e15_t_v108 : V15 (main_call0_call0_call0_v108 : DevRef τ sig) = Noise.val_t_v108 F := by rw [p14_t_v108, e14_v_v4, e14_v_v6, e14_t_v95, e14_t_v101]; rfl
  have e15_t_v114 : V15 (main_call0_call0_call0_v114 : DevRef τ sig) = Noise.val_t_v114 F := by rw [p14_t_v114, e14_v_v4, e14_v_v6, e14_t_v95, e14_t_v101]; rfl
  have e15_v_v1 : V15 (main_call0_call0_v1 : DevRef τ sig) = Noise.val_v_v1 F := q14_v_v1.trans e14_v_v1
  have e15_v_v2 : V15 (main_call0_call0_v2 : DevRef τ sig) = Noise.val_v_v2 F := q14_v_v2.trans e14_v_v2
  have e15_v_v4 : V15 (main_call0_call0_v4 : DevRef τ sig) = Noise.val_v_v4 F := q14_v_v4.trans e14_v_v4
  have e15_v_v6 : V15 (main_call0_call0_v6 : DevRef τ sig) = Noise.val_v_v6 F := q14_v_v6.trans e14_v_v6
  have e15_t_v1 : V15 (main_call0_call0_call0_v1 : DevRef τ sig) = Noise.val_t_v1 F := q14_t_v1.trans e14_t_v1
  have e15_m_arg0 : V15 (main_arg0 : DevRef τ sig) = V (main_arg0 : DevRef τ sig) := q14_m_arg0.trans e14_m_arg0
  have e15_m_arg1 : V15 (main_arg1 : DevRef τ sig) = V (main_arg1 : DevRef τ sig) := q14_m_arg1.trans e14_m_arg1
  have p15_t_v115 := draw15_t_v115 V15
  have p15_t_v121 := draw15_t_v121 V15
  obtain ⟨q15_v_v1, q15_v_v2, q15_v_v4, q15_v_v6, q15_t_v1, q15_m_arg0, q15_m_arg1⟩ := draw15_keeps V15
  generalize after draw15 V15 = V16 at *
  have e16_t_v115 : V16 (main_call0_call0_call0_v115 : DevRef τ sig) = Noise.val_t_v115 F := by rw [p15_t_v115, e15_t_v108, e15_t_v114]; rfl
  have e16_t_v121 : V16 (main_call0_call0_call0_v121 : DevRef τ sig) = Noise.val_t_v121 F := by rw [p15_t_v121, e15_t_v108, e15_t_v114]; rfl
  have e16_v_v1 : V16 (main_call0_call0_v1 : DevRef τ sig) = Noise.val_v_v1 F := q15_v_v1.trans e15_v_v1
  have e16_v_v2 : V16 (main_call0_call0_v2 : DevRef τ sig) = Noise.val_v_v2 F := q15_v_v2.trans e15_v_v2
  have e16_v_v4 : V16 (main_call0_call0_v4 : DevRef τ sig) = Noise.val_v_v4 F := q15_v_v4.trans e15_v_v4
  have e16_v_v6 : V16 (main_call0_call0_v6 : DevRef τ sig) = Noise.val_v_v6 F := q15_v_v6.trans e15_v_v6
  have e16_t_v1 : V16 (main_call0_call0_call0_v1 : DevRef τ sig) = Noise.val_t_v1 F := q15_t_v1.trans e15_t_v1
  have e16_m_arg0 : V16 (main_arg0 : DevRef τ sig) = V (main_arg0 : DevRef τ sig) := q15_m_arg0.trans e15_m_arg0
  have e16_m_arg1 : V16 (main_arg1 : DevRef τ sig) = V (main_arg1 : DevRef τ sig) := q15_m_arg1.trans e15_m_arg1
  have p16_t_v122 := draw16_t_v122 V16
  have p16_t_v128 := draw16_t_v128 V16
  obtain ⟨q16_v_v1, q16_v_v2, q16_v_v4, q16_v_v6, q16_t_v1, q16_m_arg0, q16_m_arg1⟩ := draw16_keeps V16
  generalize after draw16 V16 = V17 at *
  have e17_t_v122 : V17 (main_call0_call0_call0_v122 : DevRef τ sig) = Noise.val_t_v122 F := by rw [p16_t_v122, e16_t_v115, e16_t_v121]; rfl
  have e17_t_v128 : V17 (main_call0_call0_call0_v128 : DevRef τ sig) = Noise.val_t_v128 F := by rw [p16_t_v128, e16_t_v115, e16_t_v121]; rfl
  have e17_v_v1 : V17 (main_call0_call0_v1 : DevRef τ sig) = Noise.val_v_v1 F := q16_v_v1.trans e16_v_v1
  have e17_v_v2 : V17 (main_call0_call0_v2 : DevRef τ sig) = Noise.val_v_v2 F := q16_v_v2.trans e16_v_v2
  have e17_v_v4 : V17 (main_call0_call0_v4 : DevRef τ sig) = Noise.val_v_v4 F := q16_v_v4.trans e16_v_v4
  have e17_v_v6 : V17 (main_call0_call0_v6 : DevRef τ sig) = Noise.val_v_v6 F := q16_v_v6.trans e16_v_v6
  have e17_t_v1 : V17 (main_call0_call0_call0_v1 : DevRef τ sig) = Noise.val_t_v1 F := q16_t_v1.trans e16_t_v1
  have e17_m_arg0 : V17 (main_arg0 : DevRef τ sig) = V (main_arg0 : DevRef τ sig) := q16_m_arg0.trans e16_m_arg0
  have e17_m_arg1 : V17 (main_arg1 : DevRef τ sig) = V (main_arg1 : DevRef τ sig) := q16_m_arg1.trans e16_m_arg1
  have p17_t_v129 := draw17_t_v129 V17
  have p17_t_v135 := draw17_t_v135 V17
  obtain ⟨q17_v_v1, q17_v_v2, q17_v_v4, q17_v_v6, q17_t_v1, q17_m_arg0, q17_m_arg1⟩ := draw17_keeps V17
  generalize after draw17 V17 = V18 at *
  have e18_t_v129 : V18 (main_call0_call0_call0_v129 : DevRef τ sig) = Noise.val_t_v129 F := by rw [p17_t_v129, e17_t_v122, e17_t_v128]; rfl
  have e18_t_v135 : V18 (main_call0_call0_call0_v135 : DevRef τ sig) = Noise.val_t_v135 F := by rw [p17_t_v135, e17_t_v122, e17_t_v128]; rfl
  have e18_v_v1 : V18 (main_call0_call0_v1 : DevRef τ sig) = Noise.val_v_v1 F := q17_v_v1.trans e17_v_v1
  have e18_v_v2 : V18 (main_call0_call0_v2 : DevRef τ sig) = Noise.val_v_v2 F := q17_v_v2.trans e17_v_v2
  have e18_v_v4 : V18 (main_call0_call0_v4 : DevRef τ sig) = Noise.val_v_v4 F := q17_v_v4.trans e17_v_v4
  have e18_v_v6 : V18 (main_call0_call0_v6 : DevRef τ sig) = Noise.val_v_v6 F := q17_v_v6.trans e17_v_v6
  have e18_t_v1 : V18 (main_call0_call0_call0_v1 : DevRef τ sig) = Noise.val_t_v1 F := q17_t_v1.trans e17_t_v1
  have e18_m_arg0 : V18 (main_arg0 : DevRef τ sig) = V (main_arg0 : DevRef τ sig) := q17_m_arg0.trans e17_m_arg0
  have e18_m_arg1 : V18 (main_arg1 : DevRef τ sig) = V (main_arg1 : DevRef τ sig) := q17_m_arg1.trans e17_m_arg1
  have p18_t_v142 := draw18_t_v142 V18
  have p18_t_v148 := draw18_t_v148 V18
  obtain ⟨q18_v_v1, q18_v_v2, q18_v_v4, q18_t_v1, q18_m_arg0, q18_m_arg1⟩ := draw18_keeps V18
  generalize after draw18 V18 = V19 at *
  have e19_t_v142 : V19 (main_call0_call0_call0_v142 : DevRef τ sig) = Noise.val_t_v142 F := by rw [p18_t_v142, e18_v_v6, e18_t_v1, e18_t_v129, e18_t_v135]; rfl
  have e19_t_v148 : V19 (main_call0_call0_call0_v148 : DevRef τ sig) = Noise.val_t_v148 F := by rw [p18_t_v148, e18_v_v6, e18_t_v1, e18_t_v129, e18_t_v135]; rfl
  have e19_v_v1 : V19 (main_call0_call0_v1 : DevRef τ sig) = Noise.val_v_v1 F := q18_v_v1.trans e18_v_v1
  have e19_v_v2 : V19 (main_call0_call0_v2 : DevRef τ sig) = Noise.val_v_v2 F := q18_v_v2.trans e18_v_v2
  have e19_v_v4 : V19 (main_call0_call0_v4 : DevRef τ sig) = Noise.val_v_v4 F := q18_v_v4.trans e18_v_v4
  have e19_t_v1 : V19 (main_call0_call0_call0_v1 : DevRef τ sig) = Noise.val_t_v1 F := q18_t_v1.trans e18_t_v1
  have e19_m_arg0 : V19 (main_arg0 : DevRef τ sig) = V (main_arg0 : DevRef τ sig) := q18_m_arg0.trans e18_m_arg0
  have e19_m_arg1 : V19 (main_arg1 : DevRef τ sig) = V (main_arg1 : DevRef τ sig) := q18_m_arg1.trans e18_m_arg1
  have p19_t_v149 := draw19_t_v149 V19
  have p19_t_v155 := draw19_t_v155 V19
  obtain ⟨q19_v_v1, q19_v_v2, q19_v_v4, q19_t_v1, q19_m_arg0, q19_m_arg1⟩ := draw19_keeps V19
  generalize after draw19 V19 = V20 at *
  have e20_t_v149 : V20 (main_call0_call0_call0_v149 : DevRef τ sig) = Noise.val_t_v149 F := by rw [p19_t_v149, e19_t_v142, e19_t_v148]; rfl
  have e20_t_v155 : V20 (main_call0_call0_call0_v155 : DevRef τ sig) = Noise.val_t_v155 F := by rw [p19_t_v155, e19_t_v142, e19_t_v148]; rfl
  have e20_v_v1 : V20 (main_call0_call0_v1 : DevRef τ sig) = Noise.val_v_v1 F := q19_v_v1.trans e19_v_v1
  have e20_v_v2 : V20 (main_call0_call0_v2 : DevRef τ sig) = Noise.val_v_v2 F := q19_v_v2.trans e19_v_v2
  have e20_v_v4 : V20 (main_call0_call0_v4 : DevRef τ sig) = Noise.val_v_v4 F := q19_v_v4.trans e19_v_v4
  have e20_t_v1 : V20 (main_call0_call0_call0_v1 : DevRef τ sig) = Noise.val_t_v1 F := q19_t_v1.trans e19_t_v1
  have e20_m_arg0 : V20 (main_arg0 : DevRef τ sig) = V (main_arg0 : DevRef τ sig) := q19_m_arg0.trans e19_m_arg0
  have e20_m_arg1 : V20 (main_arg1 : DevRef τ sig) = V (main_arg1 : DevRef τ sig) := q19_m_arg1.trans e19_m_arg1
  have p20_t_v156 := draw20_t_v156 V20
  have p20_t_v162 := draw20_t_v162 V20
  obtain ⟨q20_v_v1, q20_v_v2, q20_v_v4, q20_t_v1, q20_m_arg0, q20_m_arg1⟩ := draw20_keeps V20
  generalize after draw20 V20 = V21 at *
  have e21_t_v156 : V21 (main_call0_call0_call0_v156 : DevRef τ sig) = Noise.val_t_v156 F := by rw [p20_t_v156, e20_t_v149, e20_t_v155]; rfl
  have e21_t_v162 : V21 (main_call0_call0_call0_v162 : DevRef τ sig) = Noise.val_t_v162 F := by rw [p20_t_v162, e20_t_v149, e20_t_v155]; rfl
  have e21_v_v1 : V21 (main_call0_call0_v1 : DevRef τ sig) = Noise.val_v_v1 F := q20_v_v1.trans e20_v_v1
  have e21_v_v2 : V21 (main_call0_call0_v2 : DevRef τ sig) = Noise.val_v_v2 F := q20_v_v2.trans e20_v_v2
  have e21_v_v4 : V21 (main_call0_call0_v4 : DevRef τ sig) = Noise.val_v_v4 F := q20_v_v4.trans e20_v_v4
  have e21_t_v1 : V21 (main_call0_call0_call0_v1 : DevRef τ sig) = Noise.val_t_v1 F := q20_t_v1.trans e20_t_v1
  have e21_m_arg0 : V21 (main_arg0 : DevRef τ sig) = V (main_arg0 : DevRef τ sig) := q20_m_arg0.trans e20_m_arg0
  have e21_m_arg1 : V21 (main_arg1 : DevRef τ sig) = V (main_arg1 : DevRef τ sig) := q20_m_arg1.trans e20_m_arg1
  have p21_t_v163 := draw21_t_v163 V21
  have p21_t_v169 := draw21_t_v169 V21
  obtain ⟨q21_v_v1, q21_v_v2, q21_v_v4, q21_t_v1, q21_m_arg0, q21_m_arg1⟩ := draw21_keeps V21
  generalize after draw21 V21 = V22 at *
  have e22_t_v163 : V22 (main_call0_call0_call0_v163 : DevRef τ sig) = Noise.val_t_v163 F := by rw [p21_t_v163, e21_t_v156, e21_t_v162]; rfl
  have e22_t_v169 : V22 (main_call0_call0_call0_v169 : DevRef τ sig) = Noise.val_t_v169 F := by rw [p21_t_v169, e21_t_v156, e21_t_v162]; rfl
  have e22_v_v1 : V22 (main_call0_call0_v1 : DevRef τ sig) = Noise.val_v_v1 F := q21_v_v1.trans e21_v_v1
  have e22_v_v2 : V22 (main_call0_call0_v2 : DevRef τ sig) = Noise.val_v_v2 F := q21_v_v2.trans e21_v_v2
  have e22_v_v4 : V22 (main_call0_call0_v4 : DevRef τ sig) = Noise.val_v_v4 F := q21_v_v4.trans e21_v_v4
  have e22_t_v1 : V22 (main_call0_call0_call0_v1 : DevRef τ sig) = Noise.val_t_v1 F := q21_t_v1.trans e21_t_v1
  have e22_m_arg0 : V22 (main_arg0 : DevRef τ sig) = V (main_arg0 : DevRef τ sig) := q21_m_arg0.trans e21_m_arg0
  have e22_m_arg1 : V22 (main_arg1 : DevRef τ sig) = V (main_arg1 : DevRef τ sig) := q21_m_arg1.trans e21_m_arg1
  have p22_v_v18_0 := draw22_v_v18_0 V22
  have p22_v_v18_1 := draw22_v_v18_1 V22
  obtain ⟨q22_v_v1, q22_v_v2, q22_m_arg0, q22_m_arg1⟩ := draw22_keeps V22
  generalize after draw22 V22 = V23 at *
  have e23_v_v18_0 : V23 (main_call0_call0_v18_0 : DevRef τ sig) = Noise.val_v_v18_0 F := by rw [p22_v_v18_0, e22_t_v1, e22_t_v163]; rfl
  have e23_v_v18_1 : V23 (main_call0_call0_v18_1 : DevRef τ sig) = Noise.val_v_v18_1 F := by rw [p22_v_v18_1, e22_v_v4, e22_t_v169]; rfl
  have e23_v_v1 : V23 (main_call0_call0_v1 : DevRef τ sig) = Noise.val_v_v1 F := q22_v_v1.trans e22_v_v1
  have e23_v_v2 : V23 (main_call0_call0_v2 : DevRef τ sig) = Noise.val_v_v2 F := q22_v_v2.trans e22_v_v2
  have e23_m_arg0 : V23 (main_arg0 : DevRef τ sig) = V (main_arg0 : DevRef τ sig) := q22_m_arg0.trans e22_m_arg0
  have e23_m_arg1 : V23 (main_arg1 : DevRef τ sig) = V (main_arg1 : DevRef τ sig) := q22_m_arg1.trans e22_m_arg1
  have p23_v_v24 := draw23_v_v24 V23
  obtain ⟨q23_v_v1, q23_v_v2, q23_m_arg0, q23_m_arg1⟩ := draw23_keeps V23
  generalize after draw23 V23 = V24 at *
  have e24_v_v24 : V24 (main_call0_call0_v24 : DevRef τ sig) = Noise.val_v_v24 F := by rw [p23_v_v24, e23_v_v18_0, e23_v_v18_1]; rfl
  have e24_v_v1 : V24 (main_call0_call0_v1 : DevRef τ sig) = Noise.val_v_v1 F := q23_v_v1.trans e23_v_v1
  have e24_v_v2 : V24 (main_call0_call0_v2 : DevRef τ sig) = Noise.val_v_v2 F := q23_v_v2.trans e23_v_v2
  have e24_m_arg0 : V24 (main_arg0 : DevRef τ sig) = V (main_arg0 : DevRef τ sig) := q23_m_arg0.trans e23_m_arg0
  have e24_m_arg1 : V24 (main_arg1 : DevRef τ sig) = V (main_arg1 : DevRef τ sig) := q23_m_arg1.trans e23_m_arg1
  have p24_m_v7 := draw24_m_v7 V24
  obtain ⟨q24_m_arg0, q24_m_arg1⟩ := draw24_keeps V24
  generalize after draw24 V24 = V25 at *
  have e25_m_v7 : V25 (main_v7 : DevRef τ sig) = Noise.val_m_v7 F := by rw [p24_m_v7, e24_v_v1, e24_v_v2, e24_v_v24]; rfl
  have e25_m_arg0 : V25 (main_arg0 : DevRef τ sig) = V (main_arg0 : DevRef τ sig) := q24_m_arg0.trans e24_m_arg0
  have e25_m_arg1 : V25 (main_arg1 : DevRef τ sig) = V (main_arg1 : DevRef τ sig) := q24_m_arg1.trans e24_m_arg1
  exact ⟨e25_m_v7, e25_m_arg0, e25_m_arg1⟩

end Cert.ReferenceIdeal.Draw

end
-- ==== Proof.Reference.Straight.lean ====
/- The reference's run: its operations in order, what every execution leaves in each result's buffer, and its frame. -/
module

public import proofs.«01_k».proof.Proof.Gen.ReferenceIdeal
public import proofs.«01_k».proof.Proof.Reference.Draw
public import Idealize.ShloMosaic.Lib.Pipeline.RegionsLoop
public import Idealize.ShloMosaic.Lib.StableHlo.Run
public import Idealize.ShloMosaic.Lib.StableHlo.RunRead
public import Idealize.ShloMosaic.Lib.Claim
public import Idealize.ShloMosaic.Lib.Pipeline.Frame
public import Idealize.ShloMosaic.Lib.Quiescent

@[expose] public section

set_option maxRecDepth 16384

noncomputable section

namespace Cert.ReferenceIdeal.Straight

open Cert.ReferenceIdeal Cert.ReferenceIdeal.Gen
open Idealize.ShloMosaic Idealize.ShloMosaic.TcCoe Idealize.ShloMosaic.StableHlo Idealize.SL.Sem

variable {F : FTy → Type} [FloatOps F]

/-- The operations of `fn_argmax`, on a call's buffers. -/
abbrev argmaxOps (arg0 : TRef sig ⟨S4096x64, .f32⟩) (φ : fn_argmax.Bufs) : List (HloOp τ sig (Elt F)) :=
    [ TRef.nullary φ.v0 (iotaInDim S4096x64 32 1),
      TRef.nullary φ.cst (constant S_ .f32 0xFF800000#32),
      TRef.nullary φ.c (constantI S_ 32 0#32),
      TRef.quaternary arg0 φ.v0 φ.cst φ.c φ.v1_0 (fun x y u v j => (Host.argReduce reducer_argmax_f32_i32 x y u v reducesTo_S4096x64_S4096_d1 h_S_ j).1),
      TRef.quaternary arg0 φ.v0 φ.cst φ.c φ.v1_1 (fun x y u v j => (Host.argReduce reducer_argmax_f32_i32 x y u v reducesTo_S4096x64_S4096_d1 h_S_ j).2) ]

/-- The operations of `fn_one_hot`, on a call's buffers. -/
abbrev oneHotOps (arg0 : TRef sig ⟨S4096, .i32⟩) (φ : fn_one_hot.Bufs) : List (HloOp τ sig (Elt F)) :=
    [ TRef.unary arg0 φ.v0 (broadcastInDim S4096x1 ![0] bcast_S4096_S4096x1_0),
      TRef.nullary φ.v1 (iotaInDim S1x64 32 1),
      TRef.unary φ.v0 φ.v2 (broadcastInDim S4096x64 ![0, 1] bcast_S4096x1_S4096x64_0_1),
      TRef.unary φ.v1 φ.v3 (broadcastInDim S4096x64 ![0, 1] bcast_S1x64_S4096x64_0_1),
      TRef.binary φ.v2 φ.v3 φ.v4 (cmpi .eq),
      TRef.unary φ.v4 φ.v5 (extui 32 · natLt_1_32) ]

/-- The operations of `fn_where`, on a call's buffers. -/
abbrev whereOps (arg0 : TRef sig ⟨S4096x64, .i1⟩) (arg1 : TRef sig ⟨S_, .f32⟩) (arg2 : TRef sig ⟨S4096x64, .f32⟩) (φ : fn_where.Bufs) : List (HloOp τ sig (Elt F)) :=
    [ TRef.unary arg1 φ.v0 id,
      TRef.unary φ.v0 φ.v1 (broadcastInDim S4096x64 ![] bcast_S_S4096x64),
      TRef.ternary arg0 φ.v1 arg2 φ.v2 select ]

/-- The operations of `fn_cumsum_0`, on a call's buffers. -/
abbrev cumsumInnerOps (arg0 : TRef sig ⟨S4096x64, .i32⟩) (φ : fn_cumsum_0.Bufs) : List (HloOp τ sig (Elt F)) :=
    [ TRef.nullary φ.c (constantI S_ 32 0#32),
      TRef.unary φ.c φ.v0 (broadcastInDim S_ ![] bcast_S_S_),
      TRef.binary arg0 φ.v0 φ.v1 (fun x v => Host.reduceWindow IntOp.addi ![4096, 1] ![1, 1] ![4095, 0] ![0, 0] x v reduceWindows_S4096x64_S4096x64_w4096s1p4095_0_w1s1p0_0 h_S_) ]

/-- The operations of `fn_cumsum`, on a call's buffers. -/
abbrev cumsumOps (arg0 : TRef sig ⟨S4096x64, .i32⟩) (φ : fn_cumsum.Bufs) : List (HloOp τ sig (Elt F)) :=
    cumsumInnerOps arg0 φ.call0

/-- The operations of `fn_one_hot_1`, on a call's buffers. -/
abbrev oneHotSlotOps (arg0 : TRef sig ⟨S4096, .i32⟩) (φ : fn_one_hot_1.Bufs) : List (HloOp τ sig (Elt F)) :=
    [ TRef.unary arg0 φ.v0 (broadcastInDim S4096x1 ![0] bcast_S4096_S4096x1_0),
      TRef.nullary φ.v1 (iotaInDim S1x128 32 1),
      TRef.unary φ.v0 φ.v2 (broadcastInDim S4096x128 ![0, 1] bcast_S4096x1_S4096x128_0_1),
      TRef.unary φ.v1 φ.v3 (broadcastInDim S4096x128 ![0, 1] bcast_S1x128_S4096x128_0_1),
      TRef.binary φ.v2 φ.v3 φ.v4 (cmpi .eq),
      TRef.unary φ.v4 φ.v5 (uitofp .f32) ]

abbrev gatesOps : List (HloOp τ sig (Elt F)) :=
    [ binary main_arg0 main_arg1 main_v8 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
      nullary main_cst (constant S_ .f32 0xFF800000#32),
      binary main_v8 main_cst main_v9 ((fun x v => Host.reduce FloatOps.maximumf x v reducesTo_S4096x64_S4096_d1 h_S_) : (⟨S4096x64, .f32⟩ : BufTy).Contents (Elt F) → (⟨S_, .f32⟩ : BufTy).Contents (Elt F) → (⟨S4096, .f32⟩ : BufTy).Contents (Elt F)),
      nullary main_cst_2 (constant S_ .f32 0xFF800000#32),
      unary main_cst_2 main_v10 (broadcastInDim S4096 ![] bcast_S_S4096 : (⟨S_, .f32⟩ : BufTy).Contents (Elt F) → (⟨S4096, .f32⟩ : BufTy).Contents (Elt F)),
      binary main_v10 main_v9 main_v11 (maximumf : (⟨S4096, .f32⟩ : BufTy).Contents (Elt F) → (⟨S4096, .f32⟩ : BufTy).Contents (Elt F) → (⟨S4096, .f32⟩ : BufTy).Contents (Elt F)),
      unary main_v11 main_v12 (broadcastInDim S4096x1 ![0] bcast_S4096_S4096x1_0 : (⟨S4096, .f32⟩ : BufTy).Contents (Elt F) → (⟨S4096x1, .f32⟩ : BufTy).Contents (Elt F)),
      unary main_v12 main_v13 (broadcastInDim S4096x64 ![0, 1] bcast_S4096x1_S4096x64_0_1 : (⟨S4096x1, .f32⟩ : BufTy).Contents (Elt F) → (⟨S4096x64, .f32⟩ : BufTy).Contents (Elt F)),
      binary main_v8 main_v13 main_v14 (subf : (⟨S4096x64, .f32⟩ : BufTy).Contents (Elt F) → (⟨S4096x64, .f32⟩ : BufTy).Contents (Elt F) → (⟨S4096x64, .f32⟩ : BufTy).Contents (Elt F)),
      unary main_v14 main_v15 (Host.exp : (⟨S4096x64, .f32⟩ : BufTy).Contents (Elt F) → (⟨S4096x64, .f32⟩ : BufTy).Contents (Elt F)),
      nullary main_cst_3 (constant S_ .f32 0x00000000#32),
      binary main_v15 main_cst_3 main_v16 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
      unary main_v16 main_v17 (broadcastInDim S4096x1 ![0] bcast_S4096_S4096x1_0 : (⟨S4096, .f32⟩ : BufTy).Contents (Elt F) → (⟨S4096x1, .f32⟩ : BufTy).Contents (Elt F)),
      unary main_v17 main_v18 (broadcastInDim S4096x64 ![0, 1] bcast_S4096x1_S4096x64_0_1 : (⟨S4096x1, .f32⟩ : BufTy).Contents (Elt F) → (⟨S4096x64, .f32⟩ : BufTy).Contents (Elt F)),
      binary main_v15 main_v18 main_v19 (Host.divf : (⟨S4096x64, .f32⟩ : BufTy).Contents (Elt F) → (⟨S4096x64, .f32⟩ : BufTy).Contents (Elt F) → (⟨S4096x64, .f32⟩ : BufTy).Contents (Elt F)) ]

abbrev firstOps : List (HloOp τ sig (Elt F)) :=
    argmaxOps (.of main_v19) main_call1
    ++ oneHotOps (.of main_v20) main_call2

abbrev secondOps : List (HloOp τ sig (Elt F)) :=
    [ binary main_v8 main_v7 main_v22 (addf : (⟨S4096x64, .f32⟩ : BufTy).Contents (Elt F) → (⟨S4096x64, .f32⟩ : BufTy).Contents (Elt F) → (⟨S4096x64, .f32⟩ : BufTy).Contents (Elt F)),
      nullary main_c_4 (constantI S_ 32 0#32),
      unary main_c_4 main_v23 (broadcastInDim S4096x64 ![] bcast_S_S4096x64 : (⟨S_, .i32⟩ : BufTy).Contents (Elt F) → (⟨S4096x64, .i32⟩ : BufTy).Contents (Elt F)),
      binary main_v21 main_v23 main_v24 (cmpi .ne : (⟨S4096x64, .i32⟩ : BufTy).Contents (Elt F) → (⟨S4096x64, .i32⟩ : BufTy).Contents (Elt F) → (⟨S4096x64, .i1⟩ : BufTy).Contents (Elt F)),
      unary main_v24 main_v25 (id : (⟨S4096x64, .i1⟩ : BufTy).Contents (Elt F) → (⟨S4096x64, .i1⟩ : BufTy).Contents (Elt F)),
      nullary main_cst_5 (constant S_ .f32 0xFF800000#32) ]
    ++ whereOps (.of main_v25) (.of main_cst_5) (.of main_v22) main_call3
    ++ argmaxOps (.of main_v26) main_call4
    ++ oneHotOps (.of main_v27) main_call5

abbrev placesOps : List (HloOp τ sig (Elt F)) :=
    cumsumOps (.of main_v21) main_call6
    ++ [ nullary main_c_6 (constantI S_ 32 1#32),
      unary main_c_6 main_v30 (broadcastInDim S4096x64 ![] bcast_S_S4096x64 : (⟨S_, .i32⟩ : BufTy).Contents (Elt F) → (⟨S4096x64, .i32⟩ : BufTy).Contents (Elt F)),
      binary main_v29 main_v30 main_v31 (subi : (⟨S4096x64, .i32⟩ : BufTy).Contents (Elt F) → (⟨S4096x64, .i32⟩ : BufTy).Contents (Elt F) → (⟨S4096x64, .i32⟩ : BufTy).Contents (Elt F)) ]
    ++ cumsumOps (.of main_v28) main_call7
    ++ [ nullary main_c_7 (constantI S_ 32 1#32),
      unary main_c_7 main_v33 (broadcastInDim S4096x64 ![] bcast_S_S4096x64 : (⟨S_, .i32⟩ : BufTy).Contents (Elt F) → (⟨S4096x64, .i32⟩ : BufTy).Contents (Elt F)),
      binary main_v32 main_v33 main_v34 (subi : (⟨S4096x64, .i32⟩ : BufTy).Contents (Elt F) → (⟨S4096x64, .i32⟩ : BufTy).Contents (Elt F) → (⟨S4096x64, .i32⟩ : BufTy).Contents (Elt F)),
      nullary main_c_8 (constantI S_ 32 0#32),
      binary main_v21 main_c_8 main_v35 ((fun x v => Host.reduce IntOp.addi x v reducesTo_S4096x64_S64_d0 h_S_) : (⟨S4096x64, .i32⟩ : BufTy).Contents (Elt F) → (⟨S_, .i32⟩ : BufTy).Contents (Elt F) → (⟨S64, .i32⟩ : BufTy).Contents (Elt F)),
      unary main_v35 main_v36 (broadcastInDim S1x64 ![1] bcast_S64_S1x64_1 : (⟨S64, .i32⟩ : BufTy).Contents (Elt F) → (⟨S1x64, .i32⟩ : BufTy).Contents (Elt F)),
      unary main_v36 main_v37 (broadcastInDim S4096x64 ![0, 1] bcast_S1x64_S4096x64_0_1 : (⟨S1x64, .i32⟩ : BufTy).Contents (Elt F) → (⟨S4096x64, .i32⟩ : BufTy).Contents (Elt F)),
      binary main_v34 main_v37 main_v38 (addi : (⟨S4096x64, .i32⟩ : BufTy).Contents (Elt F) → (⟨S4096x64, .i32⟩ : BufTy).Contents (Elt F) → (⟨S4096x64, .i32⟩ : BufTy).Contents (Elt F)),
      nullary main_c_9 (constantI S_ 32 0#32),
      binary main_v21 main_c_9 main_v39 ((fun x v => Host.reduce IntOp.addi x v reducesTo_S4096x64_S64_d0 h_S_) : (⟨S4096x64, .i32⟩ : BufTy).Contents (Elt F) → (⟨S_, .i32⟩ : BufTy).Contents (Elt F) → (⟨S64, .i32⟩ : BufTy).Contents (Elt F)) ]

abbrev lossOps : List (HloOp τ sig (Elt F)) :=
    [ nullary main_cst_10 (constant S_ .f32 0x00000000#32),
      binary main_v19 main_cst_10 main_v40 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
      nullary main_cst_11 (constant S_ .f32 0x45800000#32),
      unary main_cst_11 main_v41 (broadcastInDim S64 ![] bcast_S_S64 : (⟨S_, .f32⟩ : BufTy).Contents (Elt F) → (⟨S64, .f32⟩ : BufTy).Contents (Elt F)),
      binary main_v40 main_v41 main_v42 (Host.divf : (⟨S64, .f32⟩ : BufTy).Contents (Elt F) → (⟨S64, .f32⟩ : BufTy).Contents (Elt F) → (⟨S64, .f32⟩ : BufTy).Contents (Elt F)),
      unary main_v21 main_v43 (sitofp .f32 : (⟨S4096x64, .i32⟩ : BufTy).Contents (Elt F) → (⟨S4096x64, .f32⟩ : BufTy).Contents (Elt F)),
      nullary main_cst_12 (constant S_ .f32 0x00000000#32),
      binary main_v43 main_cst_12 main_v44 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
      nullary main_cst_13 (constant S_ .f32 0x45800000#32),
      unary main_cst_13 main_v45 (broadcastInDim S64 ![] bcast_S_S64 : (⟨S_, .f32⟩ : BufTy).Contents (Elt F) → (⟨S64, .f32⟩ : BufTy).Contents (Elt F)),
      binary main_v44 main_v45 main_v46 (Host.divf : (⟨S64, .f32⟩ : BufTy).Contents (Elt F) → (⟨S64, .f32⟩ : BufTy).Contents (Elt F) → (⟨S64, .f32⟩ : BufTy).Contents (Elt F)),
      binary main_v42 main_v46 main_v47 (mulf : (⟨S64, .f32⟩ : BufTy).Contents (Elt F) → (⟨S64, .f32⟩ : BufTy).Contents (Elt F) → (⟨S64, .f32⟩ : BufTy).Contents (Elt F)),
      nullary main_cst_14 (constant S_ .f32 0x00000000#32),
      binary main_v47 main_cst_14 main_v48 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
      nullary main_cst_15 (constant S_ .f32 0x42800000#32),
      binary main_v48 main_cst_15 main_v49 (Host.divf : (⟨S_, .f32⟩ : BufTy).Contents (Elt F) → (⟨S_, .f32⟩ : BufTy).Contents (Elt F) → (⟨S_, .f32⟩ : BufTy).Contents (Elt F)),
      nullary main_cst_16 (constant S_ .f32 0x42800000#32),
      binary main_v49 main_cst_16 main_v50 (mulf : (⟨S_, .f32⟩ : BufTy).Contents (Elt F) → (⟨S_, .f32⟩ : BufTy).Contents (Elt F) → (⟨S_, .f32⟩ : BufTy).Contents (Elt F)),
      nullary main_cst_17 (constant S_ .f32 0x42800000#32),
      binary main_v50 main_cst_17 main_v51 (mulf : (⟨S_, .f32⟩ : BufTy).Contents (Elt F) → (⟨S_, .f32⟩ : BufTy).Contents (Elt F) → (⟨S_, .f32⟩ : BufTy).Contents (Elt F)) ]

abbrev keptOps : List (HloOp τ sig (Elt F)) :=
    [ nullary main_c_18 (constantI S_ 32 128#32),
      unary main_c_18 main_v52 (broadcastInDim S4096x64 ![] bcast_S_S4096x64 : (⟨S_, .i32⟩ : BufTy).Contents (Elt F) → (⟨S4096x64, .i32⟩ : BufTy).Contents (Elt F)),
      binary main_v31 main_v52 main_v53 (cmpi .slt : (⟨S4096x64, .i32⟩ : BufTy).Contents (Elt F) → (⟨S4096x64, .i32⟩ : BufTy).Contents (Elt F) → (⟨S4096x64, .i1⟩ : BufTy).Contents (Elt F)),
      unary main_v53 main_v54 ((extui 32 · natLt_1_32) : (⟨S4096x64, .i1⟩ : BufTy).Contents (Elt F) → (⟨S4096x64, .i32⟩ : BufTy).Contents (Elt F)),
      binary main_v21 main_v54 main_v55 (muli : (⟨S4096x64, .i32⟩ : BufTy).Contents (Elt F) → (⟨S4096x64, .i32⟩ : BufTy).Contents (Elt F) → (⟨S4096x64, .i32⟩ : BufTy).Contents (Elt F)),
      nullary main_c_19 (constantI S_ 32 128#32),
      unary main_c_19 main_v56 (broadcastInDim S4096x64 ![] bcast_S_S4096x64 : (⟨S_, .i32⟩ : BufTy).Contents (Elt F) → (⟨S4096x64, .i32⟩ : BufTy).Contents (Elt F)),
      binary main_v38 main_v56 main_v57 (cmpi .slt : (⟨S4096x64, .i32⟩ : BufTy).Contents (Elt F) → (⟨S4096x64, .i32⟩ : BufTy).Contents (Elt F) → (⟨S4096x64, .i1⟩ : BufTy).Contents (Elt F)),
      unary main_v57 main_v58 ((extui 32 · natLt_1_32) : (⟨S4096x64, .i1⟩ : BufTy).Contents (Elt F) → (⟨S4096x64, .i32⟩ : BufTy).Contents (Elt F)),
      binary main_v28 main_v58 main_v59 (muli : (⟨S4096x64, .i32⟩ : BufTy).Contents (Elt F) → (⟨S4096x64, .i32⟩ : BufTy).Contents (Elt F) → (⟨S4096x64, .i32⟩ : BufTy).Contents (Elt F)),
      binary main_v31 main_v55 main_v60 (muli : (⟨S4096x64, .i32⟩ : BufTy).Contents (Elt F) → (⟨S4096x64, .i32⟩ : BufTy).Contents (Elt F) → (⟨S4096x64, .i32⟩ : BufTy).Contents (Elt F)),
      nullary main_c_20 (constantI S_ 32 0#32),
      binary main_v60 main_c_20 main_v61 ((fun x v => Host.reduce IntOp.addi x v reducesTo_S4096x64_S4096_d1 h_S_) : (⟨S4096x64, .i32⟩ : BufTy).Contents (Elt F) → (⟨S_, .i32⟩ : BufTy).Contents (Elt F) → (⟨S4096, .i32⟩ : BufTy).Contents (Elt F)),
      binary main_v38 main_v59 main_v62 (muli : (⟨S4096x64, .i32⟩ : BufTy).Contents (Elt F) → (⟨S4096x64, .i32⟩ : BufTy).Contents (Elt F) → (⟨S4096x64, .i32⟩ : BufTy).Contents (Elt F)),
      nullary main_c_21 (constantI S_ 32 0#32),
      binary main_v62 main_c_21 main_v63 ((fun x v => Host.reduce IntOp.addi x v reducesTo_S4096x64_S4096_d1 h_S_) : (⟨S4096x64, .i32⟩ : BufTy).Contents (Elt F) → (⟨S_, .i32⟩ : BufTy).Contents (Elt F) → (⟨S4096, .i32⟩ : BufTy).Contents (Elt F)),
      unary main_v55 main_v64 (sitofp .f32 : (⟨S4096x64, .i32⟩ : BufTy).Contents (Elt F) → (⟨S4096x64, .f32⟩ : BufTy).Contents (Elt F)),
      unary main_v59 main_v65 (sitofp .f32 : (⟨S4096x64, .i32⟩ : BufTy).Contents (Elt F) → (⟨S4096x64, .f32⟩ : BufTy).Contents (Elt F)) ]

abbrev weightsOps : List (HloOp τ sig (Elt F)) :=
    [ binary main_v19 main_v64 main_v66 (mulf : (⟨S4096x64, .f32⟩ : BufTy).Contents (Elt F) → (⟨S4096x64, .f32⟩ : BufTy).Contents (Elt F) → (⟨S4096x64, .f32⟩ : BufTy).Contents (Elt F)),
      nullary main_cst_22 (constant S_ .f32 0x00000000#32),
      binary main_v66 main_cst_22 main_v67 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
      binary main_v19 main_v65 main_v68 (mulf : (⟨S4096x64, .f32⟩ : BufTy).Contents (Elt F) → (⟨S4096x64, .f32⟩ : BufTy).Contents (Elt F) → (⟨S4096x64, .f32⟩ : BufTy).Contents (Elt F)),
      nullary main_cst_23 (constant S_ .f32 0x00000000#32),
      binary main_v68 main_cst_23 main_v69 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
      binary main_v67 main_v69 main_v70 (addf : (⟨S4096, .f32⟩ : BufTy).Contents (Elt F) → (⟨S4096, .f32⟩ : BufTy).Contents (Elt F) → (⟨S4096, .f32⟩ : BufTy).Contents (Elt F)),
      nullary main_cst_24 (constant S_ .f32 0x34000000#32),
      unary main_cst_24 main_v71 (broadcastInDim S4096 ![] bcast_S_S4096 : (⟨S_, .f32⟩ : BufTy).Contents (Elt F) → (⟨S4096, .f32⟩ : BufTy).Contents (Elt F)),
      binary main_v70 main_v71 main_v72 (maximumf : (⟨S4096, .f32⟩ : BufTy).Contents (Elt F) → (⟨S4096, .f32⟩ : BufTy).Contents (Elt F) → (⟨S4096, .f32⟩ : BufTy).Contents (Elt F)),
      binary main_v67 main_v72 main_v73 (Host.divf : (⟨S4096, .f32⟩ : BufTy).Contents (Elt F) → (⟨S4096, .f32⟩ : BufTy).Contents (Elt F) → (⟨S4096, .f32⟩ : BufTy).Contents (Elt F)),
      binary main_v69 main_v72 main_v74 (Host.divf : (⟨S4096, .f32⟩ : BufTy).Contents (Elt F) → (⟨S4096, .f32⟩ : BufTy).Contents (Elt F) → (⟨S4096, .f32⟩ : BufTy).Contents (Elt F)),
      unary main_v73 main_v75 (broadcastInDim S4096x1 ![0] bcast_S4096_S4096x1_0 : (⟨S4096, .f32⟩ : BufTy).Contents (Elt F) → (⟨S4096x1, .f32⟩ : BufTy).Contents (Elt F)),
      unary main_v75 main_v76 (broadcastInDim S4096x64 ![0, 1] bcast_S4096x1_S4096x64_0_1 : (⟨S4096x1, .f32⟩ : BufTy).Contents (Elt F) → (⟨S4096x64, .f32⟩ : BufTy).Contents (Elt F)),
      binary main_v76 main_v64 main_v77 (mulf : (⟨S4096x64, .f32⟩ : BufTy).Contents (Elt F) → (⟨S4096x64, .f32⟩ : BufTy).Contents (Elt F) → (⟨S4096x64, .f32⟩ : BufTy).Contents (Elt F)),
      unary main_v74 main_v78 (broadcastInDim S4096x1 ![0] bcast_S4096_S4096x1_0 : (⟨S4096, .f32⟩ : BufTy).Contents (Elt F) → (⟨S4096x1, .f32⟩ : BufTy).Contents (Elt F)),
      unary main_v78 main_v79 (broadcastInDim S4096x64 ![0, 1] bcast_S4096x1_S4096x64_0_1 : (⟨S4096x1, .f32⟩ : BufTy).Contents (Elt F) → (⟨S4096x64, .f32⟩ : BufTy).Contents (Elt F)),
      binary main_v79 main_v65 main_v80 (mulf : (⟨S4096x64, .f32⟩ : BufTy).Contents (Elt F) → (⟨S4096x64, .f32⟩ : BufTy).Contents (Elt F) → (⟨S4096x64, .f32⟩ : BufTy).Contents (Elt F)) ]

abbrev combineOps : List (HloOp τ sig (Elt F)) :=
    oneHotSlotOps (.of main_v61) main_call8
    ++ oneHotSlotOps (.of main_v63) main_call9
    ++ [ unary main_v77 main_v83 (broadcastInDim S4096x64x1 ![0, 1] bcast_S4096x64_S4096x64x1_0_1 : (⟨S4096x64, .f32⟩ : BufTy).Contents (Elt F) → (⟨S4096x64x1, .f32⟩ : BufTy).Contents (Elt F)),
      unary main_v81 main_v84 (broadcastInDim S4096x1x128 ![0, 2] bcast_S4096x128_S4096x1x128_0_2 : (⟨S4096x128, .f32⟩ : BufTy).Contents (Elt F) → (⟨S4096x1x128, .f32⟩ : BufTy).Contents (Elt F)),
      unary main_v83 main_v85 (broadcastInDim S4096x64x128 ![0, 1, 2] bcast_S4096x64x1_S4096x64x128_0_1_2 : (⟨S4096x64x1, .f32⟩ : BufTy).Contents (Elt F) → (⟨S4096x64x128, .f32⟩ : BufTy).Contents (Elt F)),
      unary main_v84 main_v86 (broadcastInDim S4096x64x128 ![0, 1, 2] bcast_S4096x1x128_S4096x64x128_0_1_2 : (⟨S4096x1x128, .f32⟩ : BufTy).Contents (Elt F) → (⟨S4096x64x128, .f32⟩ : BufTy).Contents (Elt F)),
      binary main_v85 main_v86 main_v87 (mulf : (⟨S4096x64x128, .f32⟩ : BufTy).Contents (Elt F) → (⟨S4096x64x128, .f32⟩ : BufTy).Contents (Elt F) → (⟨S4096x64x128, .f32⟩ : BufTy).Contents (Elt F)),
      unary main_v80 main_v88 (broadcastInDim S4096x64x1 ![0, 1] bcast_S4096x64_S4096x64x1_0_1 : (⟨S4096x64, .f32⟩ : BufTy).Contents (Elt F) → (⟨S4096x64x1, .f32⟩ : BufTy).Contents (Elt F)),
      unary main_v82 main_v89 (broadcastInDim S4096x1x128 ![0, 2] bcast_S4096x128_S4096x1x128_0_2 : (⟨S4096x128, .f32⟩ : BufTy).Contents (Elt F) → (⟨S4096x1x128, .f32⟩ : BufTy).Contents (Elt F)),
      unary main_v88 main_v90 (broadcastInDim S4096x64x128 ![0, 1, 2] bcast_S4096x64x1_S4096x64x128_0_1_2 : (⟨S4096x64x1, .f32⟩ : BufTy).Contents (Elt F) → (⟨S4096x64x128, .f32⟩ : BufTy).Contents (Elt F)),
      unary main_v89 main_v91 (broadcastInDim S4096x64x128 ![0, 1, 2] bcast_S4096x1x128_S4096x64x128_0_1_2 : (⟨S4096x1x128, .f32⟩ : BufTy).Contents (Elt F) → (⟨S4096x64x128, .f32⟩ : BufTy).Contents (Elt F)),
      binary main_v90 main_v91 main_v92 (mulf : (⟨S4096x64x128, .f32⟩ : BufTy).Contents (Elt F) → (⟨S4096x64x128, .f32⟩ : BufTy).Contents (Elt F) → (⟨S4096x64x128, .f32⟩ : BufTy).Contents (Elt F)),
      binary main_v87 main_v92 main_v93 (addf : (⟨S4096x64x128, .f32⟩ : BufTy).Contents (Elt F) → (⟨S4096x64x128, .f32⟩ : BufTy).Contents (Elt F) → (⟨S4096x64x128, .f32⟩ : BufTy).Contents (Elt F)) ]

abbrev maskOps : List (HloOp τ sig (Elt F)) :=
    [ nullary main_cst_25 (constant S_ .f32 0x00000000#32),
      unary main_cst_25 main_v94 (broadcastInDim S4096x64x128 ![] bcast_S_S4096x64x128 : (⟨S_, .f32⟩ : BufTy).Contents (Elt F) → (⟨S4096x64x128, .f32⟩ : BufTy).Contents (Elt F)),
      binary main_v93 main_v94 main_v95 (cmpf .une : (⟨S4096x64x128, .f32⟩ : BufTy).Contents (Elt F) → (⟨S4096x64x128, .f32⟩ : BufTy).Contents (Elt F) → (⟨S4096x64x128, .i1⟩ : BufTy).Contents (Elt F)),
      unary main_v95 main_v96 (id : (⟨S4096x64x128, .i1⟩ : BufTy).Contents (Elt F) → (⟨S4096x64x128, .i1⟩ : BufTy).Contents (Elt F)) ]

/-- The operations after the draw of the noise, in order. -/
abbrev restOps : List (HloOp τ sig (Elt F)) :=
  gatesOps ++ firstOps ++ secondOps ++ placesOps ++ lossOps ++ keptOps ++ weightsOps ++ combineOps ++ maskOps

/-- The reference's operations, in order. -/
def ops : List (HloOp τ sig (Elt F)) := Draw.draws ++ restOps

/-- The program is that straight line. -/
theorem main_eq (c : Dev nD) : main (F := F) c = seq ops := by chain_rfl

/-! ## What each stretch computes -/

/-- The gate logits. -/
def logitsOf (x : FVec F S4096x4096 .f32) (w : FVec F S4096x64 .f32) : FVec F S4096x64 .f32 :=
  Host.dotGeneral dot_S4096x4096_S4096x64_S4096x64_1_0_0_1_n_n none x w
/-- A column spread over the 64 lanes. -/
abbrev spread (v : FVec F S4096 .f32) : FVec F S4096x64 .f32 :=
  broadcastInDim S4096x64 ![0, 1] bcast_S4096x1_S4096x64_0_1 (broadcastInDim S4096x1 ![0] bcast_S4096_S4096x1_0 v)
/-- The exponentials of the logits less their row's largest. -/
def expOf (l : FVec F S4096x64 .f32) : FVec F S4096x64 .f32 :=
  Host.exp (subf l (spread (maximumf (broadcastInDim S4096 ![] bcast_S_S4096 (constant S_ .f32 0xFF800000#32))
    (Host.reduce FloatOps.maximumf l (constant S_ .f32 0xFF800000#32) reducesTo_S4096x64_S4096_d1 h_S_))))
/-- A row sum. -/
abbrev rowSum (v : FVec F S4096x64 .f32) : FVec F S4096 .f32 := Host.reduceAdd v (constant S_ .f32 0x00000000#32) reducesTo_S4096x64_S4096_d1 h_S_
/-- The gates: softmax of the logits. -/
def gatesOf (l : FVec F S4096x64 .f32) : FVec F S4096x64 .f32 := Host.divf (expOf l) (spread (rowSum (expOf l)))
/-- Each row's argmax. -/
def argmaxOf (g : FVec F S4096x64 .f32) : IVec S4096 32 := fun j =>
  (Host.argReduce reducer_argmax_f32_i32 g (iotaInDim S4096x64 32 1) (constant S_ .f32 0xFF800000#32) (constantI S_ 32 0#32) reducesTo_S4096x64_S4096_d1 h_S_ j).2
/-- One-hot rows over the 64 experts. -/
def oneHotOf (i : IVec S4096 32) : IVec S4096x64 32 :=
  extui 32 (cmpi .eq (broadcastInDim S4096x64 ![0, 1] bcast_S4096x1_S4096x64_0_1 (broadcastInDim S4096x1 ![0] bcast_S4096_S4096x1_0 i))
    (broadcastInDim S4096x64 ![0, 1] bcast_S1x64_S4096x64_0_1 (iotaInDim S1x64 32 1))) natLt_1_32
/-- Logits plus noise, the first choice struck out. -/
def struckOf (l : FVec F S4096x64 .f32) (u : FVec F S4096x64 .f32) (m1 : IVec S4096x64 32) : FVec F S4096x64 .f32 :=
  select (cmpi .ne m1 (broadcastInDim S4096x64 ![] bcast_S_S4096x64 (constantI S_ 32 0#32)))
    (broadcastInDim S4096x64 ![] bcast_S_S4096x64 (constant S_ .f32 0xFF800000#32)) (addf l u)
/-- Running count down the tokens, less one. -/
def placesOf (mk : IVec S4096x64 32) : IVec S4096x64 32 :=
  subi (Host.reduceWindow IntOp.addi ![4096, 1] ![1, 1] ![4095, 0] ![0, 0] mk (broadcastInDim S_ ![] bcast_S_S_ (constantI S_ 32 0#32)) reduceWindows_S4096x64_S4096x64_w4096s1p4095_0_w1s1p0_0 h_S_)
    (broadcastInDim S4096x64 ![] bcast_S_S4096x64 (constantI S_ 32 1#32))
/-- Counts per expert. -/
def countsOf (mk : IVec S4096x64 32) : IVec S64 32 := Host.reduce IntOp.addi mk (constantI S_ 32 0#32) reducesTo_S4096x64_S64_d0 h_S_
/-- The second choice's places, behind every first choice. -/
def behindOf (m1 m2 : IVec S4096x64 32) : IVec S4096x64 32 :=
  addi (placesOf m2) (broadcastInDim S4096x64 ![0, 1] bcast_S1x64_S4096x64_0_1 (broadcastInDim S1x64 ![1] bcast_S64_S1x64_1 (countsOf m1)))
/-- A column mean over the tokens. -/
def meanOf (v : FVec F S4096x64 .f32) : FVec F S64 .f32 :=
  Host.divf (Host.reduceAdd v (constant S_ .f32 0x00000000#32) reducesTo_S4096x64_S64_d0 h_S_)
    (broadcastInDim S64 ![] bcast_S_S64 (constant S_ .f32 0x45800000#32))
/-- The load-balancing loss. -/
def lossOf (g : FVec F S4096x64 .f32) (m1 : IVec S4096x64 32) : FVec F S_ .f32 :=
  mulf (mulf (Host.divf (Host.reduceAdd (mulf (meanOf g) (meanOf (sitofp .f32 m1))) (constant S_ .f32 0x00000000#32) reducesTo_S64_S_d0 h_S_)
    (constant S_ .f32 0x42800000#32)) (constant S_ .f32 0x42800000#32)) (constant S_ .f32 0x42800000#32)
/-- A mask with the tokens past capacity taken out. -/
def keptOf (mk p : IVec S4096x64 32) : IVec S4096x64 32 :=
  muli mk (extui 32 (cmpi .slt p (broadcastInDim S4096x64 ![] bcast_S_S4096x64 (constantI S_ 32 128#32))) natLt_1_32)
/-- Each token's place, from the places and the mask of the kept. -/
def slotOf (p k : IVec S4096x64 32) : IVec S4096 32 := Host.reduce IntOp.addi (muli p k) (constantI S_ 32 0#32) reducesTo_S4096x64_S4096_d1 h_S_
/-- A choice's gate where it is kept, zero elsewhere. -/
def gateOf (g k : FVec F S4096x64 .f32) : FVec F S4096 .f32 := rowSum (mulf g k)
/-- The two gates' sum, at least epsilon. -/
def denomOf (g k1 k2 : FVec F S4096x64 .f32) : FVec F S4096 .f32 :=
  maximumf (addf (gateOf g k1) (gateOf g k2)) (broadcastInDim S4096 ![] bcast_S_S4096 (constant S_ .f32 0x34000000#32))
/-- The weights of the first and the second choice, each on its expert's lane. -/
def weight1Of (g k1 k2 : FVec F S4096x64 .f32) : FVec F S4096x64 .f32 := mulf (spread (Host.divf (gateOf g k1) (denomOf g k1 k2))) k1
def weight2Of (g k1 k2 : FVec F S4096x64 .f32) : FVec F S4096x64 .f32 := mulf (spread (Host.divf (gateOf g k2) (denomOf g k1 k2))) k2
/-- One-hot rows over the 128 places. -/
def slotHotOf (i : IVec S4096 32) : FVec F S4096x128 .f32 :=
  uitofp .f32 (cmpi .eq (broadcastInDim S4096x128 ![0, 1] bcast_S4096x1_S4096x128_0_1 (broadcastInDim S4096x1 ![0] bcast_S4096_S4096x1_0 i))
    (broadcastInDim S4096x128 ![0, 1] bcast_S1x128_S4096x128_0_1 (iotaInDim S1x128 32 1)))
/-- A weight on its expert's lane and its place. -/
def outerOf (w : FVec F S4096x64 .f32) (i : IVec S4096 32) : FVec F S4096x64x128 .f32 :=
  mulf (broadcastInDim S4096x64x128 ![0, 1, 2] bcast_S4096x64x1_S4096x64x128_0_1_2 (broadcastInDim S4096x64x1 ![0, 1] bcast_S4096x64_S4096x64x1_0_1 w))
    (broadcastInDim S4096x64x128 ![0, 1, 2] bcast_S4096x1x128_S4096x64x128_0_1_2 (broadcastInDim S4096x1x128 ![0, 2] bcast_S4096x128_S4096x1x128_0_2 (slotHotOf i)))
/-- Where the combine weights are not zero. -/
def maskOf (v : FVec F S4096x64x128 .f32) : IVec S4096x64x128 1 :=
  cmpf .une v (broadcastInDim S4096x64x128 ![] bcast_S_S4096x64x128 (constant S_ .f32 0x00000000#32))

theorem at_logits (V : Valuation τ sig (Elt F)) : after gatesOps V (main_v8 : DevRef τ sig) = logitsOf (V (main_arg0 : DevRef τ sig)) (V (main_arg1 : DevRef τ sig)) := by
  after_reads_simp
  rfl
theorem at_gates (V : Valuation τ sig (Elt F)) : after gatesOps V (main_v19 : DevRef τ sig) = gatesOf (logitsOf (V (main_arg0 : DevRef τ sig)) (V (main_arg1 : DevRef τ sig))) := by
  after_reads_simp
  rfl
theorem at_first (V : Valuation τ sig (Elt F)) : after firstOps V (main_v21 : DevRef τ sig) = oneHotOf (argmaxOf (V (main_v19 : DevRef τ sig))) := by
  after_reads_simp
  simp only [TRef.ofBuf_toBuf]
  simp -implicitDefEqProofs only [TRef.toBuf, TRef.ofBuf, cast_eq]
  rfl
theorem at_second (V : Valuation τ sig (Elt F)) : after secondOps V (main_v28 : DevRef τ sig) = oneHotOf (argmaxOf (struckOf (V (main_v8 : DevRef τ sig)) (V (main_v7 : DevRef τ sig)) (V (main_v21 : DevRef τ sig)))) := by
  after_reads_simp
  simp only [TRef.ofBuf_toBuf]
  simp -implicitDefEqProofs only [TRef.toBuf, TRef.ofBuf, cast_eq]
  rfl
theorem at_place1 (V : Valuation τ sig (Elt F)) : after placesOps V (main_v31 : DevRef τ sig) = placesOf (V (main_v21 : DevRef τ sig)) := by
  after_reads_simp
  simp only [TRef.ofBuf_toBuf]
  simp -implicitDefEqProofs only [TRef.toBuf, TRef.ofBuf, cast_eq]
  rfl
theorem at_place2 (V : Valuation τ sig (Elt F)) : after placesOps V (main_v38 : DevRef τ sig) = behindOf (V (main_v21 : DevRef τ sig)) (V (main_v28 : DevRef τ sig)) := by
  after_reads_simp
  simp only [TRef.ofBuf_toBuf]
  simp -implicitDefEqProofs only [TRef.toBuf, TRef.ofBuf, cast_eq]
  rfl
theorem at_counts (V : Valuation τ sig (Elt F)) : after placesOps V (main_v39 : DevRef τ sig) = countsOf (V (main_v21 : DevRef τ sig)) := by
  after_reads_simp
  rfl
theorem at_loss (V : Valuation τ sig (Elt F)) : after lossOps V (main_v51 : DevRef τ sig) = lossOf (V (main_v19 : DevRef τ sig)) (V (main_v21 : DevRef τ sig)) := by
  after_reads_simp
  rfl
theorem at_slot1 (V : Valuation τ sig (Elt F)) : after keptOps V (main_v61 : DevRef τ sig) = slotOf (V (main_v31 : DevRef τ sig)) (keptOf (V (main_v21 : DevRef τ sig)) (V (main_v31 : DevRef τ sig))) := by
  after_reads_simp
  rfl
theorem at_slot2 (V : Valuation τ sig (Elt F)) : after keptOps V (main_v63 : DevRef τ sig) = slotOf (V (main_v38 : DevRef τ sig)) (keptOf (V (main_v28 : DevRef τ sig)) (V (main_v38 : DevRef τ sig))) := by
  after_reads_simp
  rfl
theorem at_kept1 (V : Valuation τ sig (Elt F)) : after keptOps V (main_v64 : DevRef τ sig) = sitofp .f32 (keptOf (V (main_v21 : DevRef τ sig)) (V (main_v31 : DevRef τ sig))) := by
  after_reads_simp
  rfl
theorem at_kept2 (V : Valuation τ sig (Elt F)) : after keptOps V (main_v65 : DevRef τ sig) = sitofp .f32 (keptOf (V (main_v28 : DevRef τ sig)) (V (main_v38 : DevRef τ sig))) := by
  after_reads_simp
  rfl
theorem at_weight1 (V : Valuation τ sig (Elt F)) : after weightsOps V (main_v77 : DevRef τ sig) = weight1Of (V (main_v19 : DevRef τ sig)) (V (main_v64 : DevRef τ sig)) (V (main_v65 : DevRef τ sig)) := by
  after_reads_simp
  rfl
theorem at_weight2 (V : Valuation τ sig (Elt F)) : after weightsOps V (main_v80 : DevRef τ sig) = weight2Of (V (main_v19 : DevRef τ sig)) (V (main_v64 : DevRef τ sig)) (V (main_v65 : DevRef τ sig)) := by
  after_reads_simp
  rfl
theorem at_combine (V : Valuation τ sig (Elt F)) : after combineOps V (main_v93 : DevRef τ sig) = addf (outerOf (V (main_v77 : DevRef τ sig)) (V (main_v61 : DevRef τ sig))) (outerOf (V (main_v80 : DevRef τ sig)) (V (main_v63 : DevRef τ sig))) := by
  after_reads_simp
  simp only [TRef.ofBuf_toBuf]
  simp -implicitDefEqProofs only [TRef.toBuf, TRef.ofBuf, cast_eq]
  rfl
theorem at_mask (V : Valuation τ sig (Elt F)) : after maskOps V (main_v96 : DevRef τ sig) = maskOf (V (main_v93 : DevRef τ sig)) := by
  after_reads_simp
  rfl

/-! ## What each stretch keeps -/

theorem gates_keeps (V : Valuation τ sig (Elt F)) : after gatesOps V (main_arg0 : DevRef τ sig) = V (main_arg0 : DevRef τ sig) ∧ after gatesOps V (main_arg1 : DevRef τ sig) = V (main_arg1 : DevRef τ sig) ∧ after gatesOps V (main_v7 : DevRef τ sig) = V (main_v7 : DevRef τ sig) := by
  refine ⟨?_, ?_, ?_⟩ <;> after_reads_simp
theorem first_keeps (V : Valuation τ sig (Elt F)) : after firstOps V (main_arg0 : DevRef τ sig) = V (main_arg0 : DevRef τ sig) ∧ after firstOps V (main_arg1 : DevRef τ sig) = V (main_arg1 : DevRef τ sig) ∧ after firstOps V (main_v7 : DevRef τ sig) = V (main_v7 : DevRef τ sig) ∧ after firstOps V (main_v8 : DevRef τ sig) = V (main_v8 : DevRef τ sig) ∧ after firstOps V (main_v19 : DevRef τ sig) = V (main_v19 : DevRef τ sig) := by
  refine ⟨?_, ?_, ?_, ?_, ?_⟩ <;> after_reads_simp
theorem second_keeps (V : Valuation τ sig (Elt F)) : after secondOps V (main_arg0 : DevRef τ sig) = V (main_arg0 : DevRef τ sig) ∧ after secondOps V (main_arg1 : DevRef τ sig) = V (main_arg1 : DevRef τ sig) ∧ after secondOps V (main_v7 : DevRef τ sig) = V (main_v7 : DevRef τ sig) ∧ after secondOps V (main_v19 : DevRef τ sig) = V (main_v19 : DevRef τ sig) ∧ after secondOps V (main_v21 : DevRef τ sig) = V (main_v21 : DevRef τ sig) := by
  refine ⟨?_, ?_, ?_, ?_, ?_⟩ <;> after_reads_simp
theorem places_keeps (V : Valuation τ sig (Elt F)) : after placesOps V (main_arg0 : DevRef τ sig) = V (main_arg0 : DevRef τ sig) ∧ after placesOps V (main_arg1 : DevRef τ sig) = V (main_arg1 : DevRef τ sig) ∧ after placesOps V (main_v7 : DevRef τ sig) = V (main_v7 : DevRef τ sig) ∧ after placesOps V (main_v19 : DevRef τ sig) = V (main_v19 : DevRef τ sig) ∧ after placesOps V (main_v21 : DevRef τ sig) = V (main_v21 : DevRef τ sig) ∧ after placesOps V (main_v28 : DevRef τ sig) = V (main_v28 : DevRef τ sig) := by
  refine ⟨?_, ?_, ?_, ?_, ?_, ?_⟩ <;> after_reads_simp
theorem loss_keeps (V : Valuation τ sig (Elt F)) : after lossOps V (main_arg0 : DevRef τ sig) = V (main_arg0 : DevRef τ sig) ∧ after lossOps V (main_arg1 : DevRef τ sig) = V (main_arg1 : DevRef τ sig) ∧ after lossOps V (main_v7 : DevRef τ sig) = V (main_v7 : DevRef τ sig) ∧ after lossOps V (main_v19 : DevRef τ sig) = V (main_v19 : DevRef τ sig) ∧ after lossOps V (main_v21 : DevRef τ sig) = V (main_v21 : DevRef τ sig) ∧ after lossOps V (main_v28 : DevRef τ sig) = V (main_v28 : DevRef τ sig) ∧ after lossOps V (main_v31 : DevRef τ sig) = V (main_v31 : DevRef τ sig) ∧ after lossOps V (main_v38 : DevRef τ sig) = V (main_v38 : DevRef τ sig) ∧ after lossOps V (main_v39 : DevRef τ sig) = V (main_v39 : DevRef τ sig) := by
  refine ⟨?_, ?_, ?_, ?_, ?_, ?_, ?_, ?_, ?_⟩ <;> after_reads_simp
theorem kept_keeps (V : Valuation τ sig (Elt F)) : after keptOps V (main_arg0 : DevRef τ sig) = V (main_arg0 : DevRef τ sig) ∧ after keptOps V (main_arg1 : DevRef τ sig) = V (main_arg1 : DevRef τ sig) ∧ after keptOps V (main_v7 : DevRef τ sig) = V (main_v7 : DevRef τ sig) ∧ after keptOps V (main_v19 : DevRef τ sig) = V (main_v19 : DevRef τ sig) ∧ after keptOps V (main_v39 : DevRef τ sig) = V (main_v39 : DevRef τ sig) ∧ after keptOps V (main_v51 : DevRef τ sig) = V (main_v51 : DevRef τ sig) := by
  refine ⟨?_, ?_, ?_, ?_, ?_, ?_⟩ <;> after_reads_simp
theorem weights_keeps (V : Valuation τ sig (Elt F)) : after weightsOps V (main_arg0 : DevRef τ sig) = V (main_arg0 : DevRef τ sig) ∧ after weightsOps V (main_arg1 : DevRef τ sig) = V (main_arg1 : DevRef τ sig) ∧ after weightsOps V (main_v7 : DevRef τ sig) = V (main_v7 : DevRef τ sig) ∧ after weightsOps V (main_v39 : DevRef τ sig) = V (main_v39 : DevRef τ sig) ∧ after weightsOps V (main_v51 : DevRef τ sig) = V (main_v51 : DevRef τ sig) ∧ after weightsOps V (main_v61 : DevRef τ sig) = V (main_v61 : DevRef τ sig) ∧ after weightsOps V (main_v63 : DevRef τ sig) = V (main_v63 : DevRef τ sig) := by
  refine ⟨?_, ?_, ?_, ?_, ?_, ?_, ?_⟩ <;> after_reads_simp
theorem combine_keeps (V : Valuation τ sig (Elt F)) : after combineOps V (main_arg0 : DevRef τ sig) = V (main_arg0 : DevRef τ sig) ∧ after combineOps V (main_arg1 : DevRef τ sig) = V (main_arg1 : DevRef τ sig) ∧ after combineOps V (main_v7 : DevRef τ sig) = V (main_v7 : DevRef τ sig) ∧ after combineOps V (main_v39 : DevRef τ sig) = V (main_v39 : DevRef τ sig) ∧ after combineOps V (main_v51 : DevRef τ sig) = V (main_v51 : DevRef τ sig) := by
  refine ⟨?_, ?_, ?_, ?_, ?_⟩ <;> after_reads_simp
theorem mask_keeps (V : Valuation τ sig (Elt F)) : after maskOps V (main_arg0 : DevRef τ sig) = V (main_arg0 : DevRef τ sig) ∧ after maskOps V (main_arg1 : DevRef τ sig) = V (main_arg1 : DevRef τ sig) ∧ after maskOps V (main_v7 : DevRef τ sig) = V (main_v7 : DevRef τ sig) ∧ after maskOps V (main_v39 : DevRef τ sig) = V (main_v39 : DevRef τ sig) ∧ after maskOps V (main_v51 : DevRef τ sig) = V (main_v51 : DevRef τ sig) ∧ after maskOps V (main_v93 : DevRef τ sig) = V (main_v93 : DevRef τ sig) := by
  refine ⟨?_, ?_, ?_, ?_, ?_, ?_⟩ <;> after_reads_simp

/-! ## The whole line -/

section End
variable (x : FVec F S4096x4096 .f32) (w : FVec F S4096x64 .f32) (u : FVec F S4096x64 .f32)

/-- The reference's gates. -/
def gates : FVec F S4096x64 .f32 := gatesOf (logitsOf x w)
/-- The mask of the first choices, and of the second ones. -/
def mask1 : IVec S4096x64 32 := oneHotOf (argmaxOf (gates x w))
def mask2 : IVec S4096x64 32 := oneHotOf (argmaxOf (struckOf (logitsOf x w) u (mask1 x w)))
/-- The two choices' places. -/
def place1 : IVec S4096x64 32 := placesOf (mask1 x w)
def place2 : IVec S4096x64 32 := behindOf (mask1 x w) (mask2 x w u)
/-- The masks of what fits. -/
def kept1 : IVec S4096x64 32 := keptOf (mask1 x w) (place1 x w)
def kept2 : IVec S4096x64 32 := keptOf (mask2 x w u) (place2 x w u)
/-- The combine weights. -/
def combine : FVec F S4096x64x128 .f32 :=
  addf (outerOf (weight1Of (gates x w) (sitofp .f32 (kept1 x w)) (sitofp .f32 (kept2 x w u))) (slotOf (place1 x w) (kept1 x w)))
    (outerOf (weight2Of (gates x w) (sitofp .f32 (kept1 x w)) (sitofp .f32 (kept2 x w u))) (slotOf (place2 x w u) (kept2 x w u)))
end End

private theorem after_nine (a b c d e f g h i : List (HloOp τ sig (Elt F))) (V : Valuation τ sig (Elt F)) :
    after (a ++ b ++ c ++ d ++ e ++ f ++ g ++ h ++ i) V
      = after i (after h (after g (after f (after e (after d (after c (after b (after a V)))))))) := by
  simp only [after_append]

/-- What those operations leave in the results, and that they keep the arguments and the noise. -/
theorem after_rest (V : Valuation τ sig (Elt F)) :
    after restOps V (main_v51 : DevRef τ sig) = lossOf (gates (V (main_arg0 : DevRef τ sig)) (V (main_arg1 : DevRef τ sig))) (mask1 (V (main_arg0 : DevRef τ sig)) (V (main_arg1 : DevRef τ sig)))
    ∧ after restOps V (main_v93 : DevRef τ sig) = combine (V (main_arg0 : DevRef τ sig)) (V (main_arg1 : DevRef τ sig)) (V (main_v7 : DevRef τ sig))
    ∧ after restOps V (main_v96 : DevRef τ sig) = maskOf (combine (V (main_arg0 : DevRef τ sig)) (V (main_arg1 : DevRef τ sig)) (V (main_v7 : DevRef τ sig)))
    ∧ after restOps V (main_v39 : DevRef τ sig) = countsOf (mask1 (V (main_arg0 : DevRef τ sig)) (V (main_arg1 : DevRef τ sig)))
    ∧ after restOps V (main_arg0 : DevRef τ sig) = V (main_arg0 : DevRef τ sig)
    ∧ after restOps V (main_arg1 : DevRef τ sig) = V (main_arg1 : DevRef τ sig)
    ∧ after restOps V (main_v7 : DevRef τ sig) = V (main_v7 : DevRef τ sig) := by
  have hsplit : ∀ b, after restOps V b = after maskOps (after combineOps (after weightsOps (after keptOps (after lossOps
      (after placesOps (after secondOps (after firstOps (after gatesOps V)))))))) b := congrFun (after_nine ..)
  obtain ⟨a10, a11, a12⟩ := gates_keeps V
  have l1 := at_logits V
  have g1 := at_gates V
  simp only [hsplit]
  generalize after gatesOps V = V1 at *
  obtain ⟨a20, a21, a22, l2, g2⟩ := first_keeps V1
  have m2 := at_first V1
  generalize after firstOps V1 = V2 at *
  obtain ⟨a30, a31, a32, g3, m3⟩ := second_keeps V2
  have s3 := at_second V2
  generalize after secondOps V2 = V3 at *
  obtain ⟨a40, a41, a42, g4, m4, s4⟩ := places_keeps V3
  have p4 := at_place1 V3
  have q4 := at_place2 V3
  have c4 := at_counts V3
  generalize after placesOps V3 = V4 at *
  obtain ⟨a50, a51, a52, g5, m5, s5, p5, q5, c5⟩ := loss_keeps V4
  have f5 := at_loss V4
  generalize after lossOps V4 = V5 at *
  obtain ⟨a60, a61, a62, g6, c6, f6⟩ := kept_keeps V5
  have x6 := at_slot1 V5
  have y6 := at_slot2 V5
  have k6 := at_kept1 V5
  have h6 := at_kept2 V5
  generalize after keptOps V5 = V6 at *
  obtain ⟨a70, a71, a72, c7, f7, x7, y7⟩ := weights_keeps V6
  have k7 := at_weight1 V6
  have h7 := at_weight2 V6
  generalize after weightsOps V6 = V7 at *
  obtain ⟨a80, a81, a82, c8, f8⟩ := combine_keeps V7
  have r8 := at_combine V7
  generalize after combineOps V7 = V8 at *
  obtain ⟨a90, a91, a92, c9, f9, r9⟩ := mask_keeps V8
  have z9 := at_mask V8
  generalize after maskOps V8 = V9 at *
  have eg : V1 (main_v19 : DevRef τ sig) = gates (V (main_arg0 : DevRef τ sig)) (V (main_arg1 : DevRef τ sig)) := g1
  have em : V2 (main_v21 : DevRef τ sig) = mask1 (V (main_arg0 : DevRef τ sig)) (V (main_arg1 : DevRef τ sig)) := by rw [m2, eg]; rfl
  have es : V3 (main_v28 : DevRef τ sig) = mask2 (V (main_arg0 : DevRef τ sig)) (V (main_arg1 : DevRef τ sig)) (V (main_v7 : DevRef τ sig)) := by
    rw [s3, em, l2, l1, a22, a12]; rfl
  have ep : V4 (main_v31 : DevRef τ sig) = place1 (V (main_arg0 : DevRef τ sig)) (V (main_arg1 : DevRef τ sig)) := by rw [p4, m3, em]; rfl
  have eq' : V4 (main_v38 : DevRef τ sig) = place2 (V (main_arg0 : DevRef τ sig)) (V (main_arg1 : DevRef τ sig)) (V (main_v7 : DevRef τ sig)) := by
    rw [q4, m3, em, es]; rfl
  have er : V8 (main_v93 : DevRef τ sig) = combine (V (main_arg0 : DevRef τ sig)) (V (main_arg1 : DevRef τ sig)) (V (main_v7 : DevRef τ sig)) := by
    rw [r8, k7, h7, x7, y7, k6, h6, x6, y6, g6, g5, g4, g3, g2, eg, m5, m4, m3, em, s5, s4, es, p5, ep, q5, eq']; rfl
  refine ⟨?_, ?_, ?_, ?_, ?_, ?_, ?_⟩
  · rw [f9, f8, f7, f6, f5, m4, m3, em, g4, g3, g2, eg]
  · rw [r9, er]
  · rw [z9, er]
  · rw [c9, c8, c7, c6, c5, c4, m3, em]
  · rw [a90, a80, a70, a60, a50, a40, a30, a20, a10]
  · rw [a91, a81, a71, a61, a51, a41, a31, a21, a11]
  · rw [a92, a82, a72, a62, a52, a42, a32, a22, a12]

/-- What the whole line leaves in the results, and that it keeps the arguments. -/
theorem after_ops (V : Valuation τ sig (Elt F)) :
    after ops V (main_v51 : DevRef τ sig) = lossOf (gates (V (main_arg0 : DevRef τ sig)) (V (main_arg1 : DevRef τ sig))) (mask1 (V (main_arg0 : DevRef τ sig)) (V (main_arg1 : DevRef τ sig)))
    ∧ after ops V (main_v93 : DevRef τ sig) = combine (V (main_arg0 : DevRef τ sig)) (V (main_arg1 : DevRef τ sig)) (Noise.val_m_v7 F)
    ∧ after ops V (main_v96 : DevRef τ sig) = maskOf (combine (V (main_arg0 : DevRef τ sig)) (V (main_arg1 : DevRef τ sig)) (Noise.val_m_v7 F))
    ∧ after ops V (main_v39 : DevRef τ sig) = countsOf (mask1 (V (main_arg0 : DevRef τ sig)) (V (main_arg1 : DevRef τ sig)))
    ∧ after ops V (main_arg0 : DevRef τ sig) = V (main_arg0 : DevRef τ sig)
    ∧ after ops V (main_arg1 : DevRef τ sig) = V (main_arg1 : DevRef τ sig) := by
  obtain ⟨hn, h0, h1⟩ := Draw.after_draws V
  have hsplit : ∀ b, after ops V b = after restOps (after Draw.draws V) b := congrFun (after_append ..)
  simp only [hsplit]
  clear hsplit
  generalize after Draw.draws V = V0 at *
  obtain ⟨e1, e2, e3, e4, e5, e6, -⟩ := after_rest V0
  generalize after restOps V0 = V1 at *
  refine ⟨?_, ?_, ?_, ?_, ?_, ?_⟩
  · rw [e1, h0, h1]
  · rw [e2, h0, h1, hn]
  · rw [e3, h0, h1, hn]
  · rw [e4, h0, h1]
  · rw [e5, h0]
  · rw [e6, h1]

theorem scopedRefs_eq : (Finset.univ.filter fun b : Ref sig .tc => b.isScoped) = ∅ := by decide
theorem scopedSems_eq : (Finset.univ.filter fun sm : SemLoc sig => sm.isScoped .tc) = ∅ := by decide

theorem argmax_sub (arg0 : TRef sig ⟨S4096x64, .f32⟩) (φ : fn_argmax.Bufs) : (argmaxOps (F := F) arg0 φ).Forall fun op => op.bufs ⊆ tcRefs τ sig :=
  ⟨nullary_bufs_sub .., nullary_bufs_sub .., nullary_bufs_sub .., quaternary_bufs_sub .., quaternary_bufs_sub ..⟩

theorem oneHot_sub (arg0 : TRef sig ⟨S4096, .i32⟩) (φ : fn_one_hot.Bufs) : (oneHotOps (F := F) arg0 φ).Forall fun op => op.bufs ⊆ tcRefs τ sig :=
  ⟨unary_bufs_sub .., nullary_bufs_sub .., unary_bufs_sub .., unary_bufs_sub .., binary_bufs_sub .., unary_bufs_sub ..⟩

theorem where_sub (arg0 : TRef sig ⟨S4096x64, .i1⟩) (arg1 : TRef sig ⟨S_, .f32⟩) (arg2 : TRef sig ⟨S4096x64, .f32⟩) (φ : fn_where.Bufs) : (whereOps (F := F) arg0 arg1 arg2 φ).Forall fun op => op.bufs ⊆ tcRefs τ sig :=
  ⟨unary_bufs_sub .., unary_bufs_sub .., ternary_bufs_sub ..⟩

theorem cumsumInner_sub (arg0 : TRef sig ⟨S4096x64, .i32⟩) (φ : fn_cumsum_0.Bufs) : (cumsumInnerOps (F := F) arg0 φ).Forall fun op => op.bufs ⊆ tcRefs τ sig :=
  ⟨nullary_bufs_sub .., unary_bufs_sub .., binary_bufs_sub ..⟩

theorem cumsum_sub (arg0 : TRef sig ⟨S4096x64, .i32⟩) (φ : fn_cumsum.Bufs) : (cumsumOps (F := F) arg0 φ).Forall fun op => op.bufs ⊆ tcRefs τ sig :=
  cumsumInner_sub _ _

theorem oneHotSlot_sub (arg0 : TRef sig ⟨S4096, .i32⟩) (φ : fn_one_hot_1.Bufs) : (oneHotSlotOps (F := F) arg0 φ).Forall fun op => op.bufs ⊆ tcRefs τ sig :=
  ⟨unary_bufs_sub .., nullary_bufs_sub .., unary_bufs_sub .., unary_bufs_sub .., binary_bufs_sub .., unary_bufs_sub ..⟩

theorem gates_sub : (gatesOps (F := F)).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem first_sub : (firstOps (F := F)).Forall fun op => op.bufs ⊆ tcRefs τ sig :=
  List.forall_append.2 ⟨argmax_sub _ _, oneHot_sub _ _⟩

theorem second_sub : (secondOps (F := F)).Forall fun op => op.bufs ⊆ tcRefs τ sig :=
  List.forall_append.2 ⟨List.forall_append.2 ⟨List.forall_append.2 ⟨⟨binary_bufs_sub .., nullary_bufs_sub .., unary_bufs_sub .., binary_bufs_sub .., unary_bufs_sub .., nullary_bufs_sub ..⟩, where_sub _ _ _ _⟩, argmax_sub _ _⟩, oneHot_sub _ _⟩

theorem places_sub : (placesOps (F := F)).Forall fun op => op.bufs ⊆ tcRefs τ sig :=
  List.forall_append.2 ⟨List.forall_append.2 ⟨List.forall_append.2 ⟨cumsum_sub _ _, ⟨nullary_bufs_sub .., unary_bufs_sub .., binary_bufs_sub ..⟩⟩, cumsum_sub _ _⟩, ⟨nullary_bufs_sub .., unary_bufs_sub .., binary_bufs_sub .., nullary_bufs_sub .., binary_bufs_sub .., unary_bufs_sub .., unary_bufs_sub .., binary_bufs_sub .., nullary_bufs_sub .., binary_bufs_sub ..⟩⟩

theorem loss_sub : (lossOps (F := F)).Forall fun op => op.bufs ⊆ tcRefs τ sig :=
  ⟨nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub ..⟩

theorem kept_sub : (keptOps (F := F)).Forall fun op => op.bufs ⊆ tcRefs τ sig :=
  ⟨nullary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., unary_bufs_sub ..⟩

theorem weights_sub : (weightsOps (F := F)).Forall fun op => op.bufs ⊆ tcRefs τ sig :=
  ⟨binary_bufs_sub .., nullary_bufs_sub .., binary_bufs_sub .., binary_bufs_sub .., nullary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub ..⟩

theorem combine_sub : (combineOps (F := F)).Forall fun op => op.bufs ⊆ tcRefs τ sig :=
  List.forall_append.2 ⟨List.forall_append.2 ⟨oneHotSlot_sub _ _, oneHotSlot_sub _ _⟩, ⟨unary_bufs_sub .., unary_bufs_sub .., unary_bufs_sub .., unary_bufs_sub .., binary_bufs_sub .., unary_bufs_sub .., unary_bufs_sub .., unary_bufs_sub .., unary_bufs_sub .., binary_bufs_sub .., binary_bufs_sub ..⟩⟩

theorem mask_sub : (maskOps (F := F)).Forall fun op => op.bufs ⊆ tcRefs τ sig :=
  ⟨nullary_bufs_sub .., unary_bufs_sub .., binary_bufs_sub .., unary_bufs_sub ..⟩

theorem rest_sub : (restOps (F := F)).Forall fun op => op.bufs ⊆ tcRefs τ sig :=
  List.forall_append.2 ⟨List.forall_append.2 ⟨List.forall_append.2 ⟨List.forall_append.2 ⟨List.forall_append.2 ⟨List.forall_append.2 ⟨List.forall_append.2 ⟨List.forall_append.2 ⟨gates_sub, first_sub⟩, second_sub⟩, places_sub⟩, loss_sub⟩, kept_sub⟩, weights_sub⟩, combine_sub⟩, mask_sub⟩

theorem ops_sub : ∀ op ∈ (ops (F := F)), op.bufs ⊆ tcRefs τ sig := fun op h =>
  (List.mem_append.mp h).elim (Draw.draws_sub op) (List.forall_iff_forall_mem.mp rest_sub op)

theorem rest_fresh : (restOps (F := F)).Forall fun op => op.fresh = ∅ := forall_fresh_of_map rfl

theorem ops_fresh : ∀ op ∈ (ops (F := F)), op.fresh = ∅ := fun op h =>
  (List.mem_append.mp h).elim (Draw.draws_fresh op) (List.forall_iff_forall_mem.mp rest_fresh op)

-- A statement about the whole list must not unroll it.
attribute [local irreducible] ops

theorem ops_forall_sub : (ops (F := F)).Forall fun op => op.bufs ⊆ tcRefs τ sig := List.forall_iff_forall_mem.mpr ops_sub

variable (m : (ℓ : Loc nD τ sig) → Buf (Elt F) ℓ) (ρ : Dev nD → PrngReg)

/-- The reference runs, and every array ends as its operations leave it. -/
theorem run : θ_run (defs (F := F)) (onTc (τ := τ) main) ⟨m, fun _ => 0, ρ⟩ fun r =>
    (∀ (c : Dev nD) (b : Ref sig .tc), r.2.mem ((c.tc : Thread nD τ).loc b) = after ops (launchContents m c) (Proc.devRef .tc b))
      ∧ r.2.sem = fun _ => 0 :=
  (θ_run _ _ _).mono (fun _ h => ⟨h, sem_eq_zero_of_no_sems rfl _⟩)
    (run_seq scopedRefs_eq scopedSems_eq defs main (fun _ => ops) main_eq (fun _ => ops_forall_sub) m ρ (fun _ => ops_fresh))

/-- The reference leaves its arguments unchanged and every counter at zero. -/
theorem frame : θ_run (defs (F := F)) (onTc (τ := τ) main) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun _ h => ⟨fun c => by
    obtain ⟨-, -, -, -, h0, h1⟩ := after_ops (launchContents m c)
    exact ⟨(h.1 c main_arg0).trans h0, (h.1 c main_arg1).trans h1⟩, h.2⟩) (run m ρ)

end Cert.ReferenceIdeal.Straight

end
-- ==== Proof.KernelIdeal.ArrayGate.lean ====
/- What the first region leaves in its arrays, block by block, and what its blocks hold of the arguments. -/
module

public import proofs.«01_k».proof.Proof.KernelIdeal.Whole
public import Idealize.ShloMosaic.Lib.Pointwise

@[expose] public section

noncomputable section

namespace Cert.KernelIdeal.Whole

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-! ## The inputs' blocks -/

theorem index0_0 : ∀ (t : Fin cfg0.N) (a : Fin 2), (cfg0.win 0).index t a = if a = 0 then t.val else 0 :=
  (by decide +kernel : ∀ (t : Fin grid0.N) (a : Fin 2), win0_0.index t a = if a = 0 then t.val else 0)
theorem index0_1 : ∀ (t : Fin cfg0.N) (a : Fin 2), (cfg0.win 1).index t a = 0 :=
  (by decide +kernel : ∀ (t : Fin grid0.N) (a : Fin 2), win0_1.index t a = 0)
theorem index0_2 : ∀ (t : Fin cfg0.N) (a : Fin 2), (cfg0.win 2).index t a = if a = 0 then t.val else 0 :=
  (by decide +kernel : ∀ (t : Fin grid0.N) (a : Fin 2), win0_2.index t a = if a = 0 then t.val else 0)

/-- A block of tokens, from any contents. -/
theorem block0_0_of (E : (c : Dev nD) → (b : Ref sig .tc) → Buf (Elt Ideal) ((c : Thread nD τ).loc b)) (c : Dev nD) (t : Fin cfg0.N) (r : Fin 512) (k : Fin 4096) (n : Fin 4096) (hn : n.val = t.val * 512 + r.val) :
    (Gate.block E c 0 t : FVec Ideal S512x4096 .f32) (ix2 r k) = (E c main_arg0 : FVec Ideal S4096x4096 .f32) (ix2 n k) := by
  have he : ((cfg0.win 0).blk t).view.emb (ix2 r k) = (ix2 n k) := by
    funext a
    refine Fin.ext (((cfg0.win 0).rect_emb_val t (ix2 r k) a).trans ?_)
    rw [index0_0]
    match a with
    | ⟨0, _⟩ => exact hn.symm
    | ⟨1, _⟩ => exact (Nat.zero_mul _).symm ▸ Nat.zero_add _
  exact congrArg (E c main_arg0 : FVec Ideal S4096x4096 .f32) he

/-- The weights, whole at every point, from any contents. -/
theorem block0_1_of (E : (c : Dev nD) → (b : Ref sig .tc) → Buf (Elt Ideal) ((c : Thread nD τ).loc b)) (c : Dev nD) (t : Fin cfg0.N) (k : Fin 4096) (e : Fin 64) :
    (Gate.block E c 1 t : FVec Ideal S4096x64 .f32) (ix2 k e) = (E c main_arg1 : FVec Ideal S4096x64 .f32) (ix2 k e) := by
  have he : ((cfg0.win 1).blk t).view.emb (ix2 k e) = (ix2 k e) := by
    funext a
    refine Fin.ext (((cfg0.win 1).rect_emb_val t (ix2 k e) a).trans ?_)
    rw [index0_1, Nat.zero_mul, Nat.zero_add]
  exact congrArg (E c main_arg1 : FVec Ideal S4096x64 .f32) he

/-- A block of noise, from any contents. -/
theorem block0_2_of (E : (c : Dev nD) → (b : Ref sig .tc) → Buf (Elt Ideal) ((c : Thread nD τ).loc b)) (c : Dev nD) (t : Fin cfg0.N) (r : Fin 512) (e : Fin 64) (n : Fin 4096) (hn : n.val = t.val * 512 + r.val) :
    (Gate.block E c 2 t : FVec Ideal S512x64 .f32) (ix2 r e) = (E c main_v7 : FVec Ideal S4096x64 .f32) (ix2 n e) := by
  have he : ((cfg0.win 2).blk t).view.emb (ix2 r e) = (ix2 n e) := by
    funext a
    refine Fin.ext (((cfg0.win 2).rect_emb_val t (ix2 r e) a).trans ?_)
    rw [index0_2]
    match a with
    | ⟨0, _⟩ => exact hn.symm
    | ⟨1, _⟩ => exact (Nat.zero_mul _).symm ▸ Nat.zero_add _
  exact congrArg (E c main_v7 : FVec Ideal S4096x64 .f32) he

/-- A block of tokens. -/
theorem block0_0 (c : Dev nD) (t : Fin cfg0.N) (r : Fin 512) (k : Fin 4096) (n : Fin 4096) (hn : n.val = t.val * 512 + r.val) :
    (Gate.block (entry0 m) c 0 t : FVec Ideal S512x4096 .f32) (ix2 r k) = (m ((c : Thread nD τ).loc main_arg0) : FVec Ideal S4096x4096 .f32) (ix2 n k) := by
  have h := W0_of m c main_arg0 (by decide) (by decide +kernel)
  refine (block0_0_of (entry0 m) c t r k n hn).trans ?_
  unfold entry0
  revert h
  generalize W0 m c = W
  intro h
  exact congrFun h (ix2 n k)

/-- The weights, whole at every point. -/
theorem block0_1 (c : Dev nD) (t : Fin cfg0.N) (k : Fin 4096) (e : Fin 64) :
    (Gate.block (entry0 m) c 1 t : FVec Ideal S4096x64 .f32) (ix2 k e) = (m ((c : Thread nD τ).loc main_arg1) : FVec Ideal S4096x64 .f32) (ix2 k e) := by
  have h := W0_of m c main_arg1 (by decide) (by decide +kernel)
  refine (block0_1_of (entry0 m) c t k e).trans ?_
  unfold entry0
  revert h
  generalize W0 m c = W
  intro h
  exact congrFun h (ix2 k e)

/-- A block of noise. -/
theorem block0_2 (c : Dev nD) (t : Fin cfg0.N) (r : Fin 512) (e : Fin 64) (n : Fin 4096) (hn : n.val = t.val * 512 + r.val) :
    (Gate.block (entry0 m) c 2 t : FVec Ideal S512x64 .f32) (ix2 r e) = (W0 m c (Proc.devRef .tc main_v7) : FVec Ideal S4096x64 .f32) (ix2 n e) :=
  block0_2_of (entry0 m) c t r e n hn

/-! ## The outputs, a row per token -/

theorem index0_3 : ∀ (t : Fin cfg0.N) (a : Fin 2), (cfg0.win 3).index t a = if a = 0 then t.val else 0 :=
  (by decide +kernel : ∀ (t : Fin grid0.N) (a : Fin 2), win0_3.index t a = if a = 0 then t.val else 0)
theorem index0_3_ne : ∀ t t' : Fin cfg0.N, t ≠ t' → (cfg0.win 3).index t ≠ (cfg0.win 3).index t' := fun t t' h e => by
  have := congrFun e (0 : Fin 2)
  rw [index0_3, index0_3] at this
  exact h (Fin.ext this)
/-- The first choice's logit. -/
theorem read0_3 (c : Dev nD) (t : Fin cfg0.N) (r : Fin 512) (n : Fin 4096) (hn : n.val = t.val * 512 + r.val) :
    (W1 m c (Proc.devRef .tc main_v8_0) : FVec Ideal S4096x1 .f32) (ix2 n (0 : Fin 1))
      = Gate.blockL1 (F := Ideal) (Gate.block (entry0 m) c 0 t) (Gate.block (entry0 m) c 1 t) (ix2 r (0 : Fin 1)) := by
  have h := (Gate.dat (entry0 m) c).arrAt_emb_eq_flushed 3 (fun t t' _ _ hne => (cfg0.win 3).disjoint_blk (index0_3_ne t t' hne)) t (flush0_3 t) (ix2 r (0 : Fin 1))
  rw [← W1_arr m c 3] at h
  have he : ((cfg0.win 3).blk t).view.emb (ix2 r (0 : Fin 1)) = ix2 n (0 : Fin 1) := by
    funext a
    refine Fin.ext (((cfg0.win 3).rect_emb_val t (ix2 r (0 : Fin 1)) a).trans ?_)
    rw [index0_3]
    match a with
    | ⟨0, _⟩ => exact hn.symm
    | ⟨1, _⟩ => rfl
  rw [he] at h
  exact h.trans (congrFun (Gate.after_3 (entry0 m) c t) (ix2 r (0 : Fin 1)))

theorem index0_4 : ∀ (t : Fin cfg0.N) (a : Fin 2), (cfg0.win 4).index t a = if a = 0 then t.val else 0 :=
  (by decide +kernel : ∀ (t : Fin grid0.N) (a : Fin 2), win0_4.index t a = if a = 0 then t.val else 0)
theorem index0_4_ne : ∀ t t' : Fin cfg0.N, t ≠ t' → (cfg0.win 4).index t ≠ (cfg0.win 4).index t' := fun t t' h e => by
  have := congrFun e (0 : Fin 2)
  rw [index0_4, index0_4] at this
  exact h (Fin.ext this)
/-- The second choice's logit. -/
theorem read0_4 (c : Dev nD) (t : Fin cfg0.N) (r : Fin 512) (n : Fin 4096) (hn : n.val = t.val * 512 + r.val) :
    (W1 m c (Proc.devRef .tc main_v8_1) : FVec Ideal S4096x1 .f32) (ix2 n (0 : Fin 1))
      = Gate.blockL2 (F := Ideal) (Gate.block (entry0 m) c 0 t) (Gate.block (entry0 m) c 1 t) (Gate.block (entry0 m) c 2 t) (ix2 r (0 : Fin 1)) := by
  have h := (Gate.dat (entry0 m) c).arrAt_emb_eq_flushed 4 (fun t t' _ _ hne => (cfg0.win 4).disjoint_blk (index0_4_ne t t' hne)) t (flush0_4 t) (ix2 r (0 : Fin 1))
  rw [← W1_arr m c 4] at h
  have he : ((cfg0.win 4).blk t).view.emb (ix2 r (0 : Fin 1)) = ix2 n (0 : Fin 1) := by
    funext a
    refine Fin.ext (((cfg0.win 4).rect_emb_val t (ix2 r (0 : Fin 1)) a).trans ?_)
    rw [index0_4]
    match a with
    | ⟨0, _⟩ => exact hn.symm
    | ⟨1, _⟩ => rfl
  rw [he] at h
  exact h.trans (congrFun (Gate.after_4 (entry0 m) c t) (ix2 r (0 : Fin 1)))

theorem index0_5 : ∀ (t : Fin cfg0.N) (a : Fin 2), (cfg0.win 5).index t a = if a = 0 then t.val else 0 :=
  (by decide +kernel : ∀ (t : Fin grid0.N) (a : Fin 2), win0_5.index t a = if a = 0 then t.val else 0)
theorem index0_5_ne : ∀ t t' : Fin cfg0.N, t ≠ t' → (cfg0.win 5).index t ≠ (cfg0.win 5).index t' := fun t t' h e => by
  have := congrFun e (0 : Fin 2)
  rw [index0_5, index0_5] at this
  exact h (Fin.ext this)
/-- The first choice. -/
theorem read0_5 (c : Dev nD) (t : Fin cfg0.N) (r : Fin 512) (n : Fin 4096) (hn : n.val = t.val * 512 + r.val) :
    (W1 m c (Proc.devRef .tc main_v8_2) : IVec S4096x1 32) (ix2 n (0 : Fin 1))
      = Gate.blockI1 (F := Ideal) (Gate.block (entry0 m) c 0 t) (Gate.block (entry0 m) c 1 t) (ix2 r (0 : Fin 1)) := by
  have h := (Gate.dat (entry0 m) c).arrAt_emb_eq_flushed 5 (fun t t' _ _ hne => (cfg0.win 5).disjoint_blk (index0_5_ne t t' hne)) t (flush0_5 t) (ix2 r (0 : Fin 1))
  rw [← W1_arr m c 5] at h
  have he : ((cfg0.win 5).blk t).view.emb (ix2 r (0 : Fin 1)) = ix2 n (0 : Fin 1) := by
    funext a
    refine Fin.ext (((cfg0.win 5).rect_emb_val t (ix2 r (0 : Fin 1)) a).trans ?_)
    rw [index0_5]
    match a with
    | ⟨0, _⟩ => exact hn.symm
    | ⟨1, _⟩ => rfl
  rw [he] at h
  exact h.trans (congrFun (Gate.after_5 (entry0 m) c t) (ix2 r (0 : Fin 1)))

theorem index0_6 : ∀ (t : Fin cfg0.N) (a : Fin 2), (cfg0.win 6).index t a = if a = 0 then t.val else 0 :=
  (by decide +kernel : ∀ (t : Fin grid0.N) (a : Fin 2), win0_6.index t a = if a = 0 then t.val else 0)
theorem index0_6_ne : ∀ t t' : Fin cfg0.N, t ≠ t' → (cfg0.win 6).index t ≠ (cfg0.win 6).index t' := fun t t' h e => by
  have := congrFun e (0 : Fin 2)
  rw [index0_6, index0_6] at this
  exact h (Fin.ext this)
/-- The second choice. -/
theorem read0_6 (c : Dev nD) (t : Fin cfg0.N) (r : Fin 512) (n : Fin 4096) (hn : n.val = t.val * 512 + r.val) :
    (W1 m c (Proc.devRef .tc main_v8_3) : IVec S4096x1 32) (ix2 n (0 : Fin 1))
      = Gate.blockI2 (F := Ideal) (Gate.block (entry0 m) c 0 t) (Gate.block (entry0 m) c 1 t) (Gate.block (entry0 m) c 2 t) (ix2 r (0 : Fin 1)) := by
  have h := (Gate.dat (entry0 m) c).arrAt_emb_eq_flushed 6 (fun t t' _ _ hne => (cfg0.win 6).disjoint_blk (index0_6_ne t t' hne)) t (flush0_6 t) (ix2 r (0 : Fin 1))
  rw [← W1_arr m c 6] at h
  have he : ((cfg0.win 6).blk t).view.emb (ix2 r (0 : Fin 1)) = ix2 n (0 : Fin 1) := by
    funext a
    refine Fin.ext (((cfg0.win 6).rect_emb_val t (ix2 r (0 : Fin 1)) a).trans ?_)
    rw [index0_6]
    match a with
    | ⟨0, _⟩ => exact hn.symm
    | ⟨1, _⟩ => rfl
  rw [he] at h
  exact h.trans (congrFun (Gate.after_6 (entry0 m) c t) (ix2 r (0 : Fin 1)))

theorem index0_7 : ∀ (t : Fin cfg0.N) (a : Fin 2), (cfg0.win 7).index t a = if a = 0 then t.val else 0 :=
  (by decide +kernel : ∀ (t : Fin grid0.N) (a : Fin 2), win0_7.index t a = if a = 0 then t.val else 0)
theorem index0_7_ne : ∀ t t' : Fin cfg0.N, t ≠ t' → (cfg0.win 7).index t ≠ (cfg0.win 7).index t' := fun t t' h e => by
  have := congrFun e (0 : Fin 2)
  rw [index0_7, index0_7] at this
  exact h (Fin.ext this)
/-- The place in the first queue. -/
theorem read0_7 (c : Dev nD) (t : Fin cfg0.N) (r : Fin 512) (n : Fin 4096) (hn : n.val = t.val * 512 + r.val) :
    (W1 m c (Proc.devRef .tc main_v8_4) : IVec S4096x1 32) (ix2 n (0 : Fin 1))
      = Gate.blockP1 (F := Ideal) (Gate.block (entry0 m) c 0 t) (Gate.block (entry0 m) c 1 t) (Gate.carried (entry0 m) c t.val) (ix2 r (0 : Fin 1)) := by
  have h := (Gate.dat (entry0 m) c).arrAt_emb_eq_flushed 7 (fun t t' _ _ hne => (cfg0.win 7).disjoint_blk (index0_7_ne t t' hne)) t (flush0_7 t) (ix2 r (0 : Fin 1))
  rw [← W1_arr m c 7] at h
  have he : ((cfg0.win 7).blk t).view.emb (ix2 r (0 : Fin 1)) = ix2 n (0 : Fin 1) := by
    funext a
    refine Fin.ext (((cfg0.win 7).rect_emb_val t (ix2 r (0 : Fin 1)) a).trans ?_)
    rw [index0_7]
    match a with
    | ⟨0, _⟩ => exact hn.symm
    | ⟨1, _⟩ => rfl
  rw [he] at h
  exact h.trans (congrFun (Gate.after_7 (entry0 m) c t) (ix2 r (0 : Fin 1)))

theorem index0_8 : ∀ (t : Fin cfg0.N) (a : Fin 2), (cfg0.win 8).index t a = if a = 0 then t.val else 0 :=
  (by decide +kernel : ∀ (t : Fin grid0.N) (a : Fin 2), win0_8.index t a = if a = 0 then t.val else 0)
theorem index0_8_ne : ∀ t t' : Fin cfg0.N, t ≠ t' → (cfg0.win 8).index t ≠ (cfg0.win 8).index t' := fun t t' h e => by
  have := congrFun e (0 : Fin 2)
  rw [index0_8, index0_8] at this
  exact h (Fin.ext this)
/-- The place in the second queue. -/
theorem read0_8 (c : Dev nD) (t : Fin cfg0.N) (r : Fin 512) (n : Fin 4096) (hn : n.val = t.val * 512 + r.val) :
    (W1 m c (Proc.devRef .tc main_v8_5) : IVec S4096x1 32) (ix2 n (0 : Fin 1))
      = Gate.blockP2 (F := Ideal) (Gate.block (entry0 m) c 0 t) (Gate.block (entry0 m) c 1 t) (Gate.block (entry0 m) c 2 t) (Gate.carried (entry0 m) c t.val) (ix2 r (0 : Fin 1)) := by
  have h := (Gate.dat (entry0 m) c).arrAt_emb_eq_flushed 8 (fun t t' _ _ hne => (cfg0.win 8).disjoint_blk (index0_8_ne t t' hne)) t (flush0_8 t) (ix2 r (0 : Fin 1))
  rw [← W1_arr m c 8] at h
  have he : ((cfg0.win 8).blk t).view.emb (ix2 r (0 : Fin 1)) = ix2 n (0 : Fin 1) := by
    funext a
    refine Fin.ext (((cfg0.win 8).rect_emb_val t (ix2 r (0 : Fin 1)) a).trans ?_)
    rw [index0_8]
    match a with
    | ⟨0, _⟩ => exact hn.symm
    | ⟨1, _⟩ => rfl
  rw [he] at h
  exact h.trans (congrFun (Gate.after_8 (entry0 m) c t) (ix2 r (0 : Fin 1)))

/-! ## The outputs written once, at the last point -/

/-- The last point. -/
abbrev last0 : Fin cfg0.N := ⟨7, by decide⟩

theorem index0_9 : ∀ (t : Fin cfg0.N) (a : Fin 2), (cfg0.win 9).index t a = 0 :=
  (by decide +kernel : ∀ (t : Fin grid0.N) (a : Fin 2), win0_9.index t a = 0)
/-- The number of tokens of each first choice. -/
theorem read0_9 (c : Dev nD) (e : Fin 64) : (W1 m c (Proc.devRef .tc main_v8_6) : IVec S1x64 32) (ix2 (0 : Fin 1) e) = (Gate.carried (entry0 m) c 8).2.1 (ix2 (0 : Fin 1) e) := by
  have hlast : ∀ t : Fin cfg0.N, (cfg0.win 9).flush t = true → t = last0 := fun t h => by
    have h1 := (flush0_9 t).1 h
    have h2 : t.val < 8 := t.isLt
    exact Fin.ext (show t.val = 7 by omega)
  have h := (Gate.dat (entry0 m) c).arrAt_emb_eq_flushed 9
    (fun t t' ht ht' hne => absurd ((hlast t ht).trans (hlast t' ht').symm) hne) last0 ((flush0_9 _).2 rfl) (ix2 (0 : Fin 1) e)
  rw [← W1_arr m c 9] at h
  have he : ((cfg0.win 9).blk last0).view.emb (ix2 (0 : Fin 1) e) = (ix2 (0 : Fin 1) e) := by
    funext a
    refine Fin.ext (((cfg0.win 9).rect_emb_val last0 (ix2 (0 : Fin 1) e) a).trans ?_)
    rw [index0_9, Nat.zero_mul, Nat.zero_add]
  rw [he] at h
  exact h.trans (congrFun (Gate.after_9 (entry0 m) c last0) (ix2 (0 : Fin 1) e))

theorem index0_10 : ∀ (t : Fin cfg0.N) (a : Fin 2), (cfg0.win 10).index t a = 0 :=
  (by decide +kernel : ∀ (t : Fin grid0.N) (a : Fin 2), win0_10.index t a = 0)
/-- The loss. -/
theorem read0_10 (c : Dev nD) : (W1 m c (Proc.devRef .tc main_v8_7) : FVec Ideal S1x1 .f32) (ix2 (0 : Fin 1) (0 : Fin 1)) = Gate.lossOf (F := Ideal) (Gate.carried (entry0 m) c 8) (ix2 (0 : Fin 1) (0 : Fin 1)) := by
  have hlast : ∀ t : Fin cfg0.N, (cfg0.win 10).flush t = true → t = last0 := fun t h => by
    have h1 := (flush0_10 t).1 h
    have h2 : t.val < 8 := t.isLt
    exact Fin.ext (show t.val = 7 by omega)
  have h := (Gate.dat (entry0 m) c).arrAt_emb_eq_flushed 10
    (fun t t' ht ht' hne => absurd ((hlast t ht).trans (hlast t' ht').symm) hne) last0 ((flush0_10 _).2 rfl) (ix2 (0 : Fin 1) (0 : Fin 1))
  rw [← W1_arr m c 10] at h
  have he : ((cfg0.win 10).blk last0).view.emb (ix2 (0 : Fin 1) (0 : Fin 1)) = (ix2 (0 : Fin 1) (0 : Fin 1)) := by
    funext a
    refine Fin.ext (((cfg0.win 10).rect_emb_val last0 (ix2 (0 : Fin 1) (0 : Fin 1)) a).trans ?_)
    rw [index0_10, Nat.zero_mul, Nat.zero_add]
  rw [he] at h
  exact h.trans (congrFun (Gate.after_10 (entry0 m) c last0) (ix2 (0 : Fin 1) (0 : Fin 1)))

end Cert.KernelIdeal.Whole

end
-- ==== Proof.KernelIdeal.ArrayDispatch.lean ====
/- What the second region leaves in its arrays, block by block, what its blocks hold of the first region's results, and the host's
   operations after it. -/
module

public import proofs.«01_k».proof.Proof.KernelIdeal.Whole
public import Idealize.ShloMosaic.Lib.Pointwise
public import Idealize.ShloMosaic.Lib.StableHlo.ReadAt

@[expose] public section

noncomputable section

namespace Cert.KernelIdeal.Whole

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-! ## The inputs' blocks -/

theorem index1_0 : ∀ (t : Fin cfg1.N) (a : Fin 2), (cfg1.win 0).index t a = if a = 0 then t.val else 0 :=
  (by decide +kernel : ∀ (t : Fin grid1.N) (a : Fin 2), win1_0.index t a = if a = 0 then t.val else 0)
theorem block1_0 (c : Dev nD) (t : Fin cfg1.N) (r : Fin 256) (n : Fin 4096) (hn : n.val = t.val * 256 + r.val) :
    (Dispatch.block (entry1 m) c 0 t : FVec Ideal S256x1 .f32) (ix2 r (0 : Fin 1)) = (W1 m c (Proc.devRef .tc main_v8_0) : FVec Ideal S4096x1 .f32) (ix2 n (0 : Fin 1)) := by
  have he : ((cfg1.win 0).blk t).view.emb (ix2 r (0 : Fin 1)) = ix2 n (0 : Fin 1) := by
    funext a
    refine Fin.ext (((cfg1.win 0).rect_emb_val t (ix2 r (0 : Fin 1)) a).trans ?_)
    rw [index1_0]
    match a with
    | ⟨0, _⟩ => exact hn.symm
    | ⟨1, _⟩ => rfl
  exact congrArg (W1 m c (Proc.devRef .tc main_v8_0) : FVec Ideal S4096x1 .f32) he

theorem index1_1 : ∀ (t : Fin cfg1.N) (a : Fin 2), (cfg1.win 1).index t a = if a = 0 then t.val else 0 :=
  (by decide +kernel : ∀ (t : Fin grid1.N) (a : Fin 2), win1_1.index t a = if a = 0 then t.val else 0)
theorem block1_1 (c : Dev nD) (t : Fin cfg1.N) (r : Fin 256) (n : Fin 4096) (hn : n.val = t.val * 256 + r.val) :
    (Dispatch.block (entry1 m) c 1 t : FVec Ideal S256x1 .f32) (ix2 r (0 : Fin 1)) = (W1 m c (Proc.devRef .tc main_v8_1) : FVec Ideal S4096x1 .f32) (ix2 n (0 : Fin 1)) := by
  have he : ((cfg1.win 1).blk t).view.emb (ix2 r (0 : Fin 1)) = ix2 n (0 : Fin 1) := by
    funext a
    refine Fin.ext (((cfg1.win 1).rect_emb_val t (ix2 r (0 : Fin 1)) a).trans ?_)
    rw [index1_1]
    match a with
    | ⟨0, _⟩ => exact hn.symm
    | ⟨1, _⟩ => rfl
  exact congrArg (W1 m c (Proc.devRef .tc main_v8_1) : FVec Ideal S4096x1 .f32) he

theorem index1_2 : ∀ (t : Fin cfg1.N) (a : Fin 2), (cfg1.win 2).index t a = if a = 0 then t.val else 0 :=
  (by decide +kernel : ∀ (t : Fin grid1.N) (a : Fin 2), win1_2.index t a = if a = 0 then t.val else 0)
theorem block1_2 (c : Dev nD) (t : Fin cfg1.N) (r : Fin 256) (n : Fin 4096) (hn : n.val = t.val * 256 + r.val) :
    (Dispatch.block (entry1 m) c 2 t : IVec S256x1 32) (ix2 r (0 : Fin 1)) = (W1 m c (Proc.devRef .tc main_v8_2) : IVec S4096x1 32) (ix2 n (0 : Fin 1)) := by
  have he : ((cfg1.win 2).blk t).view.emb (ix2 r (0 : Fin 1)) = ix2 n (0 : Fin 1) := by
    funext a
    refine Fin.ext (((cfg1.win 2).rect_emb_val t (ix2 r (0 : Fin 1)) a).trans ?_)
    rw [index1_2]
    match a with
    | ⟨0, _⟩ => exact hn.symm
    | ⟨1, _⟩ => rfl
  exact congrArg (W1 m c (Proc.devRef .tc main_v8_2) : IVec S4096x1 32) he

theorem index1_3 : ∀ (t : Fin cfg1.N) (a : Fin 2), (cfg1.win 3).index t a = if a = 0 then t.val else 0 :=
  (by decide +kernel : ∀ (t : Fin grid1.N) (a : Fin 2), win1_3.index t a = if a = 0 then t.val else 0)
theorem block1_3 (c : Dev nD) (t : Fin cfg1.N) (r : Fin 256) (n : Fin 4096) (hn : n.val = t.val * 256 + r.val) :
    (Dispatch.block (entry1 m) c 3 t : IVec S256x1 32) (ix2 r (0 : Fin 1)) = (W1 m c (Proc.devRef .tc main_v8_3) : IVec S4096x1 32) (ix2 n (0 : Fin 1)) := by
  have he : ((cfg1.win 3).blk t).view.emb (ix2 r (0 : Fin 1)) = ix2 n (0 : Fin 1) := by
    funext a
    refine Fin.ext (((cfg1.win 3).rect_emb_val t (ix2 r (0 : Fin 1)) a).trans ?_)
    rw [index1_3]
    match a with
    | ⟨0, _⟩ => exact hn.symm
    | ⟨1, _⟩ => rfl
  exact congrArg (W1 m c (Proc.devRef .tc main_v8_3) : IVec S4096x1 32) he

theorem index1_4 : ∀ (t : Fin cfg1.N) (a : Fin 2), (cfg1.win 4).index t a = if a = 0 then t.val else 0 :=
  (by decide +kernel : ∀ (t : Fin grid1.N) (a : Fin 2), win1_4.index t a = if a = 0 then t.val else 0)
theorem block1_4 (c : Dev nD) (t : Fin cfg1.N) (r : Fin 256) (n : Fin 4096) (hn : n.val = t.val * 256 + r.val) :
    (Dispatch.block (entry1 m) c 4 t : IVec S256x1 32) (ix2 r (0 : Fin 1)) = (W1 m c (Proc.devRef .tc main_v8_4) : IVec S4096x1 32) (ix2 n (0 : Fin 1)) := by
  have he : ((cfg1.win 4).blk t).view.emb (ix2 r (0 : Fin 1)) = ix2 n (0 : Fin 1) := by
    funext a
    refine Fin.ext (((cfg1.win 4).rect_emb_val t (ix2 r (0 : Fin 1)) a).trans ?_)
    rw [index1_4]
    match a with
    | ⟨0, _⟩ => exact hn.symm
    | ⟨1, _⟩ => rfl
  exact congrArg (W1 m c (Proc.devRef .tc main_v8_4) : IVec S4096x1 32) he

theorem index1_5 : ∀ (t : Fin cfg1.N) (a : Fin 2), (cfg1.win 5).index t a = if a = 0 then t.val else 0 :=
  (by decide +kernel : ∀ (t : Fin grid1.N) (a : Fin 2), win1_5.index t a = if a = 0 then t.val else 0)
theorem block1_5 (c : Dev nD) (t : Fin cfg1.N) (r : Fin 256) (n : Fin 4096) (hn : n.val = t.val * 256 + r.val) :
    (Dispatch.block (entry1 m) c 5 t : IVec S256x1 32) (ix2 r (0 : Fin 1)) = (W1 m c (Proc.devRef .tc main_v8_5) : IVec S4096x1 32) (ix2 n (0 : Fin 1)) := by
  have he : ((cfg1.win 5).blk t).view.emb (ix2 r (0 : Fin 1)) = ix2 n (0 : Fin 1) := by
    funext a
    refine Fin.ext (((cfg1.win 5).rect_emb_val t (ix2 r (0 : Fin 1)) a).trans ?_)
    rw [index1_5]
    match a with
    | ⟨0, _⟩ => exact hn.symm
    | ⟨1, _⟩ => rfl
  exact congrArg (W1 m c (Proc.devRef .tc main_v8_5) : IVec S4096x1 32) he

theorem index1_6 : ∀ (t : Fin cfg1.N) (a : Fin 2), (cfg1.win 6).index t a = 0 :=
  (by decide +kernel : ∀ (t : Fin grid1.N) (a : Fin 2), win1_6.index t a = 0)
theorem block1_6 (c : Dev nD) (t : Fin cfg1.N) (e : Fin 64) :
    (Dispatch.block (entry1 m) c 6 t : IVec S1x64 32) (ix2 (0 : Fin 1) e) = (W1 m c (Proc.devRef .tc main_v8_6) : IVec S1x64 32) (ix2 (0 : Fin 1) e) := by
  have he : ((cfg1.win 6).blk t).view.emb (ix2 (0 : Fin 1) e) = ix2 (0 : Fin 1) e := by
    funext a
    refine Fin.ext (((cfg1.win 6).rect_emb_val t (ix2 (0 : Fin 1) e) a).trans ?_)
    rw [index1_6, Nat.zero_mul, Nat.zero_add]
  exact congrArg (W1 m c (Proc.devRef .tc main_v8_6) : IVec S1x64 32) he

/-! ## The outputs, a slab per token -/

theorem index1_7 : ∀ (t : Fin cfg1.N) (a : Fin 3), (cfg1.win 7).index t a = if a = 0 then t.val else 0 :=
  (by decide +kernel : ∀ (t : Fin grid1.N) (a : Fin 3), win1_7.index t a = if a = 0 then t.val else 0)
theorem index1_7_ne : ∀ t t' : Fin cfg1.N, t ≠ t' → (cfg1.win 7).index t ≠ (cfg1.win 7).index t' := fun t t' h e => by
  have := congrFun e (0 : Fin 3)
  rw [index1_7, index1_7] at this
  exact h (Fin.ext this)
/-- The combine weights. -/
theorem read1_7 (c : Dev nD) (t : Fin cfg1.N) (r : Fin 256) (n : Fin 4096) (hn : n.val = t.val * 256 + r.val) (e : Fin 64) (s : Fin 128) :
    (W2 m c (Proc.devRef .tc main_v9_0) : FVec Ideal S4096x64x128 .f32) (ix3 n e s) = Dispatch.blockWeights (F := Ideal) (Dispatch.block (entry1 m) c 0 t) (Dispatch.block (entry1 m) c 1 t) (Dispatch.block (entry1 m) c 2 t) (Dispatch.block (entry1 m) c 3 t) (Dispatch.block (entry1 m) c 4 t) (Dispatch.block (entry1 m) c 5 t) (Dispatch.block (entry1 m) c 6 t) (ix3 r e s) := by
  have h := (Dispatch.dat (entry1 m) c).arrAt_emb_eq_flushed 7 (fun t t' _ _ hne => (cfg1.win 7).disjoint_blk (index1_7_ne t t' hne)) t (flush1_7 t) (ix3 r e s)
  rw [← W2_arr m c 7] at h
  have he : ((cfg1.win 7).blk t).view.emb (ix3 r e s) = ix3 n e s := by
    funext a
    refine Fin.ext (((cfg1.win 7).rect_emb_val t (ix3 r e s) a).trans ?_)
    rw [index1_7]
    match a with
    | ⟨0, _⟩ => exact hn.symm
    | ⟨1, _⟩ => exact (Nat.zero_mul _).symm ▸ Nat.zero_add _
    | ⟨2, _⟩ => exact (Nat.zero_mul _).symm ▸ Nat.zero_add _
  rw [he] at h
  exact h.trans (congrFun (Dispatch.after_7 (entry1 m) c t) (ix3 r e s))

theorem index1_8 : ∀ (t : Fin cfg1.N) (a : Fin 3), (cfg1.win 8).index t a = if a = 0 then t.val else 0 :=
  (by decide +kernel : ∀ (t : Fin grid1.N) (a : Fin 3), win1_8.index t a = if a = 0 then t.val else 0)
theorem index1_8_ne : ∀ t t' : Fin cfg1.N, t ≠ t' → (cfg1.win 8).index t ≠ (cfg1.win 8).index t' := fun t t' h e => by
  have := congrFun e (0 : Fin 3)
  rw [index1_8, index1_8] at this
  exact h (Fin.ext this)
/-- The mask's words. -/
theorem read1_8 (c : Dev nD) (t : Fin cfg1.N) (r : Fin 256) (n : Fin 4096) (hn : n.val = t.val * 256 + r.val) (e : Fin 64) (s : Fin 128) :
    (W2 m c (Proc.devRef .tc main_v9_1) : IVec S4096x64x128 32) (ix3 n e s) = Dispatch.blockMask (F := Ideal) (Dispatch.block (entry1 m) c 0 t) (Dispatch.block (entry1 m) c 1 t) (Dispatch.block (entry1 m) c 2 t) (Dispatch.block (entry1 m) c 3 t) (Dispatch.block (entry1 m) c 4 t) (Dispatch.block (entry1 m) c 5 t) (Dispatch.block (entry1 m) c 6 t) (ix3 r e s) := by
  have h := (Dispatch.dat (entry1 m) c).arrAt_emb_eq_flushed 8 (fun t t' _ _ hne => (cfg1.win 8).disjoint_blk (index1_8_ne t t' hne)) t (flush1_8 t) (ix3 r e s)
  rw [← W2_arr m c 8] at h
  have he : ((cfg1.win 8).blk t).view.emb (ix3 r e s) = ix3 n e s := by
    funext a
    refine Fin.ext (((cfg1.win 8).rect_emb_val t (ix3 r e s) a).trans ?_)
    rw [index1_8]
    match a with
    | ⟨0, _⟩ => exact hn.symm
    | ⟨1, _⟩ => exact (Nat.zero_mul _).symm ▸ Nat.zero_add _
    | ⟨2, _⟩ => exact (Nat.zero_mul _).symm ▸ Nat.zero_add _
  rw [he] at h
  exact h.trans (congrFun (Dispatch.after_8 (entry1 m) c t) (ix3 r e s))

/-! ## The host's operations -/

/-- The loss, read as a scalar. -/
theorem tail_loss (c : Dev nD) : (W3 m c (Proc.devRef .tc main_v13) : FVec Ideal S_ .f32)
    = fun _ => (W1 m c (Proc.devRef .tc main_v8_7) : FVec Ideal S1x1 .f32) (ix2 (0 : Fin 1) (0 : Fin 1)) := by
  funext i
  rw [← W2_of m c main_v8_7 (by decide +kernel)]
  unfold W3
  after_reads_at

/-- The counts, read as a vector. -/
theorem tail_counts (c : Dev nD) (e : Fin 64) : (W3 m c (Proc.devRef .tc main_v14) : IVec S64 32) (ix1 e)
    = (W1 m c (Proc.devRef .tc main_v8_6) : IVec S1x64 32) (ix2 (0 : Fin 1) e) := by
  rw [← W2_of m c main_v8_6 (by decide +kernel)]
  unfold W3
  after_reads_at

/-- The weights are not touched. -/
theorem tail_weights (c : Dev nD) : W3 m c (Proc.devRef .tc main_v9_0) = W2 m c (Proc.devRef .tc main_v9_0) := by
  unfold W3
  after_reads_simp

/-- The mask: one where the second region's word is not zero. -/
theorem tail_mask (c : Dev nD) (n : Fin 4096) (e : Fin 64) (s : Fin 128) : (W3 m c (Proc.devRef .tc main_v12) : IVec S4096x64x128 1) (ix3 n e s)
    = IntOp.cmpi .ne ((W2 m c (Proc.devRef .tc main_v9_1) : IVec S4096x64x128 32) (ix3 n e s)) 0#32 := by
  unfold W3
  after_reads_at
  dsimp only [id]
  pointwise

end Cert.KernelIdeal.Whole

end
-- ==== Proof.Math.Pick.lean ====
/- The first largest entry of a row of 64, and the two ways a program finds it. -/
module

public import Idealize.ShloMosaic.Lib.Pointwise
public import Idealize.ShloMosaic.Lib.Routing.BitFacts
public import Idealize.ShloMosaic.PureOps.Ideal.Laws

@[expose] public section

noncomputable section

namespace Cert.Gating

open Idealize.ShloMosaic

theorem exists_largest (v : Fin 64 → EReal) : (Finset.univ.filter fun e => ∀ a, v a ≤ v e).Nonempty := by
  obtain ⟨e, -, he⟩ := Finset.exists_max_image Finset.univ v Finset.univ_nonempty
  exact ⟨e, Finset.mem_filter.2 ⟨Finset.mem_univ _, fun a => he a (Finset.mem_univ _)⟩⟩

/-- The first lane at which a row is largest. -/
def pick (v : Fin 64 → EReal) : Fin 64 := (Finset.univ.filter fun e => ∀ a, v a ≤ v e).min' (exists_largest v)

theorem le_pick (v : Fin 64 → EReal) (a : Fin 64) : v a ≤ v (pick v) :=
  (Finset.mem_filter.1 (Finset.min'_mem _ (exists_largest v))).2 a

theorem pick_le_of_eq (v : Fin 64 → EReal) {a : Fin 64} (h : v a = v (pick v)) : pick v ≤ a :=
  Finset.min'_le _ _ (Finset.mem_filter.2 ⟨Finset.mem_univ _, fun b => h ▸ le_pick v b⟩)

theorem eq_pick {v : Fin 64 → EReal} {e : Fin 64} (hm : ∀ a, v a ≤ v e) (hf : ∀ a, v a = v e → e ≤ a) : e = pick v :=
  le_antisymm (hf _ (le_antisymm (hm _) (le_pick v e))) (pick_le_of_eq v (le_antisymm (le_pick v e) (hm _)))

/-- Rows in the same order have the same pick. -/
theorem pick_congr {v w : Fin 64 → EReal} (h : ∀ a b, v a ≤ v b ↔ w a ≤ w b) : pick v = pick w :=
  eq_pick (fun a => (h _ _).1 (le_pick v a))
    (fun a ha => pick_le_of_eq v (le_antisymm (le_pick v a) ((h _ _).2 ha.ge)))

/-- A row's largest entry, by folding. -/
theorem fold_max_eq (v : Fin 64 → EReal) : Finset.fold max ⊥ v Finset.univ = v (pick v) := by
  apply le_antisymm
  · rw [Finset.fold_max_le]
    exact ⟨bot_le, fun a _ => le_pick v a⟩
  · rw [Finset.le_fold_max]
    exact Or.inr ⟨pick v, Finset.mem_univ _, le_rfl⟩

theorem toInt_ofNat_small {n : ℕ} (h : n < 2 ^ 31) : (BitVec.ofNat 32 n).toInt = n := by
  rw [BitVec.toInt_eq_toNat_of_msb (Routing.msb_ofNat32 h), BitVec.toNat_ofNat, Nat.mod_eq_of_lt (by omega)]

theorem minsi_eq (a b : BitVec 32) : (IntOp.minsi a b).toInt = min a.toInt b.toInt := by
  unfold IntOp.minsi
  rw [BitVec.slt_eq_decide]
  by_cases h : a.toInt < b.toInt <;> simp [h] <;> omega

/-- The least lane among the largest, by folding the lane numbers. -/
theorem fold_min_eq (v : Fin 64 → EReal) (m : EReal) (hm : m = v (pick v)) :
    Finset.fold IntOp.minsi 2147483647#32 (fun x : Fin 64 => if v x = m then BitVec.ofNat 32 x.val else 64#32) Finset.univ
      = BitVec.ofNat 32 (pick v).val := by
  subst hm
  have key : ∀ s : Finset (Fin 64),
      (Finset.fold IntOp.minsi 2147483647#32 (fun x : Fin 64 => if v x = v (pick v) then BitVec.ofNat 32 x.val else 64#32) s).toInt
        = Finset.fold min 2147483647 (fun x : Fin 64 => if v x = v (pick v) then (x.val : ℤ) else 64) s := by
    intro s
    induction s using Finset.induction_on with
    | empty => rfl
    | insert a s ha ih =>
      rw [Finset.fold_insert ha, Finset.fold_insert ha, minsi_eq, ih]
      congr 1
      split
      · exact toInt_ofNat_small (by have := a.isLt; omega)
      · rfl
  apply BitVec.eq_of_toInt_eq
  rw [key, toInt_ofNat_small (by have := (pick v).isLt; omega)]
  apply le_antisymm
  · rw [Finset.fold_min_le]
    exact Or.inr ⟨pick v, Finset.mem_univ _, by simp⟩
  · rw [Finset.le_fold_min]
    refine ⟨by have := (pick v).isLt; omega, fun x _ => ?_⟩
    split
    · next h => exact_mod_cast (pick_le_of_eq v h)
    · have := (pick v).isLt; omega

end Cert.Gating

end
-- ==== Proof.Math.Spec.lean ====
/- The routing of one token from its row of logits and its row of noise. -/
module

public import proofs.«01_k».proof.Proof.Math.Pick

@[expose] public section

noncomputable section

namespace Cert.Gating

open Idealize.ShloMosaic

/-- The row the second choice is made from: logits plus noise, the first choice struck out. -/
def struck (l u : Fin 64 → EReal) (e : Fin 64) : EReal := if e = pick l then ⊥ else l e + u e

/-- The second choice. -/
def second (l u : Fin 64 → EReal) : Fin 64 := pick (struck l u)

/-- The softmax of a row. -/
def gate (l : Fin 64 → EReal) (e : Fin 64) : EReal :=
  Ideal.div (Ideal.exp (l e - l (pick l))) (∑ a, Ideal.exp (l a - l (pick l)))

end Cert.Gating

end
-- ==== Proof.Math.Count.lean ====
/- Counts of the lines of a predicate below a bound, as a program sums them: over words, and over the reals. -/
module

public import Idealize.ShloMosaic.Lib.Pointwise
public import Mathlib.Data.Nat.Count
public import Mathlib.Data.BitVec

@[expose] public section

noncomputable section

namespace Cert.Gating

open Idealize.ShloMosaic

/-- Folding word addition from zero is the sum of the words. -/
theorem fold_addi_eq {ι : Type} (s : Finset ι) (f : ι → BitVec 32) : Finset.fold IntOp.addi 0#32 f s = ∑ i ∈ s, f i := by
  classical
  induction s using Finset.induction_on with
  | empty => rfl
  | insert a s ha ih =>
    rw [Finset.fold_insert ha, Finset.sum_insert ha, ih]
    rfl

/-- The words of a sum of naturals. -/
theorem sum_ofNat {ι : Type} (s : Finset ι) (f : ι → ℕ) : ∑ i ∈ s, BitVec.ofNat 32 (f i) = BitVec.ofNat 32 (∑ i ∈ s, f i) := by
  classical
  induction s using Finset.induction_on with
  | empty => rfl
  | insert a s ha ih => rw [Finset.sum_insert ha, Finset.sum_insert ha, ih, BitVec.ofNat_add]

/-- A count as a sum of ones. -/
theorem sum_one (P : ℕ → Prop) [DecidablePred P] (B : ℕ) : ∑ i : Fin B, (if P i.val then 1 else 0) = Nat.count P B := by
  rw [Fin.sum_univ_eq_sum_range (fun i => if P i then 1 else 0) B, Nat.count_eq_card_filter_range, Finset.card_filter]

/-- A count up to and with one line, as a sum of ones over all lines. -/
theorem sum_one_le (P : ℕ → Prop) [DecidablePred P] {B : ℕ} (r : Fin B) :
    ∑ i : Fin B, (if i ≤ r then (if P i.val then 1 else 0) else 0) = Nat.count P (r.val + 1) := by
  rw [show (∑ i : Fin B, (if i ≤ r then (if P i.val then 1 else 0) else 0)) = ∑ i : Fin B, (if (fun k => k ≤ r.val ∧ P k) i.val then 1 else 0) from
    Finset.sum_congr rfl fun i _ => by
      by_cases h : i ≤ r
      · have h0 : i.val ≤ r.val := h
        by_cases h' : P i.val <;> simp [h, h', h0]
      · have h0 : ¬ i.val ≤ r.val := h
        simp [h, h0]]
  rw [sum_one (fun k => k ≤ r.val ∧ P k), Nat.count_eq_card_filter_range, Nat.count_eq_card_filter_range]
  congr 1
  ext k
  simp only [Finset.mem_filter, Finset.mem_range]
  have := r.isLt
  constructor
  · rintro ⟨_, h, hp⟩; exact ⟨by omega, hp⟩
  · rintro ⟨h, hp⟩; exact ⟨by omega, by omega, hp⟩

theorem word_ite (p : Prop) [Decidable p] : (if p then 1#32 else 0#32) = BitVec.ofNat 32 (if p then 1 else 0) := by
  split <;> rfl

/-- A count as a sum of words. -/
theorem sum_word (P : ℕ → Prop) [DecidablePred P] (B : ℕ) :
    ∑ i : Fin B, (if P i.val then 1#32 else 0#32) = BitVec.ofNat 32 (Nat.count P B) := by
  simp only [word_ite]
  rw [sum_ofNat, sum_one]

/-- A count up to and with one line, as a sum of words over all lines. -/
theorem sum_word_le (P : ℕ → Prop) [DecidablePred P] {B : ℕ} (r : Fin B) :
    ∑ i : Fin B, (if i ≤ r then (if P i.val then 1#32 else 0#32) else 0#32) = BitVec.ofNat 32 (Nat.count P (r.val + 1)) := by
  rw [← sum_one_le, ← sum_ofNat]
  refine Finset.sum_congr rfl fun i _ => ?_
  split
  · exact word_ite _
  · rfl

/-- A sum of naturals over the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A count up to and with one line, as a sum of products of a zero or one with a zero or one. -/
theorem sum_real_le (P : ℕ → Prop) [DecidablePred P] {B : ℕ} (r : Fin B) :
    ∑ i : Fin B, (((if i ≤ r then 1 else 0 : ℝ) : EReal)) * (((if P i.val then 1 else 0 : ℝ) : EReal)) = ((Nat.count P (r.val + 1) : ℝ) : EReal) := by
  rw [← sum_one_le P r, Nat.cast_sum, ← sum_coe]
  refine Finset.sum_congr rfl fun i _ => ?_
  rw [← EReal.coe_mul]
  congr 1
  by_cases h : i ≤ r <;> by_cases h' : P i.val <;> simp [h, h']

/-- A count as a sum of zeros and ones. -/
theorem sum_real (P : ℕ → Prop) [DecidablePred P] (B : ℕ) :
    ∑ i : Fin B, (((if P i.val then 1 else 0 : ℝ) : EReal)) = ((Nat.count P B : ℝ) : EReal) := by
  rw [← sum_one P B, Nat.cast_sum, ← sum_coe]
  refine Finset.sum_congr rfl fun i _ => ?_
  congr 1
  split <;> simp

theorem count_le (P : ℕ → Prop) [DecidablePred P] (n : ℕ) : Nat.count P n ≤ n := by
  rw [Nat.count_eq_card_filter_range]
  exact (Finset.card_filter_le _ _).trans (by simp)

/-- Turning a small natural's real back into a word. -/
theorem fptosi_nat {n : ℕ} (h : n < 2 ^ 31) : Ideal.fptosi 32 ((n : ℝ) : EReal) = BitVec.ofNat 32 n := by
  unfold Ideal.fptosi
  rw [Ideal.toIntClamped_coe]
  rw [if_pos (Nat.cast_nonneg n), Int.floor_natCast,
    show max (-((2 ^ (32 - 1) : ℕ) : ℤ)) (min (((2 ^ (32 - 1) : ℕ) : ℤ) - 1) (n : ℤ)) = n by
      have : (n : ℤ) < 2 ^ 31 := by exact_mod_cast h
      norm_num at this ⊢
      omega]
  exact BitVec.ofInt_natCast _ _

end Cert.Gating

end
-- ==== Proof.Math.Words.lean ====
/- Constants, and comparisons and conversions of small words. -/
module

public import Idealize.ShloMosaic.Lib.Pointwise
public import proofs.«01_k».proof.Proof.Math.Count
public import proofs.«01_k».proof.Proof.Math.Pick

@[expose] public section

noncomputable section

namespace Cert.Gating

open Idealize.ShloMosaic

theorem negInf : (Ideal.ofBits .f32 4286578688#32 : EReal) = ⊥ := by simp [Ideal.ofBits, Ideal.ieee]
theorem const64 : (Ideal.ofBits .f32 1115684864#32 : EReal) = ((64 : ℝ) : EReal) := by
  simp [Ideal.ofBits, Ideal.ieee, -EReal.coe_mul]; norm_num
theorem const4096 : (Ideal.ofBits .f32 1166016512#32 : EReal) = ((4096 : ℝ) : EReal) := by
  simp [Ideal.ofBits, Ideal.ieee, -EReal.coe_mul]; norm_num
theorem const_zero : (Ideal.ofBits .f32 0#32 : EReal) = 0 := by
  simp [Ideal.ofBits, Ideal.ieee, -EReal.coe_mul]
theorem const_one : (Ideal.ofBits .f32 1065353216#32 : EReal) = 1 := by
  simp [Ideal.ofBits, Ideal.ieee, -EReal.coe_mul]; norm_num
/-- The least divisor the reference allows. -/
def eps : ℝ := 1 / 8388608
theorem const_eps : (Ideal.ofBits .f32 872415232#32 : EReal) = ((eps : ℝ) : EReal) := by
  simp [Ideal.ofBits, Ideal.ieee, -EReal.coe_mul, eps]; norm_num
theorem eps_pos : 0 < eps := by norm_num [eps]

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem cmpi_eq_ofNat {a b : ℕ} (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff, ofNat_inj ha hb]

theorem cmpi_eq_lane (a b : Fin 64) : IntOp.cmpi .eq (BitVec.ofNat 32 a.val) (BitVec.ofNat 32 b.val) = BitVec.ofBool (decide (a = b)) := by
  rw [cmpi_eq_ofNat (by have := a.isLt; omega) (by have := b.isLt; omega)]
  simp only [Fin.ext_iff]

theorem cmpi_slt_ofNat {a b : ℕ} (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, toInt_ofNat_small ha, toInt_ofNat_small hb]
  simp only [Nat.cast_lt]

theorem cmpi_sge_ofNat {a b : ℕ} (ha : a < 2 ^ 31) (hb : b < 2 ^ 31) :
    IntOp.cmpi .sge (BitVec.ofNat 32 a) (BitVec.ofNat 32 b) = BitVec.ofBool (decide (b ≤ a)) := by
  show BitVec.ofBool ((BitVec.ofNat 32 b).sle (BitVec.ofNat 32 a)) = _
  rw [BitVec.sle_eq_decide, toInt_ofNat_small ha, toInt_ofNat_small hb]
  simp only [Nat.cast_le]

theorem setWidth_ofBool (p : Prop) [Decidable p] : BitVec.setWidth 32 (BitVec.ofBool (decide p)) = if p then 1#32 else 0#32 := by
  by_cases h : p <;> simp [h]

theorem select_ofBool {α : Type} (p : Prop) [Decidable p] (a b : α) : Scalar.select (BitVec.ofBool (decide p)) a b = if p then a else b := by
  by_cases h : p <;> simp [h, Scalar.select]

/-- A word of zero or one as a real. -/
theorem sitofp_ite (p : Prop) [Decidable p] : (FloatOps.sitofp .f32 (if p then 1#32 else 0#32) : Ideal .f32) = (((if p then 1 else 0 : ℝ)) : EReal) := by
  show (((if p then 1#32 else 0#32 : BitVec 32).toInt : ℝ) : EReal) = _
  by_cases h : p <;> simp [h]

theorem sitofp_ofNat {n : ℕ} (h : n < 2 ^ 31) : (FloatOps.sitofp .f32 (BitVec.ofNat 32 n) : Ideal .f32) = ((n : ℝ) : EReal) := by
  show (((BitVec.ofNat 32 n).toInt : ℝ) : EReal) = _
  rw [toInt_ofNat_small h]
  simp

theorem uitofp_ofBool (p : Prop) [Decidable p] : (FloatOps.uitofp .f32 (BitVec.ofBool (decide p)) : Ideal .f32) = (((if p then 1 else 0 : ℝ)) : EReal) := by
  show (((BitVec.ofBool (decide p)).toNat : ℝ) : EReal) = _
  by_cases h : p <;> simp [h]

/-- A sum in which one line counts. -/
theorem sum_select (c : Fin 64) (f : Fin 64 → EReal) : ∑ e, (if e = c then f e else 0) = f c := by simp

theorem sum_select_word (c : Fin 64) (f : Fin 64 → BitVec 32) : ∑ e, (if e = c then f e else 0#32) = f c := by
  rw [Finset.sum_eq_single c]
  · rw [if_pos rfl]
  · intro b _ hb; rw [if_neg hb]; rfl
  · intro h; exact absurd (Finset.mem_univ _) h

theorem sum_mul_one (c : Fin 64) (f : Fin 64 → EReal) : ∑ e, f e * (((if e = c then 1 else 0 : ℝ)) : EReal) = f c := by
  rw [Finset.sum_eq_single c]
  · simp
  · intro b _ hb; simp [hb]
  · simp

end Cert.Gating

end
-- ==== Proof.KernelIdeal.BlockValue.lean ====
/- What one block of 512 tokens computes, at a token and an expert. -/
module

public import proofs.«01_k».proof.Proof.KernelIdeal.GateBody
public import proofs.«01_k».proof.Proof.Math.Spec
public import proofs.«01_k».proof.Proof.Math.Words

@[expose] public section

noncomputable section

namespace Cert.KernelIdeal.Gate

open Cert.KernelIdeal Cert.KernelIdeal.Gen
open Idealize.ShloMosaic Cert.Gating

variable {x : Vec Ideal S512x4096 .f32} {w : Vec Ideal S4096x64 .f32} {u : Vec Ideal S512x64 .f32} {l v : Fin 512 → Fin 64 → EReal}

/-- A block's logits. -/
theorem logits_apply (x : Vec Ideal S512x4096 .f32) (w : Vec Ideal S4096x64 .f32) (r : Fin 512) (e : Fin 64) :
    k0_pay7 (F := Ideal) x w (ix2 r e) = ∑ k : Fin 4096, (x (ix2 r k) * w (ix2 k e) : EReal) := by
  unfold k0_pay7
  pointwise

theorem blockL1_apply (hl : ∀ r e, k0_pay7 (F := Ideal) x w (ix2 r e) = l r e) (r : Fin 512) :
    blockL1 (F := Ideal) x w (ix2 r (0 : Fin 1)) = l r (pick (l r)) := by
  unfold blockL1 k0_pay8
  revert hl
  generalize k0_pay7 (F := Ideal) x w = y
  intro hl
  pointwise
  rw [negInf, funext (hl r)]
  exact fold_max_eq (l r)

theorem blockI1_apply (hl : ∀ r e, k0_pay7 (F := Ideal) x w (ix2 r e) = l r e) (r : Fin 512) :
    blockI1 (F := Ideal) x w (ix2 r (0 : Fin 1)) = BitVec.ofNat 32 (pick (l r)).val := by
  have h1 := blockL1_apply hl r
  unfold blockL1 at h1
  unfold blockI1 k0_pay9
  revert hl h1
  generalize k0_pay7 (F := Ideal) x w = y
  generalize k0_pay8 (F := Ideal) x w = m
  intro hl h1
  pointwise
  simp only [hl, h1]
  exact fold_min_eq (l r) _ rfl

theorem mask1_apply (hl : ∀ r e, k0_pay7 (F := Ideal) x w (ix2 r e) = l r e) (r : Fin 512) (e : Fin 64) :
    k0_pay10 (F := Ideal) x w (ix2 r e) = BitVec.ofBool (decide (e = pick (l r))) := by
  have h1 := blockI1_apply hl r
  unfold blockI1 at h1
  unfold k0_pay10
  revert h1
  generalize k0_pay9 (F := Ideal) x w = m
  intro h1
  pointwise
  rw [h1]
  exact cmpi_eq_lane _ _

theorem noisy_apply (hl : ∀ r e, k0_pay7 (F := Ideal) x w (ix2 r e) = l r e) (hu : ∀ r e, u (ix2 r e) = v r e) (r : Fin 512) (e : Fin 64) :
    noisy (F := Ideal) x w u (ix2 r e) = struck (l r) (v r) e := by
  have h1 := mask1_apply hl r e
  unfold noisy k0_pay12
  revert hl h1
  generalize k0_pay7 (F := Ideal) x w = y
  generalize k0_pay10 (F := Ideal) x w = m
  intro hl h1
  pointwise
  rw [h1, hl, hu]
  rw [select_ofBool, negInf]
  rfl

theorem noisyMax_apply (hl : ∀ r e, k0_pay7 (F := Ideal) x w (ix2 r e) = l r e) (hu : ∀ r e, u (ix2 r e) = v r e) (r : Fin 512) :
    noisyMax (F := Ideal) x w u (ix1 r) = struck (l r) (v r) (second (l r) (v r)) := by
  have h1 := noisy_apply hl hu r
  unfold noisy at h1
  unfold noisyMax k0_pay13
  revert h1
  generalize k0_pay12 (F := Ideal) x w u = y
  intro h1
  pointwise
  rw [negInf, funext h1]
  exact fold_max_eq _

theorem blockI2_apply (hl : ∀ r e, k0_pay7 (F := Ideal) x w (ix2 r e) = l r e) (hu : ∀ r e, u (ix2 r e) = v r e) (r : Fin 512) :
    blockI2 (F := Ideal) x w u (ix2 r (0 : Fin 1)) = BitVec.ofNat 32 (second (l r) (v r)).val := by
  have h1 := noisy_apply hl hu r
  have h2 := noisyMax_apply hl hu r
  unfold blockI2 k0_pay14
  revert h1 h2
  generalize noisy (F := Ideal) x w u = y
  generalize noisyMax (F := Ideal) x w u = m
  intro h1 h2
  pointwise
  simp only [h1, h2]
  exact fold_min_eq _ _ rfl

theorem mask2_apply (hl : ∀ r e, k0_pay7 (F := Ideal) x w (ix2 r e) = l r e) (hu : ∀ r e, u (ix2 r e) = v r e) (r : Fin 512) (e : Fin 64) :
    k0_pay15 (F := Ideal) lanes (noisy x w u) (noisyMax x w u) (ix2 r e) = BitVec.ofBool (decide (e = second (l r) (v r))) := by
  have h1 := blockI2_apply hl hu r
  unfold blockI2 at h1
  unfold k0_pay15
  revert h1
  generalize k0_pay14 (F := Ideal) lanes (noisy x w u) (noisyMax x w u) = m
  intro h1
  pointwise
  rw [h1]
  exact cmpi_eq_lane _ _

theorem blockL2_apply (hl : ∀ r e, k0_pay7 (F := Ideal) x w (ix2 r e) = l r e) (hu : ∀ r e, u (ix2 r e) = v r e) (r : Fin 512) :
    blockL2 (F := Ideal) x w u (ix2 r (0 : Fin 1)) = l r (second (l r) (v r)) := by
  have h1 := mask2_apply hl hu r
  unfold blockL2 k0_pay16
  revert hl h1
  generalize k0_pay15 (F := Ideal) lanes (noisy x w u) (noisyMax x w u) = m
  generalize k0_pay7 (F := Ideal) x w = y
  intro hl h1
  pointwise
  simp only [h1, hl]
  simp only [select_ofBool]
  exact sum_select _ _

theorem triangle (c : ℕ → Fin 64) (z : ℕ) (r : Fin 512) (h : z + 512 < 2 ^ 31) (e : Fin 64) (he : c r.val = e) :
    Ideal.fptosi 32 ((((z : ℝ) : EReal) + ∑ i : Fin 512, (((if i ≤ r then 1 else 0 : ℝ) : EReal)) * (((if c i.val = e then 1 else 0 : ℝ) : EReal)) - 1))
      = BitVec.ofNat 32 (z + Nat.count (fun m => c m = e) r.val) := by
  rw [sum_real_le (fun m => c m = e) r, Nat.count_succ, if_pos he]
  have : (((z : ℝ) : EReal) + ((((Nat.count (fun m => c m = e) r.val + 1 : ℕ)) : ℝ) : EReal) - 1)
      = (((z + Nat.count (fun m => c m = e) r.val : ℕ) : ℝ) : EReal) := by
    rw [← EReal.coe_one, ← EReal.coe_add, ← EReal.coe_sub]
    congr 1
    push_cast
    ring
  rw [this]
  have := count_le (fun m => c m = e) r.val
  have := r.isLt
  exact fptosi_nat (by omega)

theorem place_word (c : ℕ → Fin 64) (z : Fin 64 → ℕ) (r : Fin 512) (hz : ∀ e, z e + 512 < 2 ^ 31) :
    FloatOps.fptosi (F := Ideal) (φ := .f32) 32 (∑ e : Fin 64, ((FloatOps.sitofp .f32 (BitVec.ofNat 32 (z e)) : Ideal .f32)
        + ∑ i : Fin 512, (FloatOps.sitofp .f32 (BitVec.setWidth 32 (IntOp.cmpi .sge (BitVec.ofNat 32 r.val) (BitVec.ofNat 32 i.val))) : Ideal .f32)
          * (FloatOps.sitofp .f32 (BitVec.setWidth 32 (BitVec.ofBool (decide (c i.val = e)))) : Ideal .f32) - 1 : EReal)
        * (FloatOps.sitofp .f32 (BitVec.setWidth 32 (BitVec.ofBool (decide (c r.val = e)))) : Ideal .f32))
      = BitVec.ofNat 32 (z (c r.val) + Nat.count (fun m => c m = c r.val) r.val) := by
  have hr := r.isLt
  have hcmp : ∀ i : Fin 512, IntOp.cmpi .sge (BitVec.ofNat 32 r.val) (BitVec.ofNat 32 i.val) = BitVec.ofBool (decide (i ≤ r)) := fun i =>
    cmpi_sge_ofNat (by omega) (by have := i.isLt; omega)
  simp only [hcmp, setWidth_ofBool, sitofp_ite, fun e => sitofp_ofNat (show z e < 2 ^ 31 by have := hz e; omega)]
  refine (congrArg (Ideal.fptosi 32) ?_).trans (triangle c (z (c r.val)) r (hz _) (c r.val) rfl)
  rw [Finset.sum_eq_single (c r.val)]
  · simp
  · intro b _ hb; simp [Ne.symm hb]
  · simp

/-- A token's place in the first queue: the tokens carried, and those of the block ahead of it. -/
theorem blockP1_apply (hl : ∀ r e, k0_pay7 (F := Ideal) x w (ix2 r e) = l r e) (c : ℕ → Fin 64) (hc : ∀ r : Fin 512, c r.val = pick (l r))
    (s : Carried Ideal) (z : Fin 64 → ℕ) (hz : ∀ e, z e + 512 < 2 ^ 31) (hs : ∀ e : Fin 64, s.2.1 (ix2 (0 : Fin 1) e) = BitVec.ofNat 32 (z e)) (r : Fin 512) :
    blockP1 (F := Ideal) x w s (ix2 r (0 : Fin 1))
      = BitVec.ofNat 32 (z (c r.val) + Nat.count (fun m => c m = c r.val) r.val) := by
  have h1 : ∀ r e, k0_pay10 (F := Ideal) x w (ix2 r e) = BitVec.ofBool (decide (c r.val = e)) := fun r e => by
    rw [mask1_apply hl r e, ← hc r]
    exact congrArg BitVec.ofBool (decide_eq_decide.2 eq_comm)
  unfold blockP1 k0_pay18 k0_pay17
  revert h1
  generalize k0_pay10 (F := Ideal) x w = m
  generalize s.2.1 = s' at hs
  intro h1
  pointwise
  simp only [h1, hs]
  exact place_word c z r hz

/-- A token's place in the second queue, the first choices not counted. -/
theorem blockP2_apply (hl : ∀ r e, k0_pay7 (F := Ideal) x w (ix2 r e) = l r e) (hu : ∀ r e, u (ix2 r e) = v r e) (c : ℕ → Fin 64)
    (hc : ∀ r : Fin 512, c r.val = second (l r) (v r))
    (s : Carried Ideal) (z : Fin 64 → ℕ) (hz : ∀ e, z e + 512 < 2 ^ 31) (hs : ∀ e : Fin 64, s.2.2 (ix2 (0 : Fin 1) e) = BitVec.ofNat 32 (z e)) (r : Fin 512) :
    blockP2 (F := Ideal) x w u s (ix2 r (0 : Fin 1))
      = BitVec.ofNat 32 (z (c r.val) + Nat.count (fun m => c m = c r.val) r.val) := by
  have h1 : ∀ r e, k0_pay15 (F := Ideal) lanes (noisy x w u) (noisyMax x w u) (ix2 r e) = BitVec.ofBool (decide (c r.val = e)) := fun r e => by
    rw [mask2_apply hl hu r e, ← hc r]
    exact congrArg BitVec.ofBool (decide_eq_decide.2 eq_comm)
  unfold blockP2 k0_pay19 k0_pay17
  revert h1
  generalize k0_pay15 (F := Ideal) lanes (noisy x w u) (noisyMax x w u) = m
  generalize s.2.2 = s' at hs
  intro h1
  pointwise
  simp only [h1, hs]
  exact place_word c z r hz

/-- The gates carried past a block. -/
theorem step_gates (hl : ∀ r e, k0_pay7 (F := Ideal) x w (ix2 r e) = l r e) (s : Carried Ideal) (e : Fin 64) :
    ((step (F := Ideal) x w u s).1 (ix2 (0 : Fin 1) e) : EReal) = s.1 (ix2 (0 : Fin 1) e) + ∑ r : Fin 512, gate (l r) e := by
  have h1 := blockL1_apply hl
  unfold blockL1 at h1
  unfold step
  dsimp only
  unfold k0_pay11
  revert hl h1
  generalize k0_pay8 (F := Ideal) x w = m
  generalize k0_pay7 (F := Ideal) x w = y
  generalize s.1 = s'
  intro hl h1
  pointwise
  simp only [hl, h1]
  rfl

/-- The first choices counted past a block. -/
theorem step_first (hl : ∀ r e, k0_pay7 (F := Ideal) x w (ix2 r e) = l r e) (c : ℕ → Fin 64) (hc : ∀ r : Fin 512, c r.val = pick (l r))
    (s : Carried Ideal) (z : Fin 64 → ℕ) (hs : ∀ e : Fin 64, s.2.1 (ix2 (0 : Fin 1) e) = BitVec.ofNat 32 (z e)) (e : Fin 64) :
    (step (F := Ideal) x w u s).2.1 (ix2 (0 : Fin 1) e) = BitVec.ofNat 32 (z e + Nat.count (fun m => c m = e) 512) := by
  have h1 : ∀ r e, k0_pay10 (F := Ideal) x w (ix2 r e) = BitVec.ofBool (decide (c r.val = e)) := fun r e => by
    rw [mask1_apply hl r e, ← hc r]
    exact congrArg BitVec.ofBool (decide_eq_decide.2 eq_comm)
  unfold step
  dsimp only
  unfold k0_pay1
  revert h1
  generalize k0_pay10 (F := Ideal) x w = m
  generalize s.2.1 = s' at hs
  intro h1
  pointwise
  simp only [h1, hs, setWidth_ofBool, fold_addi_eq]
  rw [sum_word (fun m => c m = e) 512, BitVec.ofNat_add]
  rfl

/-- The second choices counted past a block. -/
theorem step_second (hl : ∀ r e, k0_pay7 (F := Ideal) x w (ix2 r e) = l r e) (hu : ∀ r e, u (ix2 r e) = v r e) (c : ℕ → Fin 64)
    (hc : ∀ r : Fin 512, c r.val = second (l r) (v r))
    (s : Carried Ideal) (z : Fin 64 → ℕ) (hs : ∀ e : Fin 64, s.2.2 (ix2 (0 : Fin 1) e) = BitVec.ofNat 32 (z e)) (e : Fin 64) :
    (step (F := Ideal) x w u s).2.2 (ix2 (0 : Fin 1) e) = BitVec.ofNat 32 (z e + Nat.count (fun m => c m = e) 512) := by
  have h1 : ∀ r e, k0_pay15 (F := Ideal) lanes (noisy x w u) (noisyMax x w u) (ix2 r e) = BitVec.ofBool (decide (c r.val = e)) := fun r e => by
    rw [mask2_apply hl hu r e, ← hc r]
    exact congrArg BitVec.ofBool (decide_eq_decide.2 eq_comm)
  unfold step
  dsimp only
  unfold k0_pay2
  revert h1
  generalize k0_pay15 (F := Ideal) lanes (noisy x w u) (noisyMax x w u) = m
  generalize s.2.2 = s' at hs
  intro h1
  pointwise
  simp only [h1, hs, setWidth_ofBool, fold_addi_eq]
  rw [sum_word (fun m => c m = e) 512, BitVec.ofNat_add]
  rfl

/-- Nothing is carried into the first block. -/
theorem start_apply (e : Fin 64) : ((start (F := Ideal)).1 (ix2 (0 : Fin 1) e) : EReal) = 0
    ∧ (start (F := Ideal)).2.1 (ix2 (0 : Fin 1) e) = BitVec.ofNat 32 0 ∧ (start (F := Ideal)).2.2 (ix2 (0 : Fin 1) e) = BitVec.ofNat 32 0 := by
  unfold start k0_pay4 k0_pay5 k0_pay6
  refine ⟨?_, ?_, ?_⟩
  · pointwise
  · pointwise
  · pointwise

/-- The loss from what is carried. -/
theorem lossOf_apply (s : Carried Ideal) (z : Fin 64 → ℕ) (hz : ∀ e, z e < 2 ^ 31) (hs : ∀ e : Fin 64, s.2.1 (ix2 (0 : Fin 1) e) = BitVec.ofNat 32 (z e)) :
    (lossOf (F := Ideal) s (ix2 (0 : Fin 1) (0 : Fin 1)) : EReal)
      = (∑ e, Ideal.div (s.1 (ix2 (0 : Fin 1) e)) ((4096 : ℝ) : EReal) * Ideal.div ((z e : ℝ) : EReal) ((4096 : ℝ) : EReal)) * ((64 : ℝ) : EReal) := by
  unfold lossOf k0_pay3
  generalize s.1 = a
  generalize s.2.1 = s' at hs
  pointwise
  simp only [hs, const4096, const64]
  simp only [Finset.univ_unique, Finset.sum_singleton, sitofp_ofNat (hz _)]

end Cert.KernelIdeal.Gate

end
-- ==== Proof.Math.Weights.lean ====
/- The combine weights of one token, from the ratio of its two gates, its choices and its places. -/
module

public import proofs.«01_k».proof.Proof.Math.Words

@[expose] public section

noncomputable section

namespace Cert.Gating

open Idealize.ShloMosaic

/-- One where a condition holds, zero elsewhere. -/
def bit (p : Prop) [Decidable p] : EReal := ((if p then 1 else 0 : ℝ) : EReal)

/-- A reciprocal, zero where there is nothing to divide by. -/
def safeInv (d : EReal) : EReal := if 0 < d then Ideal.div 1 (if 0 < d then d else 1) else 0

/-- A token's weight at an expert and a place: `b` is its second gate over its first, `c1` and `c2` are its choices, `p1` and `p2` its
    places in their queues. -/
def weight (b : EReal) (c1 c2 : Fin 64) (p1 p2 : ℕ) (e : Fin 64) (s : Fin 128) : EReal :=
  (bit (p1 < 128) * safeInv (bit (p1 < 128) + bit (p2 < 128) * b)) * bit (e = c1) * bit (s.val = p1)
    + (bit (p2 < 128) * b * safeInv (bit (p1 < 128) + bit (p2 < 128) * b)) * bit (e = c2) * bit (s.val = p2)

end Cert.Gating

end
-- ==== Proof.KernelIdeal.WeightValue.lean ====
/- What one block of 256 tokens computes of the combine weights and the mask, at a token, an expert and a place. -/
module

public import proofs.«01_k».proof.Proof.KernelIdeal.Dispatch
public import proofs.«01_k».proof.Proof.Math.Weights

@[expose] public section

noncomputable section

namespace Cert.KernelIdeal.Dispatch

open Cert.KernelIdeal Cert.KernelIdeal.Gen
open Idealize.ShloMosaic Cert.Gating

/-- A block's weights. -/
theorem blockWeights_apply (x0 x1 : Vec Ideal S256x1 .f32) (x2 x3 x4 x5 : Vec Ideal S256x1 .i32) (x6 : Vec Ideal S1x64 .i32)
    (r : Fin 256) (e : Fin 64) (s : Fin 128) (c1 c2 : Fin 64) (q1 q2 : ℕ) (T : Fin 64 → ℕ)
    (h2 : x2 (ix2 r (0 : Fin 1)) = BitVec.ofNat 32 c1.val) (h3 : x3 (ix2 r (0 : Fin 1)) = BitVec.ofNat 32 c2.val)
    (h4 : x4 (ix2 r (0 : Fin 1)) = BitVec.ofNat 32 q1) (h5 : x5 (ix2 r (0 : Fin 1)) = BitVec.ofNat 32 q2)
    (h6 : ∀ e : Fin 64, x6 (ix2 (0 : Fin 1) e) = BitVec.ofNat 32 (T e)) (hq1 : q1 < 2 ^ 31) (hq2 : q2 + T c2 < 2 ^ 31) :
    blockWeights (F := Ideal) x0 x1 x2 x3 x4 x5 x6 (ix3 r e s) = weight (Ideal.exp (x1 (ix2 r (0 : Fin 1)) - x0 (ix2 r (0 : Fin 1)))) c1 c2 q1 (q2 + T c2) e s := by
  unfold blockWeights k1_pay10 k1_pay9 k1_pay8 k1_pay7 k1_pay6 k1_pay5 k1_pay4 k1_pay3 k1_pay2 k1_pay1
  pointwise
  simp only [h2, h3, h4, h5, h6]
  have hsum : IntOp.addi (BitVec.ofNat 32 q2) (Finset.fold IntOp.addi (0#32)
      (fun x : Fin 64 => Scalar.select (IntOp.cmpi .eq (BitVec.ofNat 32 x.val) (BitVec.ofNat 32 c2.val)) (BitVec.ofNat 32 (T x)) 0#32) Finset.univ)
      = BitVec.ofNat 32 (q2 + T c2) := by
    rw [fold_addi_eq, BitVec.ofNat_add]
    simp only [cmpi_eq_lane, select_ofBool]
    exact congrArg (IntOp.addi (BitVec.ofNat 32 q2)) (sum_select_word c2 fun x => BitVec.ofNat 32 (T x))
  simp only [hsum]
  simp only [cmpi_eq_lane, cmpi_slt_ofNat hq1 (show 128 < 2 ^ 31 by norm_num), cmpi_slt_ofNat hq2 (show 128 < 2 ^ 31 by norm_num),
    cmpi_eq_ofNat (show s.val < 2 ^ 32 by have := s.isLt; omega) (show q1 < 2 ^ 32 by omega),
    cmpi_eq_ofNat (show s.val < 2 ^ 32 by have := s.isLt; omega) (show q2 + T c2 < 2 ^ 32 by omega), setWidth_ofBool, sitofp_ite]
  rfl

/-- A block's mask: one exactly where the weight is not zero. -/
theorem blockMask_apply (x0 x1 : Vec Ideal S256x1 .f32) (x2 x3 x4 x5 : Vec Ideal S256x1 .i32) (x6 : Vec Ideal S1x64 .i32)
    (r : Fin 256) (e : Fin 64) (s : Fin 128) :
    blockMask (F := Ideal) x0 x1 x2 x3 x4 x5 x6 (ix3 r e s)
      = BitVec.setWidth 32 (BitVec.ofBool (decide ((blockWeights (F := Ideal) x0 x1 x2 x3 x4 x5 x6 (ix3 r e s) : EReal) ≠ 0))) := by
  unfold blockMask blockWeights k1_pay11
  pointwise

end Cert.KernelIdeal.Dispatch

end
-- ==== Proof.Math.Tokens.lean ====
/- The routing of 4096 tokens: choices, places in the queues, counts, combine weights and the load-balancing loss, from the tokens' rows
   of logits and of noise. A token is a natural number; those from 4096 on are never looked at. -/
module

public import proofs.«01_k».proof.Proof.Math.Spec
public import proofs.«01_k».proof.Proof.Math.Weights

@[expose] public section

noncomputable section

namespace Cert.Gating

open Idealize.ShloMosaic

/-- The logits of a token. -/
def logitRow (X : Fin 4096 → Fin 4096 → EReal) (W : Fin 4096 → Fin 64 → EReal) (n : ℕ) (e : Fin 64) : EReal :=
  if h : n < 4096 then ∑ k, X ⟨n, h⟩ k * W k e else 0
/-- The noise of a token. -/
def noiseRow (U : Fin 4096 → Fin 64 → EReal) (n : ℕ) (e : Fin 64) : EReal := if h : n < 4096 then U ⟨n, h⟩ e else 0

theorem logitRow_fin (X : Fin 4096 → Fin 4096 → EReal) (W : Fin 4096 → Fin 64 → EReal) (n : Fin 4096) (e : Fin 64) :
    logitRow X W n.val e = ∑ k, X n k * W k e := by
  unfold logitRow; rw [dif_pos n.isLt]
theorem noiseRow_fin (U : Fin 4096 → Fin 64 → EReal) (n : Fin 4096) (e : Fin 64) : noiseRow U n.val e = U n e := by
  unfold noiseRow; rw [dif_pos n.isLt]

/-- How many tokens ahead of one chose what it chose. -/
def ahead (c : ℕ → Fin 64) (n : ℕ) : ℕ := Nat.count (fun m => c m = c n) n
/-- How many of the first `N` tokens chose an expert. -/
def chosen (c : ℕ → Fin 64) (e : Fin 64) (N : ℕ) : ℕ := Nat.count (fun m => c m = e) N

theorem ahead_le (c : ℕ → Fin 64) (n : ℕ) : ahead c n ≤ n := count_le _ _
theorem chosen_le (c : ℕ → Fin 64) (e : Fin 64) (N : ℕ) : chosen c e N ≤ N := count_le _ _

variable (L U : ℕ → Fin 64 → EReal)

/-- The first choices. -/
def firsts (n : ℕ) : Fin 64 := pick (L n)
/-- The second choices. -/
def seconds (n : ℕ) : Fin 64 := second (L n) (U n)
/-- A token's place in its first choice's queue. -/
def place1 (n : ℕ) : ℕ := ahead (firsts L) n
/-- A token's place in its second choice's queue, behind every first choice. -/
def place2 (n : ℕ) : ℕ := ahead (seconds L U) n + chosen (firsts L) (seconds L U n) 4096

/-- The combine weights. -/
def combine (n : ℕ) (e : Fin 64) (s : Fin 128) : EReal :=
  weight (Ideal.exp (L n (seconds L U n) - L n (firsts L n))) (firsts L n) (seconds L U n) (place1 L n) (place2 L U n) e s

/-- The gates of the first `N` tokens, summed for an expert. -/
def gateSum (e : Fin 64) (N : ℕ) : EReal := ∑ n ∈ Finset.range N, gate (L n) e

/-- The load-balancing loss. -/
def loss : EReal :=
  (∑ e, Ideal.div (gateSum L e 4096) ((4096 : ℝ) : EReal) * Ideal.div ((chosen (firsts L) e 4096 : ℝ) : EReal) ((4096 : ℝ) : EReal)) * ((64 : ℝ) : EReal)

theorem chosen_add (c : ℕ → Fin 64) (e : Fin 64) (a b : ℕ) : chosen c e (a + b) = chosen c e a + Nat.count (fun k => c (a + k) = e) b :=
  Nat.count_add _ _ _

theorem ahead_add (c : ℕ → Fin 64) (a r : ℕ) : ahead c (a + r) = chosen c (c (a + r)) a + Nat.count (fun k => c (a + k) = c (a + r)) r :=
  Nat.count_add _ _ _

theorem gateSum_add (e : Fin 64) (a b : ℕ) : gateSum L e (a + b) = gateSum L e a + ∑ r : Fin b, gate (L (a + r.val)) e := by
  unfold gateSum
  rw [Finset.sum_range_add, Fin.sum_univ_eq_sum_range (fun r => gate (L (a + r)) e) b]

end Cert.Gating

end
-- ==== Proof.KernelIdeal.Value.lean ====
/- What the kernel returns, token by token. -/
module

public import proofs.«01_k».proof.Proof.KernelIdeal.ArrayGate
public import proofs.«01_k».proof.Proof.KernelIdeal.ArrayDispatch
public import proofs.«01_k».proof.Proof.KernelIdeal.BlockValue
public import proofs.«01_k».proof.Proof.KernelIdeal.WeightValue
public import proofs.«01_k».proof.Proof.Math.Tokens

@[expose] public section

noncomputable section

namespace Cert.KernelIdeal.Whole

open Cert.KernelIdeal Cert.KernelIdeal.Gen
open Idealize.ShloMosaic Idealize.ShloMosaic.TcCoe
open Cert.Gating

variable (m : (ℓ : Loc nD τ sig) → Buf (Elt Ideal) ℓ)

/-- The tokens' logits. -/
def logits (c : Dev nD) : ℕ → Fin 64 → EReal :=
  logitRow (fun n k => (m ((c : Thread nD τ).loc main_arg0) : FVec Ideal S4096x4096 .f32) (ix2 n k))
    (fun k e => (m ((c : Thread nD τ).loc main_arg1) : FVec Ideal S4096x64 .f32) (ix2 k e))
/-- The tokens' noise. -/
def noise (c : Dev nD) : ℕ → Fin 64 → EReal := noiseRow fun n e => (W0 m c (Proc.devRef .tc main_v7) : FVec Ideal S4096x64 .f32) (ix2 n e)

theorem token_lt (t : Fin cfg0.N) (r : Fin 512) : t.val * 512 + r.val < 4096 := by
  have h1 : t.val < 8 := t.isLt
  have := r.isLt
  omega

/-- A block's logits are its tokens' logits. -/
theorem block_logits (c : Dev nD) (t : Fin cfg0.N) (r : Fin 512) (e : Fin 64) :
    k0_pay7 (F := Ideal) (Gate.block (entry0 m) c 0 t) (Gate.block (entry0 m) c 1 t) (ix2 r e) = logits m c (t.val * 512 + r.val) e := by
  refine (Gate.logits_apply _ _ r e).trans ?_
  refine Eq.trans ?_ (logitRow_fin (fun n k => (m ((c : Thread nD τ).loc main_arg0) : FVec Ideal S4096x4096 .f32) (ix2 n k))
    (fun k e => (m ((c : Thread nD τ).loc main_arg1) : FVec Ideal S4096x64 .f32) (ix2 k e)) ⟨t.val * 512 + r.val, token_lt t r⟩ e).symm
  refine Finset.sum_congr rfl fun k _ => ?_
  rw [block0_0 m c t r k ⟨t.val * 512 + r.val, token_lt t r⟩ rfl, block0_1 m c t k e]

/-- A block's noise is its tokens' noise. -/
theorem block_noise (c : Dev nD) (t : Fin cfg0.N) (r : Fin 512) (e : Fin 64) :
    (Gate.block (entry0 m) c 2 t : FVec Ideal S512x64 .f32) (ix2 r e) = noise m c (t.val * 512 + r.val) e :=
  (block0_2 m c t r e ⟨t.val * 512 + r.val, token_lt t r⟩ rfl).trans (noiseRow_fin (fun n e => (W0 m c (Proc.devRef .tc main_v7) : FVec Ideal S4096x64 .f32) (ix2 n e)) ⟨t.val * 512 + r.val, token_lt t r⟩ e).symm

/-- What is carried into each block: the gates and the choices of the tokens before it. -/
theorem carried_value (c : Dev nD) : ∀ t : ℕ, t ≤ 8 → ∀ e : Fin 64,
    ((Gate.carried (entry0 m) c t).1 (ix2 (0 : Fin 1) e) : EReal) = gateSum (logits m c) e (t * 512)
      ∧ (Gate.carried (entry0 m) c t).2.1 (ix2 (0 : Fin 1) e) = BitVec.ofNat 32 (chosen (firsts (logits m c)) e (t * 512))
      ∧ (Gate.carried (entry0 m) c t).2.2 (ix2 (0 : Fin 1) e) = BitVec.ofNat 32 (chosen (seconds (logits m c) (noise m c)) e (t * 512))
  | 0, _, e => by
    rw [Nat.zero_mul]
    exact Gate.start_apply e
  | t + 1, ht, e => by
    have ih := carried_value c t (by omega)
    rw [Gate.carried_succ (entry0 m) c ⟨t, show t < 8 by omega⟩, Nat.succ_mul]
    have hl := block_logits m c ⟨t, show t < 8 by omega⟩
    have hu := block_noise m c ⟨t, show t < 8 by omega⟩
    refine ⟨?_, ?_, ?_⟩
    · rw [Gate.step_gates hl, gateSum_add, (ih e).1]
    · rw [chosen_add]
      exact Gate.step_first hl (fun k => firsts (logits m c) (t * 512 + k)) (fun r => rfl) _ (fun e => chosen (firsts (logits m c)) e (t * 512)) (fun e => (ih e).2.1) e
    · rw [chosen_add]
      exact Gate.step_second hl hu (fun k => seconds (logits m c) (noise m c) (t * 512 + k)) (fun r => rfl) _ (fun e => chosen (seconds (logits m c) (noise m c)) e (t * 512)) (fun e => (ih e).2.2) e

/-! ## The first region's results -/

theorem split_token (n : Fin 4096) : ∃ (t : Fin cfg0.N) (r : Fin 512), n.val = t.val * 512 + r.val :=
  ⟨⟨n.val / 512, show n.val / 512 < 8 by have := n.isLt; omega⟩, ⟨n.val % 512, Nat.mod_lt _ (by norm_num)⟩, by show n.val = n.val / 512 * 512 + n.val % 512; omega⟩

theorem value_l1 (c : Dev nD) (n : Fin 4096) : ((W1 m c (Proc.devRef .tc main_v8_0) : FVec Ideal S4096x1 .f32) (ix2 n (0 : Fin 1)) : EReal)
    = logits m c n.val (firsts (logits m c) n.val) := by
  obtain ⟨t, r, h⟩ := split_token n
  rw [read0_3 m c t r n h, Gate.blockL1_apply (block_logits m c t), h]
  rfl

theorem value_l2 (c : Dev nD) (n : Fin 4096) : ((W1 m c (Proc.devRef .tc main_v8_1) : FVec Ideal S4096x1 .f32) (ix2 n (0 : Fin 1)) : EReal)
    = logits m c n.val (seconds (logits m c) (noise m c) n.val) := by
  obtain ⟨t, r, h⟩ := split_token n
  rw [read0_4 m c t r n h, Gate.blockL2_apply (block_logits m c t) (block_noise m c t), h]
  rfl

theorem value_i1 (c : Dev nD) (n : Fin 4096) : (W1 m c (Proc.devRef .tc main_v8_2) : IVec S4096x1 32) (ix2 n (0 : Fin 1))
    = BitVec.ofNat 32 (firsts (logits m c) n.val).val := by
  obtain ⟨t, r, h⟩ := split_token n
  rw [read0_5 m c t r n h, Gate.blockI1_apply (block_logits m c t), h]
  rfl

theorem value_i2 (c : Dev nD) (n : Fin 4096) : (W1 m c (Proc.devRef .tc main_v8_3) : IVec S4096x1 32) (ix2 n (0 : Fin 1))
    = BitVec.ofNat 32 (seconds (logits m c) (noise m c) n.val).val := by
  obtain ⟨t, r, h⟩ := split_token n
  rw [read0_6 m c t r n h, Gate.blockI2_apply (block_logits m c t) (block_noise m c t), h]
  rfl

theorem value_p1 (c : Dev nD) (n : Fin 4096) : (W1 m c (Proc.devRef .tc main_v8_4) : IVec S4096x1 32) (ix2 n (0 : Fin 1))
    = BitVec.ofNat 32 (place1 (logits m c) n.val) := by
  obtain ⟨t, r, h⟩ := split_token n
  have ht : t.val < 8 := t.isLt
  rw [read0_7 m c t r n h, Gate.blockP1_apply (block_logits m c t) (fun k => firsts (logits m c) (t.val * 512 + k)) (fun r => rfl) _
    (fun e => chosen (firsts (logits m c)) e (t.val * 512)) (fun e => by have := chosen_le (firsts (logits m c)) e (t.val * 512); omega)
    (fun e => (carried_value m c t.val (by omega) e).2.1) r, h, place1, ahead_add]

theorem value_p2 (c : Dev nD) (n : Fin 4096) : (W1 m c (Proc.devRef .tc main_v8_5) : IVec S4096x1 32) (ix2 n (0 : Fin 1))
    = BitVec.ofNat 32 (ahead (seconds (logits m c) (noise m c)) n.val) := by
  obtain ⟨t, r, h⟩ := split_token n
  have ht : t.val < 8 := t.isLt
  rw [read0_8 m c t r n h, Gate.blockP2_apply (block_logits m c t) (block_noise m c t) (fun k => seconds (logits m c) (noise m c) (t.val * 512 + k)) (fun r => rfl) _
    (fun e => chosen (seconds (logits m c) (noise m c)) e (t.val * 512)) (fun e => by have := chosen_le (seconds (logits m c) (noise m c)) e (t.val * 512); omega)
    (fun e => (carried_value m c t.val (by omega) e).2.2) r, h, ahead_add]

theorem value_counts (c : Dev nD) (e : Fin 64) : (W1 m c (Proc.devRef .tc main_v8_6) : IVec S1x64 32) (ix2 (0 : Fin 1) e)
    = BitVec.ofNat 32 (chosen (firsts (logits m c)) e 4096) :=
  (read0_9 m c e).trans (carried_value m c 8 le_rfl e).2.1

theorem value_loss (c : Dev nD) : ((W1 m c (Proc.devRef .tc main_v8_7) : FVec Ideal S1x1 .f32) (ix2 (0 : Fin 1) (0 : Fin 1)) : EReal) = loss (logits m c) := by
  rw [read0_10 m c, Gate.lossOf_apply _ (fun e => chosen (firsts (logits m c)) e 4096) (fun e => by have := chosen_le (firsts (logits m c)) e 4096; omega)
    (fun e => (carried_value m c 8 le_rfl e).2.1)]
  unfold loss
  simp only [fun e => (carried_value m c 8 le_rfl e).1]

/-! ## The results -/

theorem split_token1 (n : Fin 4096) : ∃ (t : Fin cfg1.N) (r : Fin 256), n.val = t.val * 256 + r.val :=
  ⟨⟨n.val / 256, show n.val / 256 < 16 by have := n.isLt; omega⟩, ⟨n.val % 256, Nat.mod_lt _ (by norm_num)⟩, by show n.val = n.val / 256 * 256 + n.val % 256; omega⟩

/-- A block's weights are its tokens' weights. -/
theorem block_weights (c : Dev nD) (t : Fin cfg1.N) (r : Fin 256) (n : Fin 4096) (h : n.val = t.val * 256 + r.val) (e : Fin 64) (s : Fin 128) :
    (Dispatch.blockWeights (F := Ideal) (Dispatch.block (entry1 m) c 0 t) (Dispatch.block (entry1 m) c 1 t) (Dispatch.block (entry1 m) c 2 t)
      (Dispatch.block (entry1 m) c 3 t) (Dispatch.block (entry1 m) c 4 t) (Dispatch.block (entry1 m) c 5 t) (Dispatch.block (entry1 m) c 6 t) (ix3 r e s) : EReal)
      = combine (logits m c) (noise m c) n.val e s := by
  have hn := n.isLt
  have h1 := ahead_le (firsts (logits m c)) n.val
  have h2 := ahead_le (seconds (logits m c) (noise m c)) n.val
  have h3 := chosen_le (firsts (logits m c)) (seconds (logits m c) (noise m c) n.val) 4096
  rw [Dispatch.blockWeights_apply _ _ _ _ _ _ _ r e s (firsts (logits m c) n.val) (seconds (logits m c) (noise m c) n.val) (place1 (logits m c) n.val)
    (ahead (seconds (logits m c) (noise m c)) n.val) (fun e => chosen (firsts (logits m c)) e 4096)
    ((block1_2 m c t r n h).trans (value_i1 m c n)) ((block1_3 m c t r n h).trans (value_i2 m c n))
    ((block1_4 m c t r n h).trans (value_p1 m c n)) ((block1_5 m c t r n h).trans (value_p2 m c n))
    (fun e => (block1_6 m c t e).trans (value_counts m c e)) (by unfold place1; omega) (by omega)]
  rw [(block1_1 m c t r n h).trans (value_l2 m c n), (block1_0 m c t r n h).trans (value_l1 m c n)]
  rfl

/-- THE COMBINE WEIGHTS. -/
theorem result_combine (c : Dev nD) (n : Fin 4096) (e : Fin 64) (s : Fin 128) :
    ((W3 m c (Proc.devRef .tc main_v9_0) : FVec Ideal S4096x64x128 .f32) (ix3 n e s) : EReal) = combine (logits m c) (noise m c) n.val e s := by
  obtain ⟨t, r, h⟩ := split_token1 n
  rw [tail_weights m c, read1_7 m c t r n h]
  exact block_weights m c t r n h e s

/-- THE MASK. -/
theorem result_mask (c : Dev nD) (n : Fin 4096) (e : Fin 64) (s : Fin 128) :
    (W3 m c (Proc.devRef .tc main_v12) : IVec S4096x64x128 1) (ix3 n e s) = BitVec.ofBool (decide (combine (logits m c) (noise m c) n.val e s ≠ 0)) := by
  obtain ⟨t, r, h⟩ := split_token1 n
  rw [tail_mask m c, read1_8 m c t r n h, Dispatch.blockMask_apply, block_weights m c t r n h e s, setWidth_ofBool]
  by_cases hz : combine (logits m c) (noise m c) n.val e s = 0
  · simp [hz, IntOp.cmpi]
  · simp [hz, IntOp.cmpi]

/-- THE COUNTS. -/
theorem result_counts (c : Dev nD) (e : Fin 64) :
    (W3 m c (Proc.devRef .tc main_v14) : IVec S64 32) (ix1 e) = BitVec.ofNat 32 (chosen (firsts (logits m c)) e 4096) :=
  (tail_counts m c e).trans (value_counts m c e)

/-- THE LOSS. -/
theorem result_loss (c : Dev nD) : (W3 m c (Proc.devRef .tc main_v13) : FVec Ideal S_ .f32) = fun _ => loss (logits m c) :=
  (tail_loss m c).trans (funext fun _ => value_loss m c)

end Cert.KernelIdeal.Whole

end
-- ==== Proof.KernelIdeal.Draw.lean ====
/- The draw of the noise table by the kernel: its operations stretch by stretch, and that they leave the table of `Cert.Noise`. -/
module

public import proofs.«01_k».proof.Proof.Noise
public import proofs.«01_k».proof.Proof.Gen.KernelIdeal.Regions
public import Idealize.ShloMosaic.Lib.StableHlo.Run
public import Idealize.ShloMosaic.Lib.StableHlo.RunRead
public import Idealize.ShloMosaic.Lib.Pipeline.Frame
public import Idealize.ShloMosaic.Lib.Pipeline.RegionsLoop

@[expose] public section

set_option maxRecDepth 16384

noncomputable section

namespace Cert.KernelIdeal.Draw

open Cert.KernelIdeal Cert.KernelIdeal.Gen
open Idealize.ShloMosaic Idealize.ShloMosaic.TcCoe Idealize.ShloMosaic.StableHlo
variable {F : FTy → Type} [FloatOps F]

/-! ## The operations -/

/-- Stretch 0 of the draw. -/
abbrev draw0 : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

/-- Stretch 1 of the draw. -/
abbrev draw1 : List (HloOp τ sig (Elt F)) :=
  [ TRef.nullary (.of main_call0_cst : TRef sig ⟨S_, .f32⟩) (constant S_ .f32 0x3F800000#32),
    TRef.nullary (.of main_call0_cst_0 : TRef sig ⟨S_, .f32⟩) (constant S_ .f32 0x00800000#32),
    TRef.unary (.of main_call0_cst : TRef sig ⟨S_, .f32⟩) (.of main_call0_call0_v0 : TRef sig ⟨S_, .f32⟩) id,
    TRef.unary (.of main_call0_cst_0 : TRef sig ⟨S_, .f32⟩) (.of main_call0_call0_v1 : TRef sig ⟨S1x1, .f32⟩) (broadcastInDim S1x1 ![] bcast_S_S1x1),
    TRef.unary (.of main_call0_call0_v0 : TRef sig ⟨S_, .f32⟩) (.of main_call0_call0_v2 : TRef sig ⟨S1x1, .f32⟩) (broadcastInDim S1x1 ![] bcast_S_S1x1),
    TRef.unary (.of main_v6 : TRef sig ⟨S2, .i32⟩) (.of main_call0_call0_v3 : TRef sig ⟨S1, .i32⟩) (extractStridedSlice S1 ![0] · slices_S2_S1_0),
    TRef.reshape (.of main_call0_call0_v3 : TRef sig ⟨S1, .i32⟩) (.of main_call0_call0_v4 : TRef sig ⟨S_, .i32⟩) (rfl : (.i32 : EltTy) = .i32) shapeCasts_S1_S_,
    TRef.unary (.of main_v6 : TRef sig ⟨S2, .i32⟩) (.of main_call0_call0_v5 : TRef sig ⟨S1, .i32⟩) (extractStridedSlice S1 ![1] · slices_S2_S1_1),
    TRef.reshape (.of main_call0_call0_v5 : TRef sig ⟨S1, .i32⟩) (.of main_call0_call0_v6 : TRef sig ⟨S_, .i32⟩) (rfl : (.i32 : EltTy) = .i32) shapeCasts_S1_S_,
    TRef.nullary (.of main_call0_call0_v7 : TRef sig ⟨S4096x64, .i64⟩) (iotaInDim S4096x64 64 0),
    TRef.nullary (.of main_call0_call0_v8 : TRef sig ⟨S4096x64, .i64⟩) (iotaInDim S4096x64 64 1),
    TRef.nullary (.of main_call0_call0_c : TRef sig ⟨S_, .i64⟩) (constantI S_ 64 64#64),
    TRef.unary (.of main_call0_call0_c : TRef sig ⟨S_, .i64⟩) (.of main_call0_call0_v9 : TRef sig ⟨S4096x64, .i64⟩) (broadcastInDim S4096x64 ![] bcast_S_S4096x64),
    TRef.binary (.of main_call0_call0_v9 : TRef sig ⟨S4096x64, .i64⟩) (.of main_call0_call0_v7 : TRef sig ⟨S4096x64, .i64⟩) (.of main_call0_call0_v10 : TRef sig ⟨S4096x64, .i64⟩) muli,
    TRef.nullary (.of main_call0_call0_c_0 : TRef sig ⟨S_, .i64⟩) (constantI S_ 64 1#64),
    TRef.unary (.of main_call0_call0_c_0 : TRef sig ⟨S_, .i64⟩) (.of main_call0_call0_v11 : TRef sig ⟨S4096x64, .i64⟩) (broadcastInDim S4096x64 ![] bcast_S_S4096x64),
    TRef.binary (.of main_call0_call0_v11 : TRef sig ⟨S4096x64, .i64⟩) (.of main_call0_call0_v8 : TRef sig ⟨S4096x64, .i64⟩) (.of main_call0_call0_v12 : TRef sig ⟨S4096x64, .i64⟩) muli,
    TRef.binary (.of main_call0_call0_v10 : TRef sig ⟨S4096x64, .i64⟩) (.of main_call0_call0_v12 : TRef sig ⟨S4096x64, .i64⟩) (.of main_call0_call0_v13 : TRef sig ⟨S4096x64, .i64⟩) addi,
    TRef.nullary (.of main_call0_call0_c_1 : TRef sig ⟨S_, .i64⟩) (constantI S_ 64 32#64),
    TRef.unary (.of main_call0_call0_c_1 : TRef sig ⟨S_, .i64⟩) (.of main_call0_call0_v14 : TRef sig ⟨S4096x64, .i64⟩) (broadcastInDim S4096x64 ![] bcast_S_S4096x64),
    TRef.binary (.of main_call0_call0_v13 : TRef sig ⟨S4096x64, .i64⟩) (.of main_call0_call0_v14 : TRef sig ⟨S4096x64, .i64⟩) (.of main_call0_call0_v15 : TRef sig ⟨S4096x64, .i64⟩) Host.shrui,
    TRef.unary (.of main_call0_call0_v13 : TRef sig ⟨S4096x64, .i64⟩) (.of main_call0_call0_v16 : TRef sig ⟨S4096x64, .i32⟩) (trunci 32 · natLt_32_64),
    TRef.unary (.of main_call0_call0_v15 : TRef sig ⟨S4096x64, .i64⟩) (.of main_call0_call0_v17 : TRef sig ⟨S4096x64, .i32⟩) (trunci 32 · natLt_32_64) ]

/-- Stretch 2 of the draw. -/
abbrev draw2 : List (HloOp τ sig (Elt F)) :=
  [ TRef.binary (.of main_call0_call0_v4 : TRef sig ⟨S_, .i32⟩) (.of main_call0_call0_v6 : TRef sig ⟨S_, .i32⟩) (.of main_call0_call0_call0_v0 : TRef sig ⟨S_, .i32⟩) xori,
    TRef.nullary (.of main_call0_call0_call0_c : TRef sig ⟨S_, .i32⟩) (constantI S_ 32 466688986#32),
    TRef.binary (.of main_call0_call0_call0_v0 : TRef sig ⟨S_, .i32⟩) (.of main_call0_call0_call0_c : TRef sig ⟨S_, .i32⟩) (.of main_call0_call0_call0_v1 : TRef sig ⟨S_, .i32⟩) xori,
    TRef.unary (.of main_call0_call0_v4 : TRef sig ⟨S_, .i32⟩) (.of main_call0_call0_call0_v2 : TRef sig ⟨S4096x64, .i32⟩) (broadcastInDim S4096x64 ![] bcast_S_S4096x64),
    TRef.binary (.of main_call0_call0_v17 : TRef sig ⟨S4096x64, .i32⟩) (.of main_call0_call0_call0_v2 : TRef sig ⟨S4096x64, .i32⟩) (.of main_call0_call0_call0_v3 : TRef sig ⟨S4096x64, .i32⟩) addi,
    TRef.unary (.of main_call0_call0_v6 : TRef sig ⟨S_, .i32⟩) (.of main_call0_call0_call0_v4 : TRef sig ⟨S4096x64, .i32⟩) (broadcastInDim S4096x64 ![] bcast_S_S4096x64),
    TRef.binary (.of main_call0_call0_v16 : TRef sig ⟨S4096x64, .i32⟩) (.of main_call0_call0_call0_v4 : TRef sig ⟨S4096x64, .i32⟩) (.of main_call0_call0_call0_v5 : TRef sig ⟨S4096x64, .i32⟩) addi,
    TRef.binary (.of main_call0_call0_call0_v3 : TRef sig ⟨S4096x64, .i32⟩) (.of main_call0_call0_call0_v5 : TRef sig ⟨S4096x64, .i32⟩) (.of main_call0_call0_call0_v6 : TRef sig ⟨S4096x64, .i32⟩) addi,
    TRef.nullary (.of main_call0_call0_call0_c_0 : TRef sig ⟨S_, .i32⟩) (constantI S_ 32 13#32),
    TRef.unary (.of main_call0_call0_call0_c_0 : TRef sig ⟨S_, .i32⟩) (.of main_call0_call0_call0_v7 : TRef sig ⟨S4096x64, .i32⟩) (broadcastInDim S4096x64 ![] bcast_S_S4096x64),
    TRef.binary (.of main_call0_call0_call0_v5 : TRef sig ⟨S4096x64, .i32⟩) (.of main_call0_call0_call0_v7 : TRef sig ⟨S4096x64, .i32⟩) (.of main_call0_call0_call0_v8 : TRef sig ⟨S4096x64, .i32⟩) Host.shli,
    TRef.nullary (.of main_call0_call0_call0_c_1 : TRef sig ⟨S_, .i32⟩) (constantI S_ 32 19#32),
    TRef.unary (.of main_call0_call0_call0_c_1 : TRef sig ⟨S_, .i32⟩) (.of main_call0_call0_call0_v9 : TRef sig ⟨S4096x64, .i32⟩) (broadcastInDim S4096x64 ![] bcast_S_S4096x64),
    TRef.binary (.of main_call0_call0_call0_v5 : TRef sig ⟨S4096x64, .i32⟩) (.of main_call0_call0_call0_v9 : TRef sig ⟨S4096x64, .i32⟩) (.of main_call0_call0_call0_v10 : TRef sig ⟨S4096x64, .i32⟩) Host.shrui,
    TRef.binary (.of main_call0_call0_call0_v8 : TRef sig ⟨S4096x64, .i32⟩) (.of main_call0_call0_call0_v10 : TRef sig ⟨S4096x64, .i32⟩) (.of main_call0_call0_call0_v11 : TRef sig ⟨S4096x64, .i32⟩) ori,
    TRef.binary (.of main_call0_call0_call0_v6 : TRef sig ⟨S4096x64, .i32⟩) (.of main_call0_call0_call0_v11 : TRef sig ⟨S4096x64, .i32⟩) (.of main_call0_call0_call0_v12 : TRef sig ⟨S4096x64, .i32⟩) xori ]

/-- Stretch 3 of the draw. -/
abbrev draw3 : List (HloOp τ sig (Elt F)) :=
  [ TRef.binary (.of main_call0_call0_call0_v6 : TRef sig ⟨S4096x64, .i32⟩) (.of main_call0_call0_call0_v12 : TRef sig ⟨S4096x64, .i32⟩) (.of main_call0_call0_call0_v13 : TRef sig ⟨S4096x64, .i32⟩) addi,
    TRef.nullary (.of main_call0_call0_call0_c_2 : TRef sig ⟨S_, .i32⟩) (constantI S_ 32 15#32),
    TRef.unary (.of main_call0_call0_call0_c_2 : TRef sig ⟨S_, .i32⟩) (.of main_call0_call0_call0_v14 : TRef sig ⟨S4096x64, .i32⟩) (broadcastInDim S4096x64 ![] bcast_S_S4096x64),
    TRef.binary (.of main_call0_call0_call0_v12 : TRef sig ⟨S4096x64, .i32⟩) (.of main_call0_call0_call0_v14 : TRef sig ⟨S4096x64, .i32⟩) (.of main_call0_call0_call0_v15 : TRef sig ⟨S4096x64, .i32⟩) Host.shli,
    TRef.nullary (.of main_call0_call0_call0_c_3 : TRef sig ⟨S_, .i32⟩) (constantI S_ 32 17#32),
    TRef.unary (.of main_call0_call0_call0_c_3 : TRef sig ⟨S_, .i32⟩) (.of main_call0_call0_call0_v16 : TRef sig ⟨S4096x64, .i32⟩) (broadcastInDim S4096x64 ![] bcast_S_S4096x64),
    TRef.binary (.of main_call0_call0_call0_v12 : TRef sig ⟨S4096x64, .i32⟩) (.of main_call0_call0_call0_v16 : TRef sig ⟨S4096x64, .i32⟩) (.of main_call0_call0_call0_v17 : TRef sig ⟨S4096x64, .i32⟩) Host.shrui,
    TRef.binary (.of main_call0_call0_call0_v15 : TRef sig ⟨S4096x64, .i32⟩) (.of main_call0_call0_call0_v17 : TRef sig ⟨S4096x64, .i32⟩) (.of main_call0_call0_call0_v18 : TRef sig ⟨S4096x64, .i32⟩) ori,
    TRef.binary (.of main_call0_call0_call0_v13 : TRef sig ⟨S4096x64, .i32⟩) (.of main_call0_call0_call0_v18 : TRef sig ⟨S4096x64, .i32⟩) (.of main_call0_call0_call0_v19 : TRef sig ⟨S4096x64, .i32⟩) xori ]

/-- Stretch 4 of the draw. -/
abbrev draw4 : List (HloOp τ sig (Elt F)) :=
  [ TRef.binary (.of main_call0_call0_call0_v13 : TRef sig ⟨S4096x64, .i32⟩) (.of main_call0_call0_call0_v19 : TRef sig ⟨S4096x64, .i32⟩) (.of main_call0_call0_call0_v20 : TRef sig ⟨S4096x64, .i32⟩) addi,
    TRef.nullary (.of main_call0_call0_call0_c_4 : TRef sig ⟨S_, .i32⟩) (constantI S_ 32 26#32),
    TRef.unary (.of main_call0_call0_call0_c_4 : TRef sig ⟨S_, .i32⟩) (.of main_call0_call0_call0_v21 : TRef sig ⟨S4096x64, .i32⟩) (broadcastInDim S4096x64 ![] bcast_S_S4096x64),
    TRef.binary (.of main_call0_call0_call0_v19 : TRef sig ⟨S4096x64, .i32⟩) (.of main_call0_call0_call0_v21 : TRef sig ⟨S4096x64, .i32⟩) (.of main_call0_call0_call0_v22 : TRef sig ⟨S4096x64, .i32⟩) Host.shli,
    TRef.nullary (.of main_call0_call0_call0_c_5 : TRef sig ⟨S_, .i32⟩) (constantI S_ 32 6#32),
    TRef.unary (.of main_call0_call0_call0_c_5 : TRef sig ⟨S_, .i32⟩) (.of main_call0_call0_call0_v23 : TRef sig ⟨S4096x64, .i32⟩) (broadcastInDim S4096x64 ![] bcast_S_S4096x64),
    TRef.binary (.of main_call0_call0_call0_v19 : TRef sig ⟨S4096x64, .i32⟩) (.of main_call0_call0_call0_v23 : TRef sig ⟨S4096x64, .i32⟩) (.of main_call0_call0_call0_v24 : TRef sig ⟨S4096x64, .i32⟩) Host.shrui,
    TRef.binary (.of main_call0_call0_call0_v22 : TRef sig ⟨S4096x64, .i32⟩) (.of main_call0_call0_call0_v24 : TRef sig ⟨S4096x64, .i32⟩) (.of main_call0_call0_call0_v25 : TRef sig ⟨S4096x64, .i32⟩) ori,
    TRef.binary (.of main_call0_call0_call0_v20 : TRef sig ⟨S4096x64, .i32⟩) (.of main_call0_call0_call0_v25 : TRef sig ⟨S4096x64, .i32⟩) (.of main_call0_call0_call0_v26 : TRef sig ⟨S4096x64, .i32⟩) xori ]

/-- Stretch 5 of the draw. -/
abbrev draw5 : List (HloOp τ sig (Elt F)) :=
  [ TRef.binary (.of main_call0_call0_call0_v20 : TRef sig ⟨S4096x64, .i32⟩) (.of main_call0_call0_call0_v26 : TRef sig ⟨S4096x64, .i32⟩) (.of main_call0_call0_call0_v27 : TRef sig ⟨S4096x64, .i32⟩) addi,
    TRef.nullary (.of main_call0_call0_call0_c_6 : TRef sig ⟨S_, .i32⟩) (constantI S_ 32 6#32),
    TRef.unary (.of main_call0_call0_call0_c_6 : TRef sig ⟨S_, .i32⟩) (.of main_call0_call0_call0_v28 : TRef sig ⟨S4096x64, .i32⟩) (broadcastInDim S4096x64 ![] bcast_S_S4096x64),
    TRef.binary (.of main_call0_call0_call0_v26 : TRef sig ⟨S4096x64, .i32⟩) (.of main_call0_call0_call0_v28 : TRef sig ⟨S4096x64, .i32⟩) (.of main_call0_call0_call0_v29 : TRef sig ⟨S4096x64, .i32⟩) Host.shli,
    TRef.nullary (.of main_call0_call0_call0_c_7 : TRef sig ⟨S_, .i32⟩) (constantI S_ 32 26#32),
    TRef.unary (.of main_call0_call0_call0_c_7 : TRef sig ⟨S_, .i32⟩) (.of main_call0_call0_call0_v30 : TRef sig ⟨S4096x64, .i32⟩) (broadcastInDim S4096x64 ![] bcast_S_S4096x64),
    TRef.binary (.of main_call0_call0_call0_v26 : TRef sig ⟨S4096x64, .i32⟩) (.of main_call0_call0_call0_v30 : TRef sig ⟨S4096x64, .i32⟩) (.of main_call0_call0_call0_v31 : TRef sig ⟨S4096x64, .i32⟩) Host.shrui,
    TRef.binary (.of main_call0_call0_call0_v29 : TRef sig ⟨S4096x64, .i32⟩) (.of main_call0_call0_call0_v31 : TRef sig ⟨S4096x64, .i32⟩) (.of main_call0_call0_call0_v32 : TRef sig ⟨S4096x64, .i32⟩) ori,
    TRef.binary (.of main_call0_call0_call0_v27 : TRef sig ⟨S4096x64, .i32⟩) (.of main_call0_call0_call0_v32 : TRef sig ⟨S4096x64, .i32⟩) (.of main_call0_call0_call0_v33 : TRef sig ⟨S4096x64, .i32⟩) xori ]

/-- Stretch 6 of the draw. -/
abbrev draw6 : List (HloOp τ sig (Elt F)) :=
  [ TRef.unary (.of main_call0_call0_v6 : TRef sig ⟨S_, .i32⟩) (.of main_call0_call0_call0_v34 : TRef sig ⟨S4096x64, .i32⟩) (broadcastInDim S4096x64 ![] bcast_S_S4096x64),
    TRef.binary (.of main_call0_call0_call0_v27 : TRef sig ⟨S4096x64, .i32⟩) (.of main_call0_call0_call0_v34 : TRef sig ⟨S4096x64, .i32⟩) (.of main_call0_call0_call0_v35 : TRef sig ⟨S4096x64, .i32⟩) addi,
    TRef.unary (.of main_call0_call0_call0_v1 : TRef sig ⟨S_, .i32⟩) (.of main_call0_call0_call0_v36 : TRef sig ⟨S4096x64, .i32⟩) (broadcastInDim S4096x64 ![] bcast_S_S4096x64),
    TRef.binary (.of main_call0_call0_call0_v33 : TRef sig ⟨S4096x64, .i32⟩) (.of main_call0_call0_call0_v36 : TRef sig ⟨S4096x64, .i32⟩) (.of main_call0_call0_call0_v37 : TRef sig ⟨S4096x64, .i32⟩) addi,
    TRef.nullary (.of main_call0_call0_call0_c_8 : TRef sig ⟨S_, .i32⟩) (constantI S_ 32 1#32),
    TRef.unary (.of main_call0_call0_call0_c_8 : TRef sig ⟨S_, .i32⟩) (.of main_call0_call0_call0_v38 : TRef sig ⟨S4096x64, .i32⟩) (broadcastInDim S4096x64 ![] bcast_S_S4096x64),
    TRef.binary (.of main_call0_call0_call0_v37 : TRef sig ⟨S4096x64, .i32⟩) (.of main_call0_call0_call0_v38 : TRef sig ⟨S4096x64, .i32⟩) (.of main_call0_call0_call0_v39 : TRef sig ⟨S4096x64, .i32⟩) addi,
    TRef.binary (.of main_call0_call0_call0_v35 : TRef sig ⟨S4096x64, .i32⟩) (.of main_call0_call0_call0_v39 : TRef sig ⟨S4096x64, .i32⟩) (.of main_call0_call0_call0_v40 : TRef sig ⟨S4096x64, .i32⟩) addi,
    TRef.nullary (.of main_call0_call0_call0_c_9 : TRef sig ⟨S_, .i32⟩) (constantI S_ 32 17#32),
    TRef.unary (.of main_call0_call0_call0_c_9 : TRef sig ⟨S_, .i32⟩) (.of main_call0_call0_call0_v41 : TRef sig ⟨S4096x64, .i32⟩) (broadcastInDim S4096x64 ![] bcast_S_S4096x64),
    TRef.binary (.of main_call0_call0_call0_v39 : TRef sig ⟨S4096x64, .i32⟩) (.of main_call0_call0_call0_v41 : TRef sig ⟨S4096x64, .i32⟩) (.of main_call0_call0_call0_v42 : TRef sig ⟨S4096x64, .i32⟩) Host.shli,
    TRef.nullary (.of main_call0_call0_call0_c_10 : TRef sig ⟨S_, .i32⟩) (constantI S_ 32 15#32),
    TRef.unary (.of main_call0_call0_call0_c_10 : TRef sig ⟨S_, .i32⟩) (.of main_call0_call0_call0_v43 : TRef sig ⟨S4096x64, .i32⟩) (broadcastInDim S4096x64 ![] bcast_S_S4096x64),
    TRef.binary (.of main_call0_call0_call0_v39 : TRef sig ⟨S4096x64, .i32⟩) (.of main_call0_call0_call0_v43 : TRef sig ⟨S4096x64, .i32⟩) (.of main_call0_call0_call0_v44 : TRef sig ⟨S4096x64, .i32⟩) Host.shrui,
    TRef.binary (.of main_call0_call0_call0_v42 : TRef sig ⟨S4096x64, .i32⟩) (.of main_call0_call0_call0_v44 : TRef sig ⟨S4096x64, .i32⟩) (.of main_call0_call0_call0_v45 : TRef sig ⟨S4096x64, .i32⟩) ori,
    TRef.binary (.of main_call0_call0_call0_v40 : TRef sig ⟨S4096x64, .i32⟩) (.of main_call0_call0_call0_v45 : TRef sig ⟨S4096x64, .i32⟩) (.of main_call0_call0_call0_v46 : TRef sig ⟨S4096x64, .i32⟩) xori ]

/-- Stretch 7 of the draw. -/
abbrev draw7 : List (HloOp τ sig (Elt F)) :=
  [ TRef.binary (.of main_call0_call0_call0_v40 : TRef sig ⟨S4096x64, .i32⟩) (.of main_call0_call0_call0_v46 : TRef sig ⟨S4096x64, .i32⟩) (.of main_call0_call0_call0_v47 : TRef sig ⟨S4096x64, .i32⟩) addi,
    TRef.nullary (.of main_call0_call0_call0_c_11 : TRef sig ⟨S_, .i32⟩) (constantI S_ 32 29#32),
    TRef.unary (.of main_call0_call0_call0_c_11 : TRef sig ⟨S_, .i32⟩) (.of main_call0_call0_call0_v48 : TRef sig ⟨S4096x64, .i32⟩) (broadcastInDim S4096x64 ![] bcast_S_S4096x64),
    TRef.binary (.of main_call0_call0_call0_v46 : TRef sig ⟨S4096x64, .i32⟩) (.of main_call0_call0_call0_v48 : TRef sig ⟨S4096x64, .i32⟩) (.of main_call0_call0_call0_v49 : TRef sig ⟨S4096x64, .i32⟩) Host.shli,
    TRef.nullary (.of main_call0_call0_call0_c_12 : TRef sig ⟨S_, .i32⟩) (constantI S_ 32 3#32),
    TRef.unary (.of main_call0_call0_call0_c_12 : TRef sig ⟨S_, .i32⟩) (.of main_call0_call0_call0_v50 : TRef sig ⟨S4096x64, .i32⟩) (broadcastInDim S4096x64 ![] bcast_S_S4096x64),
    TRef.binary (.of main_call0_call0_call0_v46 : TRef sig ⟨S4096x64, .i32⟩) (.of main_call0_call0_call0_v50 : TRef sig ⟨S4096x64, .i32⟩) (.of main_call0_call0_call0_v51 : TRef sig ⟨S4096x64, .i32⟩) Host.shrui,
    TRef.binary (.of main_call0_call0_call0_v49 : TRef sig ⟨S4096x64, .i32⟩) (.of main_call0_call0_call0_v51 : TRef sig ⟨S4096x64, .i32⟩) (.of main_call0_call0_call0_v52 : TRef sig ⟨S4096x64, .i32⟩) ori,
    TRef.binary (.of main_call0_call0_call0_v47 : TRef sig ⟨S4096x64, .i32⟩) (.of main_call0_call0_call0_v52 : TRef sig ⟨S4096x64, .i32⟩) (.of main_call0_call0_call0_v53 : TRef sig ⟨S4096x64, .i32⟩) xori ]

/-- Stretch 8 of the draw. -/
abbrev draw8 : List (HloOp τ sig (Elt F)) :=
  [ TRef.binary (.of main_call0_call0_call0_v47 : TRef sig ⟨S4096x64, .i32⟩) (.of main_call0_call0_call0_v53 : TRef sig ⟨S4096x64, .i32⟩) (.of main_call0_call0_call0_v54 : TRef sig ⟨S4096x64, .i32⟩) addi,
    TRef.nullary (.of main_call0_call0_call0_c_13 : TRef sig ⟨S_, .i32⟩) (constantI S_ 32 16#32),
    TRef.unary (.of main_call0_call0_call0_c_13 : TRef sig ⟨S_, .i32⟩) (.of main_call0_call0_call0_v55 : TRef sig ⟨S4096x64, .i32⟩) (broadcastInDim S4096x64 ![] bcast_S_S4096x64),
    TRef.binary (.of main_call0_call0_call0_v53 : TRef sig ⟨S4096x64, .i32⟩) (.of main_call0_call0_call0_v55 : TRef sig ⟨S4096x64, .i32⟩) (.of main_call0_call0_call0_v56 : TRef sig ⟨S4096x64, .i32⟩) Host.shli,
    TRef.nullary (.of main_call0_call0_call0_c_14 : TRef sig ⟨S_, .i32⟩) (constantI S_ 32 16#32),
    TRef.unary (.of main_call0_call0_call0_c_14 : TRef sig ⟨S_, .i32⟩) (.of main_call0_call0_call0_v57 : TRef sig ⟨S4096x64, .i32⟩) (broadcastInDim S4096x64 ![] bcast_S_S4096x64),
    TRef.binary (.of main_call0_call0_call0_v53 : TRef sig ⟨S4096x64, .i32⟩) (.of main_call0_call0_call0_v57 : TRef sig ⟨S4096x64, .i32⟩) (.of main_call0_call0_call0_v58 : TRef sig ⟨S4096x64, .i32⟩) Host.shrui,
    TRef.binary (.of main_call0_call0_call0_v56 : TRef sig ⟨S4096x64, .i32⟩) (.of main_call0_call0_call0_v58 : TRef sig ⟨S4096x64, .i32⟩) (.of main_call0_call0_call0_v59 : TRef sig ⟨S4096x64, .i32⟩) ori,
    TRef.binary (.of main_call0_call0_call0_v54 : TRef sig ⟨S4096x64, .i32⟩) (.of main_call0_call0_call0_v59 : TRef sig ⟨S4096x64, .i32⟩) (.of main_call0_call0_call0_v60 : TRef sig ⟨S4096x64, .i32⟩) xori ]

/-- Stretch 9 of the draw. -/
abbrev draw9 : List (HloOp τ sig (Elt F)) :=
  [ TRef.binary (.of main_call0_call0_call0_v54 : TRef sig ⟨S4096x64, .i32⟩) (.of main_call0_call0_call0_v60 : TRef sig ⟨S4096x64, .i32⟩) (.of main_call0_call0_call0_v61 : TRef sig ⟨S4096x64, .i32⟩) addi,
    TRef.nullary (.of main_call0_call0_call0_c_15 : TRef sig ⟨S_, .i32⟩) (constantI S_ 32 24#32),
    TRef.unary (.of main_call0_call0_call0_c_15 : TRef sig ⟨S_, .i32⟩) (.of main_call0_call0_call0_v62 : TRef sig ⟨S4096x64, .i32⟩) (broadcastInDim S4096x64 ![] bcast_S_S4096x64),
    TRef.binary (.of main_call0_call0_call0_v60 : TRef sig ⟨S4096x64, .i32⟩) (.of main_call0_call0_call0_v62 : TRef sig ⟨S4096x64, .i32⟩) (.of main_call0_call0_call0_v63 : TRef sig ⟨S4096x64, .i32⟩) Host.shli,
    TRef.nullary (.of main_call0_call0_call0_c_16 : TRef sig ⟨S_, .i32⟩) (constantI S_ 32 8#32),
    TRef.unary (.of main_call0_call0_call0_c_16 : TRef sig ⟨S_, .i32⟩) (.of main_call0_call0_call0_v64 : TRef sig ⟨S4096x64, .i32⟩) (broadcastInDim S4096x64 ![] bcast_S_S4096x64),
    TRef.binary (.of main_call0_call0_call0_v60 : TRef sig ⟨S4096x64, .i32⟩) (.of main_call0_call0_call0_v64 : TRef sig ⟨S4096x64, .i32⟩) (.of main_call0_call0_call0_v65 : TRef sig ⟨S4096x64, .i32⟩) Host.shrui,
    TRef.binary (.of main_call0_call0_call0_v63 : TRef sig ⟨S4096x64, .i32⟩) (.of main_call0_call0_call0_v65 : TRef sig ⟨S4096x64, .i32⟩) (.of main_call0_call0_call0_v66 : TRef sig ⟨S4096x64, .i32⟩) ori,
    TRef.binary (.of main_call0_call0_call0_v61 : TRef sig ⟨S4096x64, .i32⟩) (.of main_call0_call0_call0_v66 : TRef sig ⟨S4096x64, .i32⟩) (.of main_call0_call0_call0_v67 : TRef sig ⟨S4096x64, .i32⟩) xori ]

/-- Stretch 10 of the draw. -/
abbrev draw10 : List (HloOp τ sig (Elt F)) :=
  [ TRef.unary (.of main_call0_call0_call0_v1 : TRef sig ⟨S_, .i32⟩) (.of main_call0_call0_call0_v68 : TRef sig ⟨S4096x64, .i32⟩) (broadcastInDim S4096x64 ![] bcast_S_S4096x64),
    TRef.binary (.of main_call0_call0_call0_v61 : TRef sig ⟨S4096x64, .i32⟩) (.of main_call0_call0_call0_v68 : TRef sig ⟨S4096x64, .i32⟩) (.of main_call0_call0_call0_v69 : TRef sig ⟨S4096x64, .i32⟩) addi,
    TRef.unary (.of main_call0_call0_v4 : TRef sig ⟨S_, .i32⟩) (.of main_call0_call0_call0_v70 : TRef sig ⟨S4096x64, .i32⟩) (broadcastInDim S4096x64 ![] bcast_S_S4096x64),
    TRef.binary (.of main_call0_call0_call0_v67 : TRef sig ⟨S4096x64, .i32⟩) (.of main_call0_call0_call0_v70 : TRef sig ⟨S4096x64, .i32⟩) (.of main_call0_call0_call0_v71 : TRef sig ⟨S4096x64, .i32⟩) addi,
    TRef.nullary (.of main_call0_call0_call0_c_17 : TRef sig ⟨S_, .i32⟩) (constantI S_ 32 2#32),
    TRef.unary (.of main_call0_call0_call0_c_17 : TRef sig ⟨S_, .i32⟩) (.of main_call0_call0_call0_v72 : TRef sig ⟨S4096x64, .i32⟩) (broadcastInDim S4096x64 ![] bcast_S_S4096x64),
    TRef.binary (.of main_call0_call0_call0_v71 : TRef sig ⟨S4096x64, .i32⟩) (.of main_call0_call0_call0_v72 : TRef sig ⟨S4096x64, .i32⟩) (.of main_call0_call0_call0_v73 : TRef sig ⟨S4096x64, .i32⟩) addi,
    TRef.binary (.of main_call0_call0_call0_v69 : TRef sig ⟨S4096x64, .i32⟩) (.of main_call0_call0_call0_v73 : TRef sig ⟨S4096x64, .i32⟩) (.of main_call0_call0_call0_v74 : TRef sig ⟨S4096x64, .i32⟩) addi,
    TRef.nullary (.of main_call0_call0_call0_c_18 : TRef sig ⟨S_, .i32⟩) (constantI S_ 32 13#32),
    TRef.unary (.of main_call0_call0_call0_c_18 : TRef sig ⟨S_, .i32⟩) (.of main_call0_call0_call0_v75 : TRef sig ⟨S4096x64, .i32⟩) (broadcastInDim S4096x64 ![] bcast_S_S4096x64),
    TRef.binary (.of main_call0_call0_call0_v73 : TRef sig ⟨S4096x64, .i32⟩) (.of main_call0_call0_call0_v75 : TRef sig ⟨S4096x64, .i32⟩) (.of main_call0_call0_call0_v76 : TRef sig ⟨S4096x64, .i32⟩) Host.shli,
    TRef.nullary (.of main_call0_call0_call0_c_19 : TRef sig ⟨S_, .i32⟩) (constantI S_ 32 19#32),
    TRef.unary (.of main_call0_call0_call0_c_19 : TRef sig ⟨S_, .i32⟩) (.of main_call0_call0_call0_v77 : TRef sig ⟨S4096x64, .i32⟩) (broadcastInDim S4096x64 ![] bcast_S_S4096x64),
    TRef.binary (.of main_call0_call0_call0_v73 : TRef sig ⟨S4096x64, .i32⟩) (.of main_call0_call0_call0_v77 : TRef sig ⟨S4096x64, .i32⟩) (.of main_call0_call0_call0_v78 : TRef sig ⟨S4096x64, .i32⟩) Host.shrui,
    TRef.binary (.of main_call0_call0_call0_v76 : TRef sig ⟨S4096x64, .i32⟩) (.of main_call0_call0_call0_v78 : TRef sig ⟨S4096x64, .i32⟩) (.of main_call0_call0_call0_v79 : TRef sig ⟨S4096x64, .i32⟩) ori,
    TRef.binary (.of main_call0_call0_call0_v74 : TRef sig ⟨S4096x64, .i32⟩) (.of main_call0_call0_call0_v79 : TRef sig ⟨S4096x64, .i32⟩) (.of main_call0_call0_call0_v80 : TRef sig ⟨S4096x64, .i32⟩) xori ]

/-- Stretch 11 of the draw. -/
abbrev draw11 : List (HloOp τ sig (Elt F)) :=
  [ TRef.binary (.of main_call0_call0_call0_v74 : TRef sig ⟨S4096x64, .i32⟩) (.of main_call0_call0_call0_v80 : TRef sig ⟨S4096x64, .i32⟩) (.of main_call0_call0_call0_v81 : TRef sig ⟨S4096x64, .i32⟩) addi,
    TRef.nullary (.of main_call0_call0_call0_c_20 : TRef sig ⟨S_, .i32⟩) (constantI S_ 32 15#32),
    TRef.unary (.of main_call0_call0_call0_c_20 : TRef sig ⟨S_, .i32⟩) (.of main_call0_call0_call0_v82 : TRef sig ⟨S4096x64, .i32⟩) (broadcastInDim S4096x64 ![] bcast_S_S4096x64),
    TRef.binary (.of main_call0_call0_call0_v80 : TRef sig ⟨S4096x64, .i32⟩) (.of main_call0_call0_call0_v82 : TRef sig ⟨S4096x64, .i32⟩) (.of main_call0_call0_call0_v83 : TRef sig ⟨S4096x64, .i32⟩) Host.shli,
    TRef.nullary (.of main_call0_call0_call0_c_21 : TRef sig ⟨S_, .i32⟩) (constantI S_ 32 17#32),
    TRef.unary (.of main_call0_call0_call0_c_21 : TRef sig ⟨S_, .i32⟩) (.of main_call0_call0_call0_v84 : TRef sig ⟨S4096x64, .i32⟩) (broadcastInDim S4096x64 ![] bcast_S_S4096x64),
    TRef.binary (.of main_call0_call0_call0_v80 : TRef sig ⟨S4096x64, .i32⟩) (.of main_call0_call0_call0_v84 : TRef sig ⟨S4096x64, .i32⟩) (.of main_call0_call0_call0_v85 : TRef sig ⟨S4096x64, .i32⟩) Host.shrui,
    TRef.binary (.of main_call0_call0_call0_v83 : TRef sig ⟨S4096x64, .i32⟩) (.of main_call0_call0_call0_v85 : TRef sig ⟨S4096x64, .i32⟩) (.of main_call0_call0_call0_v86 : TRef sig ⟨S4096x64, .i32⟩) ori,
    TRef.binary (.of main_call0_call0_call0_v81 : TRef sig ⟨S4096x64, .i32⟩) (.of main_call0_call0_call0_v86 : TRef sig ⟨S4096x64, .i32⟩) (.of main_call0_call0_call0_v87 : TRef sig ⟨S4096x64, .i32⟩) xori ]

/-- Stretch 12 of the draw. -/
abbrev draw12 : List (HloOp τ sig (Elt F)) :=
  [ TRef.binary (.of main_call0_call0_call0_v81 : TRef sig ⟨S4096x64, .i32⟩) (.of main_call0_call0_call0_v87 : TRef sig ⟨S4096x64, .i32⟩) (.of main_call0_call0_call0_v88 : TRef sig ⟨S4096x64, .i32⟩) addi,
    TRef.nullary (.of main_call0_call0_call0_c_22 : TRef sig ⟨S_, .i32⟩) (constantI S_ 32 26#32),
    TRef.unary (.of main_call0_call0_call0_c_22 : TRef sig ⟨S_, .i32⟩) (.of main_call0_call0_call0_v89 : TRef sig ⟨S4096x64, .i32⟩) (broadcastInDim S4096x64 ![] bcast_S_S4096x64),
    TRef.binary (.of main_call0_call0_call0_v87 : TRef sig ⟨S4096x64, .i32⟩) (.of main_call0_call0_call0_v89 : TRef sig ⟨S4096x64, .i32⟩) (.of main_call0_call0_call0_v90 : TRef sig ⟨S4096x64, .i32⟩) Host.shli,
    TRef.nullary (.of main_call0_call0_call0_c_23 : TRef sig ⟨S_, .i32⟩) (constantI S_ 32 6#32),
    TRef.unary (.of main_call0_call0_call0_c_23 : TRef sig ⟨S_, .i32⟩) (.of main_call0_call0_call0_v91 : TRef sig ⟨S4096x64, .i32⟩) (broadcastInDim S4096x64 ![] bcast_S_S4096x64),
    TRef.binary (.of main_call0_call0_call0_v87 : TRef sig ⟨S4096x64, .i32⟩) (.of main_call0_call0_call0_v91 : TRef sig ⟨S4096x64, .i32⟩) (.of main_call0_call0_call0_v92 : TRef sig ⟨S4096x64, .i32⟩) Host.shrui,
    TRef.binary (.of main_call0_call0_call0_v90 : TRef sig ⟨S4096x64, .i32⟩) (.of main_call0_call0_call0_v92 : TRef sig ⟨S4096x64, .i32⟩) (.of main_call0_call0_call0_v93 : TRef sig ⟨S4096x64, .i32⟩) ori,
    TRef.binary (.of main_call0_call0_call0_v88 : TRef sig ⟨S4096x64, .i32⟩) (.of main_call0_call0_call0_v93 : TRef sig ⟨S4096x64, .i32⟩) (.of main_call0_call0_call0_v94 : TRef sig ⟨S4096x64, .i32⟩) xori ]

/-- Stretch 13 of the draw. -/
abbrev draw13 : List (HloOp τ sig (Elt F)) :=
  [ TRef.binary (.of main_call0_call0_call0_v88 : TRef sig ⟨S4096x64, .i32⟩) (.of main_call0_call0_call0_v94 : TRef sig ⟨S4096x64, .i32⟩) (.of main_call0_call0_call0_v95 : TRef sig ⟨S4096x64, .i32⟩) addi,
    TRef.nullary (.of main_call0_call0_call0_c_24 : TRef sig ⟨S_, .i32⟩) (constantI S_ 32 6#32),
    TRef.unary (.of main_call0_call0_call0_c_24 : TRef sig ⟨S_, .i32⟩) (.of main_call0_call0_call0_v96 : TRef sig ⟨S4096x64, .i32⟩) (broadcastInDim S4096x64 ![] bcast_S_S4096x64),
    TRef.binary (.of main_call0_call0_call0_v94 : TRef sig ⟨S4096x64, .i32⟩) (.of main_call0_call0_call0_v96 : TRef sig ⟨S4096x64, .i32⟩) (.of main_call0_call0_call0_v97 : TRef sig ⟨S4096x64, .i32⟩) Host.shli,
    TRef.nullary (.of main_call0_call0_call0_c_25 : TRef sig ⟨S_, .i32⟩) (constantI S_ 32 26#32),
    TRef.unary (.of main_call0_call0_call0_c_25 : TRef sig ⟨S_, .i32⟩) (.of main_call0_call0_call0_v98 : TRef sig ⟨S4096x64, .i32⟩) (broadcastInDim S4096x64 ![] bcast_S_S4096x64),
    TRef.binary (.of main_call0_call0_call0_v94 : TRef sig ⟨S4096x64, .i32⟩) (.of main_call0_call0_call0_v98 : TRef sig ⟨S4096x64, .i32⟩) (.of main_call0_call0_call0_v99 : TRef sig ⟨S4096x64, .i32⟩) Host.shrui,
    TRef.binary (.of main_call0_call0_call0_v97 : TRef sig ⟨S4096x64, .i32⟩) (.of main_call0_call0_call0_v99 : TRef sig ⟨S4096x64, .i32⟩) (.of main_call0_call0_call0_v100 : TRef sig ⟨S4096x64, .i32⟩) ori,
    TRef.binary (.of main_call0_call0_call0_v95 : TRef sig ⟨S4096x64, .i32⟩) (.of main_call0_call0_call0_v100 : TRef sig ⟨S4096x64, .i32⟩) (.of main_call0_call0_call0_v101 : TRef sig ⟨S4096x64, .i32⟩) xori ]

/-- Stretch 14 of the draw. -/
abbrev draw14 : List (HloOp τ sig (Elt F)) :=
  [ TRef.unary (.of main_call0_call0_v4 : TRef sig ⟨S_, .i32⟩) (.of main_call0_call0_call0_v102 : TRef sig ⟨S4096x64, .i32⟩) (broadcastInDim S4096x64 ![] bcast_S_S4096x64),
    TRef.binary (.of main_call0_call0_call0_v95 : TRef sig ⟨S4096x64, .i32⟩) (.of main_call0_call0_call0_v102 : TRef sig ⟨S4096x64, .i32⟩) (.of main_call0_call0_call0_v103 : TRef sig ⟨S4096x64, .i32⟩) addi,
    TRef.unary (.of main_call0_call0_v6 : TRef sig ⟨S_, .i32⟩) (.of main_call0_call0_call0_v104 : TRef sig ⟨S4096x64, .i32⟩) (broadcastInDim S4096x64 ![] bcast_S_S4096x64),
    TRef.binary (.of main_call0_call0_call0_v101 : TRef sig ⟨S4096x64, .i32⟩) (.of main_call0_call0_call0_v104 : TRef sig ⟨S4096x64, .i32⟩) (.of main_call0_call0_call0_v105 : TRef sig ⟨S4096x64, .i32⟩) addi,
    TRef.nullary (.of main_call0_call0_call0_c_26 : TRef sig ⟨S_, .i32⟩) (constantI S_ 32 3#32),
    TRef.unary (.of main_call0_call0_call0_c_26 : TRef sig ⟨S_, .i32⟩) (.of main_call0_call0_call0_v106 : TRef sig ⟨S4096x64, .i32⟩) (broadcastInDim S4096x64 ![] bcast_S_S4096x64),
    TRef.binary (.of main_call0_call0_call0_v105 : TRef sig ⟨S4096x64, .i32⟩) (.of main_call0_call0_call0_v106 : TRef sig ⟨S4096x64, .i32⟩) (.of main_call0_call0_call0_v107 : TRef sig ⟨S4096x64, .i32⟩) addi,
    TRef.binary (.of main_call0_call0_call0_v103 : TRef sig ⟨S4096x64, .i32⟩) (.of main_call0_call0_call0_v107 : TRef sig ⟨S4096x64, .i32⟩) (.of main_call0_call0_call0_v108 : TRef sig ⟨S4096x64, .i32⟩) addi,
    TRef.nullary (.of main_call0_call0_call0_c_27 : TRef sig ⟨S_, .i32⟩) (constantI S_ 32 17#32),
    TRef.unary (.of main_call0_call0_call0_c_27 : TRef sig ⟨S_, .i32⟩) (.of main_call0_call0_call0_v109 : TRef sig ⟨S4096x64, .i32⟩) (broadcastInDim S4096x64 ![] bcast_S_S4096x64),
    TRef.binary (.of main_call0_call0_call0_v107 : TRef sig ⟨S4096x64, .i32⟩) (.of main_call0_call0_call0_v109 : TRef sig ⟨S4096x64, .i32⟩) (.of main_call0_call0_call0_v110 : TRef sig ⟨S4096x64, .i32⟩) Host.shli,
    TRef.nullary (.of main_call0_call0_call0_c_28 : TRef sig ⟨S_, .i32⟩) (constantI S_ 32 15#32),
    TRef.unary (.of main_call0_call0_call0_c_28 : TRef sig ⟨S_, .i32⟩) (.of main_call0_call0_call0_v111 : TRef sig ⟨S4096x64, .i32⟩) (broadcastInDim S4096x64 ![] bcast_S_S4096x64),
    TRef.binary (.of main_call0_call0_call0_v107 : TRef sig ⟨S4096x64, .i32⟩) (.of main_call0_call0_call0_v111 : TRef sig ⟨S4096x64, .i32⟩) (.of main_call0_call0_call0_v112 : TRef sig ⟨S4096x64, .i32⟩) Host.shrui,
    TRef.binary (.of main_call0_call0_call0_v110 : TRef sig ⟨S4096x64, .i32⟩) (.of main_call0_call0_call0_v112 : TRef sig ⟨S4096x64, .i32⟩) (.of main_call0_call0_call0_v113 : TRef sig ⟨S4096x64, .i32⟩) ori,
    TRef.binary (.of main_call0_call0_call0_v108 : TRef sig ⟨S4096x64, .i32⟩) (.of main_call0_call0_call0_v113 : TRef sig ⟨S4096x64, .i32⟩) (.of main_call0_call0_call0_v114 : TRef sig ⟨S4096x64, .i32⟩) xori ]

/-- Stretch 15 of the draw. -/
abbrev draw15 : List (HloOp τ sig (Elt F)) :=
  [ TRef.binary (.of main_call0_call0_call0_v108 : TRef sig ⟨S4096x64, .i32⟩) (.of main_call0_call0_call0_v114 : TRef sig ⟨S4096x64, .i32⟩) (.of main_call0_call0_call0_v115 : TRef sig ⟨S4096x64, .i32⟩) addi,
    TRef.nullary (.of main_call0_call0_call0_c_29 : TRef sig ⟨S_, .i32⟩) (constantI S_ 32 29#32),
    TRef.unary (.of main_call0_call0_call0_c_29 : TRef sig ⟨S_, .i32⟩) (.of main_call0_call0_call0_v116 : TRef sig ⟨S4096x64, .i32⟩) (broadcastInDim S4096x64 ![] bcast_S_S4096x64),
    TRef.binary (.of main_call0_call0_call0_v114 : TRef sig ⟨S4096x64, .i32⟩) (.of main_call0_call0_call0_v116 : TRef sig ⟨S4096x64, .i32⟩) (.of main_call0_call0_call0_v117 : TRef sig ⟨S4096x64, .i32⟩) Host.shli,
    TRef.nullary (.of main_call0_call0_call0_c_30 : TRef sig ⟨S_, .i32⟩) (constantI S_ 32 3#32),
    TRef.unary (.of main_call0_call0_call0_c_30 : TRef sig ⟨S_, .i32⟩) (.of main_call0_call0_call0_v118 : TRef sig ⟨S4096x64, .i32⟩) (broadcastInDim S4096x64 ![] bcast_S_S4096x64),
    TRef.binary (.of main_call0_call0_call0_v114 : TRef sig ⟨S4096x64, .i32⟩) (.of main_call0_call0_call0_v118 : TRef sig ⟨S4096x64, .i32⟩) (.of main_call0_call0_call0_v119 : TRef sig ⟨S4096x64, .i32⟩) Host.shrui,
    TRef.binary (.of main_call0_call0_call0_v117 : TRef sig ⟨S4096x64, .i32⟩) (.of main_call0_call0_call0_v119 : TRef sig ⟨S4096x64, .i32⟩) (.of main_call0_call0_call0_v120 : TRef sig ⟨S4096x64, .i32⟩) ori,
    TRef.binary (.of main_call0_call0_call0_v115 : TRef sig ⟨S4096x64, .i32⟩) (.of main_call0_call0_call0_v120 : TRef sig ⟨S4096x64, .i32⟩) (.of main_call0_call0_call0_v121 : TRef sig ⟨S4096x64, .i32⟩) xori ]

/-- Stretch 16 of the draw. -/
abbrev draw16 : List (HloOp τ sig (Elt F)) :=
  [ TRef.binary (.of main_call0_call0_call0_v115 : TRef sig ⟨S4096x64, .i32⟩) (.of main_call0_call0_call0_v121 : TRef sig ⟨S4096x64, .i32⟩) (.of main_call0_call0_call0_v122 : TRef sig ⟨S4096x64, .i32⟩) addi,
    TRef.nullary (.of main_call0_call0_call0_c_31 : TRef sig ⟨S_, .i32⟩) (constantI S_ 32 16#32),
    TRef.unary (.of main_call0_call0_call0_c_31 : TRef sig ⟨S_, .i32⟩) (.of main_call0_call0_call0_v123 : TRef sig ⟨S4096x64, .i32⟩) (broadcastInDim S4096x64 ![] bcast_S_S4096x64),
    TRef.binary (.of main_call0_call0_call0_v121 : TRef sig ⟨S4096x64, .i32⟩) (.of main_call0_call0_call0_v123 : TRef sig ⟨S4096x64, .i32⟩) (.of main_call0_call0_call0_v124 : TRef sig ⟨S4096x64, .i32⟩) Host.shli,
    TRef.nullary (.of main_call0_call0_call0_c_32 : TRef sig ⟨S_, .i32⟩) (constantI S_ 32 16#32),
    TRef.unary (.of main_call0_call0_call0_c_32 : TRef sig ⟨S_, .i32⟩) (.of main_call0_call0_call0_v125 : TRef sig ⟨S4096x64, .i32⟩) (broadcastInDim S4096x64 ![] bcast_S_S4096x64),
    TRef.binary (.of main_call0_call0_call0_v121 : TRef sig ⟨S4096x64, .i32⟩) (.of main_call0_call0_call0_v125 : TRef sig ⟨S4096x64, .i32⟩) (.of main_call0_call0_call0_v126 : TRef sig ⟨S4096x64, .i32⟩) Host.shrui,
    TRef.binary (.of main_call0_call0_call0_v124 : TRef sig ⟨S4096x64, .i32⟩) (.of main_call0_call0_call0_v126 : TRef sig ⟨S4096x64, .i32⟩) (.of main_call0_call0_call0_v127 : TRef sig ⟨S4096x64, .i32⟩) ori,
    TRef.binary (.of main_call0_call0_call0_v122 : TRef sig ⟨S4096x64, .i32⟩) (.of main_call0_call0_call0_v127 : TRef sig ⟨S4096x64, .i32⟩) (.of main_call0_call0_call0_v128 : TRef sig ⟨S4096x64, .i32⟩) xori ]

/-- Stretch 17 of the draw. -/
abbrev draw17 : List (HloOp τ sig (Elt F)) :=
  [ TRef.binary (.of main_call0_call0_call0_v122 : TRef sig ⟨S4096x64, .i32⟩) (.of main_call0_call0_call0_v128 : TRef sig ⟨S4096x64, .i32⟩) (.of main_call0_call0_call0_v129 : TRef sig ⟨S4096x64, .i32⟩) addi,
    TRef.nullary (.of main_call0_call0_call0_c_33 : TRef sig ⟨S_, .i32⟩) (constantI S_ 32 24#32),
    TRef.unary (.of main_call0_call0_call0_c_33 : TRef sig ⟨S_, .i32⟩) (.of main_call0_call0_call0_v130 : TRef sig ⟨S4096x64, .i32⟩) (broadcastInDim S4096x64 ![] bcast_S_S4096x64),
    TRef.binary (.of main_call0_call0_call0_v128 : TRef sig ⟨S4096x64, .i32⟩) (.of main_call0_call0_call0_v130 : TRef sig ⟨S4096x64, .i32⟩) (.of main_call0_call0_call0_v131 : TRef sig ⟨S4096x64, .i32⟩) Host.shli,
    TRef.nullary (.of main_call0_call0_call0_c_34 : TRef sig ⟨S_, .i32⟩) (constantI S_ 32 8#32),
    TRef.unary (.of main_call0_call0_call0_c_34 : TRef sig ⟨S_, .i32⟩) (.of main_call0_call0_call0_v132 : TRef sig ⟨S4096x64, .i32⟩) (broadcastInDim S4096x64 ![] bcast_S_S4096x64),
    TRef.binary (.of main_call0_call0_call0_v128 : TRef sig ⟨S4096x64, .i32⟩) (.of main_call0_call0_call0_v132 : TRef sig ⟨S4096x64, .i32⟩) (.of main_call0_call0_call0_v133 : TRef sig ⟨S4096x64, .i32⟩) Host.shrui,
    TRef.binary (.of main_call0_call0_call0_v131 : TRef sig ⟨S4096x64, .i32⟩) (.of main_call0_call0_call0_v133 : TRef sig ⟨S4096x64, .i32⟩) (.of main_call0_call0_call0_v134 : TRef sig ⟨S4096x64, .i32⟩) ori,
    TRef.binary (.of main_call0_call0_call0_v129 : TRef sig ⟨S4096x64, .i32⟩) (.of main_call0_call0_call0_v134 : TRef sig ⟨S4096x64, .i32⟩) (.of main_call0_call0_call0_v135 : TRef sig ⟨S4096x64, .i32⟩) xori ]

/-- Stretch 18 of the draw. -/
abbrev draw18 : List (HloOp τ sig (Elt F)) :=
  [ TRef.unary (.of main_call0_call0_v6 : TRef sig ⟨S_, .i32⟩) (.of main_call0_call0_call0_v136 : TRef sig ⟨S4096x64, .i32⟩) (broadcastInDim S4096x64 ![] bcast_S_S4096x64),
    TRef.binary (.of main_call0_call0_call0_v129 : TRef sig ⟨S4096x64, .i32⟩) (.of main_call0_call0_call0_v136 : TRef sig ⟨S4096x64, .i32⟩) (.of main_call0_call0_call0_v137 : TRef sig ⟨S4096x64, .i32⟩) addi,
    TRef.unary (.of main_call0_call0_call0_v1 : TRef sig ⟨S_, .i32⟩) (.of main_call0_call0_call0_v138 : TRef sig ⟨S4096x64, .i32⟩) (broadcastInDim S4096x64 ![] bcast_S_S4096x64),
    TRef.binary (.of main_call0_call0_call0_v135 : TRef sig ⟨S4096x64, .i32⟩) (.of main_call0_call0_call0_v138 : TRef sig ⟨S4096x64, .i32⟩) (.of main_call0_call0_call0_v139 : TRef sig ⟨S4096x64, .i32⟩) addi,
    TRef.nullary (.of main_call0_call0_call0_c_35 : TRef sig ⟨S_, .i32⟩) (constantI S_ 32 4#32),
    TRef.unary (.of main_call0_call0_call0_c_35 : TRef sig ⟨S_, .i32⟩) (.of main_call0_call0_call0_v140 : TRef sig ⟨S4096x64, .i32⟩) (broadcastInDim S4096x64 ![] bcast_S_S4096x64),
    TRef.binary (.of main_call0_call0_call0_v139 : TRef sig ⟨S4096x64, .i32⟩) (.of main_call0_call0_call0_v140 : TRef sig ⟨S4096x64, .i32⟩) (.of main_call0_call0_call0_v141 : TRef sig ⟨S4096x64, .i32⟩) addi,
    TRef.binary (.of main_call0_call0_call0_v137 : TRef sig ⟨S4096x64, .i32⟩) (.of main_call0_call0_call0_v141 : TRef sig ⟨S4096x64, .i32⟩) (.of main_call0_call0_call0_v142 : TRef sig ⟨S4096x64, .i32⟩) addi,
    TRef.nullary (.of main_call0_call0_call0_c_36 : TRef sig ⟨S_, .i32⟩) (constantI S_ 32 13#32),
    TRef.unary (.of main_call0_call0_call0_c_36 : TRef sig ⟨S_, .i32⟩) (.of main_call0_call0_call0_v143 : TRef sig ⟨S4096x64, .i32⟩) (broadcastInDim S4096x64 ![] bcast_S_S4096x64),
    TRef.binary (.of main_call0_call0_call0_v141 : TRef sig ⟨S4096x64, .i32⟩) (.of main_call0_call0_call0_v143 : TRef sig ⟨S4096x64, .i32⟩) (.of main_call0_call0_call0_v144 : TRef sig ⟨S4096x64, .i32⟩) Host.shli,
    TRef.nullary (.of main_call0_call0_call0_c_37 : TRef sig ⟨S_, .i32⟩) (constantI S_ 32 19#32),
    TRef.unary (.of main_call0_call0_call0_c_37 : TRef sig ⟨S_, .i32⟩) (.of main_call0_call0_call0_v145 : TRef sig ⟨S4096x64, .i32⟩) (broadcastInDim S4096x64 ![] bcast_S_S4096x64),
    TRef.binary (.of main_call0_call0_call0_v141 : TRef sig ⟨S4096x64, .i32⟩) (.of main_call0_call0_call0_v145 : TRef sig ⟨S4096x64, .i32⟩) (.of main_call0_call0_call0_v146 : TRef sig ⟨S4096x64, .i32⟩) Host.shrui,
    TRef.binary (.of main_call0_call0_call0_v144 : TRef sig ⟨S4096x64, .i32⟩) (.of main_call0_call0_call0_v146 : TRef sig ⟨S4096x64, .i32⟩) (.of main_call0_call0_call0_v147 : TRef sig ⟨S4096x64, .i32⟩) ori,
    TRef.binary (.of main_call0_call0_call0_v142 : TRef sig ⟨S4096x64, .i32⟩) (.of main_call0_call0_call0_v147 : TRef sig ⟨S4096x64, .i32⟩) (.of main_call0_call0_call0_v148 : TRef sig ⟨S4096x64, .i32⟩) xori ]

/-- Stretch 19 of the draw. -/
abbrev draw19 : List (HloOp τ sig (Elt F)) :=
  [ TRef.binary (.of main_call0_call0_call0_v142 : TRef sig ⟨S4096x64, .i32⟩) (.of main_call0_call0_call0_v148 : TRef sig ⟨S4096x64, .i32⟩) (.of main_call0_call0_call0_v149 : TRef sig ⟨S4096x64, .i32⟩) addi,
    TRef.nullary (.of main_call0_call0_call0_c_38 : TRef sig ⟨S_, .i32⟩) (constantI S_ 32 15#32),
    TRef.unary (.of main_call0_call0_call0_c_38 : TRef sig ⟨S_, .i32⟩) (.of main_call0_call0_call0_v150 : TRef sig ⟨S4096x64, .i32⟩) (broadcastInDim S4096x64 ![] bcast_S_S4096x64),
    TRef.binary (.of main_call0_call0_call0_v148 : TRef sig ⟨S4096x64, .i32⟩) (.of main_call0_call0_call0_v150 : TRef sig ⟨S4096x64, .i32⟩) (.of main_call0_call0_call0_v151 : TRef sig ⟨S4096x64, .i32⟩) Host.shli,
    TRef.nullary (.of main_call0_call0_call0_c_39 : TRef sig ⟨S_, .i32⟩) (constantI S_ 32 17#32),
    TRef.unary (.of main_call0_call0_call0_c_39 : TRef sig ⟨S_, .i32⟩) (.of main_call0_call0_call0_v152 : TRef sig ⟨S4096x64, .i32⟩) (broadcastInDim S4096x64 ![] bcast_S_S4096x64),
    TRef.binary (.of main_call0_call0_call0_v148 : TRef sig ⟨S4096x64, .i32⟩) (.of main_call0_call0_call0_v152 : TRef sig ⟨S4096x64, .i32⟩) (.of main_call0_call0_call0_v153 : TRef sig ⟨S4096x64, .i32⟩) Host.shrui,
    TRef.binary (.of main_call0_call0_call0_v151 : TRef sig ⟨S4096x64, .i32⟩) (.of main_call0_call0_call0_v153 : TRef sig ⟨S4096x64, .i32⟩) (.of main_call0_call0_call0_v154 : TRef sig ⟨S4096x64, .i32⟩) ori,
    TRef.binary (.of main_call0_call0_call0_v149 : TRef sig ⟨S4096x64, .i32⟩) (.of main_call0_call0_call0_v154 : TRef sig ⟨S4096x64, .i32⟩) (.of main_call0_call0_call0_v155 : TRef sig ⟨S4096x64, .i32⟩) xori ]

/-- Stretch 20 of the draw. -/
abbrev draw20 : List (HloOp τ sig (Elt F)) :=
  [ TRef.binary (.of main_call0_call0_call0_v149 : TRef sig ⟨S4096x64, .i32⟩) (.of main_call0_call0_call0_v155 : TRef sig ⟨S4096x64, .i32⟩) (.of main_call0_call0_call0_v156 : TRef sig ⟨S4096x64, .i32⟩) addi,
    TRef.nullary (.of main_call0_call0_call0_c_40 : TRef sig ⟨S_, .i32⟩) (constantI S_ 32 26#32),
    TRef.unary (.of main_call0_call0_call0_c_40 : TRef sig ⟨S_, .i32⟩) (.of main_call0_call0_call0_v157 : TRef sig ⟨S4096x64, .i32⟩) (broadcastInDim S4096x64 ![] bcast_S_S4096x64),
    TRef.binary (.of main_call0_call0_call0_v155 : TRef sig ⟨S4096x64, .i32⟩) (.of main_call0_call0_call0_v157 : TRef sig ⟨S4096x64, .i32⟩) (.of main_call0_call0_call0_v158 : TRef sig ⟨S4096x64, .i32⟩) Host.shli,
    TRef.nullary (.of main_call0_call0_call0_c_41 : TRef sig ⟨S_, .i32⟩) (constantI S_ 32 6#32),
    TRef.unary (.of main_call0_call0_call0_c_41 : TRef sig ⟨S_, .i32⟩) (.of main_call0_call0_call0_v159 : TRef sig ⟨S4096x64, .i32⟩) (broadcastInDim S4096x64 ![] bcast_S_S4096x64),
    TRef.binary (.of main_call0_call0_call0_v155 : TRef sig ⟨S4096x64, .i32⟩) (.of main_call0_call0_call0_v159 : TRef sig ⟨S4096x64, .i32⟩) (.of main_call0_call0_call0_v160 : TRef sig ⟨S4096x64, .i32⟩) Host.shrui,
    TRef.binary (.of main_call0_call0_call0_v158 : TRef sig ⟨S4096x64, .i32⟩) (.of main_call0_call0_call0_v160 : TRef sig ⟨S4096x64, .i32⟩) (.of main_call0_call0_call0_v161 : TRef sig ⟨S4096x64, .i32⟩) ori,
    TRef.binary (.of main_call0_call0_call0_v156 : TRef sig ⟨S4096x64, .i32⟩) (.of main_call0_call0_call0_v161 : TRef sig ⟨S4096x64, .i32⟩) (.of main_call0_call0_call0_v162 : TRef sig ⟨S4096x64, .i32⟩) xori ]

/-- Stretch 21 of the draw. -/
abbrev draw21 : List (HloOp τ sig (Elt F)) :=
  [ TRef.binary (.of main_call0_call0_call0_v156 : TRef sig ⟨S4096x64, .i32⟩) (.of main_call0_call0_call0_v162 : TRef sig ⟨S4096x64, .i32⟩) (.of main_call0_call0_call0_v163 : TRef sig ⟨S4096x64, .i32⟩) addi,
    TRef.nullary (.of main_call0_call0_call0_c_42 : TRef sig ⟨S_, .i32⟩) (constantI S_ 32 6#32),
    TRef.unary (.of main_call0_call0_call0_c_42 : TRef sig ⟨S_, .i32⟩) (.of main_call0_call0_call0_v164 : TRef sig ⟨S4096x64, .i32⟩) (broadcastInDim S4096x64 ![] bcast_S_S4096x64),
    TRef.binary (.of main_call0_call0_call0_v162 : TRef sig ⟨S4096x64, .i32⟩) (.of main_call0_call0_call0_v164 : TRef sig ⟨S4096x64, .i32⟩) (.of main_call0_call0_call0_v165 : TRef sig ⟨S4096x64, .i32⟩) Host.shli,
    TRef.nullary (.of main_call0_call0_call0_c_43 : TRef sig ⟨S_, .i32⟩) (constantI S_ 32 26#32),
    TRef.unary (.of main_call0_call0_call0_c_43 : TRef sig ⟨S_, .i32⟩) (.of main_call0_call0_call0_v166 : TRef sig ⟨S4096x64, .i32⟩) (broadcastInDim S4096x64 ![] bcast_S_S4096x64),
    TRef.binary (.of main_call0_call0_call0_v162 : TRef sig ⟨S4096x64, .i32⟩) (.of main_call0_call0_call0_v166 : TRef sig ⟨S4096x64, .i32⟩) (.of main_call0_call0_call0_v167 : TRef sig ⟨S4096x64, .i32⟩) Host.shrui,
    TRef.binary (.of main_call0_call0_call0_v165 : TRef sig ⟨S4096x64, .i32⟩) (.of main_call0_call0_call0_v167 : TRef sig ⟨S4096x64, .i32⟩) (.of main_call0_call0_call0_v168 : TRef sig ⟨S4096x64, .i32⟩) ori,
    TRef.binary (.of main_call0_call0_call0_v163 : TRef sig ⟨S4096x64, .i32⟩) (.of main_call0_call0_call0_v168 : TRef sig ⟨S4096x64, .i32⟩) (.of main_call0_call0_call0_v169 : TRef sig ⟨S4096x64, .i32⟩) xori ]

/-- Stretch 22 of the draw. -/
abbrev draw22 : List (HloOp τ sig (Elt F)) :=
  [ TRef.unary (.of main_call0_call0_call0_v1 : TRef sig ⟨S_, .i32⟩) (.of main_call0_call0_call0_v170 : TRef sig ⟨S4096x64, .i32⟩) (broadcastInDim S4096x64 ![] bcast_S_S4096x64),
    TRef.binary (.of main_call0_call0_call0_v163 : TRef sig ⟨S4096x64, .i32⟩) (.of main_call0_call0_call0_v170 : TRef sig ⟨S4096x64, .i32⟩) (.of main_call0_call0_v18_0 : TRef sig ⟨S4096x64, .i32⟩) addi,
    TRef.unary (.of main_call0_call0_v4 : TRef sig ⟨S_, .i32⟩) (.of main_call0_call0_call0_v172 : TRef sig ⟨S4096x64, .i32⟩) (broadcastInDim S4096x64 ![] bcast_S_S4096x64),
    TRef.binary (.of main_call0_call0_call0_v169 : TRef sig ⟨S4096x64, .i32⟩) (.of main_call0_call0_call0_v172 : TRef sig ⟨S4096x64, .i32⟩) (.of main_call0_call0_call0_v173 : TRef sig ⟨S4096x64, .i32⟩) addi,
    TRef.nullary (.of main_call0_call0_call0_c_44 : TRef sig ⟨S_, .i32⟩) (constantI S_ 32 5#32),
    TRef.unary (.of main_call0_call0_call0_c_44 : TRef sig ⟨S_, .i32⟩) (.of main_call0_call0_call0_v174 : TRef sig ⟨S4096x64, .i32⟩) (broadcastInDim S4096x64 ![] bcast_S_S4096x64),
    TRef.binary (.of main_call0_call0_call0_v173 : TRef sig ⟨S4096x64, .i32⟩) (.of main_call0_call0_call0_v174 : TRef sig ⟨S4096x64, .i32⟩) (.of main_call0_call0_v18_1 : TRef sig ⟨S4096x64, .i32⟩) addi ]

/-- Stretch 23 of the draw. -/
abbrev draw23 : List (HloOp τ sig (Elt F)) :=
  [ TRef.binary (.of main_call0_call0_v18_0 : TRef sig ⟨S4096x64, .i32⟩) (.of main_call0_call0_v18_1 : TRef sig ⟨S4096x64, .i32⟩) (.of main_call0_call0_v19 : TRef sig ⟨S4096x64, .i32⟩) xori,
    TRef.nullary (.of main_call0_call0_c_2 : TRef sig ⟨S_, .i32⟩) (constantI S_ 32 9#32),
    TRef.unary (.of main_call0_call0_c_2 : TRef sig ⟨S_, .i32⟩) (.of main_call0_call0_v20 : TRef sig ⟨S4096x64, .i32⟩) (broadcastInDim S4096x64 ![] bcast_S_S4096x64),
    TRef.binary (.of main_call0_call0_v19 : TRef sig ⟨S4096x64, .i32⟩) (.of main_call0_call0_v20 : TRef sig ⟨S4096x64, .i32⟩) (.of main_call0_call0_v21 : TRef sig ⟨S4096x64, .i32⟩) Host.shrui,
    TRef.nullary (.of main_call0_call0_c_3 : TRef sig ⟨S_, .i32⟩) (constantI S_ 32 1065353216#32),
    TRef.unary (.of main_call0_call0_c_3 : TRef sig ⟨S_, .i32⟩) (.of main_call0_call0_v22 : TRef sig ⟨S4096x64, .i32⟩) (broadcastInDim S4096x64 ![] bcast_S_S4096x64),
    TRef.binary (.of main_call0_call0_v21 : TRef sig ⟨S4096x64, .i32⟩) (.of main_call0_call0_v22 : TRef sig ⟨S4096x64, .i32⟩) (.of main_call0_call0_v23 : TRef sig ⟨S4096x64, .i32⟩) ori,
    TRef.unary (.of main_call0_call0_v23 : TRef sig ⟨S4096x64, .i32⟩) (.of main_call0_call0_v24 : TRef sig ⟨S4096x64, .f32⟩) (bitcastToFloat .f32) ]

/-- Stretch 24 of the draw. -/
abbrev draw24 : List (HloOp τ sig (Elt F)) :=
  [ TRef.nullary (.of main_call0_call0_cst : TRef sig ⟨S_, .f32⟩) (constant S_ .f32 0x3F800000#32),
    TRef.unary (.of main_call0_call0_cst : TRef sig ⟨S_, .f32⟩) (.of main_call0_call0_v25 : TRef sig ⟨S4096x64, .f32⟩) (broadcastInDim S4096x64 ![] bcast_S_S4096x64),
    TRef.binary (.of main_call0_call0_v24 : TRef sig ⟨S4096x64, .f32⟩) (.of main_call0_call0_v25 : TRef sig ⟨S4096x64, .f32⟩) (.of main_call0_call0_v26 : TRef sig ⟨S4096x64, .f32⟩) subf,
    TRef.binary (.of main_call0_call0_v2 : TRef sig ⟨S1x1, .f32⟩) (.of main_call0_call0_v1 : TRef sig ⟨S1x1, .f32⟩) (.of main_call0_call0_v27 : TRef sig ⟨S1x1, .f32⟩) subf,
    TRef.unary (.of main_call0_call0_v27 : TRef sig ⟨S1x1, .f32⟩) (.of main_call0_call0_v28 : TRef sig ⟨S4096x64, .f32⟩) (broadcastInDim S4096x64 ![0, 1] bcast_S1x1_S4096x64_0_1),
    TRef.binary (.of main_call0_call0_v26 : TRef sig ⟨S4096x64, .f32⟩) (.of main_call0_call0_v28 : TRef sig ⟨S4096x64, .f32⟩) (.of main_call0_call0_v29 : TRef sig ⟨S4096x64, .f32⟩) mulf,
    TRef.unary (.of main_call0_call0_v1 : TRef sig ⟨S1x1, .f32⟩) (.of main_call0_call0_v30 : TRef sig ⟨S4096x64, .f32⟩) (broadcastInDim S4096x64 ![0, 1] bcast_S1x1_S4096x64_0_1),
    TRef.binary (.of main_call0_call0_v29 : TRef sig ⟨S4096x64, .f32⟩) (.of main_call0_call0_v30 : TRef sig ⟨S4096x64, .f32⟩) (.of main_call0_call0_v31 : TRef sig ⟨S4096x64, .f32⟩) addf,
    TRef.unary (.of main_call0_call0_v1 : TRef sig ⟨S1x1, .f32⟩) (.of main_call0_call0_v32 : TRef sig ⟨S4096x64, .f32⟩) (broadcastInDim S4096x64 ![0, 1] bcast_S1x1_S4096x64_0_1),
    TRef.binary (.of main_call0_call0_v32 : TRef sig ⟨S4096x64, .f32⟩) (.of main_call0_call0_v31 : TRef sig ⟨S4096x64, .f32⟩) (.of main_call0_v0 : TRef sig ⟨S4096x64, .f32⟩) maximumf,
    TRef.unary (.of main_call0_v0 : TRef sig ⟨S4096x64, .f32⟩) (.of main_call0_v1 : TRef sig ⟨S4096x64, .f32⟩) Host.log,
    TRef.unary (.of main_call0_v1 : TRef sig ⟨S4096x64, .f32⟩) (.of main_call0_v2 : TRef sig ⟨S4096x64, .f32⟩) Host.negf,
    TRef.unary (.of main_call0_v2 : TRef sig ⟨S4096x64, .f32⟩) (.of main_call0_v3 : TRef sig ⟨S4096x64, .f32⟩) Host.log,
    TRef.unary (.of main_call0_v3 : TRef sig ⟨S4096x64, .f32⟩) (.of main_v7 : TRef sig ⟨S4096x64, .f32⟩) Host.negf ]

/-! ## What each stretch computes -/

theorem draw0_m_v6 (V : Valuation τ sig (Elt F)) : after draw0 V (main_v6 : DevRef τ sig) = Noise.step0_m_v6 (F := F) := by
  after_reads_simp
  rfl

theorem draw1_v_v1 (V : Valuation τ sig (Elt F)) : after draw1 V (main_call0_call0_v1 : DevRef τ sig) = Noise.step1_v_v1 (F := F) := by
  after_reads_simp
  try simp only [TRef.ofBuf_toBuf]
  try simp -implicitDefEqProofs only [TRef.toBuf, TRef.ofBuf, cast_eq]
  rfl
theorem draw1_v_v2 (V : Valuation τ sig (Elt F)) : after draw1 V (main_call0_call0_v2 : DevRef τ sig) = Noise.step1_v_v2 (F := F) := by
  after_reads_simp
  try simp only [TRef.ofBuf_toBuf]
  try simp -implicitDefEqProofs only [TRef.toBuf, TRef.ofBuf, cast_eq]
  rfl
theorem draw1_v_v4 (V : Valuation τ sig (Elt F)) : after draw1 V (main_call0_call0_v4 : DevRef τ sig) = Noise.step1_v_v4 (F := F) (V (main_v6 : DevRef τ sig)) := by
  after_reads_simp
  try simp only [TRef.ofBuf_toBuf]
  try simp -implicitDefEqProofs only [TRef.toBuf, TRef.ofBuf, cast_eq]
  rfl
theorem draw1_v_v6 (V : Valuation τ sig (Elt F)) : after draw1 V (main_call0_call0_v6 : DevRef τ sig) = Noise.step1_v_v6 (F := F) (V (main_v6 : DevRef τ sig)) := by
  after_reads_simp
  try simp only [TRef.ofBuf_toBuf]
  try simp -implicitDefEqProofs only [TRef.toBuf, TRef.ofBuf, cast_eq]
  rfl
theorem draw1_v_v16 (V : Valuation τ sig (Elt F)) : after draw1 V (main_call0_call0_v16 : DevRef τ sig) = Noise.step1_v_v16 (F := F) := by
  after_reads_simp
  try simp only [TRef.ofBuf_toBuf]
  try simp -implicitDefEqProofs only [TRef.toBuf, TRef.ofBuf, cast_eq]
  rfl
theorem draw1_v_v17 (V : Valuation τ sig (Elt F)) : after draw1 V (main_call0_call0_v17 : DevRef τ sig) = Noise.step1_v_v17 (F := F) := by
  after_reads_simp
  try simp only [TRef.ofBuf_toBuf]
  try simp -implicitDefEqProofs only [TRef.toBuf, TRef.ofBuf, cast_eq]
  rfl

theorem draw2_t_v1 (V : Valuation τ sig (Elt F)) : after draw2 V (main_call0_call0_call0_v1 : DevRef τ sig) = Noise.step2_t_v1 (F := F) (V (main_call0_call0_v4 : DevRef τ sig)) (V (main_call0_call0_v6 : DevRef τ sig)) := by
  after_reads_simp
  try simp only [TRef.ofBuf_toBuf]
  try simp -implicitDefEqProofs only [TRef.toBuf, TRef.ofBuf, cast_eq]
  rfl
theorem draw2_t_v6 (V : Valuation τ sig (Elt F)) : after draw2 V (main_call0_call0_call0_v6 : DevRef τ sig) = Noise.step2_t_v6 (F := F) (V (main_call0_call0_v4 : DevRef τ sig)) (V (main_call0_call0_v6 : DevRef τ sig)) (V (main_call0_call0_v16 : DevRef τ sig)) (V (main_call0_call0_v17 : DevRef τ sig)) := by
  after_reads_simp
  try simp only [TRef.ofBuf_toBuf]
  try simp -implicitDefEqProofs only [TRef.toBuf, TRef.ofBuf, cast_eq]
  rfl
theorem draw2_t_v12 (V : Valuation τ sig (Elt F)) : after draw2 V (main_call0_call0_call0_v12 : DevRef τ sig) = Noise.step2_t_v12 (F := F) (V (main_call0_call0_v4 : DevRef τ sig)) (V (main_call0_call0_v6 : DevRef τ sig)) (V (main_call0_call0_v16 : DevRef τ sig)) (V (main_call0_call0_v17 : DevRef τ sig)) := by
  after_reads_simp
  try simp only [TRef.ofBuf_toBuf]
  try simp -implicitDefEqProofs only [TRef.toBuf, TRef.ofBuf, cast_eq]
  rfl
theorem draw2_keeps (V : Valuation τ sig (Elt F)) : after draw2 V (main_call0_call0_v1 : DevRef τ sig) = V (main_call0_call0_v1 : DevRef τ sig)
    ∧ after draw2 V (main_call0_call0_v2 : DevRef τ sig) = V (main_call0_call0_v2 : DevRef τ sig)
    ∧ after draw2 V (main_call0_call0_v4 : DevRef τ sig) = V (main_call0_call0_v4 : DevRef τ sig)
    ∧ after draw2 V (main_call0_call0_v6 : DevRef τ sig) = V (main_call0_call0_v6 : DevRef τ sig) := by
  refine ⟨?_, ?_, ?_, ?_⟩ <;> after_reads_simp

theorem draw3_t_v13 (V : Valuation τ sig (Elt F)) : after draw3 V (main_call0_call0_call0_v13 : DevRef τ sig) = Noise.step3_t_v13 (F := F) (V (main_call0_call0_call0_v6 : DevRef τ sig)) (V (main_call0_call0_call0_v12 : DevRef τ sig)) := by
  after_reads_simp
  try simp -implicitDefEqProofs only [TRef.toBuf, TRef.ofBuf, cast_eq]
  rfl
theorem draw3_t_v19 (V : Valuation τ sig (Elt F)) : after draw3 V (main_call0_call0_call0_v19 : DevRef τ sig) = Noise.step3_t_v19 (F := F) (V (main_call0_call0_call0_v6 : DevRef τ sig)) (V (main_call0_call0_call0_v12 : DevRef τ sig)) := by
  after_reads_simp
  try simp only [TRef.ofBuf_toBuf]
  try simp -implicitDefEqProofs only [TRef.toBuf, TRef.ofBuf, cast_eq]
  rfl
theorem draw3_keeps (V : Valuation τ sig (Elt F)) : after draw3 V (main_call0_call0_v1 : DevRef τ sig) = V (main_call0_call0_v1 : DevRef τ sig)
    ∧ after draw3 V (main_call0_call0_v2 : DevRef τ sig) = V (main_call0_call0_v2 : DevRef τ sig)
    ∧ after draw3 V (main_call0_call0_v4 : DevRef τ sig) = V (main_call0_call0_v4 : DevRef τ sig)
    ∧ after draw3 V (main_call0_call0_v6 : DevRef τ sig) = V (main_call0_call0_v6 : DevRef τ sig)
    ∧ after draw3 V (main_call0_call0_call0_v1 : DevRef τ sig) = V (main_call0_call0_call0_v1 : DevRef τ sig) := by
  refine ⟨?_, ?_, ?_, ?_, ?_⟩ <;> after_reads_simp

theorem draw4_t_v20 (V : Valuation τ sig (Elt F)) : after draw4 V (main_call0_call0_call0_v20 : DevRef τ sig) = Noise.step4_t_v20 (F := F) (V (main_call0_call0_call0_v13 : DevRef τ sig)) (V (main_call0_call0_call0_v19 : DevRef τ sig)) := by
  after_reads_simp
  try simp -implicitDefEqProofs only [TRef.toBuf, TRef.ofBuf, cast_eq]
  rfl
theorem draw4_t_v26 (V : Valuation τ sig (Elt F)) : after draw4 V (main_call0_call0_call0_v26 : DevRef τ sig) = Noise.step4_t_v26 (F := F) (V (main_call0_call0_call0_v13 : DevRef τ sig)) (V (main_call0_call0_call0_v19 : DevRef τ sig)) := by
  after_reads_simp
  try simp only [TRef.ofBuf_toBuf]
  try simp -implicitDefEqProofs only [TRef.toBuf, TRef.ofBuf, cast_eq]
  rfl
theorem draw4_keeps (V : Valuation τ sig (Elt F)) : after draw4 V (main_call0_call0_v1 : DevRef τ sig) = V (main_call0_call0_v1 : DevRef τ sig)
    ∧ after draw4 V (main_call0_call0_v2 : DevRef τ sig) = V (main_call0_call0_v2 : DevRef τ sig)
    ∧ after draw4 V (main_call0_call0_v4 : DevRef τ sig) = V (main_call0_call0_v4 : DevRef τ sig)
    ∧ after draw4 V (main_call0_call0_v6 : DevRef τ sig) = V (main_call0_call0_v6 : DevRef τ sig)
    ∧ after draw4 V (main_call0_call0_call0_v1 : DevRef τ sig) = V (main_call0_call0_call0_v1 : DevRef τ sig) := by
  refine ⟨?_, ?_, ?_, ?_, ?_⟩ <;> after_reads_simp

theorem draw5_t_v27 (V : Valuation τ sig (Elt F)) : after draw5 V (main_call0_call0_call0_v27 : DevRef τ sig) = Noise.step5_t_v27 (F := F) (V (main_call0_call0_call0_v20 : DevRef τ sig)) (V (main_call0_call0_call0_v26 : DevRef τ sig)) := by
  after_reads_simp
  try simp -implicitDefEqProofs only [TRef.toBuf, TRef.ofBuf, cast_eq]
  rfl
theorem draw5_t_v33 (V : Valuation τ sig (Elt F)) : after draw5 V (main_call0_call0_call0_v33 : DevRef τ sig) = Noise.step5_t_v33 (F := F) (V (main_call0_call0_call0_v20 : DevRef τ sig)) (V (main_call0_call0_call0_v26 : DevRef τ sig)) := by
  after_reads_simp
  try simp only [TRef.ofBuf_toBuf]
  try simp -implicitDefEqProofs only [TRef.toBuf, TRef.ofBuf, cast_eq]
  rfl
theorem draw5_keeps (V : Valuation τ sig (Elt F)) : after draw5 V (main_call0_call0_v1 : DevRef τ sig) = V (main_call0_call0_v1 : DevRef τ sig)
    ∧ after draw5 V (main_call0_call0_v2 : DevRef τ sig) = V (main_call0_call0_v2 : DevRef τ sig)
    ∧ after draw5 V (main_call0_call0_v4 : DevRef τ sig) = V (main_call0_call0_v4 : DevRef τ sig)
    ∧ after draw5 V (main_call0_call0_v6 : DevRef τ sig) = V (main_call0_call0_v6 : DevRef τ sig)
    ∧ after draw5 V (main_call0_call0_call0_v1 : DevRef τ sig) = V (main_call0_call0_call0_v1 : DevRef τ sig) := by
  refine ⟨?_, ?_, ?_, ?_, ?_⟩ <;> after_reads_simp

theorem draw6_t_v40 (V : Valuation τ sig (Elt F)) : after draw6 V (main_call0_call0_call0_v40 : DevRef τ sig) = Noise.step6_t_v40 (F := F) (V (main_call0_call0_v6 : DevRef τ sig)) (V (main_call0_call0_call0_v1 : DevRef τ sig)) (V (main_call0_call0_call0_v27 : DevRef τ sig)) (V (main_call0_call0_call0_v33 : DevRef τ sig)) := by
  after_reads_simp
  try simp only [TRef.ofBuf_toBuf]
  try simp -implicitDefEqProofs only [TRef.toBuf, TRef.ofBuf, cast_eq]
  rfl
theorem draw6_t_v46 (V : Valuation τ sig (Elt F)) : after draw6 V (main_call0_call0_call0_v46 : DevRef τ sig) = Noise.step6_t_v46 (F := F) (V (main_call0_call0_v6 : DevRef τ sig)) (V (main_call0_call0_call0_v1 : DevRef τ sig)) (V (main_call0_call0_call0_v27 : DevRef τ sig)) (V (main_call0_call0_call0_v33 : DevRef τ sig)) := by
  after_reads_simp
  try simp only [TRef.ofBuf_toBuf]
  try simp -implicitDefEqProofs only [TRef.toBuf, TRef.ofBuf, cast_eq]
  rfl
theorem draw6_keeps (V : Valuation τ sig (Elt F)) : after draw6 V (main_call0_call0_v1 : DevRef τ sig) = V (main_call0_call0_v1 : DevRef τ sig)
    ∧ after draw6 V (main_call0_call0_v2 : DevRef τ sig) = V (main_call0_call0_v2 : DevRef τ sig)
    ∧ after draw6 V (main_call0_call0_v4 : DevRef τ sig) = V (main_call0_call0_v4 : DevRef τ sig)
    ∧ after draw6 V (main_call0_call0_v6 : DevRef τ sig) = V (main_call0_call0_v6 : DevRef τ sig)
    ∧ after draw6 V (main_call0_call0_call0_v1 : DevRef τ sig) = V (main_call0_call0_call0_v1 : DevRef τ sig) := by
  refine ⟨?_, ?_, ?_, ?_, ?_⟩ <;> after_reads_simp

theorem draw7_t_v47 (V : Valuation τ sig (Elt F)) : after draw7 V (main_call0_call0_call0_v47 : DevRef τ sig) = Noise.step7_t_v47 (F := F) (V (main_call0_call0_call0_v40 : DevRef τ sig)) (V (main_call0_call0_call0_v46 : DevRef τ sig)) := by
  after_reads_simp
  try simp -implicitDefEqProofs only [TRef.toBuf, TRef.ofBuf, cast_eq]
  rfl
theorem draw7_t_v53 (V : Valuation τ sig (Elt F)) : after draw7 V (main_call0_call0_call0_v53 : DevRef τ sig) = Noise.step7_t_v53 (F := F) (V (main_call0_call0_call0_v40 : DevRef τ sig)) (V (main_call0_call0_call0_v46 : DevRef τ sig)) := by
  after_reads_simp
  try simp only [TRef.ofBuf_toBuf]
  try simp -implicitDefEqProofs only [TRef.toBuf, TRef.ofBuf, cast_eq]
  rfl
theorem draw7_keeps (V : Valuation τ sig (Elt F)) : after draw7 V (main_call0_call0_v1 : DevRef τ sig) = V (main_call0_call0_v1 : DevRef τ sig)
    ∧ after draw7 V (main_call0_call0_v2 : DevRef τ sig) = V (main_call0_call0_v2 : DevRef τ sig)
    ∧ after draw7 V (main_call0_call0_v4 : DevRef τ sig) = V (main_call0_call0_v4 : DevRef τ sig)
    ∧ after draw7 V (main_call0_call0_v6 : DevRef τ sig) = V (main_call0_call0_v6 : DevRef τ sig)
    ∧ after draw7 V (main_call0_call0_call0_v1 : DevRef τ sig) = V (main_call0_call0_call0_v1 : DevRef τ sig) := by
  refine ⟨?_, ?_, ?_, ?_, ?_⟩ <;> after_reads_simp

theorem draw8_t_v54 (V : Valuation τ sig (Elt F)) : after draw8 V (main_call0_call0_call0_v54 : DevRef τ sig) = Noise.step8_t_v54 (F := F) (V (main_call0_call0_call0_v47 : DevRef τ sig)) (V (main_call0_call0_call0_v53 : DevRef τ sig)) := by
  after_reads_simp
  try simp -implicitDefEqProofs only [TRef.toBuf, TRef.ofBuf, cast_eq]
  rfl
theorem draw8_t_v60 (V : Valuation τ sig (Elt F)) : after draw8 V (main_call0_call0_call0_v60 : DevRef τ sig) = Noise.step8_t_v60 (F := F) (V (main_call0_call0_call0_v47 : DevRef τ sig)) (V (main_call0_call0_call0_v53 : DevRef τ sig)) := by
  after_reads_simp
  try simp only [TRef.ofBuf_toBuf]
  try simp -implicitDefEqProofs only [TRef.toBuf, TRef.ofBuf, cast_eq]
  rfl
theorem draw8_keeps (V : Valuation τ sig (Elt F)) : after draw8 V (main_call0_call0_v1 : DevRef τ sig) = V (main_call0_call0_v1 : DevRef τ sig)
    ∧ after draw8 V (main_call0_call0_v2 : DevRef τ sig) = V (main_call0_call0_v2 : DevRef τ sig)
    ∧ after draw8 V (main_call0_call0_v4 : DevRef τ sig) = V (main_call0_call0_v4 : DevRef τ sig)
    ∧ after draw8 V (main_call0_call0_v6 : DevRef τ sig) = V (main_call0_call0_v6 : DevRef τ sig)
    ∧ after draw8 V (main_call0_call0_call0_v1 : DevRef τ sig) = V (main_call0_call0_call0_v1 : DevRef τ sig) := by
  refine ⟨?_, ?_, ?_, ?_, ?_⟩ <;> after_reads_simp

theorem draw9_t_v61 (V : Valuation τ sig (Elt F)) : after draw9 V (main_call0_call0_call0_v61 : DevRef τ sig) = Noise.step9_t_v61 (F := F) (V (main_call0_call0_call0_v54 : DevRef τ sig)) (V (main_call0_call0_call0_v60 : DevRef τ sig)) := by
  after_reads_simp
  try simp -implicitDefEqProofs only [TRef.toBuf, TRef.ofBuf, cast_eq]
  rfl
theorem draw9_t_v67 (V : Valuation τ sig (Elt F)) : after draw9 V (main_call0_call0_call0_v67 : DevRef τ sig) = Noise.step9_t_v67 (F := F) (V (main_call0_call0_call0_v54 : DevRef τ sig)) (V (main_call0_call0_call0_v60 : DevRef τ sig)) := by
  after_reads_simp
  try simp only [TRef.ofBuf_toBuf]
  try simp -implicitDefEqProofs only [TRef.toBuf, TRef.ofBuf, cast_eq]
  rfl
theorem draw9_keeps (V : Valuation τ sig (Elt F)) : after draw9 V (main_call0_call0_v1 : DevRef τ sig) = V (main_call0_call0_v1 : DevRef τ sig)
    ∧ after draw9 V (main_call0_call0_v2 : DevRef τ sig) = V (main_call0_call0_v2 : DevRef τ sig)
    ∧ after draw9 V (main_call0_call0_v4 : DevRef τ sig) = V (main_call0_call0_v4 : DevRef τ sig)
    ∧ after draw9 V (main_call0_call0_v6 : DevRef τ sig) = V (main_call0_call0_v6 : DevRef τ sig)
    ∧ after draw9 V (main_call0_call0_call0_v1 : DevRef τ sig) = V (main_call0_call0_call0_v1 : DevRef τ sig) := by
  refine ⟨?_, ?_, ?_, ?_, ?_⟩ <;> after_reads_simp

theorem draw10_t_v74 (V : Valuation τ sig (Elt F)) : after draw10 V (main_call0_call0_call0_v74 : DevRef τ sig) = Noise.step10_t_v74 (F := F) (V (main_call0_call0_v4 : DevRef τ sig)) (V (main_call0_call0_call0_v1 : DevRef τ sig)) (V (main_call0_call0_call0_v61 : DevRef τ sig)) (V (main_call0_call0_call0_v67 : DevRef τ sig)) := by
  after_reads_simp
  try simp only [TRef.ofBuf_toBuf]
  try simp -implicitDefEqProofs only [TRef.toBuf, TRef.ofBuf, cast_eq]
  rfl
theorem draw10_t_v80 (V : Valuation τ sig (Elt F)) : after draw10 V (main_call0_call0_call0_v80 : DevRef τ sig) = Noise.step10_t_v80 (F := F) (V (main_call0_call0_v4 : DevRef τ sig)) (V (main_call0_call0_call0_v1 : DevRef τ sig)) (V (main_call0_call0_call0_v61 : DevRef τ sig)) (V (main_call0_call0_call0_v67 : DevRef τ sig)) := by
  after_reads_simp
  try simp only [TRef.ofBuf_toBuf]
  try simp -implicitDefEqProofs only [TRef.toBuf, TRef.ofBuf, cast_eq]
  rfl
theorem draw10_keeps (V : Valuation τ sig (Elt F)) : after draw10 V (main_call0_call0_v1 : DevRef τ sig) = V (main_call0_call0_v1 : DevRef τ sig)
    ∧ after draw10 V (main_call0_call0_v2 : DevRef τ sig) = V (main_call0_call0_v2 : DevRef τ sig)
    ∧ after draw10 V (main_call0_call0_v4 : DevRef τ sig) = V (main_call0_call0_v4 : DevRef τ sig)
    ∧ after draw10 V (main_call0_call0_v6 : DevRef τ sig) = V (main_call0_call0_v6 : DevRef τ sig)
    ∧ after draw10 V (main_call0_call0_call0_v1 : DevRef τ sig) = V (main_call0_call0_call0_v1 : DevRef τ sig) := by
  refine ⟨?_, ?_, ?_, ?_, ?_⟩ <;> after_reads_simp

theorem draw11_t_v81 (V : Valuation τ sig (Elt F)) : after draw11 V (main_call0_call0_call0_v81 : DevRef τ sig) = Noise.step11_t_v81 (F := F) (V (main_call0_call0_call0_v74 : DevRef τ sig)) (V (main_call0_call0_call0_v80 : DevRef τ sig)) := by
  after_reads_simp
  try simp -implicitDefEqProofs only [TRef.toBuf, TRef.ofBuf, cast_eq]
  rfl
theorem draw11_t_v87 (V : Valuation τ sig (Elt F)) : after draw11 V (main_call0_call0_call0_v87 : DevRef τ sig) = Noise.step11_t_v87 (F := F) (V (main_call0_call0_call0_v74 : DevRef τ sig)) (V (main_call0_call0_call0_v80 : DevRef τ sig)) := by
  after_reads_simp
  try simp only [TRef.ofBuf_toBuf]
  try simp -implicitDefEqProofs only [TRef.toBuf, TRef.ofBuf, cast_eq]
  rfl
theorem draw11_keeps (V : Valuation τ sig (Elt F)) : after draw11 V (main_call0_call0_v1 : DevRef τ sig) = V (main_call0_call0_v1 : DevRef τ sig)
    ∧ after draw11 V (main_call0_call0_v2 : DevRef τ sig) = V (main_call0_call0_v2 : DevRef τ sig)
    ∧ after draw11 V (main_call0_call0_v4 : DevRef τ sig) = V (main_call0_call0_v4 : DevRef τ sig)
    ∧ after draw11 V (main_call0_call0_v6 : DevRef τ sig) = V (main_call0_call0_v6 : DevRef τ sig)
    ∧ after draw11 V (main_call0_call0_call0_v1 : DevRef τ sig) = V (main_call0_call0_call0_v1 : DevRef τ sig) := by
  refine ⟨?_, ?_, ?_, ?_, ?_⟩ <;> after_reads_simp

theorem draw12_t_v88 (V : Valuation τ sig (Elt F)) : after draw12 V (main_call0_call0_call0_v88 : DevRef τ sig) = Noise.step12_t_v88 (F := F) (V (main_call0_call0_call0_v81 : DevRef τ sig)) (V (main_call0_call0_call0_v87 : DevRef τ sig)) := by
  after_reads_simp
  try simp -implicitDefEqProofs only [TRef.toBuf, TRef.ofBuf, cast_eq]
  rfl
theorem draw12_t_v94 (V : Valuation τ sig (Elt F)) : after draw12 V (main_call0_call0_call0_v94 : DevRef τ sig) = Noise.step12_t_v94 (F := F) (V (main_call0_call0_call0_v81 : DevRef τ sig)) (V (main_call0_call0_call0_v87 : DevRef τ sig)) := by
  after_reads_simp
  try simp only [TRef.ofBuf_toBuf]
  try simp -implicitDefEqProofs only [TRef.toBuf, TRef.ofBuf, cast_eq]
  rfl
theorem draw12_keeps (V : Valuation τ sig (Elt F)) : after draw12 V (main_call0_call0_v1 : DevRef τ sig) = V (main_call0_call0_v1 : DevRef τ sig)
    ∧ after draw12 V (main_call0_call0_v2 : DevRef τ sig) = V (main_call0_call0_v2 : DevRef τ sig)
    ∧ after draw12 V (main_call0_call0_v4 : DevRef τ sig) = V (main_call0_call0_v4 : DevRef τ sig)
    ∧ after draw12 V (main_call0_call0_v6 : DevRef τ sig) = V (main_call0_call0_v6 : DevRef τ sig)
    ∧ after draw12 V (main_call0_call0_call0_v1 : DevRef τ sig) = V (main_call0_call0_call0_v1 : DevRef τ sig) := by
  refine ⟨?_, ?_, ?_, ?_, ?_⟩ <;> after_reads_simp

theorem draw13_t_v95 (V : Valuation τ sig (Elt F)) : after draw13 V (main_call0_call0_call0_v95 : DevRef τ sig) = Noise.step13_t_v95 (F := F) (V (main_call0_call0_call0_v88 : DevRef τ sig)) (V (main_call0_call0_call0_v94 : DevRef τ sig)) := by
  after_reads_simp
  try simp -implicitDefEqProofs only [TRef.toBuf, TRef.ofBuf, cast_eq]
  rfl
theorem draw13_t_v101 (V : Valuation τ sig (Elt F)) : after draw13 V (main_call0_call0_call0_v101 : DevRef τ sig) = Noise.step13_t_v101 (F := F) (V (main_call0_call0_call0_v88 : DevRef τ sig)) (V (main_call0_call0_call0_v94 : DevRef τ sig)) := by
  after_reads_simp
  try simp only [TRef.ofBuf_toBuf]
  try simp -implicitDefEqProofs only [TRef.toBuf, TRef.ofBuf, cast_eq]
  rfl
theorem draw13_keeps (V : Valuation τ sig (Elt F)) : after draw13 V (main_call0_call0_v1 : DevRef τ sig) = V (main_call0_call0_v1 : DevRef τ sig)
    ∧ after draw13 V (main_call0_call0_v2 : DevRef τ sig) = V (main_call0_call0_v2 : DevRef τ sig)
    ∧ after draw13 V (main_call0_call0_v4 : DevRef τ sig) = V (main_call0_call0_v4 : DevRef τ sig)
    ∧ after draw13 V (main_call0_call0_v6 : DevRef τ sig) = V (main_call0_call0_v6 : DevRef τ sig)
    ∧ after draw13 V (main_call0_call0_call0_v1 : DevRef τ sig) = V (main_call0_call0_call0_v1 : DevRef τ sig) := by
  refine ⟨?_, ?_, ?_, ?_, ?_⟩ <;> after_reads_simp

theorem draw14_t_v108 (V : Valuation τ sig (Elt F)) : after draw14 V (main_call0_call0_call0_v108 : DevRef τ sig) = Noise.step14_t_v108 (F := F) (V (main_call0_call0_v4 : DevRef τ sig)) (V (main_call0_call0_v6 : DevRef τ sig)) (V (main_call0_call0_call0_v95 : DevRef τ sig)) (V (main_call0_call0_call0_v101 : DevRef τ sig)) := by
  after_reads_simp
  try simp only [TRef.ofBuf_toBuf]
  try simp -implicitDefEqProofs only [TRef.toBuf, TRef.ofBuf, cast_eq]
  rfl
theorem draw14_t_v114 (V : Valuation τ sig (Elt F)) : after draw14 V (main_call0_call0_call0_v114 : DevRef τ sig) = Noise.step14_t_v114 (F := F) (V (main_call0_call0_v4 : DevRef τ sig)) (V (main_call0_call0_v6 : DevRef τ sig)) (V (main_call0_call0_call0_v95 : DevRef τ sig)) (V (main_call0_call0_call0_v101 : DevRef τ sig)) := by
  after_reads_simp
  try simp only [TRef.ofBuf_toBuf]
  try simp -implicitDefEqProofs only [TRef.toBuf, TRef.ofBuf, cast_eq]
  rfl
theorem draw14_keeps (V : Valuation τ sig (Elt F)) : after draw14 V (main_call0_call0_v1 : DevRef τ sig) = V (main_call0_call0_v1 : DevRef τ sig)
    ∧ after draw14 V (main_call0_call0_v2 : DevRef τ sig) = V (main_call0_call0_v2 : DevRef τ sig)
    ∧ after draw14 V (main_call0_call0_v4 : DevRef τ sig) = V (main_call0_call0_v4 : DevRef τ sig)
    ∧ after draw14 V (main_call0_call0_v6 : DevRef τ sig) = V (main_call0_call0_v6 : DevRef τ sig)
    ∧ after draw14 V (main_call0_call0_call0_v1 : DevRef τ sig) = V (main_call0_call0_call0_v1 : DevRef τ sig) := by
  refine ⟨?_, ?_, ?_, ?_, ?_⟩ <;> after_reads_simp

theorem draw15_t_v115 (V : Valuation τ sig (Elt F)) : after draw15 V (main_call0_call0_call0_v115 : DevRef τ sig) = Noise.step15_t_v115 (F := F) (V (main_call0_call0_call0_v108 : DevRef τ sig)) (V (main_call0_call0_call0_v114 : DevRef τ sig)) := by
  after_reads_simp
  try simp -implicitDefEqProofs only [TRef.toBuf, TRef.ofBuf, cast_eq]
  rfl
theorem draw15_t_v121 (V : Valuation τ sig (Elt F)) : after draw15 V (main_call0_call0_call0_v121 : DevRef τ sig) = Noise.step15_t_v121 (F := F) (V (main_call0_call0_call0_v108 : DevRef τ sig)) (V (main_call0_call0_call0_v114 : DevRef τ sig)) := by
  after_reads_simp
  try simp only [TRef.ofBuf_toBuf]
  try simp -implicitDefEqProofs only [TRef.toBuf, TRef.ofBuf, cast_eq]
  rfl
theorem draw15_keeps (V : Valuation τ sig (Elt F)) : after draw15 V (main_call0_call0_v1 : DevRef τ sig) = V (main_call0_call0_v1 : DevRef τ sig)
    ∧ after draw15 V (main_call0_call0_v2 : DevRef τ sig) = V (main_call0_call0_v2 : DevRef τ sig)
    ∧ after draw15 V (main_call0_call0_v4 : DevRef τ sig) = V (main_call0_call0_v4 : DevRef τ sig)
    ∧ after draw15 V (main_call0_call0_v6 : DevRef τ sig) = V (main_call0_call0_v6 : DevRef τ sig)
    ∧ after draw15 V (main_call0_call0_call0_v1 : DevRef τ sig) = V (main_call0_call0_call0_v1 : DevRef τ sig) := by
  refine ⟨?_, ?_, ?_, ?_, ?_⟩ <;> after_reads_simp

theorem draw16_t_v122 (V : Valuation τ sig (Elt F)) : after draw16 V (main_call0_call0_call0_v122 : DevRef τ sig) = Noise.step16_t_v122 (F := F) (V (main_call0_call0_call0_v115 : DevRef τ sig)) (V (main_call0_call0_call0_v121 : DevRef τ sig)) := by
  after_reads_simp
  try simp -implicitDefEqProofs only [TRef.toBuf, TRef.ofBuf, cast_eq]
  rfl
theorem draw16_t_v128 (V : Valuation τ sig (Elt F)) : after draw16 V (main_call0_call0_call0_v128 : DevRef τ sig) = Noise.step16_t_v128 (F := F) (V (main_call0_call0_call0_v115 : DevRef τ sig)) (V (main_call0_call0_call0_v121 : DevRef τ sig)) := by
  after_reads_simp
  try simp only [TRef.ofBuf_toBuf]
  try simp -implicitDefEqProofs only [TRef.toBuf, TRef.ofBuf, cast_eq]
  rfl
theorem draw16_keeps (V : Valuation τ sig (Elt F)) : after draw16 V (main_call0_call0_v1 : DevRef τ sig) = V (main_call0_call0_v1 : DevRef τ sig)
    ∧ after draw16 V (main_call0_call0_v2 : DevRef τ sig) = V (main_call0_call0_v2 : DevRef τ sig)
    ∧ after draw16 V (main_call0_call0_v4 : DevRef τ sig) = V (main_call0_call0_v4 : DevRef τ sig)
    ∧ after draw16 V (main_call0_call0_v6 : DevRef τ sig) = V (main_call0_call0_v6 : DevRef τ sig)
    ∧ after draw16 V (main_call0_call0_call0_v1 : DevRef τ sig) = V (main_call0_call0_call0_v1 : DevRef τ sig) := by
  refine ⟨?_, ?_, ?_, ?_, ?_⟩ <;> after_reads_simp

theorem draw17_t_v129 (V : Valuation τ sig (Elt F)) : after draw17 V (main_call0_call0_call0_v129 : DevRef τ sig) = Noise.step17_t_v129 (F := F) (V (main_call0_call0_call0_v122 : DevRef τ sig)) (V (main_call0_call0_call0_v128 : DevRef τ sig)) := by
  after_reads_simp
  try simp -implicitDefEqProofs only [TRef.toBuf, TRef.ofBuf, cast_eq]
  rfl
theorem draw17_t_v135 (V : Valuation τ sig (Elt F)) : after draw17 V (main_call0_call0_call0_v135 : DevRef τ sig) = Noise.step17_t_v135 (F := F) (V (main_call0_call0_call0_v122 : DevRef τ sig)) (V (main_call0_call0_call0_v128 : DevRef τ sig)) := by
  after_reads_simp
  try simp only [TRef.ofBuf_toBuf]
  try simp -implicitDefEqProofs only [TRef.toBuf, TRef.ofBuf, cast_eq]
  rfl
theorem draw17_keeps (V : Valuation τ sig (Elt F)) : after draw17 V (main_call0_call0_v1 : DevRef τ sig) = V (main_call0_call0_v1 : DevRef τ sig)
    ∧ after draw17 V (main_call0_call0_v2 : DevRef τ sig) = V (main_call0_call0_v2 : DevRef τ sig)
    ∧ after draw17 V (main_call0_call0_v4 : DevRef τ sig) = V (main_call0_call0_v4 : DevRef τ sig)
    ∧ after draw17 V (main_call0_call0_v6 : DevRef τ sig) = V (main_call0_call0_v6 : DevRef τ sig)
    ∧ after draw17 V (main_call0_call0_call0_v1 : DevRef τ sig) = V (main_call0_call0_call0_v1 : DevRef τ sig) := by
  refine ⟨?_, ?_, ?_, ?_, ?_⟩ <;> after_reads_simp

theorem draw18_t_v142 (V : Valuation τ sig (Elt F)) : after draw18 V (main_call0_call0_call0_v142 : DevRef τ sig) = Noise.step18_t_v142 (F := F) (V (main_call0_call0_v6 : DevRef τ sig)) (V (main_call0_call0_call0_v1 : DevRef τ sig)) (V (main_call0_call0_call0_v129 : DevRef τ sig)) (V (main_call0_call0_call0_v135 : DevRef τ sig)) := by
  after_reads_simp
  try simp only [TRef.ofBuf_toBuf]
  try simp -implicitDefEqProofs only [TRef.toBuf, TRef.ofBuf, cast_eq]
  rfl
theorem draw18_t_v148 (V : Valuation τ sig (Elt F)) : after draw18 V (main_call0_call0_call0_v148 : DevRef τ sig) = Noise.step18_t_v148 (F := F) (V (main_call0_call0_v6 : DevRef τ sig)) (V (main_call0_call0_call0_v1 : DevRef τ sig)) (V (main_call0_call0_call0_v129 : DevRef τ sig)) (V (main_call0_call0_call0_v135 : DevRef τ sig)) := by
  after_reads_simp
  try simp only [TRef.ofBuf_toBuf]
  try simp -implicitDefEqProofs only [TRef.toBuf, TRef.ofBuf, cast_eq]
  rfl
theorem draw18_keeps (V : Valuation τ sig (Elt F)) : after draw18 V (main_call0_call0_v1 : DevRef τ sig) = V (main_call0_call0_v1 : DevRef τ sig)
    ∧ after draw18 V (main_call0_call0_v2 : DevRef τ sig) = V (main_call0_call0_v2 : DevRef τ sig)
    ∧ after draw18 V (main_call0_call0_v4 : DevRef τ sig) = V (main_call0_call0_v4 : DevRef τ sig)
    ∧ after draw18 V (main_call0_call0_call0_v1 : DevRef τ sig) = V (main_call0_call0_call0_v1 : DevRef τ sig) := by
  refine ⟨?_, ?_, ?_, ?_⟩ <;> after_reads_simp

theorem draw19_t_v149 (V : Valuation τ sig (Elt F)) : after draw19 V (main_call0_call0_call0_v149 : DevRef τ sig) = Noise.step19_t_v149 (F := F) (V (main_call0_call0_call0_v142 : DevRef τ sig)) (V (main_call0_call0_call0_v148 : DevRef τ sig)) := by
  after_reads_simp
  try simp -implicitDefEqProofs only [TRef.toBuf, TRef.ofBuf, cast_eq]
  rfl
theorem draw19_t_v155 (V : Valuation τ sig (Elt F)) : after draw19 V (main_call0_call0_call0_v155 : DevRef τ sig) = Noise.step19_t_v155 (F := F) (V (main_call0_call0_call0_v142 : DevRef τ sig)) (V (main_call0_call0_call0_v148 : DevRef τ sig)) := by
  after_reads_simp
  try simp only [TRef.ofBuf_toBuf]
  try simp -implicitDefEqProofs only [TRef.toBuf, TRef.ofBuf, cast_eq]
  rfl
theorem draw19_keeps (V : Valuation τ sig (Elt F)) : after draw19 V (main_call0_call0_v1 : DevRef τ sig) = V (main_call0_call0_v1 : DevRef τ sig)
    ∧ after draw19 V (main_call0_call0_v2 : DevRef τ sig) = V (main_call0_call0_v2 : DevRef τ sig)
    ∧ after draw19 V (main_call0_call0_v4 : DevRef τ sig) = V (main_call0_call0_v4 : DevRef τ sig)
    ∧ after draw19 V (main_call0_call0_call0_v1 : DevRef τ sig) = V (main_call0_call0_call0_v1 : DevRef τ sig) := by
  refine ⟨?_, ?_, ?_, ?_⟩ <;> after_reads_simp

theorem draw20_t_v156 (V : Valuation τ sig (Elt F)) : after draw20 V (main_call0_call0_call0_v156 : DevRef τ sig) = Noise.step20_t_v156 (F := F) (V (main_call0_call0_call0_v149 : DevRef τ sig)) (V (main_call0_call0_call0_v155 : DevRef τ sig)) := by
  after_reads_simp
  try simp -implicitDefEqProofs only [TRef.toBuf, TRef.ofBuf, cast_eq]
  rfl
theorem draw20_t_v162 (V : Valuation τ sig (Elt F)) : after draw20 V (main_call0_call0_call0_v162 : DevRef τ sig) = Noise.step20_t_v162 (F := F) (V (main_call0_call0_call0_v149 : DevRef τ sig)) (V (main_call0_call0_call0_v155 : DevRef τ sig)) := by
  after_reads_simp
  try simp only [TRef.ofBuf_toBuf]
  try simp -implicitDefEqProofs only [TRef.toBuf, TRef.ofBuf, cast_eq]
  rfl
theorem draw20_keeps (V : Valuation τ sig (Elt F)) : after draw20 V (main_call0_call0_v1 : DevRef τ sig) = V (main_call0_call0_v1 : DevRef τ sig)
    ∧ after draw20 V (main_call0_call0_v2 : DevRef τ sig) = V (main_call0_call0_v2 : DevRef τ sig)
    ∧ after draw20 V (main_call0_call0_v4 : DevRef τ sig) = V (main_call0_call0_v4 : DevRef τ sig)
    ∧ after draw20 V (main_call0_call0_call0_v1 : DevRef τ sig) = V (main_call0_call0_call0_v1 : DevRef τ sig) := by
  refine ⟨?_, ?_, ?_, ?_⟩ <;> after_reads_simp

theorem draw21_t_v163 (V : Valuation τ sig (Elt F)) : after draw21 V (main_call0_call0_call0_v163 : DevRef τ sig) = Noise.step21_t_v163 (F := F) (V (main_call0_call0_call0_v156 : DevRef τ sig)) (V (main_call0_call0_call0_v162 : DevRef τ sig)) := by
  after_reads_simp
  try simp -implicitDefEqProofs only [TRef.toBuf, TRef.ofBuf, cast_eq]
  rfl
theorem draw21_t_v169 (V : Valuation τ sig (Elt F)) : after draw21 V (main_call0_call0_call0_v169 : DevRef τ sig) = Noise.step21_t_v169 (F := F) (V (main_call0_call0_call0_v156 : DevRef τ sig)) (V (main_call0_call0_call0_v162 : DevRef τ sig)) := by
  after_reads_simp
  try simp only [TRef.ofBuf_toBuf]
  try simp -implicitDefEqProofs only [TRef.toBuf, TRef.ofBuf, cast_eq]
  rfl
theorem draw21_keeps (V : Valuation τ sig (Elt F)) : after draw21 V (main_call0_call0_v1 : DevRef τ sig) = V (main_call0_call0_v1 : DevRef τ sig)
    ∧ after draw21 V (main_call0_call0_v2 : DevRef τ sig) = V (main_call0_call0_v2 : DevRef τ sig)
    ∧ after draw21 V (main_call0_call0_v4 : DevRef τ sig) = V (main_call0_call0_v4 : DevRef τ sig)
    ∧ after draw21 V (main_call0_call0_call0_v1 : DevRef τ sig) = V (main_call0_call0_call0_v1 : DevRef τ sig) := by
  refine ⟨?_, ?_, ?_, ?_⟩ <;> after_reads_simp

theorem draw22_v_v18_0 (V : Valuation τ sig (Elt F)) : after draw22 V (main_call0_call0_v18_0 : DevRef τ sig) = Noise.step22_v_v18_0 (F := F) (V (main_call0_call0_call0_v1 : DevRef τ sig)) (V (main_call0_call0_call0_v163 : DevRef τ sig)) := by
  after_reads_simp
  try simp only [TRef.ofBuf_toBuf]
  try simp -implicitDefEqProofs only [TRef.toBuf, TRef.ofBuf, cast_eq]
  rfl
theorem draw22_v_v18_1 (V : Valuation τ sig (Elt F)) : after draw22 V (main_call0_call0_v18_1 : DevRef τ sig) = Noise.step22_v_v18_1 (F := F) (V (main_call0_call0_v4 : DevRef τ sig)) (V (main_call0_call0_call0_v169 : DevRef τ sig)) := by
  after_reads_simp
  try simp only [TRef.ofBuf_toBuf]
  try simp -implicitDefEqProofs only [TRef.toBuf, TRef.ofBuf, cast_eq]
  rfl
theorem draw22_keeps (V : Valuation τ sig (Elt F)) : after draw22 V (main_call0_call0_v1 : DevRef τ sig) = V (main_call0_call0_v1 : DevRef τ sig)
    ∧ after draw22 V (main_call0_call0_v2 : DevRef τ sig) = V (main_call0_call0_v2 : DevRef τ sig) := by
  refine ⟨?_, ?_⟩ <;> after_reads_simp

theorem draw23_v_v24 (V : Valuation τ sig (Elt F)) : after draw23 V (main_call0_call0_v24 : DevRef τ sig) = Noise.step23_v_v24 (F := F) (V (main_call0_call0_v18_0 : DevRef τ sig)) (V (main_call0_call0_v18_1 : DevRef τ sig)) := by
  after_reads_simp
  try simp only [TRef.ofBuf_toBuf]
  try simp -implicitDefEqProofs only [TRef.toBuf, TRef.ofBuf, cast_eq]
  rfl
theorem draw23_keeps (V : Valuation τ sig (Elt F)) : after draw23 V (main_call0_call0_v1 : DevRef τ sig) = V (main_call0_call0_v1 : DevRef τ sig)
    ∧ after draw23 V (main_call0_call0_v2 : DevRef τ sig) = V (main_call0_call0_v2 : DevRef τ sig) := by
  refine ⟨?_, ?_⟩ <;> after_reads_simp

theorem draw24_m_v7 (V : Valuation τ sig (Elt F)) : after draw24 V (main_v7 : DevRef τ sig) = Noise.step24_m_v7 (F := F) (V (main_call0_call0_v1 : DevRef τ sig)) (V (main_call0_call0_v2 : DevRef τ sig)) (V (main_call0_call0_v24 : DevRef τ sig)) := by
  after_reads_simp
  try simp only [TRef.ofBuf_toBuf]
  try simp -implicitDefEqProofs only [TRef.toBuf, TRef.ofBuf, cast_eq]
  rfl

/-! ## The whole draw -/

private theorem after_all (a0 a1 a2 a3 a4 a5 a6 a7 a8 a9 a10 a11 a12 a13 a14 a15 a16 a17 a18 a19 a20 a21 a22 a23 a24 : List (HloOp τ sig (Elt F))) (V : Valuation τ sig (Elt F)) :
    after (a0 ++ a1 ++ a2 ++ a3 ++ a4 ++ a5 ++ a6 ++ a7 ++ a8 ++ a9 ++ a10 ++ a11 ++ a12 ++ a13 ++ a14 ++ a15 ++ a16 ++ a17 ++ a18 ++ a19 ++ a20 ++ a21 ++ a22 ++ a23 ++ a24) V
      = after a24 (after a23 (after a22 (after a21 (after a20 (after a19 (after a18 (after a17 (after a16 (after a15 (after a14 (after a13 (after a12 (after a11 (after a10 (after a9 (after a8 (after a7 (after a6 (after a5 (after a4 (after a3 (after a2 (after a1 (after a0 V)))))))))))))))))))))))) := by
  simp only [after_append]

/-- The whole draw. -/
abbrev draws : List (HloOp τ sig (Elt F)) :=
  draw0 ++ draw1 ++ draw2 ++ draw3 ++ draw4 ++ draw5 ++ draw6 ++ draw7 ++ draw8 ++ draw9 ++ draw10 ++ draw11 ++ draw12 ++ draw13 ++ draw14 ++ draw15 ++ draw16 ++ draw17 ++ draw18 ++ draw19 ++ draw20 ++ draw21 ++ draw22 ++ draw23 ++ draw24

set_option maxHeartbeats 4000000 in
/-- The draw leaves the noise table. -/
theorem after_draws (V : Valuation τ sig (Elt F)) :
    after draws V (main_v7 : DevRef τ sig) = Noise.val_m_v7 F := by
  have hsplit : ∀ b, after draws V b = (after draw24 (after draw23 (after draw22 (after draw21 (after draw20 (after draw19 (after draw18 (after draw17 (after draw16 (after draw15 (after draw14 (after draw13 (after draw12 (after draw11 (after draw10 (after draw9 (after draw8 (after draw7 (after draw6 (after draw5 (after draw4 (after draw3 (after draw2 (after draw1 (after draw0 V))))))))))))))))))))))))) b := congrFun (after_all ..)
  simp only [hsplit]
  clear hsplit
  have p0_m_v6 := draw0_m_v6 V
  generalize after draw0 V = V1 at *
  have e1_m_v6 : V1 (main_v6 : DevRef τ sig) = Noise.val_m_v6 F := by rw [p0_m_v6]; rfl
  have p1_v_v1 := draw1_v_v1 V1
  have p1_v_v2 := draw1_v_v2 V1
  have p1_v_v4 := draw1_v_v4 V1
  have p1_v_v6 := draw1_v_v6 V1
  have p1_v_v16 := draw1_v_v16 V1
  have p1_v_v17 := draw1_v_v17 V1
  generalize after draw1 V1 = V2 at *
  have e2_v_v1 : V2 (main_call0_call0_v1 : DevRef τ sig) = Noise.val_v_v1 F := by rw [p1_v_v1]; rfl
  have e2_v_v2 : V2 (main_call0_call0_v2 : DevRef τ sig) = Noise.val_v_v2 F := by rw [p1_v_v2]; rfl
  have e2_v_v4 : V2 (main_call0_call0_v4 : DevRef τ sig) = Noise.val_v_v4 F := by rw [p1_v_v4, e1_m_v6]; rfl
  have e2_v_v6 : V2 (main_call0_call0_v6 : DevRef τ sig) = Noise.val_v_v6 F := by rw [p1_v_v6, e1_m_v6]; rfl
  have e2_v_v16 : V2 (main_call0_call0_v16 : DevRef τ sig) = Noise.val_v_v16 F := by rw [p1_v_v16]; rfl
  have e2_v_v17 : V2 (main_call0_call0_v17 : DevRef τ sig) = Noise.val_v_v17 F := by rw [p1_v_v17]; rfl
  have p2_t_v1 := draw2_t_v1 V2
  have p2_t_v6 := draw2_t_v6 V2
  have p2_t_v12 := draw2_t_v12 V2
  obtain ⟨q2_v_v1, q2_v_v2, q2_v_v4, q2_v_v6⟩ := draw2_keeps V2
  generalize after draw2 V2 = V3 at *
  have e3_t_v1 : V3 (main_call0_call0_call0_v1 : DevRef τ sig) = Noise.val_t_v1 F := by rw [p2_t_v1, e2_v_v4, e2_v_v6]; rfl
  have e3_t_v6 : V3 (main_call0_call0_call0_v6 : DevRef τ sig) = Noise.val_t_v6 F := by rw [p2_t_v6, e2_v_v4, e2_v_v6, e2_v_v16, e2_v_v17]; rfl
  have e3_t_v12 : V3 (main_call0_call0_call0_v12 : DevRef τ sig) = Noise.val_t_v12 F := by rw [p2_t_v12, e2_v_v4, e2_v_v6, e2_v_v16, e2_v_v17]; rfl
  have e3_v_v1 : V3 (main_call0_call0_v1 : DevRef τ sig) = Noise.val_v_v1 F := q2_v_v1.trans e2_v_v1
  have e3_v_v2 : V3 (main_call0_call0_v2 : DevRef τ sig) = Noise.val_v_v2 F := q2_v_v2.trans e2_v_v2
  have e3_v_v4 : V3 (main_call0_call0_v4 : DevRef τ sig) = Noise.val_v_v4 F := q2_v_v4.trans e2_v_v4
  have e3_v_v6 : V3 (main_call0_call0_v6 : DevRef τ sig) = Noise.val_v_v6 F := q2_v_v6.trans e2_v_v6
  have p3_t_v13 := draw3_t_v13 V3
  have p3_t_v19 := draw3_t_v19 V3
  obtain ⟨q3_v_v1, q3_v_v2, q3_v_v4, q3_v_v6, q3_t_v1⟩ := draw3_keeps V3
  generalize after draw3 V3 = V4 at *
  have e4_t_v13 : V4 (main_call0_call0_call0_v13 : DevRef τ sig) = Noise.val_t_v13 F := by rw [p3_t_v13, e3_t_v6, e3_t_v12]; rfl
  have e4_t_v19 : V4 (main_call0_call0_call0_v19 : DevRef τ sig) = Noise.val_t_v19 F := by rw [p3_t_v19, e3_t_v6, e3_t_v12]; rfl
  have e4_v_v1 : V4 (main_call0_call0_v1 : DevRef τ sig) = Noise.val_v_v1 F := q3_v_v1.trans e3_v_v1
  have e4_v_v2 : V4 (main_call0_call0_v2 : DevRef τ sig) = Noise.val_v_v2 F := q3_v_v2.trans e3_v_v2
  have e4_v_v4 : V4 (main_call0_call0_v4 : DevRef τ sig) = Noise.val_v_v4 F := q3_v_v4.trans e3_v_v4
  have e4_v_v6 : V4 (main_call0_call0_v6 : DevRef τ sig) = Noise.val_v_v6 F := q3_v_v6.trans e3_v_v6
  have e4_t_v1 : V4 (main_call0_call0_call0_v1 : DevRef τ sig) = Noise.val_t_v1 F := q3_t_v1.trans e3_t_v1
  have p4_t_v20 := draw4_t_v20 V4
  have p4_t_v26 := draw4_t_v26 V4
  obtain ⟨q4_v_v1, q4_v_v2, q4_v_v4, q4_v_v6, q4_t_v1⟩ := draw4_keeps V4
  generalize after draw4 V4 = V5 at *
  have e5_t_v20 : V5 (main_call0_call0_call0_v20 : DevRef τ sig) = Noise.val_t_v20 F := by rw [p4_t_v20, e4_t_v13, e4_t_v19]; rfl
  have e5_t_v26 : V5 (main_call0_call0_call0_v26 : DevRef τ sig) = Noise.val_t_v26 F := by rw [p4_t_v26, e4_t_v13, e4_t_v19]; rfl
  have e5_v_v1 : V5 (main_call0_call0_v1 : DevRef τ sig) = Noise.val_v_v1 F := q4_v_v1.trans e4_v_v1
  have e5_v_v2 : V5 (main_call0_call0_v2 : DevRef τ sig) = Noise.val_v_v2 F := q4_v_v2.trans e4_v_v2
  have e5_v_v4 : V5 (main_call0_call0_v4 : DevRef τ sig) = Noise.val_v_v4 F := q4_v_v4.trans e4_v_v4
  have e5_v_v6 : V5 (main_call0_call0_v6 : DevRef τ sig) = Noise.val_v_v6 F := q4_v_v6.trans e4_v_v6
  have e5_t_v1 : V5 (main_call0_call0_call0_v1 : DevRef τ sig) = Noise.val_t_v1 F := q4_t_v1.trans e4_t_v1
  have p5_t_v27 := draw5_t_v27 V5
  have p5_t_v33 := draw5_t_v33 V5
  obtain ⟨q5_v_v1, q5_v_v2, q5_v_v4, q5_v_v6, q5_t_v1⟩ := draw5_keeps V5
  generalize after draw5 V5 = V6 at *
  have e6_t_v27 : V6 (main_call0_call0_call0_v27 : DevRef τ sig) = Noise.val_t_v27 F := by rw [p5_t_v27, e5_t_v20, e5_t_v26]; rfl
  have e6_t_v33 : V6 (main_call0_call0_call0_v33 : DevRef τ sig) = Noise.val_t_v33 F := by rw [p5_t_v33, e5_t_v20, e5_t_v26]; rfl
  have e6_v_v1 : V6 (main_call0_call0_v1 : DevRef τ sig) = Noise.val_v_v1 F := q5_v_v1.trans e5_v_v1
  have e6_v_v2 : V6 (main_call0_call0_v2 : DevRef τ sig) = Noise.val_v_v2 F := q5_v_v2.trans e5_v_v2
  have e6_v_v4 : V6 (main_call0_call0_v4 : DevRef τ sig) = Noise.val_v_v4 F := q5_v_v4.trans e5_v_v4
  have e6_v_v6 : V6 (main_call0_call0_v6 : DevRef τ sig) = Noise.val_v_v6 F := q5_v_v6.trans e5_v_v6
  have e6_t_v1 : V6 (main_call0_call0_call0_v1 : DevRef τ sig) = Noise.val_t_v1 F := q5_t_v1.trans e5_t_v1
  have p6_t_v40 := draw6_t_v40 V6
  have p6_t_v46 := draw6_t_v46 V6
  obtain ⟨q6_v_v1, q6_v_v2, q6_v_v4, q6_v_v6, q6_t_v1⟩ := draw6_keeps V6
  generalize after draw6 V6 = V7 at *
  have e7_t_v40 : V7 (main_call0_call0_call0_v40 : DevRef τ sig) = Noise.val_t_v40 F := by rw [p6_t_v40, e6_v_v6, e6_t_v1, e6_t_v27, e6_t_v33]; rfl
  have e7_t_v46 : V7 (main_call0_call0_call0_v46 : DevRef τ sig) = Noise.val_t_v46 F := by rw [p6_t_v46, e6_v_v6, e6_t_v1, e6_t_v27, e6_t_v33]; rfl
  have e7_v_v1 : V7 (main_call0_call0_v1 : DevRef τ sig) = Noise.val_v_v1 F := q6_v_v1.trans e6_v_v1
  have e7_v_v2 : V7 (main_call0_call0_v2 : DevRef τ sig) = Noise.val_v_v2 F := q6_v_v2.trans e6_v_v2
  have e7_v_v4 : V7 (main_call0_call0_v4 : DevRef τ sig) = Noise.val_v_v4 F := q6_v_v4.trans e6_v_v4
  have e7_v_v6 : V7 (main_call0_call0_v6 : DevRef τ sig) = Noise.val_v_v6 F := q6_v_v6.trans e6_v_v6
  have e7_t_v1 : V7 (main_call0_call0_call0_v1 : DevRef τ sig) = Noise.val_t_v1 F := q6_t_v1.trans e6_t_v1
  have p7_t_v47 := draw7_t_v47 V7
  have p7_t_v53 := draw7_t_v53 V7
  obtain ⟨q7_v_v1, q7_v_v2, q7_v_v4, q7_v_v6, q7_t_v1⟩ := draw7_keeps V7
  generalize after draw7 V7 = V8 at *
  have e8_t_v47 : V8 (main_call0_call0_call0_v47 : DevRef τ sig) = Noise.val_t_v47 F := by rw [p7_t_v47, e7_t_v40, e7_t_v46]; rfl
  have e8_t_v53 : V8 (main_call0_call0_call0_v53 : DevRef τ sig) = Noise.val_t_v53 F := by rw [p7_t_v53, e7_t_v40, e7_t_v46]; rfl
  have e8_v_v1 : V8 (main_call0_call0_v1 : DevRef τ sig) = Noise.val_v_v1 F := q7_v_v1.trans e7_v_v1
  have e8_v_v2 : V8 (main_call0_call0_v2 : DevRef τ sig) = Noise.val_v_v2 F := q7_v_v2.trans e7_v_v2
  have e8_v_v4 : V8 (main_call0_call0_v4 : DevRef τ sig) = Noise.val_v_v4 F := q7_v_v4.trans e7_v_v4
  have e8_v_v6 : V8 (main_call0_call0_v6 : DevRef τ sig) = Noise.val_v_v6 F := q7_v_v6.trans e7_v_v6
  have e8_t_v1 : V8 (main_call0_call0_call0_v1 : DevRef τ sig) = Noise.val_t_v1 F := q7_t_v1.trans e7_t_v1
  have p8_t_v54 := draw8_t_v54 V8
  have p8_t_v60 := draw8_t_v60 V8
  obtain ⟨q8_v_v1, q8_v_v2, q8_v_v4, q8_v_v6, q8_t_v1⟩ := draw8_keeps V8
  generalize after draw8 V8 = V9 at *
  have e9_t_v54 : V9 (main_call0_call0_call0_v54 : DevRef τ sig) = Noise.val_t_v54 F := by rw [p8_t_v54, e8_t_v47, e8_t_v53]; rfl
  have e9_t_v60 : V9 (main_call0_call0_call0_v60 : DevRef τ sig) = Noise.val_t_v60 F := by rw [p8_t_v60, e8_t_v47, e8_t_v53]; rfl
  have e9_v_v1 : V9 (main_call0_call0_v1 : DevRef τ sig) = Noise.val_v_v1 F := q8_v_v1.trans e8_v_v1
  have e9_v_v2 : V9 (main_call0_call0_v2 : DevRef τ sig) = Noise.val_v_v2 F := q8_v_v2.trans e8_v_v2
  have e9_v_v4 : V9 (main_call0_call0_v4 : DevRef τ sig) = Noise.val_v_v4 F := q8_v_v4.trans e8_v_v4
  have e9_v_v6 : V9 (main_call0_call0_v6 : DevRef τ sig) = Noise.val_v_v6 F := q8_v_v6.trans e8_v_v6
  have e9_t_v1 : V9 (main_call0_call0_call0_v1 : DevRef τ sig) = Noise.val_t_v1 F := q8_t_v1.trans e8_t_v1
  have p9_t_v61 := draw9_t_v61 V9
  have p9_t_v67 := draw9_t_v67 V9
  obtain ⟨q9_v_v1, q9_v_v2, q9_v_v4, q9_v_v6, q9_t_v1⟩ := draw9_keeps V9
  generalize after draw9 V9 = V10 at *
  have e10_t_v61 : V10 (main_call0_call0_call0_v61 : DevRef τ sig) = Noise.val_t_v61 F := by rw [p9_t_v61, e9_t_v54, e9_t_v60]; rfl
  have e10_t_v67 : V10 (main_call0_call0_call0_v67 : DevRef τ sig) = Noise.val_t_v67 F := by rw [p9_t_v67, e9_t_v54, e9_t_v60]; rfl
  have e10_v_v1 : V10 (main_call0_call0_v1 : DevRef τ sig) = Noise.val_v_v1 F := q9_v_v1.trans e9_v_v1
  have e10_v_v2 : V10 (main_call0_call0_v2 : DevRef τ sig) = Noise.val_v_v2 F := q9_v_v2.trans e9_v_v2
  have e10_v_v4 : V10 (main_call0_call0_v4 : DevRef τ sig) = Noise.val_v_v4 F := q9_v_v4.trans e9_v_v4
  have e10_v_v6 : V10 (main_call0_call0_v6 : DevRef τ sig) = Noise.val_v_v6 F := q9_v_v6.trans e9_v_v6
  have e10_t_v1 : V10 (main_call0_call0_call0_v1 : DevRef τ sig) = Noise.val_t_v1 F := q9_t_v1.trans e9_t_v1
  have p10_t_v74 := draw10_t_v74 V10
  have p10_t_v80 := draw10_t_v80 V10
  obtain ⟨q10_v_v1, q10_v_v2, q10_v_v4, q10_v_v6, q10_t_v1⟩ := draw10_keeps V10
  generalize after draw10 V10 = V11 at *
  have e11_t_v74 : V11 (main_call0_call0_call0_v74 : DevRef τ sig) = Noise.val_t_v74 F := by rw [p10_t_v74, e10_v_v4, e10_t_v1, e10_t_v61, e10_t_v67]; rfl
  have e11_t_v80 : V11 (main_call0_call0_call0_v80 : DevRef τ sig) = Noise.val_t_v80 F := by rw [p10_t_v80, e10_v_v4, e10_t_v1, e10_t_v61, e10_t_v67]; rfl
  have e11_v_v1 : V11 (main_call0_call0_v1 : DevRef τ sig) = Noise.val_v_v1 F := q10_v_v1.trans e10_v_v1
  have e11_v_v2 : V11 (main_call0_call0_v2 : DevRef τ sig) = Noise.val_v_v2 F := q10_v_v2.trans e10_v_v2
  have e11_v_v4 : V11 (main_call0_call0_v4 : DevRef τ sig) = Noise.val_v_v4 F := q10_v_v4.trans e10_v_v4
  have e11_v_v6 : V11 (main_call0_call0_v6 : DevRef τ sig) = Noise.val_v_v6 F := q10_v_v6.trans e10_v_v6
  have e11_t_v1 : V11 (main_call0_call0_call0_v1 : DevRef τ sig) = Noise.val_t_v1 F := q10_t_v1.trans e10_t_v1
  have p11_t_v81 := draw11_t_v81 V11
  have p11_t_v87 := draw11_t_v87 V11
  obtain ⟨q11_v_v1, q11_v_v2, q11_v_v4, q11_v_v6, q11_t_v1⟩ := draw11_keeps V11
  generalize after draw11 V11 = V12 at *
  have e12_t_v81 : V12 (main_call0_call0_call0_v81 : DevRef τ sig) = Noise.val_t_v81 F := by rw [p11_t_v81, e11_t_v74, e11_t_v80]; rfl
  have e12_t_v87 : V12 (main_call0_call0_call0_v87 : DevRef τ sig) = Noise.val_t_v87 F := by rw [p11_t_v87, e11_t_v74, e11_t_v80]; rfl
  have e12_v_v1 : V12 (main_call0_call0_v1 : DevRef τ sig) = Noise.val_v_v1 F := q11_v_v1.trans e11_v_v1
  have e12_v_v2 : V12 (main_call0_call0_v2 : DevRef τ sig) = Noise.val_v_v2 F := q11_v_v2.trans e11_v_v2
  have e12_v_v4 : V12 (main_call0_call0_v4 : DevRef τ sig) = Noise.val_v_v4 F := q11_v_v4.trans e11_v_v4
  have e12_v_v6 : V12 (main_call0_call0_v6 : DevRef τ sig) = Noise.val_v_v6 F := q11_v_v6.trans e11_v_v6
  have e12_t_v1 : V12 (main_call0_call0_call0_v1 : DevRef τ sig) = Noise.val_t_v1 F := q11_t_v1.trans e11_t_v1
  have p12_t_v88 := draw12_t_v88 V12
  have p12_t_v94 := draw12_t_v94 V12
  obtain ⟨q12_v_v1, q12_v_v2, q12_v_v4, q12_v_v6, q12_t_v1⟩ := draw12_keeps V12
  generalize after draw12 V12 = V13 at *
  have e13_t_v88 : V13 (main_call0_call0_call0_v88 : DevRef τ sig) = Noise.val_t_v88 F := by rw [p12_t_v88, e12_t_v81, e12_t_v87]; rfl
  have e13_t_v94 : V13 (main_call0_call0_call0_v94 : DevRef τ sig) = Noise.val_t_v94 F := by rw [p12_t_v94, e12_t_v81, e12_t_v87]; rfl
  have e13_v_v1 : V13 (main_call0_call0_v1 : DevRef τ sig) = Noise.val_v_v1 F := q12_v_v1.trans e12_v_v1
  have e13_v_v2 : V13 (main_call0_call0_v2 : DevRef τ sig) = Noise.val_v_v2 F := q12_v_v2.trans e12_v_v2
  have e13_v_v4 : V13 (main_call0_call0_v4 : DevRef τ sig) = Noise.val_v_v4 F := q12_v_v4.trans e12_v_v4
  have e13_v_v6 : V13 (main_call0_call0_v6 : DevRef τ sig) = Noise.val_v_v6 F := q12_v_v6.trans e12_v_v6
  have e13_t_v1 : V13 (main_call0_call0_call0_v1 : DevRef τ sig) = Noise.val_t_v1 F := q12_t_v1.trans e12_t_v1
  have p13_t_v95 := draw13_t_v95 V13
  have p13_t_v101 := draw13_t_v101 V13
  obtain ⟨q13_v_v1, q13_v_v2, q13_v_v4, q13_v_v6, q13_t_v1⟩ := draw13_keeps V13
  generalize after draw13 V13 = V14 at *
  have e14_t_v95 : V14 (main_call0_call0_call0_v95 : DevRef τ sig) = Noise.val_t_v95 F := by rw [p13_t_v95, e13_t_v88, e13_t_v94]; rfl
  have e14_t_v101 : V14 (main_call0_call0_call0_v101 : DevRef τ sig) = Noise.val_t_v101 F := by rw [p13_t_v101, e13_t_v88, e13_t_v94]; rfl
  have e14_v_v1 : V14 (main_call0_call0_v1 : DevRef τ sig) = Noise.val_v_v1 F := q13_v_v1.trans e13_v_v1
  have e14_v_v2 : V14 (main_call0_call0_v2 : DevRef τ sig) = Noise.val_v_v2 F := q13_v_v2.trans e13_v_v2
  have e14_v_v4 : V14 (main_call0_call0_v4 : DevRef τ sig) = Noise.val_v_v4 F := q13_v_v4.trans e13_v_v4
  have e14_v_v6 : V14 (main_call0_call0_v6 : DevRef τ sig) = Noise.val_v_v6 F := q13_v_v6.trans e13_v_v6
  have e14_t_v1 : V14 (main_call0_call0_call0_v1 : DevRef τ sig) = Noise.val_t_v1 F := q13_t_v1.trans e13_t_v1
  have p14_t_v108 := draw14_t_v108 V14
  have p14_t_v114 := draw14_t_v114 V14
  obtain ⟨q14_v_v1, q14_v_v2, q14_v_v4, q14_v_v6, q14_t_v1⟩ := draw14_keeps V14
  generalize after draw14 V14 = V15 at *
  have e15_t_v108 : V15 (main_call0_call0_call0_v108 : DevRef τ sig) = Noise.val_t_v108 F := by rw [p14_t_v108, e14_v_v4, e14_v_v6, e14_t_v95, e14_t_v101]; rfl
  have e15_t_v114 : V15 (main_call0_call0_call0_v114 : DevRef τ sig) = Noise.val_t_v114 F := by rw [p14_t_v114, e14_v_v4, e14_v_v6, e14_t_v95, e14_t_v101]; rfl
  have e15_v_v1 : V15 (main_call0_call0_v1 : DevRef τ sig) = Noise.val_v_v1 F := q14_v_v1.trans e14_v_v1
  have e15_v_v2 : V15 (main_call0_call0_v2 : DevRef τ sig) = Noise.val_v_v2 F := q14_v_v2.trans e14_v_v2
  have e15_v_v4 : V15 (main_call0_call0_v4 : DevRef τ sig) = Noise.val_v_v4 F := q14_v_v4.trans e14_v_v4
  have e15_v_v6 : V15 (main_call0_call0_v6 : DevRef τ sig) = Noise.val_v_v6 F := q14_v_v6.trans e14_v_v6
  have e15_t_v1 : V15 (main_call0_call0_call0_v1 : DevRef τ sig) = Noise.val_t_v1 F := q14_t_v1.trans e14_t_v1
  have p15_t_v115 := draw15_t_v115 V15
  have p15_t_v121 := draw15_t_v121 V15
  obtain ⟨q15_v_v1, q15_v_v2, q15_v_v4, q15_v_v6, q15_t_v1⟩ := draw15_keeps V15
  generalize after draw15 V15 = V16 at *
  have e16_t_v115 : V16 (main_call0_call0_call0_v115 : DevRef τ sig) = Noise.val_t_v115 F := by rw [p15_t_v115, e15_t_v108, e15_t_v114]; rfl
  have e16_t_v121 : V16 (main_call0_call0_call0_v121 : DevRef τ sig) = Noise.val_t_v121 F := by rw [p15_t_v121, e15_t_v108, e15_t_v114]; rfl
  have e16_v_v1 : V16 (main_call0_call0_v1 : DevRef τ sig) = Noise.val_v_v1 F := q15_v_v1.trans e15_v_v1
  have e16_v_v2 : V16 (main_call0_call0_v2 : DevRef τ sig) = Noise.val_v_v2 F := q15_v_v2.trans e15_v_v2
  have e16_v_v4 : V16 (main_call0_call0_v4 : DevRef τ sig) = Noise.val_v_v4 F := q15_v_v4.trans e15_v_v4
  have e16_v_v6 : V16 (main_call0_call0_v6 : DevRef τ sig) = Noise.val_v_v6 F := q15_v_v6.trans e15_v_v6
  have e16_t_v1 : V16 (main_call0_call0_call0_v1 : DevRef τ sig) = Noise.val_t_v1 F := q15_t_v1.trans e15_t_v1
  have p16_t_v122 := draw16_t_v122 V16
  have p16_t_v128 := draw16_t_v128 V16
  obtain ⟨q16_v_v1, q16_v_v2, q16_v_v4, q16_v_v6, q16_t_v1⟩ := draw16_keeps V16
  generalize after draw16 V16 = V17 at *
  have e17_t_v122 : V17 (main_call0_call0_call0_v122 : DevRef τ sig) = Noise.val_t_v122 F := by rw [p16_t_v122, e16_t_v115, e16_t_v121]; rfl
  have e17_t_v128 : V17 (main_call0_call0_call0_v128 : DevRef τ sig) = Noise.val_t_v128 F := by rw [p16_t_v128, e16_t_v115, e16_t_v121]; rfl
  have e17_v_v1 : V17 (main_call0_call0_v1 : DevRef τ sig) = Noise.val_v_v1 F := q16_v_v1.trans e16_v_v1
  have e17_v_v2 : V17 (main_call0_call0_v2 : DevRef τ sig) = Noise.val_v_v2 F := q16_v_v2.trans e16_v_v2
  have e17_v_v4 : V17 (main_call0_call0_v4 : DevRef τ sig) = Noise.val_v_v4 F := q16_v_v4.trans e16_v_v4
  have e17_v_v6 : V17 (main_call0_call0_v6 : DevRef τ sig) = Noise.val_v_v6 F := q16_v_v6.trans e16_v_v6
  have e17_t_v1 : V17 (main_call0_call0_call0_v1 : DevRef τ sig) = Noise.val_t_v1 F := q16_t_v1.trans e16_t_v1
  have p17_t_v129 := draw17_t_v129 V17
  have p17_t_v135 := draw17_t_v135 V17
  obtain ⟨q17_v_v1, q17_v_v2, q17_v_v4, q17_v_v6, q17_t_v1⟩ := draw17_keeps V17
  generalize after draw17 V17 = V18 at *
  have e18_t_v129 : V18 (main_call0_call0_call0_v129 : DevRef τ sig) = Noise.val_t_v129 F := by rw [p17_t_v129, e17_t_v122, e17_t_v128]; rfl
  have e18_t_v135 : V18 (main_call0_call0_call0_v135 : DevRef τ sig) = Noise.val_t_v135 F := by rw [p17_t_v135, e17_t_v122, e17_t_v128]; rfl
  have e18_v_v1 : V18 (main_call0_call0_v1 : DevRef τ sig) = Noise.val_v_v1 F := q17_v_v1.trans e17_v_v1
  have e18_v_v2 : V18 (main_call0_call0_v2 : DevRef τ sig) = Noise.val_v_v2 F := q17_v_v2.trans e17_v_v2
  have e18_v_v4 : V18 (main_call0_call0_v4 : DevRef τ sig) = Noise.val_v_v4 F := q17_v_v4.trans e17_v_v4
  have e18_v_v6 : V18 (main_call0_call0_v6 : DevRef τ sig) = Noise.val_v_v6 F := q17_v_v6.trans e17_v_v6
  have e18_t_v1 : V18 (main_call0_call0_call0_v1 : DevRef τ sig) = Noise.val_t_v1 F := q17_t_v1.trans e17_t_v1
  have p18_t_v142 := draw18_t_v142 V18
  have p18_t_v148 := draw18_t_v148 V18
  obtain ⟨q18_v_v1, q18_v_v2, q18_v_v4, q18_t_v1⟩ := draw18_keeps V18
  generalize after draw18 V18 = V19 at *
  have e19_t_v142 : V19 (main_call0_call0_call0_v142 : DevRef τ sig) = Noise.val_t_v142 F := by rw [p18_t_v142, e18_v_v6, e18_t_v1, e18_t_v129, e18_t_v135]; rfl
  have e19_t_v148 : V19 (main_call0_call0_call0_v148 : DevRef τ sig) = Noise.val_t_v148 F := by rw [p18_t_v148, e18_v_v6, e18_t_v1, e18_t_v129, e18_t_v135]; rfl
  have e19_v_v1 : V19 (main_call0_call0_v1 : DevRef τ sig) = Noise.val_v_v1 F := q18_v_v1.trans e18_v_v1
  have e19_v_v2 : V19 (main_call0_call0_v2 : DevRef τ sig) = Noise.val_v_v2 F := q18_v_v2.trans e18_v_v2
  have e19_v_v4 : V19 (main_call0_call0_v4 : DevRef τ sig) = Noise.val_v_v4 F := q18_v_v4.trans e18_v_v4
  have e19_t_v1 : V19 (main_call0_call0_call0_v1 : DevRef τ sig) = Noise.val_t_v1 F := q18_t_v1.trans e18_t_v1
  have p19_t_v149 := draw19_t_v149 V19
  have p19_t_v155 := draw19_t_v155 V19
  obtain ⟨q19_v_v1, q19_v_v2, q19_v_v4, q19_t_v1⟩ := draw19_keeps V19
  generalize after draw19 V19 = V20 at *
  have e20_t_v149 : V20 (main_call0_call0_call0_v149 : DevRef τ sig) = Noise.val_t_v149 F := by rw [p19_t_v149, e19_t_v142, e19_t_v148]; rfl
  have e20_t_v155 : V20 (main_call0_call0_call0_v155 : DevRef τ sig) = Noise.val_t_v155 F := by rw [p19_t_v155, e19_t_v142, e19_t_v148]; rfl
  have e20_v_v1 : V20 (main_call0_call0_v1 : DevRef τ sig) = Noise.val_v_v1 F := q19_v_v1.trans e19_v_v1
  have e20_v_v2 : V20 (main_call0_call0_v2 : DevRef τ sig) = Noise.val_v_v2 F := q19_v_v2.trans e19_v_v2
  have e20_v_v4 : V20 (main_call0_call0_v4 : DevRef τ sig) = Noise.val_v_v4 F := q19_v_v4.trans e19_v_v4
  have e20_t_v1 : V20 (main_call0_call0_call0_v1 : DevRef τ sig) = Noise.val_t_v1 F := q19_t_v1.trans e19_t_v1
  have p20_t_v156 := draw20_t_v156 V20
  have p20_t_v162 := draw20_t_v162 V20
  obtain ⟨q20_v_v1, q20_v_v2, q20_v_v4, q20_t_v1⟩ := draw20_keeps V20
  generalize after draw20 V20 = V21 at *
  have e21_t_v156 : V21 (main_call0_call0_call0_v156 : DevRef τ sig) = Noise.val_t_v156 F := by rw [p20_t_v156, e20_t_v149, e20_t_v155]; rfl
  have e21_t_v162 : V21 (main_call0_call0_call0_v162 : DevRef τ sig) = Noise.val_t_v162 F := by rw [p20_t_v162, e20_t_v149, e20_t_v155]; rfl
  have e21_v_v1 : V21 (main_call0_call0_v1 : DevRef τ sig) = Noise.val_v_v1 F := q20_v_v1.trans e20_v_v1
  have e21_v_v2 : V21 (main_call0_call0_v2 : DevRef τ sig) = Noise.val_v_v2 F := q20_v_v2.trans e20_v_v2
  have e21_v_v4 : V21 (main_call0_call0_v4 : DevRef τ sig) = Noise.val_v_v4 F := q20_v_v4.trans e20_v_v4
  have e21_t_v1 : V21 (main_call0_call0_call0_v1 : DevRef τ sig) = Noise.val_t_v1 F := q20_t_v1.trans e20_t_v1
  have p21_t_v163 := draw21_t_v163 V21
  have p21_t_v169 := draw21_t_v169 V21
  obtain ⟨q21_v_v1, q21_v_v2, q21_v_v4, q21_t_v1⟩ := draw21_keeps V21
  generalize after draw21 V21 = V22 at *
  have e22_t_v163 : V22 (main_call0_call0_call0_v163 : DevRef τ sig) = Noise.val_t_v163 F := by rw [p21_t_v163, e21_t_v156, e21_t_v162]; rfl
  have e22_t_v169 : V22 (main_call0_call0_call0_v169 : DevRef τ sig) = Noise.val_t_v169 F := by rw [p21_t_v169, e21_t_v156, e21_t_v162]; rfl
  have e22_v_v1 : V22 (main_call0_call0_v1 : DevRef τ sig) = Noise.val_v_v1 F := q21_v_v1.trans e21_v_v1
  have e22_v_v2 : V22 (main_call0_call0_v2 : DevRef τ sig) = Noise.val_v_v2 F := q21_v_v2.trans e21_v_v2
  have e22_v_v4 : V22 (main_call0_call0_v4 : DevRef τ sig) = Noise.val_v_v4 F := q21_v_v4.trans e21_v_v4
  have e22_t_v1 : V22 (main_call0_call0_call0_v1 : DevRef τ sig) = Noise.val_t_v1 F := q21_t_v1.trans e21_t_v1
  have p22_v_v18_0 := draw22_v_v18_0 V22
  have p22_v_v18_1 := draw22_v_v18_1 V22
  obtain ⟨q22_v_v1, q22_v_v2⟩ := draw22_keeps V22
  generalize after draw22 V22 = V23 at *
  have e23_v_v18_0 : V23 (main_call0_call0_v18_0 : DevRef τ sig) = Noise.val_v_v18_0 F := by rw [p22_v_v18_0, e22_t_v1, e22_t_v163]; rfl
  have e23_v_v18_1 : V23 (main_call0_call0_v18_1 : DevRef τ sig) = Noise.val_v_v18_1 F := by rw [p22_v_v18_1, e22_v_v4, e22_t_v169]; rfl
  have e23_v_v1 : V23 (main_call0_call0_v1 : DevRef τ sig) = Noise.val_v_v1 F := q22_v_v1.trans e22_v_v1
  have e23_v_v2 : V23 (main_call0_call0_v2 : DevRef τ sig) = Noise.val_v_v2 F := q22_v_v2.trans e22_v_v2
  have p23_v_v24 := draw23_v_v24 V23
  obtain ⟨q23_v_v1, q23_v_v2⟩ := draw23_keeps V23
  generalize after draw23 V23 = V24 at *
  have e24_v_v24 : V24 (main_call0_call0_v24 : DevRef τ sig) = Noise.val_v_v24 F := by rw [p23_v_v24, e23_v_v18_0, e23_v_v18_1]; rfl
  have e24_v_v1 : V24 (main_call0_call0_v1 : DevRef τ sig) = Noise.val_v_v1 F := q23_v_v1.trans e23_v_v1
  have e24_v_v2 : V24 (main_call0_call0_v2 : DevRef τ sig) = Noise.val_v_v2 F := q23_v_v2.trans e23_v_v2
  have p24_m_v7 := draw24_m_v7 V24
  generalize after draw24 V24 = V25 at *
  have e25_m_v7 : V25 (main_v7 : DevRef τ sig) = Noise.val_m_v7 F := by rw [p24_m_v7, e24_v_v1, e24_v_v2, e24_v_v24]; rfl
  exact e25_m_v7

set_option maxHeartbeats 4000000 in
/-- The two host stretches before the first region are the draw. -/
theorem host_eq : (hostOps0 ++ hostOps0_1 : List (HloOp τ sig (Elt F))) = draws := by chain_rfl

/-- The noise table is what they leave in `main_v7`. -/
theorem after_host (V : Valuation τ sig (Elt F)) : after hostOps0_1 (after hostOps0 V) (main_v7 : DevRef τ sig) = Noise.val_m_v7 F := by
  rw [← after_append, host_eq]
  exact after_draws V

end Cert.KernelIdeal.Draw

end
-- ==== Proof.Math.ArgMax.lean ====
/- The host's arg-max of a row of 64 is the row's pick. -/
module

public import proofs.«01_k».proof.Proof.Math.Pick
public import proofs.«01_k».proof.ReferenceIdeal

@[expose] public section

noncomputable section

namespace Cert.Gating

open Idealize.ShloMosaic Cert.ReferenceIdeal

/-- One step of the arg-max over the extended reals keeps the pair with the larger value, the earlier on a tie. -/
theorem reducer_eq (a b : Ideal .f32 × BitVec 32) :
    reducer_argmax_f32_i32 (F := Ideal) a b
      = if (b.1 : EReal) < a.1 ∨ ((a.1 : EReal) = b.1 ∧ a.2.toInt < b.2.toInt) then a else b := by
  obtain ⟨x, i⟩ := a
  obtain ⟨y, j⟩ := b
  have hlt : (FloatOps.cmpf .ogt x y : BitVec 1) = BitVec.ofBool (decide ((y : EReal) < x)) := rfl
  have hne : (FloatOps.cmpf .une x x : BitVec 1) = 0#1 := by
    show BitVec.ofBool (decide ((x : EReal) ≠ x)) = 0#1
    simp
  have heq : (FloatOps.cmpf .oeq x y : BitVec 1) = BitVec.ofBool (decide ((x : EReal) = y)) := rfl
  have hs : IntOp.cmpi .slt i j = BitVec.ofBool (decide (i.toInt < j.toInt)) := by
    show BitVec.ofBool (i.slt j) = _
    rw [BitVec.slt_eq_decide]
  unfold reducer_argmax_f32_i32
  dsimp only
  rw [hlt, hne, heq, hs]
  by_cases h1 : (y : EReal) < x
  · have h2 : ¬ (x : EReal) = y := fun h => absurd h1 (by rw [h]; exact lt_irrefl _)
    simp [h1, h2, IntOp.ori, IntOp.andi, Scalar.select]
  · by_cases h2 : (x : EReal) = y
    · by_cases h3 : i.toInt < j.toInt
      · simp [h2, h3, IntOp.ori, IntOp.andi, Scalar.select]
      · simp [h2, h3, IntOp.ori, IntOp.andi, Scalar.select]
    · simp [h1, h2, IntOp.ori, IntOp.andi, Scalar.select]

/-- A fold of such steps ends at a pair of the list, or the first, that none of them beats. -/
theorem foldl_reducer (l : List (Ideal .f32 × BitVec 32)) (z : Ideal .f32 × BitVec 32) :
    let r := l.foldl (reducer_argmax_f32_i32 (F := Ideal)) z
    r ∈ z :: l ∧ ∀ p ∈ z :: l, (p.1 : EReal) < r.1 ∨ ((p.1 : EReal) = r.1 ∧ r.2.toInt ≤ p.2.toInt) := by
  induction l generalizing z with
  | nil => simp
  | cons a l ih =>
    obtain ⟨hm, hb⟩ := ih (reducer_argmax_f32_i32 (F := Ideal) z a)
    rw [List.foldl_cons]
    set r := l.foldl (reducer_argmax_f32_i32 (F := Ideal)) (reducer_argmax_f32_i32 (F := Ideal) z a) with hr
    have hstep := reducer_eq z a
    have h0 := hb _ List.mem_cons_self
    refine ⟨?_, ?_⟩
    · rcases List.mem_cons.1 hm with h | h
      · rw [h, hstep]
        split
        · exact List.mem_cons_self
        · exact List.mem_cons_of_mem _ List.mem_cons_self
      · exact List.mem_cons_of_mem _ (List.mem_cons_of_mem _ h)
    · intro p hp
      rcases List.mem_cons.1 hp with rfl | hp
      · rw [hstep] at h0
        split at h0
        · exact h0
        · next hn =>
          rw [not_or, not_lt, not_and, not_lt] at hn
          rcases h0 with h0 | ⟨h0, h0'⟩
          · exact Or.inl (lt_of_le_of_lt hn.1 h0)
          · rcases lt_or_eq_of_le hn.1 with h | h
            · exact Or.inl (h0 ▸ h)
            · exact Or.inr ⟨h.trans h0, h0'.trans (hn.2 h)⟩
      · rcases List.mem_cons.1 hp with rfl | hp
        · rw [hstep] at h0
          split at h0
          · next hn =>
            rcases hn with hn | ⟨hn, hn'⟩
            · rcases h0 with h0 | ⟨h0, -⟩
              · exact Or.inl (hn.trans h0)
              · exact Or.inl (h0 ▸ hn)
            · rcases h0 with h0 | ⟨h0, h0'⟩
              · exact Or.inl (hn ▸ h0)
              · exact Or.inr ⟨hn.symm.trans h0, h0'.trans hn'.le⟩
          · exact h0
        · exact hb p (List.mem_cons_of_mem _ hp)

/-- The arg-max of each row of an array of 4096 by 64. -/
theorem argmax_row [ReferenceIdeal.Facts] (g : FVec Ideal S4096x64 .f32) (y : IVec S4096x64 32) (hy : ∀ (n : Fin 4096) (e : Fin 64), y (ix2 n e) = BitVec.ofNat 32 e.val)
    (ix : FVec Ideal S_ .f32) (hx : ∀ i, (ix i : EReal) = ⊥) (iy : IVec S_ 32) (hi : ∀ i, iy i = 0#32)
    (h : S4096x64.ReducesTo [1] S4096) (hu : 0 < S_.numel) (n : Fin 4096) :
    (Host.argReduce (reducer_argmax_f32_i32 (F := Ideal)) g y ix iy h hu (ix1 n)).2 = BitVec.ofNat 32 (pick fun e => g (ix2 n e)).val := by
  rw [Ideal.argReduce_eq_reduce2, Host.reduce2_eq_foldl_fiber]
  have hdrop : ∀ (a : Fin 4096) (e : Fin 64), h.drop (ix2 a e) = ix1 a := fun a e => by
    funext b
    match b with
    | ⟨0, _⟩ => exact Fin.ext (Shape.ReducesTo.drop_apply_val h (ix2 a e) 0)
  have hfib : ∀ p, p ∈ Host.argReduceFiber g y h (ix1 n) ↔ ∃ e : Fin 64, p = (g (ix2 n e), BitVec.ofNat 32 e.val) := by
    intro p
    unfold Host.argReduceFiber
    rw [List.mem_map]
    constructor
    · rintro ⟨k, hk, rfl⟩
      have hk' := of_decide_eq_true (List.mem_filter.1 hk).2
      obtain ⟨a, e, hi⟩ : ∃ (a : Fin 4096) (e : Fin 64), S4096x64.rowMajor.symm k = ix2 a e :=
        ⟨S4096x64.rowMajor.symm k 0, S4096x64.rowMajor.symm k 1, by
          funext b
          match b with
          | ⟨0, _⟩ => rfl
          | ⟨1, _⟩ => rfl⟩
      rw [hi, hdrop] at hk'
      rw [hi]
      have h0 : a = n := congrFun hk' 0
      exact ⟨e, by rw [h0, hy]⟩
    · rintro ⟨e, rfl⟩
      refine ⟨S4096x64.rowMajor (ix2 n e), List.mem_filter.2 ⟨List.mem_finRange _, decide_eq_true ?_⟩, ?_⟩
      · rw [Equiv.symm_apply_apply]; exact hdrop n e
      · rw [Equiv.symm_apply_apply, hy]
  obtain ⟨hm, hb⟩ := foldl_reducer (Host.argReduceFiber g y h (ix1 n)) (ix (Shape.Idx.first hu), iy (Shape.Idx.first hu))
  set r := (Host.argReduceFiber g y h (ix1 n)).foldl (reducer_argmax_f32_i32 (F := Ideal)) (ix (Shape.Idx.first hu), iy (Shape.Idx.first hu))
  have small : ∀ e : Fin 64, (BitVec.ofNat 32 e.val).toInt = e.val := fun e => toInt_ofNat_small (by have := e.isLt; omega)
  have hb' : ∀ e : Fin 64, (g (ix2 n e) : EReal) < r.1 ∨ ((g (ix2 n e) : EReal) = r.1 ∧ r.2.toInt ≤ e.val) := fun e => by
    have := hb (g (ix2 n e), BitVec.ofNat 32 e.val) (List.mem_cons_of_mem _ ((hfib _).2 ⟨e, rfl⟩))
    rwa [small] at this
  rcases List.mem_cons.1 hm with hr | hr
  · have h1 : (r.1 : EReal) = ⊥ := by rw [hr]; exact hx _
    have h2 : r.2 = 0#32 := by rw [hr]; exact hi _
    have hall : ∀ e : Fin 64, (g (ix2 n e) : EReal) = ⊥ := fun e => by
      rcases hb' e with h | h
      · rw [h1] at h; exact absurd h not_lt_bot
      · exact h.1.trans h1
    have : (0 : Fin 64) = pick fun e => (g (ix2 n e) : EReal) :=
      eq_pick (fun a => by rw [hall, hall]) (fun a _ => Fin.zero_le a)
    rw [h2, ← this]
    rfl
  · obtain ⟨e, he⟩ := (hfib _).1 hr
    have : e = pick fun e => (g (ix2 n e) : EReal) := by
      apply eq_pick
      · intro a
        rcases hb' a with h | h
        · rw [he] at h; exact h.le
        · rw [he] at h; exact h.1.le
      · intro a ha
        rcases hb' a with h | h
        · rw [he] at h; exact absurd ha h.ne
        · rw [he, small] at h
          exact Fin.le_def.2 (by exact_mod_cast h.2)
    rw [he, ← this]

end Cert.Gating

end
-- ==== Proof.Reference.Stretch.lean ====
/- What each stretch of the reference computes, at a token and an expert. -/
module

public import proofs.«01_k».proof.Proof.Reference.Straight
public import proofs.«01_k».proof.Proof.Math.ArgMax
public import proofs.«01_k».proof.Proof.Math.Tokens
public import proofs.«01_k».proof.Proof.Math.Words
public import proofs.«01_k».proof.Proof.Math.Count
public import Idealize.ShloMosaic.Lib.Pointwise
public import Idealize.ShloMosaic.Lib.Routing.OpsOne

@[expose] public section

noncomputable section

namespace Cert.ReferenceIdeal.Straight

open Cert.ReferenceIdeal Cert.ReferenceIdeal.Gen
open Idealize.ShloMosaic
open Cert.Gating

/-- Dividing by 64 and multiplying by it twice is multiplying by it once. -/
theorem div_mul_mul (x : EReal) : Ideal.div x ((64 : ℝ) : EReal) * ((64 : ℝ) : EReal) * ((64 : ℝ) : EReal) = x * ((64 : ℝ) : EReal) := by
  have h : ((64 : ℝ) : EReal) ≠ 0 := by
    rw [← EReal.coe_zero]
    exact fun h => absurd (EReal.coe_injective h) (by norm_num)
  unfold Ideal.div
  rw [if_neg h, mul_assoc x, ← EReal.coe_inv, ← EReal.coe_mul, inv_mul_cancel₀ (by norm_num), EReal.coe_one, mul_one]

/-- The logits. -/
theorem logits_value (x : FVec Ideal S4096x4096 .f32) (w : FVec Ideal S4096x64 .f32) (n : Fin 4096) (e : Fin 64) :
    logitsOf x w (ix2 n e) = ∑ k : Fin 4096, (x (ix2 n k) * w (ix2 k e) : EReal) := by
  unfold logitsOf
  pointwise

/-- The exponentials. -/
theorem exp_value (l : FVec Ideal S4096x64 .f32) (n : Fin 4096) (v : Fin 64 → EReal) (hv : ∀ e, l (ix2 n e) = v e) (e : Fin 64) :
    expOf l (ix2 n e) = Ideal.exp (v e - v (pick v)) := by
  unfold expOf
  pointwise
  simp only [hv, negInf, fold_max_eq]
  rw [max_eq_right bot_le]

/-- The gates. -/
theorem gates_value (l : FVec Ideal S4096x64 .f32) (n : Fin 4096) (v : Fin 64 → EReal) (hv : ∀ e, l (ix2 n e) = v e) (e : Fin 64) :
    gatesOf l (ix2 n e) = gate v e := by
  have h := exp_value l n v hv
  unfold gatesOf
  revert h
  generalize expOf l = y
  intro h
  pointwise
  simp only [h]
  rfl

/-- The arg-max. -/
theorem argmax_value (g : FVec Ideal S4096x64 .f32) (n : Fin 4096) (v : Fin 64 → EReal) (hv : ∀ e, g (ix2 n e) = v e) :
    argmaxOf g (ix1 n) = BitVec.ofNat 32 (pick v).val := by
  have h := argmax_row g (iotaInDim S4096x64 32 1) (fun n e => rfl) (constant S_ .f32 0xFF800000#32) (fun _ => negInf) (constantI S_ 32 0#32) (fun _ => rfl)
    reducesTo_S4096x64_S4096_d1 h_S_ n
  rw [funext hv] at h
  exact h

/-- The one-hot rows. -/
theorem oneHot_value (i : IVec S4096 32) (n : Fin 4096) (c : Fin 64) (h : i (ix1 n) = BitVec.ofNat 32 c.val) (e : Fin 64) :
    oneHotOf i (ix2 n e) = if e = c then 1#32 else 0#32 := by
  unfold oneHotOf
  pointwise
  rw [h, cmpi_eq_lane, setWidth_ofBool]
  simp only [eq_comm]

/-- The noisy logits without the first choice. -/
theorem struck_value (l u : FVec Ideal S4096x64 .f32) (mk : IVec S4096x64 32) (n : Fin 4096) (v z : Fin 64 → EReal) (hv : ∀ e, l (ix2 n e) = v e)
    (hz : ∀ e, u (ix2 n e) = z e) (hm : ∀ e, mk (ix2 n e) = if e = pick v then 1#32 else 0#32) (e : Fin 64) :
    struckOf l u mk (ix2 n e) = struck v z e := by
  unfold struckOf
  pointwise
  rw [hv, hz, hm, negInf]
  unfold struck
  by_cases he : e = pick v
  · simp [he, IntOp.cmpi, Scalar.select]
  · simp [he, IntOp.cmpi, Scalar.select]

/-- The running counts, less one. -/
theorem places_value (mk : IVec S4096x64 32) (c : ℕ → Fin 64) (hm : ∀ (n : Fin 4096) e, mk (ix2 n e) = if e = c n.val then 1#32 else 0#32) (n : Fin 4096) (e : Fin 64) :
    placesOf mk (ix2 n e) = BitVec.ofNat 32 (chosen c e (n.val + 1)) - 1#32 := by
  unfold placesOf
  pointwise
  refine (congrArg (fun z => z - 1#32) (Routing.cumsum_rows_sum (A := 4096) (Am1 := 4095) (N := 64) rfl mk _ rfl _ _ n e)).trans ?_
  show (∑ i : Fin 4096, if i ≤ n then mk (ix2 i e) else 0#32) - 1#32 = _
  refine congrArg (fun z => z - 1#32) ?_
  refine (Finset.sum_congr rfl fun i _ => ?_).trans (sum_word_le (fun m => c m = e) n)
  rw [hm]
  simp only [@eq_comm _ e]

/-- The counts. -/
theorem counts_value (mk : IVec S4096x64 32) (c : ℕ → Fin 64) (hm : ∀ (n : Fin 4096) e, mk (ix2 n e) = if e = c n.val then 1#32 else 0#32) (e : Fin 64) :
    countsOf mk (ix1 e) = BitVec.ofNat 32 (chosen c e 4096) := by
  unfold countsOf
  pointwise
  simp only [hm]
  rw [fold_addi_eq]
  refine (Finset.sum_congr rfl fun i _ => ?_).trans (sum_word (fun m => c m = e) 4096)
  simp only [@eq_comm _ e]

/-- The loss. -/
theorem loss_value (g : FVec Ideal S4096x64 .f32) (mk : IVec S4096x64 32) (L : ℕ → Fin 64 → EReal) (hg : ∀ (n : Fin 4096) e, g (ix2 n e) = gate (L n.val) e)
    (hm : ∀ (n : Fin 4096) e, mk (ix2 n e) = if e = firsts L n.val then 1#32 else 0#32) :
    lossOf g mk = fun _ => loss L := by
  funext j
  obtain rfl : j = ix0 := Subsingleton.elim _ _
  unfold lossOf meanOf
  pointwise
  simp only [hg, hm, sitofp_ite, const64, const4096]
  have h1 : ∀ e : Fin 64, (∑ n : Fin 4096, gate (L n.val) e : EReal) = gateSum L e 4096 := fun e => by
    unfold gateSum
    exact Fin.sum_univ_eq_sum_range (fun r => gate (L r) e) 4096
  have h2 : ∀ e : Fin 64, (∑ n : Fin 4096, (((if e = firsts L n.val then 1 else 0 : ℝ)) : EReal)) = ((chosen (firsts L) e 4096 : ℝ) : EReal) := fun e => by
    refine (Finset.sum_congr rfl fun i _ => ?_).trans (sum_real (fun m => firsts L m = e) 4096)
    simp only [@eq_comm _ e]
  simp only [h1, h2]
  unfold loss
  exact div_mul_mul _

/-- What is kept. -/
theorem kept_value (mk p : IVec S4096x64 32) (n : Fin 4096) (c : Fin 64) (q : ℕ) (hq : q < 2 ^ 31) (hm : ∀ e, mk (ix2 n e) = if e = c then 1#32 else 0#32)
    (hp : p (ix2 n c) = BitVec.ofNat 32 q) (e : Fin 64) :
    keptOf mk p (ix2 n e) = if e = c ∧ q < 128 then 1#32 else 0#32 := by
  unfold keptOf
  pointwise
  rw [hm]
  by_cases he : e = c
  · subst he
    rw [hp, cmpi_slt_ofNat hq (by norm_num), setWidth_ofBool]
    simp [IntOp.muli]
  · simp [he, IntOp.muli]

/-- The slots. -/
theorem slot_value (p k : IVec S4096x64 32) (n : Fin 4096) (c : Fin 64) (q : ℕ) (hk : ∀ e, k (ix2 n e) = if e = c ∧ q < 128 then 1#32 else 0#32)
    (hp : p (ix2 n c) = BitVec.ofNat 32 q) :
    slotOf p k (ix1 n) = if q < 128 then BitVec.ofNat 32 q else 0#32 := by
  unfold slotOf
  pointwise
  simp only [hk]
  rw [fold_addi_eq, Finset.sum_eq_single c]
  · rw [hp]
    by_cases h : q < 128 <;> simp [h, IntOp.muli]
  · intro e _ he
    simp [he, IntOp.muli]
  · intro h
    exact absurd (Finset.mem_univ c) h

/-- A choice's gate where it is kept. -/
theorem gate_value (g k : FVec Ideal S4096x64 .f32) (n : Fin 4096) (c : Fin 64) (q : ℕ) (hk : ∀ e, k (ix2 n e) = bit (e = c ∧ q < 128)) :
    gateOf g k (ix1 n) = (g (ix2 n c) * bit (q < 128) : EReal) := by
  unfold gateOf
  pointwise
  simp only [hk]
  rw [Finset.sum_eq_single c]
  · simp only [true_and]
  · intro e _ he
    simp [bit, he]
  · intro h
    exact absurd (Finset.mem_univ c) h

/-- The first choice's weight. -/
theorem weight1_value (g k1 k2 : FVec Ideal S4096x64 .f32) (n : Fin 4096) (a b : EReal) (ha : gateOf g k1 (ix1 n) = a) (hb : gateOf g k2 (ix1 n) = b) (e : Fin 64) :
    weight1Of g k1 k2 (ix2 n e) = (Ideal.div a (max (a + b) ((eps : ℝ) : EReal)) * k1 (ix2 n e) : EReal) := by
  unfold weight1Of denomOf
  revert ha hb
  generalize gateOf g k1 = y
  generalize gateOf g k2 = z
  intro ha hb
  pointwise
  rw [ha, hb, const_eps]

/-- The second choice's weight. -/
theorem weight2_value (g k1 k2 : FVec Ideal S4096x64 .f32) (n : Fin 4096) (a b : EReal) (ha : gateOf g k1 (ix1 n) = a) (hb : gateOf g k2 (ix1 n) = b) (e : Fin 64) :
    weight2Of g k1 k2 (ix2 n e) = (Ideal.div b (max (a + b) ((eps : ℝ) : EReal)) * k2 (ix2 n e) : EReal) := by
  unfold weight2Of denomOf
  revert ha hb
  generalize gateOf g k1 = y
  generalize gateOf g k2 = z
  intro ha hb
  pointwise
  rw [ha, hb, const_eps]

/-- A weight on its expert's lane and its place. -/
theorem outer_value (w : FVec Ideal S4096x64 .f32) (i : IVec S4096 32) (n : Fin 4096) (e : Fin 64) (s : Fin 128) (q : ℕ)
    (hi : i (ix1 n) = if q < 128 then BitVec.ofNat 32 q else 0#32) :
    outerOf w i (ix3 n e s) = (w (ix2 n e) * bit (s.val = if q < 128 then q else 0) : EReal) := by
  unfold outerOf slotHotOf
  pointwise
  rw [hi]
  have hs := s.isLt
  by_cases h : q < 128
  · simp only [h, if_true]
    rw [cmpi_eq_ofNat (by omega) (by omega), uitofp_ofBool]
    simp only [bit, @eq_comm _ q]
  · simp only [h, if_false]
    rw [cmpi_eq_ofNat (a := 0) (by omega) (by omega), uitofp_ofBool]
    simp only [bit, @eq_comm _ 0]

/-- The mask. -/
theorem mask_value (v : FVec Ideal S4096x64x128 .f32) (n : Fin 4096) (e : Fin 64) (s : Fin 128) :
    maskOf v (ix3 n e s) = BitVec.ofBool (decide ((v (ix3 n e s) : EReal) ≠ 0)) := by
  unfold maskOf
  pointwise

end Cert.ReferenceIdeal.Straight

end
-- ==== Proof.Math.Good.lean ====
/- A row of logits whose every gate is at least epsilon: its logits are real, its gates order as its logits do, and the weights of the two
   choices are what dividing each kept gate by the kept gates' sum gives. -/
module

public import proofs.«01_k».proof.Proof.Math.Tokens
public import proofs.«01_k».proof.Proof.Math.Words

@[expose] public section

noncomputable section

namespace Cert.Gating

open Idealize.ShloMosaic

/-- Every gate is at least epsilon. -/
def Good (v : Fin 64 → EReal) : Prop := ∀ e, ((eps : ℝ) : EReal) ≤ gate v e

theorem exp_bot : Ideal.exp (⊥ : EReal) = 0 := rfl
theorem exp_real (r : ℝ) : Ideal.exp ((r : ℝ) : EReal) = ((Real.exp r : ℝ) : EReal) := rfl

theorem eps_pos' : (0 : EReal) < ((eps : ℝ) : EReal) := by
  rw [← EReal.coe_zero]; exact EReal.coe_lt_coe_iff.2 eps_pos

theorem div_real (a d : ℝ) (h : d ≠ 0) : Ideal.div ((a : ℝ) : EReal) ((d : ℝ) : EReal) = ((a / d : ℝ) : EReal) := by
  have h' : ((d : ℝ) : EReal) ≠ 0 := by
    rw [← EReal.coe_zero]; exact fun q => h (EReal.coe_injective q)
  unfold Ideal.div
  rw [if_neg h', ← EReal.coe_inv, ← EReal.coe_mul, div_eq_mul_inv]

theorem div_zero_le (d : EReal) : Ideal.div 0 d ≤ 0 := by
  unfold Ideal.div
  split
  · simp
  · simp

/-- The logits of such a row are real. -/
theorem Good.real {v : Fin 64 → EReal} (h : Good v) (e : Fin 64) : ∃ r : ℝ, v e = ((r : ℝ) : EReal) := by
  have key : ∀ e, Ideal.exp (v e - v (pick v)) ≠ 0 := fun e h0 => by
    have h1 := h e
    unfold gate at h1
    rw [h0] at h1
    exact absurd (h1.trans (div_zero_le _)) (not_le.2 eps_pos')
  have htop : v (pick v) ≠ ⊤ := fun q => by
    refine key e ?_
    rw [q, EReal.sub_top]
    rfl
  have hne : v e ≠ ⊥ := fun q => by
    refine key e ?_
    rw [q, EReal.bot_sub]
    rfl
  exact ⟨(v e).toReal, (EReal.coe_toReal (fun q => htop (top_le_iff.1 (q ▸ le_pick v e))) hne).symm⟩

/-- The logits of such a row, as real numbers. -/
def Good.row {v : Fin 64 → EReal} (h : Good v) (e : Fin 64) : ℝ := (h.real e).choose
theorem Good.row_eq {v : Fin 64 → EReal} (h : Good v) (e : Fin 64) : v e = ((h.row e : ℝ) : EReal) := (h.real e).choose_spec

/-- The sum its gates are divided by. -/
def Good.total {v : Fin 64 → EReal} (h : Good v) : ℝ := ∑ a, Real.exp (h.row a - h.row (pick v))
theorem Good.total_pos {v : Fin 64 → EReal} (h : Good v) : 0 < h.total :=
  Finset.sum_pos (fun _ _ => Real.exp_pos _) Finset.univ_nonempty

theorem Good.exp_eq {v : Fin 64 → EReal} (h : Good v) (a b : Fin 64) : Ideal.exp (v a - v b) = ((Real.exp (h.row a - h.row b) : ℝ) : EReal) := by
  rw [h.row_eq a, h.row_eq b, ← EReal.coe_sub, exp_real]

/-- Its gates are real quotients. -/
theorem Good.gate_eq {v : Fin 64 → EReal} (h : Good v) (e : Fin 64) :
    gate v e = ((Real.exp (h.row e - h.row (pick v)) / h.total : ℝ) : EReal) := by
  unfold gate
  simp only [h.exp_eq]
  rw [sum_coe]
  exact div_real _ _ h.total_pos.ne'

/-- Its gates order as its logits do. -/
theorem Good.gate_le {v : Fin 64 → EReal} (h : Good v) (a b : Fin 64) : gate v a ≤ gate v b ↔ v a ≤ v b := by
  rw [h.gate_eq, h.gate_eq, h.row_eq a, h.row_eq b, EReal.coe_le_coe_iff, EReal.coe_le_coe_iff, div_le_div_iff_of_pos_right h.total_pos, Real.exp_le_exp]
  exact sub_le_sub_iff_right _

/-- So the largest gate is the largest logit's. -/
theorem Good.pick_gate {v : Fin 64 → EReal} (h : Good v) : pick (gate v) = pick v := pick_congr h.gate_le

/-! ## The weights -/

/-- What the gates, masked to what is kept and divided by their sum, give at an expert and a place. -/
def share (g1 g2 : EReal) (c1 c2 : Fin 64) (p1 p2 : ℕ) (e : Fin 64) (s : Fin 128) : EReal :=
  Ideal.div (g1 * bit (p1 < 128)) (max (g1 * bit (p1 < 128) + g2 * bit (p2 < 128)) ((eps : ℝ) : EReal)) * bit (e = c1 ∧ p1 < 128)
      * bit (s.val = if p1 < 128 then p1 else 0)
    + Ideal.div (g2 * bit (p2 < 128)) (max (g1 * bit (p1 < 128) + g2 * bit (p2 < 128)) ((eps : ℝ) : EReal)) * bit (e = c2 ∧ p2 < 128)
      * bit (s.val = if p2 < 128 then p2 else 0)

theorem safeInv_real (d : ℝ) (h : 0 ≤ d) : safeInv ((d : ℝ) : EReal) = ((d⁻¹ : ℝ) : EReal) := by
  unfold safeInv
  rcases h.eq_or_lt with h | h
  · subst h
    simp
  · have h' : (0 : EReal) < ((d : ℝ) : EReal) := by
      rw [← EReal.coe_zero]; exact EReal.coe_lt_coe_iff.2 h
    rw [if_pos h', if_pos h', ← EReal.coe_one, div_real _ _ h.ne', one_div]

theorem max_real (a b : ℝ) : max ((a : ℝ) : EReal) ((b : ℝ) : EReal) = ((max a b : ℝ) : EReal) :=
  (EReal.coe_strictMono.monotone.map_max).symm

/-- Weighing by the ratio of the gates is weighing by the gates. -/
theorem weight_eq_share (S b : ℝ) (hS : 0 < S) (hb : 0 < b) (h1 : eps ≤ 1 / S) (h2 : eps ≤ b / S) (c1 c2 : Fin 64) (p1 p2 : ℕ) (e : Fin 64) (s : Fin 128) :
    weight ((b : ℝ) : EReal) c1 c2 p1 p2 e s = share ((1 / S : ℝ) : EReal) ((b / S : ℝ) : EReal) c1 c2 p1 p2 e s := by
  have he := eps_pos
  have hd : ∀ x : ℝ, max x eps ≠ 0 := fun x => (lt_of_lt_of_le he (le_max_right _ _)).ne'
  have hi : 0 ≤ (if p1 < 128 then 1 else 0 : ℝ) + (if p2 < 128 then 1 else 0 : ℝ) * b := by
    split <;> split <;> nlinarith
  unfold weight share bit
  simp only [← EReal.coe_mul, ← EReal.coe_add, max_real]
  rw [safeInv_real _ hi, div_real _ _ (hd _), div_real _ _ (hd _)]
  simp only [← EReal.coe_mul, ← EReal.coe_add]
  refine congrArg _ ?_
  have hb1 : (1 + b) ≠ 0 := by positivity
  have hsum : 1 / S + b / S = (1 + b) / S := by ring
  by_cases q1 : p1 < 128 <;> by_cases q2 : p2 < 128 <;> simp only [q1, q2, if_true, if_false, and_true, and_false, mul_one, mul_zero, add_zero, zero_add, one_mul, zero_mul, zero_div]
  · rw [max_eq_left (by have : 0 ≤ b / S := by positivity
                        linarith), hsum]
    have e1 : 1 / S / ((1 + b) / S) = (1 + b)⁻¹ := by field_simp
    have e2 : b / S / ((1 + b) / S) = b * (1 + b)⁻¹ := by field_simp
    rw [e1, e2]
  · rw [max_eq_left h1, div_self (by positivity), inv_one]
  · rw [max_eq_left h2, div_self (by positivity), mul_inv_cancel₀ hb.ne']

/-- The combine weights are the shares. -/
theorem combine_eq_share (L U : ℕ → Fin 64 → EReal) (n : ℕ) (h : Good (L n)) (e : Fin 64) (s : Fin 128) :
    combine L U n e s = share (gate (L n) (firsts L n)) (gate (L n) (seconds L U n)) (firsts L n) (seconds L U n) (place1 L n) (place2 L U n) e s := by
  have h1 := h (firsts L n)
  have h2 := h (seconds L U n)
  rw [h.gate_eq, EReal.coe_le_coe_iff] at h1 h2
  rw [h.gate_eq, h.gate_eq]
  unfold combine
  rw [h.exp_eq]
  have hf : firsts L n = pick (L n) := rfl
  rw [hf, sub_self, Real.exp_zero] at h1
  rw [hf, sub_self, Real.exp_zero]
  exact weight_eq_share _ _ h.total_pos (Real.exp_pos _) h1 h2 _ _ _ _ _ _

end Cert.Gating

end
-- ==== Proof.Reference.Value.lean ====
/- What the reference returns, token by token, where every gate is at least epsilon. -/
module

public import proofs.«01_k».proof.Proof.Reference.Stretch
public import proofs.«01_k».proof.Proof.Math.Good
public import proofs.«01_k».proof.Proof.Gen.Pre_gates_above_eps
public import Idealize.ShloMosaic.Lib.ReduceAll

@[expose] public section

noncomputable section

namespace Cert.ReferenceIdeal.Straight

open Cert.ReferenceIdeal Cert.ReferenceIdeal.Gen
open Idealize.ShloMosaic
open Cert.Gating

variable (x : FVec Ideal S4096x4096 .f32) (w : FVec Ideal S4096x64 .f32) (u : FVec Ideal S4096x64 .f32)

/-- The tokens' logits. -/
def logits : ℕ → Fin 64 → EReal := logitRow (fun n k => x (ix2 n k)) (fun k e => w (ix2 k e))
/-- The tokens' noise. -/
def noise : ℕ → Fin 64 → EReal := noiseRow fun n e => u (ix2 n e)

theorem logits_at (n : Fin 4096) (e : Fin 64) : logitsOf x w (ix2 n e) = logits x w n.val e :=
  (logits_value x w n e).trans (logitRow_fin (fun n k => x (ix2 n k)) (fun k e => w (ix2 k e)) n e).symm
theorem noise_at (n : Fin 4096) (e : Fin 64) : u (ix2 n e) = noise u n.val e := (noiseRow_fin (fun n e => u (ix2 n e)) n e).symm

theorem gates_at (n : Fin 4096) (e : Fin 64) : gates x w (ix2 n e) = gate (logits x w n.val) e :=
  gates_value _ n _ (logits_at x w n) e

/-- The precondition says every gate is at least epsilon. -/
theorem good_of_pre (h : (Cert.Pre_gates_above_eps.fn (F := Ideal) x w) = fun _ => 1#1) (n : Fin 4096) : Good (logits x w n.val) := fun e => by
  have h0 := congrFun h ix0
  have h1 : Host.reduce IntOp.andi (cmpf .oge (gates x w) (broadcastInDim S4096x64 ![] bcast_S_S4096x64 (constant S_ .f32 0x34000000#32)))
      (constantI S_ 1 1#1) Cert.Pre_gates_above_eps.Facts.reducesTo_S4096x64_S_d0_1 h_S_ ix0 = 1#1 := h0
  have h2 := Host.reduce_andi_all _ _ _ _ _ h1 (ix2 n e)
  have h3 : BitVec.ofBool (decide ((Ideal.ofBits .f32 872415232#32 : EReal) ≤ gates x w (ix2 n e))) = 1#1 := h2
  rw [gates_at, const_eps] at h3
  by_contra hc
  rw [decide_eq_false hc] at h3
  exact absurd h3 (by decide)

variable {x w}
variable (good : ∀ n : Fin 4096, Good (logits x w n.val))
include good

theorem mask1_at (n : Fin 4096) (e : Fin 64) : mask1 x w (ix2 n e) = if e = firsts (logits x w) n.val then 1#32 else 0#32 := by
  refine oneHot_value _ n (firsts (logits x w) n.val) ?_ e
  rw [argmax_value _ n _ (gates_at x w n), (good n).pick_gate]
  rfl

theorem mask2_at (n : Fin 4096) (e : Fin 64) : mask2 x w u (ix2 n e) = if e = seconds (logits x w) (noise u) n.val then 1#32 else 0#32 := by
  refine oneHot_value _ n (seconds (logits x w) (noise u) n.val) ?_ e
  rw [argmax_value _ n _ (struck_value _ _ _ n _ _ (logits_at x w n) (noise_at u n) (mask1_at good n))]
  rfl

/-- THE LOSS. -/
theorem loss_at : lossOf (gates x w) (mask1 x w) = fun _ => loss (logits x w) :=
  loss_value _ _ (logits x w) (gates_at x w) (mask1_at good)

/-- THE COUNTS. -/
theorem counts_at (e : Fin 64) : countsOf (mask1 x w) (ix1 e) = BitVec.ofNat 32 (chosen (firsts (logits x w)) e 4096) :=
  counts_value _ _ (mask1_at good) e

omit good in
theorem word_pred (c : ℕ → Fin 64) (n : ℕ) : BitVec.ofNat 32 (chosen c (c n) (n + 1)) - 1#32 = BitVec.ofNat 32 (ahead c n) := by
  have h : chosen c (c n) (n + 1) = ahead c n + 1 := by
    unfold chosen ahead
    rw [Nat.count_succ, if_pos rfl]
  rw [h, BitVec.ofNat_add]
  exact BitVec.add_sub_cancel _ _

theorem place1_at (n : Fin 4096) : place1 x w (ix2 n (firsts (logits x w) n.val)) = BitVec.ofNat 32 (Gating.place1 (logits x w) n.val) :=
  (places_value _ _ (mask1_at good) n _).trans (word_pred _ _)

theorem place2_at (n : Fin 4096) :
    place2 x w u (ix2 n (seconds (logits x w) (noise u) n.val)) = BitVec.ofNat 32 (Gating.place2 (logits x w) (noise u) n.val) := by
  have h1 := (places_value _ _ (mask2_at u good) n (seconds (logits x w) (noise u) n.val)).trans (word_pred _ _)
  have h2 := counts_at good (seconds (logits x w) (noise u) n.val)
  unfold place2 behindOf
  revert h1 h2
  generalize placesOf (mask2 x w u) = y
  generalize countsOf (mask1 x w) = z
  intro h1 h2
  pointwise
  rw [h1, h2]
  exact (BitVec.ofNat_add ..).symm

omit good in
theorem place1_lt (n : Fin 4096) : Gating.place1 (logits x w) n.val < 2 ^ 31 := by
  have := n.isLt
  have := ahead_le (firsts (logits x w)) n.val
  unfold Gating.place1
  omega

omit good in
theorem place2_lt (n : Fin 4096) : Gating.place2 (logits x w) (noise u) n.val < 2 ^ 31 := by
  have := n.isLt
  have := ahead_le (seconds (logits x w) (noise u)) n.val
  have := chosen_le (firsts (logits x w)) (seconds (logits x w) (noise u) n.val) 4096
  unfold Gating.place2
  omega

theorem kept1_at (n : Fin 4096) (e : Fin 64) :
    kept1 x w (ix2 n e) = if e = firsts (logits x w) n.val ∧ Gating.place1 (logits x w) n.val < 128 then 1#32 else 0#32 :=
  kept_value _ _ n _ _ (place1_lt n) (mask1_at good n) (place1_at good n) e

theorem kept2_at (n : Fin 4096) (e : Fin 64) :
    kept2 x w u (ix2 n e) = if e = seconds (logits x w) (noise u) n.val ∧ Gating.place2 (logits x w) (noise u) n.val < 128 then 1#32 else 0#32 :=
  kept_value _ _ n _ _ (place2_lt u n) (mask2_at u good n) (place2_at u good n) e

theorem bits1_at (n : Fin 4096) (e : Fin 64) :
    (sitofp (F := Ideal) .f32 (kept1 x w) (ix2 n e) : EReal) = bit (e = firsts (logits x w) n.val ∧ Gating.place1 (logits x w) n.val < 128) := by
  show FloatOps.sitofp (F := Ideal) .f32 (kept1 x w (ix2 n e)) = _
  rw [kept1_at good, sitofp_ite]
  rfl

theorem bits2_at (n : Fin 4096) (e : Fin 64) :
    (sitofp (F := Ideal) .f32 (kept2 x w u) (ix2 n e) : EReal)
      = bit (e = seconds (logits x w) (noise u) n.val ∧ Gating.place2 (logits x w) (noise u) n.val < 128) := by
  show FloatOps.sitofp (F := Ideal) .f32 (kept2 x w u (ix2 n e)) = _
  rw [kept2_at u good, sitofp_ite]
  rfl

/-- THE COMBINE WEIGHTS. -/
theorem combine_at (n : Fin 4096) (e : Fin 64) (s : Fin 128) :
    (combine x w u (ix3 n e s) : EReal) = Gating.combine (logits x w) (noise u) n.val e s := by
  have g1 := (gate_value (gates x w) _ n _ _ (bits1_at good n)).trans (congrArg (fun z : EReal => z * bit (Gating.place1 (logits x w) n.val < 128)) (gates_at x w n _))
  have g2 := (gate_value (gates x w) _ n _ _ (bits2_at u good n)).trans (congrArg (fun z : EReal => z * bit (Gating.place2 (logits x w) (noise u) n.val < 128)) (gates_at x w n _))
  have s1 := slot_value _ _ n _ _ (kept1_at good n) (place1_at good n)
  have s2 := slot_value _ _ n _ _ (kept2_at u good n) (place2_at u good n)
  rw [combine_eq_share _ _ _ (good n)]
  show FloatOps.addf (F := Ideal) (φ := .f32) (outerOf (F := Ideal) _ _ (ix3 n e s)) (outerOf (F := Ideal) _ _ (ix3 n e s)) = _
  rw [outer_value _ _ n e s _ s1, outer_value _ _ n e s _ s2, weight1_value _ _ _ n _ _ g1 g2, weight2_value _ _ _ n _ _ g1 g2, bits1_at good, bits2_at u good]
  rfl

end Cert.ReferenceIdeal.Straight

end
-- ==== Proof.Equation.lean ====
/- On the same arguments, where every gate is at least epsilon, the kernel's four results are the reference's. -/
module

public import proofs.«01_k».proof.Proof.KernelIdeal.Value
public import proofs.«01_k».proof.Proof.KernelIdeal.Draw
public import proofs.«01_k».proof.Proof.Reference.Value

@[expose] public section

noncomputable section

namespace Cert.Equation

open Cert.KernelIdeal Cert.KernelIdeal.Gen Cert.KernelIdeal.Whole
open Idealize.ShloMosaic Idealize.ShloMosaic.TcCoe
open Cert.Gating
open Cert.ReferenceIdeal (Straight.gates Straight.mask1 Straight.combine Straight.lossOf Straight.countsOf Straight.maskOf)

variable (m : (ℓ : Loc nD τ sig) → Buf (Elt Ideal) ℓ) (c : Dev nD)

/-- The kernel's arguments. -/
abbrev tokens : FVec Ideal S4096x4096 .f32 := m ((c : Thread nD τ).loc main_arg0)
abbrev gateMatrix : FVec Ideal S4096x64 .f32 := m ((c : Thread nD τ).loc main_arg1)
/-- The noise table the kernel draws. -/
abbrev noiseTable : FVec Ideal S4096x64 .f32 := W0 m c (Proc.devRef .tc main_v7)

/-- The kernel draws the table the reference draws. -/
theorem noise_eq : (Noise.val_m_v7 Ideal : FVec Ideal S4096x64 .f32) = noiseTable m c :=
  (Draw.after_host (launched m c)).symm

variable (h : (Cert.Pre_gates_above_eps.fn (F := Ideal) (tokens m c) (gateMatrix m c)) = fun _ => 1#1)
include h

/-- The losses are equal. -/
theorem loss_eq : Straight.lossOf (Straight.gates (tokens m c) (gateMatrix m c)) (Straight.mask1 (tokens m c) (gateMatrix m c))
    = W3 m c (Proc.devRef .tc main_v13) :=
  (Cert.ReferenceIdeal.Straight.loss_at (Cert.ReferenceIdeal.Straight.good_of_pre _ _ h)).trans (result_loss m c).symm

/-- The combine weights are equal. -/
theorem combine_eq : Straight.combine (tokens m c) (gateMatrix m c) (Noise.val_m_v7 Ideal) = W3 m c (Proc.devRef .tc main_v9_0) := by
  rw [noise_eq m c]
  funext i
  obtain ⟨n, e, s, hi⟩ : ∃ (n : Fin 4096) (e : Fin 64) (s : Fin 128), i = ix3 n e s := ⟨i 0, i 1, i 2, (ix3_eta i).symm⟩
  subst hi
  exact (Cert.ReferenceIdeal.Straight.combine_at _ (Cert.ReferenceIdeal.Straight.good_of_pre _ _ h) n e s).trans (result_combine m c n e s).symm

/-- The masks are equal. -/
theorem mask_eq : Straight.maskOf (Straight.combine (tokens m c) (gateMatrix m c) (Noise.val_m_v7 Ideal)) = W3 m c (Proc.devRef .tc main_v12) := by
  rw [noise_eq m c]
  funext i
  obtain ⟨n, e, s, hi⟩ : ∃ (n : Fin 4096) (e : Fin 64) (s : Fin 128), i = ix3 n e s := ⟨i 0, i 1, i 2, (ix3_eta i).symm⟩
  subst hi
  refine (Cert.ReferenceIdeal.Straight.mask_value _ n e s).trans ?_
  rw [Cert.ReferenceIdeal.Straight.combine_at _ (Cert.ReferenceIdeal.Straight.good_of_pre _ _ h) n e s]
  exact (result_mask m c n e s).symm

/-- The counts are equal. -/
theorem counts_eq : Straight.countsOf (Straight.mask1 (tokens m c) (gateMatrix m c)) = W3 m c (Proc.devRef .tc main_v14) := by
  funext i
  obtain ⟨e, hi⟩ : ∃ e : Fin 64, i = ix1 e := ⟨i 0, (ix1_eta i).symm⟩
  subst hi
  exact (Cert.ReferenceIdeal.Straight.counts_at (Cert.ReferenceIdeal.Straight.good_of_pre _ _ h) e).trans (result_counts m c e).symm

end Cert.Equation

end
-- ==== Proof.lean ====
/- The claims: the kernel, as printed and at the ideal instance, and the reference run, keep their arguments and leave every counter at
   zero; and where every gate is at least epsilon the kernel's four results are the reference's. -/
module

public import proofs.«01_k».proof.Defs
public import proofs.«01_k».proof.Proof.Kernel.Whole
public import proofs.«01_k».proof.Proof.KernelIdeal.Whole
public import proofs.«01_k».proof.Proof.Reference.Straight
public import proofs.«01_k».proof.Proof.Equation

@[expose] public section

noncomputable section

namespace Cert.Proof

open Idealize.ShloMosaic Idealize.SL.Sem

/-- THE RESULTS: the kernel and the reference both run and return the same loss, combine weights, mask and counts. -/
theorem algebraic : Cert.algebraic_KernelIdeal_ReferenceIdeal_pre_gates_above_eps := by
  intro m g m' g' hpre hargs
  refine ⟨fun c => Cert.KernelIdeal.Whole.W3 m c (Proc.devRef .tc Cert.KernelIdeal.main_v13), fun c => Cert.KernelIdeal.Whole.W3 m c (Proc.devRef .tc Cert.KernelIdeal.main_v9_0),
    fun c => Cert.KernelIdeal.Whole.W3 m c (Proc.devRef .tc Cert.KernelIdeal.main_v12), fun c => Cert.KernelIdeal.Whole.W3 m c (Proc.devRef .tc Cert.KernelIdeal.main_v14), ?_, ?_⟩
  · refine (θ_run _ _ _).mono (fun r hr c => ?_) (Cert.KernelIdeal.Whole.run m g)
    have ha := Cert.KernelIdeal.Whole.W3_args m c
    exact ⟨hr.1 c _ (by decide), hr.1 c _ (by decide), hr.1 c _ (by decide), hr.1 c _ (by decide),
      (hr.1 c _ (by decide)).trans (ha _ (by simp)), (hr.1 c _ (by decide)).trans (ha _ (by simp))⟩
  · refine (θ_run _ _ _).mono (fun r hr c => ?_) (Cert.ReferenceIdeal.Straight.run m' g')
    obtain ⟨h0, h1, h2, h3, k0, k1⟩ := Cert.ReferenceIdeal.Straight.after_ops (F := Ideal) (StableHlo.launchContents m' c)
    obtain ⟨a0, a1⟩ := hargs c
    have e0 : StableHlo.launchContents m' c (Proc.devRef .tc Cert.ReferenceIdeal.main_arg0) = Cert.Equation.tokens m c := a0
    have e1 : StableHlo.launchContents m' c (Proc.devRef .tc Cert.ReferenceIdeal.main_arg1) = Cert.Equation.gateMatrix m c := a1
    rw [e0, e1] at h0 h1 h2 h3
    exact ⟨(hr.1 c _).trans (h0.trans (Cert.Equation.loss_eq m c (hpre c))), (hr.1 c _).trans (h1.trans (Cert.Equation.combine_eq m c (hpre c))),
      (hr.1 c _).trans (h2.trans (Cert.Equation.mask_eq m c (hpre c))), (hr.1 c _).trans (h3.trans (Cert.Equation.counts_eq m c (hpre c))),
      (hr.1 c _).trans k0, (hr.1 c _).trans k1⟩

/-- Every claim. -/
theorem claim : Cert.Claim :=
  ⟨Cert.Kernel.Gen.facts, Cert.KernelIdeal.Gen.facts, Cert.ReferenceIdeal.Gen.facts, Cert.Pre_gates_above_eps.Gen.facts,
    fun m g _ => Cert.Kernel.Whole.frame m g, fun m g _ => Cert.KernelIdeal.Whole.frame m g, fun m g _ => Cert.KernelIdeal.Whole.frame m g,
    fun m g _ => Cert.ReferenceIdeal.Straight.frame m g, fun m g _ => Cert.ReferenceIdeal.Straight.frame m g, trivial, algebraic⟩

end Cert.Proof

end
